-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_loss [hPre_finite_loss : Cert.Pre_finite_loss.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_loss.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_loss [hPre_finite_loss : Cert.Pre_finite_loss.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_loss.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_mid [hPre_finite_mid : Cert.Pre_finite_mid.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_mid.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15)) (m ((c.tc : Thread Cert.Kernel5Ideal.nD Cert.Kernel5Ideal.τ).loc Cert.Kernel5Ideal.main_arg16)) (m ((c.tc : Thread Cert.Kernel5Ideal.nD Cert.Kernel5Ideal.τ).loc Cert.Kernel5Ideal.main_arg17)) (m ((c.tc : Thread Cert.Kernel5Ideal.nD Cert.Kernel5Ideal.τ).loc Cert.Kernel5Ideal.main_arg18)) (m ((c.tc : Thread Cert.Kernel5Ideal.nD Cert.Kernel5Ideal.τ).loc Cert.Kernel5Ideal.main_arg19)) (m ((c.tc : Thread Cert.Kernel5Ideal.nD Cert.Kernel5Ideal.τ).loc Cert.Kernel5Ideal.main_arg20))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_mid [hPre_finite_mid : Cert.Pre_finite_mid.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_mid.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15)) (m ((c.tc : Thread Cert.Reference5Ideal.nD Cert.Reference5Ideal.τ).loc Cert.Reference5Ideal.main_arg16)) (m ((c.tc : Thread Cert.Reference5Ideal.nD Cert.Reference5Ideal.τ).loc Cert.Reference5Ideal.main_arg17)) (m ((c.tc : Thread Cert.Reference5Ideal.nD Cert.Reference5Ideal.τ).loc Cert.Reference5Ideal.main_arg18)) (m ((c.tc : Thread Cert.Reference5Ideal.nD Cert.Reference5Ideal.τ).loc Cert.Reference5Ideal.main_arg19)) (m ((c.tc : Thread Cert.Reference5Ideal.nD Cert.Reference5Ideal.τ).loc Cert.Reference5Ideal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite_loss [hKernel4Ideal : Cert.Kernel4Ideal.Facts] [hPre_finite_loss : Cert.Pre_finite_loss.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_loss m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite_loss [hReference4Ideal : Cert.Reference4Ideal.Facts] [hPre_finite_loss : Cert.Pre_finite_loss.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_loss m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16)
      ∧ r.2.mem ((c.tc : Thread Cert.Kernel5.nD Cert.Kernel5.τ).loc Cert.Kernel5.main_arg17) = m ((c.tc : Thread Cert.Kernel5.nD Cert.Kernel5.τ).loc Cert.Kernel5.main_arg17)
      ∧ r.2.mem ((c.tc : Thread Cert.Kernel5.nD Cert.Kernel5.τ).loc Cert.Kernel5.main_arg18) = m ((c.tc : Thread Cert.Kernel5.nD Cert.Kernel5.τ).loc Cert.Kernel5.main_arg18)
      ∧ r.2.mem ((c.tc : Thread Cert.Kernel5.nD Cert.Kernel5.τ).loc Cert.Kernel5.main_arg19) = m ((c.tc : Thread Cert.Kernel5.nD Cert.Kernel5.τ).loc Cert.Kernel5.main_arg19)
      ∧ r.2.mem ((c.tc : Thread Cert.Kernel5.nD Cert.Kernel5.τ).loc Cert.Kernel5.main_arg20) = m ((c.tc : Thread Cert.Kernel5.nD Cert.Kernel5.τ).loc Cert.Kernel5.main_arg20))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
      ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
      ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20))
      ∧ r.2.sem = fun _ => 0)

def quiescent_Kernel5Ideal_pre_finite_mid [hKernel5Ideal : Cert.Kernel5Ideal.Facts] [hPre_finite_mid : Cert.Pre_finite_mid.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_mid m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
      ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
      ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17)
      ∧ r.2.mem ((c.tc : Thread Cert.Reference5Ideal.nD Cert.Reference5Ideal.τ).loc Cert.Reference5Ideal.main_arg18) = m ((c.tc : Thread Cert.Reference5Ideal.nD Cert.Reference5Ideal.τ).loc Cert.Reference5Ideal.main_arg18)
      ∧ r.2.mem ((c.tc : Thread Cert.Reference5Ideal.nD Cert.Reference5Ideal.τ).loc Cert.Reference5Ideal.main_arg19) = m ((c.tc : Thread Cert.Reference5Ideal.nD Cert.Reference5Ideal.τ).loc Cert.Reference5Ideal.main_arg19)
      ∧ r.2.mem ((c.tc : Thread Cert.Reference5Ideal.nD Cert.Reference5Ideal.τ).loc Cert.Reference5Ideal.main_arg20) = m ((c.tc : Thread Cert.Reference5Ideal.nD Cert.Reference5Ideal.τ).loc Cert.Reference5Ideal.main_arg20))
      ∧ r.2.sem = fun _ => 0)

def quiescent_Reference5Ideal_pre_finite_mid [hReference5Ideal : Cert.Reference5Ideal.Facts] [hPre_finite_mid : Cert.Pre_finite_mid.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_mid m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17)
      ∧ r.2.mem ((c.tc : Thread Cert.Reference5Ideal.nD Cert.Reference5Ideal.τ).loc Cert.Reference5Ideal.main_arg18) = m ((c.tc : Thread Cert.Reference5Ideal.nD Cert.Reference5Ideal.τ).loc Cert.Reference5Ideal.main_arg18)
      ∧ r.2.mem ((c.tc : Thread Cert.Reference5Ideal.nD Cert.Reference5Ideal.τ).loc Cert.Reference5Ideal.main_arg19) = m ((c.tc : Thread Cert.Reference5Ideal.nD Cert.Reference5Ideal.τ).loc Cert.Reference5Ideal.main_arg19)
      ∧ r.2.mem ((c.tc : Thread Cert.Reference5Ideal.nD Cert.Reference5Ideal.τ).loc Cert.Reference5Ideal.main_arg20) = m ((c.tc : Thread Cert.Reference5Ideal.nD Cert.Reference5Ideal.τ).loc Cert.Reference5Ideal.main_arg20))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v72)) (v1 : (c : Dev Cert.Kernel2Ideal.nD) → Buf (Elt Ideal) ((c.tc : Thread Cert.Kernel2Ideal.nD Cert.Kernel2Ideal.τ).loc Cert.Kernel2Ideal.main_v61)) (v2 : (c : Dev Cert.Kernel2Ideal.nD) → Buf (Elt Ideal) ((c.tc : Thread Cert.Kernel2Ideal.nD Cert.Kernel2Ideal.τ).loc Cert.Kernel2Ideal.main_v59)) (v3 : (c : Dev Cert.Kernel2Ideal.nD) → Buf (Elt Ideal) ((c.tc : Thread Cert.Kernel2Ideal.nD Cert.Kernel2Ideal.τ).loc Cert.Kernel2Ideal.main_v55)) (v4 : (c : Dev Cert.Kernel2Ideal.nD) → Buf (Elt Ideal) ((c.tc : Thread Cert.Kernel2Ideal.nD Cert.Kernel2Ideal.τ).loc Cert.Kernel2Ideal.main_v73)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v72) = v0 c
          ∧ r.2.mem ((c.tc : Thread Cert.Kernel2Ideal.nD Cert.Kernel2Ideal.τ).loc Cert.Kernel2Ideal.main_v61) = v1 c
          ∧ r.2.mem ((c.tc : Thread Cert.Kernel2Ideal.nD Cert.Kernel2Ideal.τ).loc Cert.Kernel2Ideal.main_v59) = v2 c
          ∧ r.2.mem ((c.tc : Thread Cert.Kernel2Ideal.nD Cert.Kernel2Ideal.τ).loc Cert.Kernel2Ideal.main_v55) = v3 c
          ∧ r.2.mem ((c.tc : Thread Cert.Kernel2Ideal.nD Cert.Kernel2Ideal.τ).loc Cert.Kernel2Ideal.main_v73) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v90) = v0 c
          ∧ r.2.mem ((c.tc : Thread Cert.Reference2Ideal.nD Cert.Reference2Ideal.τ).loc Cert.Reference2Ideal.main_v91) = v1 c
          ∧ r.2.mem ((c.tc : Thread Cert.Reference2Ideal.nD Cert.Reference2Ideal.τ).loc Cert.Reference2Ideal.main_v87) = v2 c
          ∧ r.2.mem ((c.tc : Thread Cert.Reference2Ideal.nD Cert.Reference2Ideal.τ).loc Cert.Reference2Ideal.main_v86) = v3 c
          ∧ r.2.mem ((c.tc : Thread Cert.Reference2Ideal.nD Cert.Reference2Ideal.τ).loc Cert.Reference2Ideal.main_v45) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel4_Kernel4Ideal : Prop :=
  True

def algebraic_Kernel4Ideal_Reference4Ideal_pre_finite_loss [hKernel4Ideal : Cert.Kernel4Ideal.Facts] [hReference4Ideal : Cert.Reference4Ideal.Facts] [hPre_finite_loss : Cert.Pre_finite_loss.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_loss m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v28)) (v1 : (c : Dev Cert.Kernel4Ideal.nD) → Buf (Elt Ideal) ((c.tc : Thread Cert.Kernel4Ideal.nD Cert.Kernel4Ideal.τ).loc Cert.Kernel4Ideal.main_v26_2)) (v2 : (c : Dev Cert.Kernel4Ideal.nD) → Buf (Elt Ideal) ((c.tc : Thread Cert.Kernel4Ideal.nD Cert.Kernel4Ideal.τ).loc Cert.Kernel4Ideal.main_v29)) (v3 : (c : Dev Cert.Kernel4Ideal.nD) → Buf (Elt Ideal) ((c.tc : Thread Cert.Kernel4Ideal.nD Cert.Kernel4Ideal.τ).loc Cert.Kernel4Ideal.main_v31)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28) = v0 c
          ∧ r.2.mem ((c.tc : Thread Cert.Kernel4Ideal.nD Cert.Kernel4Ideal.τ).loc Cert.Kernel4Ideal.main_v26_2) = v1 c
          ∧ r.2.mem ((c.tc : Thread Cert.Kernel4Ideal.nD Cert.Kernel4Ideal.τ).loc Cert.Kernel4Ideal.main_v29) = v2 c
          ∧ r.2.mem ((c.tc : Thread Cert.Kernel4Ideal.nD Cert.Kernel4Ideal.τ).loc Cert.Kernel4Ideal.main_v31) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v64) = v0 c
          ∧ r.2.mem ((c.tc : Thread Cert.Reference4Ideal.nD Cert.Reference4Ideal.τ).loc Cert.Reference4Ideal.main_v90) = v1 c
          ∧ r.2.mem ((c.tc : Thread Cert.Reference4Ideal.nD Cert.Reference4Ideal.τ).loc Cert.Reference4Ideal.main_v93) = v2 c
          ∧ r.2.mem ((c.tc : Thread Cert.Reference4Ideal.nD Cert.Reference4Ideal.τ).loc Cert.Reference4Ideal.main_v76) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)) (v2 : (c : Dev Cert.Kernel3Ideal.nD) → Buf (Elt Ideal) ((c.tc : Thread Cert.Kernel3Ideal.nD Cert.Kernel3Ideal.τ).loc Cert.Kernel3Ideal.main_v24_2)) (v3 : (c : Dev Cert.Kernel3Ideal.nD) → Buf (Elt Ideal) ((c.tc : Thread Cert.Kernel3Ideal.nD Cert.Kernel3Ideal.τ).loc Cert.Kernel3Ideal.main_v24_3)) (v4 : (c : Dev Cert.Kernel3Ideal.nD) → Buf (Elt Ideal) ((c.tc : Thread Cert.Kernel3Ideal.nD Cert.Kernel3Ideal.τ).loc Cert.Kernel3Ideal.main_v24_4)) (v5 : (c : Dev Cert.Kernel3Ideal.nD) → Buf (Elt Ideal) ((c.tc : Thread Cert.Kernel3Ideal.nD Cert.Kernel3Ideal.τ).loc Cert.Kernel3Ideal.main_v24_5)) (v6 : (c : Dev Cert.Kernel3Ideal.nD) → Buf (Elt Ideal) ((c.tc : Thread Cert.Kernel3Ideal.nD Cert.Kernel3Ideal.τ).loc Cert.Kernel3Ideal.main_v24_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_v24_2) = v2 c
          ∧ r.2.mem ((c.tc : Thread Cert.Kernel3Ideal.nD Cert.Kernel3Ideal.τ).loc Cert.Kernel3Ideal.main_v24_3) = v3 c
          ∧ r.2.mem ((c.tc : Thread Cert.Kernel3Ideal.nD Cert.Kernel3Ideal.τ).loc Cert.Kernel3Ideal.main_v24_4) = v4 c
          ∧ r.2.mem ((c.tc : Thread Cert.Kernel3Ideal.nD Cert.Kernel3Ideal.τ).loc Cert.Kernel3Ideal.main_v24_5) = v5 c
          ∧ r.2.mem ((c.tc : Thread Cert.Kernel3Ideal.nD Cert.Kernel3Ideal.τ).loc Cert.Kernel3Ideal.main_v24_7) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v251) = v0 c
          ∧ r.2.mem ((c.tc : Thread Cert.Reference3Ideal.nD Cert.Reference3Ideal.τ).loc Cert.Reference3Ideal.main_v317) = v1 c
          ∧ r.2.mem ((c.tc : Thread Cert.Reference3Ideal.nD Cert.Reference3Ideal.τ).loc Cert.Reference3Ideal.main_v350) = v2 c
          ∧ r.2.mem ((c.tc : Thread Cert.Reference3Ideal.nD Cert.Reference3Ideal.τ).loc Cert.Reference3Ideal.main_v347) = v3 c
          ∧ r.2.mem ((c.tc : Thread Cert.Reference3Ideal.nD Cert.Reference3Ideal.τ).loc Cert.Reference3Ideal.main_v369) = v4 c
          ∧ r.2.mem ((c.tc : Thread Cert.Reference3Ideal.nD Cert.Reference3Ideal.τ).loc Cert.Reference3Ideal.main_v269) = v5 c
          ∧ r.2.mem ((c.tc : Thread Cert.Reference3Ideal.nD Cert.Reference3Ideal.τ).loc Cert.Reference3Ideal.main_v298) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def preserves_Kernel5_Kernel5Ideal : Prop :=
  True

def algebraic_Kernel5Ideal_Reference5Ideal_pre_finite_mid [hKernel5Ideal : Cert.Kernel5Ideal.Facts] [hReference5Ideal : Cert.Reference5Ideal.Facts] [hPre_finite_mid : Cert.Pre_finite_mid.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_mid m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)
      ∧ m' ((c.tc : Thread Cert.Reference5Ideal.nD Cert.Reference5Ideal.τ).loc Cert.Reference5Ideal.main_arg18) = m ((c.tc : Thread Cert.Kernel5Ideal.nD Cert.Kernel5Ideal.τ).loc Cert.Kernel5Ideal.main_arg18)
      ∧ m' ((c.tc : Thread Cert.Reference5Ideal.nD Cert.Reference5Ideal.τ).loc Cert.Reference5Ideal.main_arg19) = m ((c.tc : Thread Cert.Kernel5Ideal.nD Cert.Kernel5Ideal.τ).loc Cert.Kernel5Ideal.main_arg19)
      ∧ m' ((c.tc : Thread Cert.Reference5Ideal.nD Cert.Reference5Ideal.τ).loc Cert.Reference5Ideal.main_arg20) = m ((c.tc : Thread Cert.Kernel5Ideal.nD Cert.Kernel5Ideal.τ).loc Cert.Kernel5Ideal.main_arg20)) →
    ∃ (v0 : (c : Dev Cert.Kernel5Ideal.nD) → Buf (Elt Ideal) ((c.tc : Thread Cert.Kernel5Ideal.nD Cert.Kernel5Ideal.τ).loc Cert.Kernel5Ideal.main_v196_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v196_3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
          ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
          ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
          ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
          ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v446) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16)
          ∧ r.2.mem ((c.tc : Thread Cert.Reference5Ideal.nD Cert.Reference5Ideal.τ).loc Cert.Reference5Ideal.main_arg17) = m' ((c.tc : Thread Cert.Reference5Ideal.nD Cert.Reference5Ideal.τ).loc Cert.Reference5Ideal.main_arg17)
          ∧ r.2.mem ((c.tc : Thread Cert.Reference5Ideal.nD Cert.Reference5Ideal.τ).loc Cert.Reference5Ideal.main_arg18) = m' ((c.tc : Thread Cert.Reference5Ideal.nD Cert.Reference5Ideal.τ).loc Cert.Reference5Ideal.main_arg18)
          ∧ r.2.mem ((c.tc : Thread Cert.Reference5Ideal.nD Cert.Reference5Ideal.τ).loc Cert.Reference5Ideal.main_arg19) = m' ((c.tc : Thread Cert.Reference5Ideal.nD Cert.Reference5Ideal.τ).loc Cert.Reference5Ideal.main_arg19)
          ∧ r.2.mem ((c.tc : Thread Cert.Reference5Ideal.nD Cert.Reference5Ideal.τ).loc Cert.Reference5Ideal.main_arg20) = m' ((c.tc : Thread Cert.Reference5Ideal.nD Cert.Reference5Ideal.τ).loc Cert.Reference5Ideal.main_arg20))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hPre_finite_ffn : Cert.Pre_finite_ffn.Facts) (hPre_finite_loss : Cert.Pre_finite_loss.Facts) (hPre_finite_mid : Cert.Pre_finite_mid.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel4 (hKernel4 := hKernel4)
    ∧ quiescent_Kernel4Ideal (hKernel4Ideal := hKernel4Ideal)
    ∧ quiescent_Kernel4Ideal_pre_finite_loss (hKernel4Ideal := hKernel4Ideal) (hPre_finite_loss := hPre_finite_loss)
    ∧ quiescent_Reference4Ideal (hReference4Ideal := hReference4Ideal)
    ∧ quiescent_Reference4Ideal_pre_finite_loss (hReference4Ideal := hReference4Ideal) (hPre_finite_loss := hPre_finite_loss)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Kernel5Ideal_pre_finite_mid (hKernel5Ideal := hKernel5Ideal) (hPre_finite_mid := hPre_finite_mid)
    ∧ quiescent_Reference5Ideal (hReference5Ideal := hReference5Ideal)
    ∧ quiescent_Reference5Ideal_pre_finite_mid (hReference5Ideal := hReference5Ideal) (hPre_finite_mid := hPre_finite_mid)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel4_Kernel4Ideal
    ∧ algebraic_Kernel4Ideal_Reference4Ideal_pre_finite_loss (hKernel4Ideal := hKernel4Ideal) (hReference4Ideal := hReference4Ideal) (hPre_finite_loss := hPre_finite_loss)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal_pre_finite_mid (hKernel5Ideal := hKernel5Ideal) (hReference5Ideal := hReference5Ideal) (hPre_finite_mid := hPre_finite_mid)
-- ==== Pre_finite_ffn.lean ====
abbrev S8192x1024 : Shape := ⟨2, ![8192, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x5632 : S_.BroadcastsInDim S1x3x5632 (![] : Fin 0 → Fin S1x3x5632.rank)
  reducesTo_S1x3x5632_S_d0_1_2 : S1x3x5632.ReducesTo [0, 1, 2] S_
  bcast_S_S1x5632 : S_.BroadcastsInDim S1x5632 (![] : Fin 0 → Fin S1x5632.rank)
  reducesTo_S1x5632_S_d0_1 : S1x5632.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x2816x1024 .f32) (main_arg5 : FVec F S1x1024 .f32) (main_arg6 : FVec F S8192x1024 .f32) (main_v3 : IVec S_ 1) (main_v7 : IVec S_ 1) (main_v11 : IVec S_ 1) (main_v15 : IVec S_ 1) : IVec S_ 1 :=
  let main_v16 : FVec F S1x2816x1024 .f32 := Host.absf main_arg4
  let main_cst_6 : FVec F S_ .f32 := constant S_ .f32 0x7F800000#32
  let main_v17 : FVec F S1x2816x1024 .f32 := broadcastInDim S1x2816x1024 ![] bcast_S_S1x2816x1024 main_cst_6
  let main_v18 : IVec S1x2816x1024 1 := cmpf .olt main_v16 main_v17
  let main_c_7 : IVec S_ 1 := constantI S_ 1 1#1
  let main_v19 : IVec S_ 1 := (fun x v => Host.reduce IntOp.andi x v reducesTo_S1x2816x1024_S_d0_1_2 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S8192x1024 .f32 := Host.absf main_arg6
  let main_cst_10 : FVec F S_ .f32 := constant S_ .f32 0x7F800000#32
  let main_v25 : FVec F S8192x1024 .f32 := broadcastInDim S8192x1024 ![] bcast_S_S8192x1024 main_cst_10
  let main_v26 : IVec S8192x1024 1 := cmpf .olt main_v24 main_v25
  let main_c_11 : IVec S_ 1 := constantI S_ 1 1#1
  let main_v27 : IVec S_ 1 := (fun x v => Host.reduce IntOp.andi x v reducesTo_S8192x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x1024 .f32) (main_arg1 : FVec F S1x1024x5632 .f32) (main_arg2 : FVec F S1x3x5632 .f32) (main_arg3 : FVec F S1x5632 .f32) (main_arg4 : FVec F S1x2816x1024 .f32) (main_arg5 : FVec F S1x1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024x5632 .f32 := Host.absf main_arg1
  let main_cst_0 : FVec F S_ .f32 := constant S_ .f32 0x7F800000#32
  let main_v5 : FVec F S1x1024x5632 .f32 := broadcastInDim S1x1024x5632 ![] bcast_S_S1x1024x5632 main_cst_0
  let main_v6 : IVec S1x1024x5632 1 := cmpf .olt main_v4 main_v5
  let main_c_1 : IVec S_ 1 := constantI S_ 1 1#1
  let main_v7 : IVec S_ 1 := (fun x v => Host.reduce IntOp.andi x v reducesTo_S1x1024x5632_S_d0_1_2 h_S_) main_v6 main_c_1
  let main_v8 : FVec F S1x3x5632 .f32 := Host.absf main_arg2
  let main_cst_2 : FVec F S_ .f32 := constant S_ .f32 0x7F800000#32
  let main_v9 : FVec F S1x3x5632 .f32 := broadcastInDim S1x3x5632 ![] bcast_S_S1x3x5632 main_cst_2
  let main_v10 : IVec S1x3x5632 1 := cmpf .olt main_v8 main_v9
  let main_c_3 : IVec S_ 1 := constantI S_ 1 1#1
  let main_v11 : IVec S_ 1 := (fun x v => Host.reduce IntOp.andi x v reducesTo_S1x3x5632_S_d0_1_2 h_S_) main_v10 main_c_3
  let main_v12 : FVec F S1x5632 .f32 := Host.absf main_arg3
  let main_cst_4 : FVec F S_ .f32 := constant S_ .f32 0x7F800000#32
  let main_v13 : FVec F S1x5632 .f32 := broadcastInDim S1x5632 ![] bcast_S_S1x5632 main_cst_4
  let main_v14 : IVec S1x5632 1 := cmpf .olt main_v12 main_v13
  let main_c_5 : IVec S_ 1 := constantI S_ 1 1#1
  let main_v15 : IVec S_ 1 := (fun x v => Host.reduce IntOp.andi x v reducesTo_S1x5632_S_d0_1 h_S_) main_v14 main_c_5
  fn_part1 (F := F) main_arg4 main_arg5 main_arg6 main_v3 main_v7 main_v11 main_v15
-- ==== Pre_finite_loss.lean ====
abbrev S8192x1024 : Shape := ⟨2, ![8192, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x1024 : Shape := ⟨2, ![1, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x5632 : S_.BroadcastsInDim S1x3x5632 (![] : Fin 0 → Fin S1x3x5632.rank)
  reducesTo_S1x3x5632_S_d0_1_2 : S1x3x5632.ReducesTo [0, 1, 2] S_
  bcast_S_S1x5632 : S_.BroadcastsInDim S1x5632 (![] : Fin 0 → Fin S1x5632.rank)
  reducesTo_S1x5632_S_d0_1 : S1x5632.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S8192x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S8192x1024 .f32 := Host.absf main_arg8
  let main_cst_14 : FVec F S_ .f32 := constant S_ .f32 0x7F800000#32
  let main_v33 : FVec F S8192x1024 .f32 := broadcastInDim S8192x1024 ![] bcast_S_S8192x1024 main_cst_14
  let main_v34 : IVec S8192x1024 1 := cmpf .olt main_v32 main_v33
  let main_c_15 : IVec S_ 1 := constantI S_ 1 1#1
  let main_v35 : IVec S_ 1 := (fun x v => Host.reduce IntOp.andi x v reducesTo_S8192x1024_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1x5632 .f32) (main_arg5 : FVec F S1x2816x1024 .f32) (main_arg6 : FVec F S1x1024 .f32) (main_arg7 : FVec F S1024 .f32) (main_arg8 : FVec F S8192x1024 .f32) (main_v3 : IVec S_ 1) (main_v7 : IVec S_ 1) (main_v11 : IVec S_ 1) (main_v15 : IVec S_ 1) : IVec S_ 1 :=
  let main_v16 : FVec F S1x5632 .f32 := Host.absf main_arg4
  let main_cst_6 : FVec F S_ .f32 := constant S_ .f32 0x7F800000#32
  let main_v17 : FVec F S1x5632 .f32 := broadcastInDim S1x5632 ![] bcast_S_S1x5632 main_cst_6
  let main_v18 : IVec S1x5632 1 := cmpf .olt main_v16 main_v17
  let main_c_7 : IVec S_ 1 := constantI S_ 1 1#1
  let main_v19 : IVec S_ 1 := (fun x v => Host.reduce IntOp.andi x v reducesTo_S1x5632_S_d0_1 h_S_) main_v18 main_c_7
  let main_v20 : FVec F S1x2816x1024 .f32 := Host.absf main_arg5
  let main_cst_8 : FVec F S_ .f32 := constant S_ .f32 0x7F800000#32
  let main_v21 : FVec F S1x2816x1024 .f32 := broadcastInDim S1x2816x1024 ![] bcast_S_S1x2816x1024 main_cst_8
  let main_v22 : IVec S1x2816x1024 1 := cmpf .olt main_v20 main_v21
  let main_c_9 : IVec S_ 1 := constantI S_ 1 1#1
  let main_v23 : IVec S_ 1 := (fun x v => Host.reduce IntOp.andi x v reducesTo_S1x2816x1024_S_d0_1_2 h_S_) main_v22 main_c_9
  let main_v24 : FVec F S1x1024 .f32 := Host.absf main_arg6
  let main_cst_10 : FVec F S_ .f32 := constant S_ .f32 0x7F800000#32
  let main_v25 : FVec F S1x1024 .f32 := broadcastInDim S1x1024 ![] bcast_S_S1x1024 main_cst_10
  let main_v26 : IVec S1x1024 1 := cmpf .olt main_v24 main_v25
  let main_c_11 : IVec S_ 1 := constantI S_ 1 1#1
  let main_v27 : IVec S_ 1 := (fun x v => Host.reduce IntOp.andi x v reducesTo_S1x1024_S_d0_1 h_S_) main_v26 main_c_11
  let main_v28 : FVec F S1024 .f32 := Host.absf main_arg7
  let main_cst_12 : FVec F S_ .f32 := constant S_ .f32 0x7F800000#32
  let main_v29 : FVec F S1024 .f32 := broadcastInDim S1024 ![] bcast_S_S1024 main_cst_12
  let main_v30 : IVec S1024 1 := cmpf .olt main_v28 main_v29
  let main_c_13 : IVec S_ 1 := constantI S_ 1 1#1
  let main_v31 : IVec S_ 1 := (fun x v => Host.reduce IntOp.andi x v reducesTo_S1024_S_d0 h_S_) main_v30 main_c_13
  fn_part2 (F := F) main_arg8 main_v3 main_v7 main_v11 main_v15 main_v19 main_v23 main_v27 main_v31

def fn {F : FTy → Type} [FloatOps F] (main_arg0 : FVec F S8192x1024 .f32) (main_arg1 : FVec F S8192x1024 .f32) (main_arg2 : FVec F S1x1024x5632 .f32) (main_arg3 : FVec F S1x3x5632 .f32) (main_arg4 : FVec F S1x5632 .f32) (main_arg5 : FVec F S1x2816x1024 .f32) (main_arg6 : FVec F S1x1024 .f32) (main_arg7 : FVec F S1024 .f32) (main_arg8 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1x1024x5632 .f32 := Host.absf main_arg2
  let main_cst_2 : FVec F S_ .f32 := constant S_ .f32 0x7F800000#32
  let main_v9 : FVec F S1x1024x5632 .f32 := broadcastInDim S1x1024x5632 ![] bcast_S_S1x1024x5632 main_cst_2
  let main_v10 : IVec S1x1024x5632 1 := cmpf .olt main_v8 main_v9
  let main_c_3 : IVec S_ 1 := constantI S_ 1 1#1
  let main_v11 : IVec S_ 1 := (fun x v => Host.reduce IntOp.andi x v reducesTo_S1x1024x5632_S_d0_1_2 h_S_) main_v10 main_c_3
  let main_v12 : FVec F S1x3x5632 .f32 := Host.absf main_arg3
  let main_cst_4 : FVec F S_ .f32 := constant S_ .f32 0x7F800000#32
  let main_v13 : FVec F S1x3x5632 .f32 := broadcastInDim S1x3x5632 ![] bcast_S_S1x3x5632 main_cst_4
  let main_v14 : IVec S1x3x5632 1 := cmpf .olt main_v12 main_v13
  let main_c_5 : IVec S_ 1 := constantI S_ 1 1#1
  let main_v15 : IVec S_ 1 := (fun x v => Host.reduce IntOp.andi x v reducesTo_S1x3x5632_S_d0_1_2 h_S_) main_v14 main_c_5
  fn_part1 (F := F) main_arg4 main_arg5 main_arg6 main_arg7 main_arg8 main_v3 main_v7 main_v11 main_v15
-- ==== Pre_finite_mid.lean ====
abbrev S4x8192x1024 : Shape := ⟨3, ![4, 8192, 1024]⟩
abbrev S8192x1024 : Shape := ⟨2, ![8192, 1024]⟩
abbrev S1x1024 : Shape := ⟨2, ![1, 1024]⟩
abbrev S1x1024x2048 : Shape := ⟨3, ![1, 1024, 2048]⟩
abbrev S1x31x512 : Shape := ⟨3, ![1, 31, 512]⟩
abbrev S1x512 : Shape := ⟨2, ![1, 512]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x2048 : S_.BroadcastsInDim S1x1024x2048 (![] : Fin 0 → Fin S1x1024x2048.rank)
  reducesTo_S1x1024x2048_S_d0_1_2 : S1x1024x2048.ReducesTo [0, 1, 2] S_
  bcast_S_S1x31x512 : S_.BroadcastsInDim S1x31x512 (![] : Fin 0 → Fin S1x31x512.rank)
  reducesTo_S1x31x512_S_d0_1_2 : S1x31x512.ReducesTo [0, 1, 2] S_
  bcast_S_S1x512 : S_.BroadcastsInDim S1x512 (![] : Fin 0 → Fin S1x512.rank)
  reducesTo_S1x512_S_d0_1 : S1x512.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part5 {F : FTy → Type} [FloatOps F] (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) (main_v67 : IVec S_ 1) (main_v71 : IVec S_ 1) (main_v75 : IVec S_ 1) (main_v81 : IVec S_ 1) : IVec S_ 1 :=
  let main_v82 : IVec S_ 1 := andi main_v81 main_v31
  let main_v83 : IVec S_ 1 := andi main_v82 main_v35
  let main_v84 : IVec S_ 1 := andi main_v83 main_v39
  let main_v85 : IVec S_ 1 := andi main_v84 main_v43
  let main_v86 : IVec S_ 1 := andi main_v85 main_v47
  let main_v87 : IVec S_ 1 := andi main_v86 main_v51
  let main_v88 : IVec S_ 1 := andi main_v87 main_v55
  let main_v89 : IVec S_ 1 := andi main_v88 main_v59
  let main_v90 : IVec S_ 1 := andi main_v89 main_v63
  let main_v91 : IVec S_ 1 := andi main_v90 main_v67
  let main_v92 : IVec S_ 1 := andi main_v91 main_v71
  let main_v93 : IVec S_ 1 := andi main_v92 main_v75
  main_v93

def fn_part4 {F : FTy → Type} [FloatOps F] (main_arg17 : FVec F S1x1024 .f32) (main_arg18 : FVec F S1x1024 .f32) (main_arg20 : FVec F S1x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) : IVec S_ 1 :=
  let main_v64 : FVec F S1x1024 .f32 := Host.absf main_arg17
  let main_cst_30 : FVec F S_ .f32 := constant S_ .f32 0x7F800000#32
  let main_v65 : FVec F S1x1024 .f32 := broadcastInDim S1x1024 ![] bcast_S_S1x1024 main_cst_30
  let main_v66 : IVec S1x1024 1 := cmpf .olt main_v64 main_v65
  let main_c_31 : IVec S_ 1 := constantI S_ 1 1#1
  let main_v67 : IVec S_ 1 := (fun x v => Host.reduce IntOp.andi x v reducesTo_S1x1024_S_d0_1 h_S_) main_v66 main_c_31
  let main_v68 : FVec F S1x1024 .f32 := Host.absf main_arg18
  let main_cst_32 : FVec F S_ .f32 := constant S_ .f32 0x7F800000#32
  let main_v69 : FVec F S1x1024 .f32 := broadcastInDim S1x1024 ![] bcast_S_S1x1024 main_cst_32
  let main_v70 : IVec S1x1024 1 := cmpf .olt main_v68 main_v69
  let main_c_33 : IVec S_ 1 := constantI S_ 1 1#1
  let main_v71 : IVec S_ 1 := (fun x v => Host.reduce IntOp.andi x v reducesTo_S1x1024_S_d0_1 h_S_) main_v70 main_c_33
  let main_v72 : FVec F S1x1024 .f32 := Host.absf main_arg20
  let main_cst_34 : FVec F S_ .f32 := constant S_ .f32 0x7F800000#32
  let main_v73 : FVec F S1x1024 .f32 := broadcastInDim S1x1024 ![] bcast_S_S1x1024 main_cst_34
  let main_v74 : IVec S1x1024 1 := cmpf .olt main_v72 main_v73
  let main_c_35 : IVec S_ 1 := constantI S_ 1 1#1
  let main_v75 : IVec S_ 1 := (fun x v => Host.reduce IntOp.andi x v reducesTo_S1x1024_S_d0_1 h_S_) main_v74 main_c_35
  let main_v76 : IVec S_ 1 := andi main_v3 main_v7
  let main_v77 : IVec S_ 1 := andi main_v76 main_v11
  let main_v78 : IVec S_ 1 := andi main_v77 main_v15
  let main_v79 : IVec S_ 1 := andi main_v78 main_v19
  let main_v80 : IVec S_ 1 := andi main_v79 main_v23
  let main_v81 : IVec S_ 1 := andi main_v80 main_v27
  fn_part5 (F := F) main_v31 main_v35 main_v39 main_v43 main_v47 main_v51 main_v55 main_v59 main_v63 main_v67 main_v71 main_v75 main_v81

def fn_part3 {F : FTy → Type} [FloatOps F] (main_arg13 : FVec F S1x8x128x128 .f32) (main_arg14 : FVec F S1x8x128 .f32) (main_arg15 : FVec F S1x1024 .f32) (main_arg16 : FVec F S1x1024x1024 .f32) (main_arg17 : FVec F S1x1024 .f32) (main_arg18 : FVec F S1x1024 .f32) (main_arg20 : FVec F S1x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S1x8x128x128 .f32 := Host.absf main_arg13
  let main_cst_22 : FVec F S_ .f32 := constant S_ .f32 0x7F800000#32
  let main_v49 : FVec F S1x8x128x128 .f32 := broadcastInDim S1x8x128x128 ![] bcast_S_S1x8x128x128 main_cst_22
  let main_v50 : IVec S1x8x128x128 1 := cmpf .olt main_v48 main_v49
  let main_c_23 : IVec S_ 1 := constantI S_ 1 1#1
  let main_v51 : IVec S_ 1 := (fun x v => Host.reduce IntOp.andi x v reducesTo_S1x8x128x128_S_d0_1_2_3 h_S_) main_v50 main_c_23
  let main_v52 : FVec F S1x8x128 .f32 := Host.absf main_arg14
  let main_cst_24 : FVec F S_ .f32 := constant S_ .f32 0x7F800000#32
  let main_v53 : FVec F S1x8x128 .f32 := broadcastInDim S1x8x128 ![] bcast_S_S1x8x128 main_cst_24
  let main_v54 : IVec S1x8x128 1 := cmpf .olt main_v52 main_v53
  let main_c_25 : IVec S_ 1 := constantI S_ 1 1#1
  let main_v55 : IVec S_ 1 := (fun x v => Host.reduce IntOp.andi x v reducesTo_S1x8x128_S_d0_1_2 h_S_) main_v54 main_c_25
  let main_v56 : FVec F S1x1024 .f32 := Host.absf main_arg15
  let main_cst_26 : FVec F S_ .f32 := constant S_ .f32 0x7F800000#32
  let main_v57 : FVec F S1x1024 .f32 := broadcastInDim S1x1024 ![] bcast_S_S1x1024 main_cst_26
  let main_v58 : IVec S1x1024 1 := cmpf .olt main_v56 main_v57
  let main_c_27 : IVec S_ 1 := constantI S_ 1 1#1
  let main_v59 : IVec S_ 1 := (fun x v => Host.reduce IntOp.andi x v reducesTo_S1x1024_S_d0_1 h_S_) main_v58 main_c_27
  let main_v60 : FVec F S1x1024x1024 .f32 := Host.absf main_arg16
  let main_cst_28 : FVec F S_ .f32 := constant S_ .f32 0x7F800000#32
  let main_v61 : FVec F S1x1024x1024 .f32 := broadcastInDim S1x1024x1024 ![] bcast_S_S1x1024x1024 main_cst_28
  let main_v62 : IVec S1x1024x1024 1 := cmpf .olt main_v60 main_v61
  let main_c_29 : IVec S_ 1 := constantI S_ 1 1#1
  let main_v63 : IVec S_ 1 := (fun x v => Host.reduce IntOp.andi x v reducesTo_S1x1024x1024_S_d0_1_2 h_S_) main_v62 main_c_29
  fn_part4 (F := F) main_arg17 main_arg18 main_arg20 main_v3 main_v7 main_v11 main_v15 main_v19 main_v23 main_v27 main_v31 main_v35 main_v39 main_v43 main_v47 main_v51 main_v55 main_v59 main_v63

def fn_part2 {F : FTy → Type} [FloatOps F] (main_arg9 : FVec F S1x512 .f32) (main_arg10 : FVec F S1x512 .f32) (main_arg11 : FVec F S1x512 .f32) (main_arg12 : FVec F S1x512 .f32) (main_arg13 : FVec F S1x8x128x128 .f32) (main_arg14 : FVec F S1x8x128 .f32) (main_arg15 : FVec F S1x1024 .f32) (main_arg16 : FVec F S1x1024x1024 .f32) (main_arg17 : FVec F S1x1024 .f32) (main_arg18 : FVec F S1x1024 .f32) (main_arg20 : FVec F S1x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x512 .f32 := Host.absf main_arg9
  let main_cst_14 : FVec F S_ .f32 := constant S_ .f32 0x7F800000#32
  let main_v33 : FVec F S1x512 .f32 := broadcastInDim S1x512 ![] bcast_S_S1x512 main_cst_14
  let main_v34 : IVec S1x512 1 := cmpf .olt main_v32 main_v33
  let main_c_15 : IVec S_ 1 := constantI S_ 1 1#1
  let main_v35 : IVec S_ 1 := (fun x v => Host.reduce IntOp.andi x v reducesTo_S1x512_S_d0_1 h_S_) main_v34 main_c_15
  let main_v36 : FVec F S1x512 .f32 := Host.absf main_arg10
  let main_cst_16 : FVec F S_ .f32 := constant S_ .f32 0x7F800000#32
  let main_v37 : FVec F S1x512 .f32 := broadcastInDim S1x512 ![] bcast_S_S1x512 main_cst_16
  let main_v38 : IVec S1x512 1 := cmpf .olt main_v36 main_v37
  let main_c_17 : IVec S_ 1 := constantI S_ 1 1#1
  let main_v39 : IVec S_ 1 := (fun x v => Host.reduce IntOp.andi x v reducesTo_S1x512_S_d0_1 h_S_) main_v38 main_c_17
  let main_v40 : FVec F S1x512 .f32 := Host.absf main_arg11
  let main_cst_18 : FVec F S_ .f32 := constant S_ .f32 0x7F800000#32
  let main_v41 : FVec F S1x512 .f32 := broadcastInDim S1x512 ![] bcast_S_S1x512 main_cst_18
  let main_v42 : IVec S1x512 1 := cmpf .olt main_v40 main_v41
  let main_c_19 : IVec S_ 1 := constantI S_ 1 1#1
  let main_v43 : IVec S_ 1 := (fun x v => Host.reduce IntOp.andi x v reducesTo_S1x512_S_d0_1 h_S_) main_v42 main_c_19
  let main_v44 : FVec F S1x512 .f32 := Host.absf main_arg12
  let main_cst_20 : FVec F S_ .f32 := constant S_ .f32 0x7F800000#32
  let main_v45 : FVec F S1x512 .f32 := broadcastInDim S1x512 ![] bcast_S_S1x512 main_cst_20
  let main_v46 : IVec S1x512 1 := cmpf .olt main_v44 main_v45
  let main_c_21 : IVec S_ 1 := constantI S_ 1 1#1
  let main_v47 : IVec S_ 1 := (fun x v => Host.reduce IntOp.andi x v reducesTo_S1x512_S_d0_1 h_S_) main_v46 main_c_21
  fn_part3 (F := F) main_arg13 main_arg14 main_arg15 main_arg16 main_arg17 main_arg18 main_arg20 main_v3 main_v7 main_v11 main_v15 main_v19 main_v23 main_v27 main_v31 main_v35 main_v39 main_v43 main_v47

def fn_part1 {F : FTy → Type} [FloatOps F] (main_arg5 : FVec F S1x1024 .f32) (main_arg6 : FVec F S1x1024x2048 .f32) (main_arg7 : FVec F S1x31x512 .f32) (main_arg8 : FVec F S1x512 .f32) (main_arg9 : FVec F S1x512 .f32) (main_arg10 : FVec F S1x512 .f32) (main_arg11 : FVec F S1x512 .f32) (main_arg12 : FVec F S1x512 .f32) (main_arg13 : FVec F S1x8x128x128 .f32) (main_arg14 : FVec F S1x8x128 .f32) (main_arg15 : FVec F S1x1024 .f32) (main_arg16 : FVec F S1x1024x1024 .f32) (main_arg17 : FVec F S1x1024 .f32) (main_arg18 : FVec F S1x1024 .f32) (main_arg20 : FVec F S1x1024 .f32) (main_v3 : IVec S_ 1) (main_v7 : IVec S_ 1) (main_v11 : IVec S_ 1) (main_v15 : IVec S_ 1) : IVec S_ 1 :=
  let main_v16 : FVec F S1x1024 .f32 := Host.absf main_arg5
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x1024x2048 .f32 := Host.absf main_arg6
  let main_cst_8 : FVec F S_ .f32 := constant S_ .f32 0x7F800000#32
  let main_v21 : FVec F S1x1024x2048 .f32 := broadcastInDim S1x1024x2048 ![] bcast_S_S1x1024x2048 main_cst_8
  let main_v22 : IVec S1x1024x2048 1 := cmpf .olt main_v20 main_v21
  let main_c_9 : IVec S_ 1 := constantI S_ 1 1#1
  let main_v23 : IVec S_ 1 := (fun x v => Host.reduce IntOp.andi x v reducesTo_S1x1024x2048_S_d0_1_2 h_S_) main_v22 main_c_9
  let main_v24 : FVec F S1x31x512 .f32 := Host.absf main_arg7
  let main_cst_10 : FVec F S_ .f32 := constant S_ .f32 0x7F800000#32
  let main_v25 : FVec F S1x31x512 .f32 := broadcastInDim S1x31x512 ![] bcast_S_S1x31x512 main_cst_10
  let main_v26 : IVec S1x31x512 1 := cmpf .olt main_v24 main_v25
  let main_c_11 : IVec S_ 1 := constantI S_ 1 1#1
  let main_v27 : IVec S_ 1 := (fun x v => Host.reduce IntOp.andi x v reducesTo_S1x31x512_S_d0_1_2 h_S_) main_v26 main_c_11
  let main_v28 : FVec F S1x512 .f32 := Host.absf main_arg8
  let main_cst_12 : FVec F S_ .f32 := constant S_ .f32 0x7F800000#32
  let main_v29 : FVec F S1x512 .f32 := broadcastInDim S1x512 ![] bcast_S_S1x512 main_cst_12
  let main_v30 : IVec S1x512 1 := cmpf .olt main_v28 main_v29
  let main_c_13 : IVec S_ 1 := constantI S_ 1 1#1
  let main_v31 : IVec S_ 1 := (fun x v => Host.reduce IntOp.andi x v reducesTo_S1x512_S_d0_1 h_S_) main_v30 main_c_13
  fn_part2 (F := F) main_arg9 main_arg10 main_arg11 main_arg12 main_arg13 main_arg14 main_arg15 main_arg16 main_arg17 main_arg18 main_arg20 main_v3 main_v7 main_v11 main_v15 main_v19 main_v23 main_v27 main_v31

def fn {F : FTy → Type} [FloatOps F] (main_arg0 : FVec F S4x8192x1024 .f32) (main_arg1 : FVec F S8192x1024 .f32) (main_arg2 : FVec F S8192x1024 .f32) (main_arg3 : FVec F S1x1024 .f32) (main_arg4 : FVec F S1x1024 .f32) (main_arg5 : FVec F S1x1024 .f32) (main_arg6 : FVec F S1x1024x2048 .f32) (main_arg7 : FVec F S1x31x512 .f32) (main_arg8 : FVec F S1x512 .f32) (main_arg9 : FVec F S1x512 .f32) (main_arg10 : FVec F S1x512 .f32) (main_arg11 : FVec F S1x512 .f32) (main_arg12 : FVec F S1x512 .f32) (main_arg13 : FVec F S1x8x128x128 .f32) (main_arg14 : FVec F S1x8x128 .f32) (main_arg15 : FVec F S1x1024 .f32) (main_arg16 : FVec F S1x1024x1024 .f32) (main_arg17 : FVec F S1x1024 .f32) (main_arg18 : FVec F S1x1024 .f32) (main_arg19 : FVec F S1x1024 .f32) (main_arg20 : FVec F S1x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S8192x1024 .f32 := Host.absf main_arg2
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1x1024 .f32 := Host.absf main_arg3
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg4
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg5 main_arg6 main_arg7 main_arg8 main_arg9 main_arg10 main_arg11 main_arg12 main_arg13 main_arg14 main_arg15 main_arg16 main_arg17 main_arg18 main_arg20 main_v3 main_v7 main_v11 main_v15
-- ==== Kernel.lean ====
abbrev S8x1024 : Shape := ⟨2, ![8, 1024]⟩
abbrev S8x768 : Shape := ⟨2, ![8, 768]⟩
abbrev S1x1024x768 : Shape := ⟨3, ![1, 1024, 768]⟩
abbrev S8x1x1024 : Shape := ⟨3, ![8, 1, 1024]⟩
abbrev S1024x8 : Shape := ⟨2, ![1024, 8]⟩
abbrev S256x8 : Shape := ⟨2, ![256, 8]⟩
abbrev S1x256x768 : Shape := ⟨3, ![1, 256, 768]⟩
abbrev S256x768 : Shape := ⟨2, ![256, 768]⟩
abbrev S256x1 : Shape := ⟨2, ![256, 1]⟩
abbrev S1x768 : Shape := ⟨2, ![1, 768]⟩

abbrev nBuf : Space → Nat
  | .hbm => 12
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S8x1x1024, .f32⟩
  | .hbm, ⟨6, _⟩ => ⟨S8x1024, .f32⟩
  | .hbm, ⟨7, _⟩ => ⟨S1024x8, .f32⟩
  | .hbm, ⟨8, _⟩ => ⟨S1x1024x768, .f32⟩
  | .hbm, ⟨9, _⟩ => ⟨S1x1024x768, .f32⟩
  | .hbm, ⟨10, _⟩ => ⟨S1x1024x768, .f32⟩
  | .hbm, ⟨11, _⟩ => ⟨S1x1024x768, .f32⟩
  | .local _ .vmem, ⟨0, _⟩ => ⟨S256x8, .f32⟩
  | .local _ .vmem, ⟨1, _⟩ => ⟨S256x8, .f32⟩
  | .local _ .vmem, ⟨2, _⟩ => ⟨S8x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8x1024 : Shape := ⟨2, ![8, 1024]⟩
abbrev S8x768 : Shape := ⟨2, ![8, 768]⟩
abbrev S1x1024x768 : Shape := ⟨3, ![1, 1024, 768]⟩
abbrev S_ : Shape := ⟨0, ![]⟩
abbrev S1024x768 : Shape := ⟨2, ![1024, 768]⟩
abbrev S768x1024 : Shape := ⟨2, ![768, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024x768, .f32⟩
  | .hbm, ⟨15, _⟩ => ⟨S8x768, .f32⟩
  | .hbm, ⟨16, _⟩ => ⟨S768x1024, .f32⟩
  | .hbm, ⟨17, _⟩ => ⟨S1024x768, .f32⟩
  | .hbm, ⟨18, _⟩ => ⟨S1x1024x768, .f32⟩
  | .hbm, ⟨19, _⟩ => ⟨S_, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S1x1024x768, .f32⟩
  | .hbm, ⟨26, _⟩ => ⟨S_, .f32⟩
  | .hbm, ⟨27, _⟩ => ⟨S1x1024x768, .f32⟩
  | .hbm, ⟨28, _⟩ => ⟨S1x1024x768, .f32⟩
  | .hbm, ⟨29, _⟩ => ⟨S1x1024x768, .f32⟩
  | .hbm, ⟨30, _⟩ => ⟨S_, .f32⟩
  | .hbm, ⟨31, _⟩ => ⟨S1x1024x768, .f32⟩
  | .hbm, ⟨32, _⟩ => ⟨S1x1024x768, .f32⟩
  | .hbm, ⟨33, _⟩ => ⟨S1x1024x768, .f32⟩
  | .hbm, ⟨34, _⟩ => ⟨S_, .f32⟩
  | .hbm, ⟨35, _⟩ => ⟨S1x1024x768, .f32⟩
  | .hbm, ⟨36, _⟩ => ⟨S1x1024x768, .f32⟩
  | .hbm, ⟨37, _⟩ => ⟨S_, .f32⟩
  | .hbm, ⟨38, _⟩ => ⟨S1x1024x768, .f32⟩
  | .hbm, ⟨39, _⟩ => ⟨S1x1024x768, .f32⟩
  | .hbm, ⟨40, _⟩ => ⟨S1x1024x768, .f32⟩
  | .hbm, ⟨41, _⟩ => ⟨S_, .f32⟩
  | .hbm, ⟨42, _⟩ => ⟨S1x1024x768, .f32⟩
  | .hbm, ⟨43, _⟩ => ⟨S1x1024x768, .f32⟩
  | .hbm, ⟨44, _⟩ => ⟨S1x1024x768, .f32⟩
  | .hbm, ⟨45, _⟩ => ⟨S_, .f32⟩
  | .hbm, ⟨46, _⟩ => ⟨S1x1024x768, .f32⟩
  | .hbm, ⟨47, _⟩ => ⟨S1x1024x768, .f32⟩
  | .hbm, ⟨48, _⟩ => ⟨S1x1024x768, .f32⟩
  | .hbm, ⟨49, _⟩ => ⟨S_, .f32⟩
  | .hbm, ⟨50, _⟩ => ⟨S1x1024x768, .f32⟩
  | .hbm, ⟨51, _⟩ => ⟨S1x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== Kernel2.lean ====
abbrev S8192x1024 : Shape := ⟨2, ![8192, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x1024 : Shape := ⟨2, ![1, 1024]⟩
abbrev S3x5632 : Shape := ⟨2, ![3, 5632]⟩
abbrev S3x8x704 : Shape := ⟨3, ![3, 8, 704]⟩
abbrev S8x3x704 : Shape := ⟨3, ![8, 3, 704]⟩
abbrev S_ : Shape := ⟨0, ![]⟩
abbrev S8x3x768 : Shape := ⟨3, ![8, 3, 768]⟩
abbrev S3x8x768 : Shape := ⟨3, ![3, 8, 768]⟩
abbrev S3x6144 : Shape := ⟨2, ![3, 6144]⟩
abbrev S8x704 : Shape := ⟨2, ![8, 704]⟩
abbrev S8x768 : Shape := ⟨2, ![8, 768]⟩
abbrev S1x6144 : Shape := ⟨2, ![1, 6144]⟩
abbrev S4x6144 : Shape := ⟨2, ![4, 6144]⟩
abbrev S8x6144 : Shape := ⟨2, ![8, 6144]⟩
abbrev S1024x5632 : Shape := ⟨2, ![1024, 5632]⟩
abbrev S1024x8x704 : Shape := ⟨3, ![1024, 8, 704]⟩
abbrev S8x704x1024 : Shape := ⟨3, ![8, 704, 1024]⟩
abbrev S8x768x1024 : Shape := ⟨3, ![8, 768, 1024]⟩
abbrev S2816x1024 : Shape := ⟨2, ![2816, 1024]⟩
abbrev S4x704x1024 : Shape := ⟨3, ![4, 704, 1024]⟩
abbrev S4x768x1024 : Shape := ⟨3, ![4, 768, 1024]⟩
abbrev S7x1024 : Shape := ⟨2, ![7, 1024]⟩
abbrev S8x1024 : Shape := ⟨2, ![8, 1024]⟩
abbrev S16x1024 : Shape := ⟨2, ![16, 1024]⟩
abbrev S8192x8x768 : Shape := ⟨3, ![8192, 8, 768]⟩
abbrev S8192x6144 : Shape := ⟨2, ![8192, 6144]⟩
abbrev S2x6144 : Shape := ⟨2, ![2, 6144]⟩
abbrev S8194x6144 : Shape := ⟨2, ![8194, 6144]⟩
abbrev S1024x8192 : Shape := ⟨2, ![1024, 8192]⟩
abbrev S4x8192x1024 : Shape := ⟨3, ![4, 8192, 1024]⟩
abbrev S2x4x1024x704 : Shape := ⟨4, ![2, 4, 1024, 704]⟩
abbrev S2x4x8x768 : Shape := ⟨4, ![2, 4, 8, 768]⟩
abbrev S512x1024 : Shape := ⟨2, ![512, 1024]⟩
abbrev S512x768 : Shape := ⟨2, ![512, 768]⟩
abbrev S1024x512 : Shape := ⟨2, ![1024, 512]⟩
abbrev S1x768x1024 : Shape := ⟨3, ![1, 768, 1024]⟩
abbrev S1x512x1024 : Shape := ⟨3, ![1, 512, 1024]⟩
abbrev S2x1x1024x704 : Shape := ⟨4, ![2, 1, 1024, 704]⟩
abbrev S1x704x1024 : Shape := ⟨3, ![1, 704, 1024]⟩
abbrev S2x1x8x768 : Shape := ⟨4, ![2, 1, 8, 768]⟩
abbrev S8x1536 : Shape := ⟨2, ![8, 1536]⟩
abbrev S2x1024x704 : Shape := ⟨3, ![2, 1024, 704]⟩
abbrev S704x1024 : Shape := ⟨2, ![704, 1024]⟩
abbrev S2x8x768 : Shape := ⟨3, ![2, 8, 768]⟩
abbrev S768x1024 : Shape := ⟨2, ![768, 1024]⟩
abbrev S768x512 : Shape := ⟨2, ![768, 512]⟩
abbrev S520x768 : Shape := ⟨2, ![520, 768]⟩
abbrev S1x1x1x768 : Shape := ⟨4, ![1, 1, 1, 768]⟩
abbrev S1x768 : Shape := ⟨2, ![1, 768]⟩
abbrev S768 : Shape := ⟨1, ![768]⟩
abbrev S1x1x1024x704 : Shape := ⟨4, ![1, 1, 1024, 704]⟩
abbrev S1024x704 : Shape := ⟨2, ![1024, 704]⟩
abbrev S1024x768 : Shape := ⟨2, ![1024, 768]⟩
abbrev S8x1024x704 : Shape := ⟨3, ![8, 1024, 704]⟩
abbrev S8x2x4x768 : Shape := ⟨4, ![8, 2, 4, 768]⟩
abbrev S6144 : Shape := ⟨1, ![6144]⟩
abbrev S1x8192x1024 : Shape := ⟨3, ![1, 8192, 1024]⟩

abbrev nBuf : Space → Nat
  | .hbm => 96
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S1x1024x5632, .f32⟩
  | .hbm, ⟨2, _⟩ => ⟨S1x3x5632, .f32⟩
  | .hbm, ⟨3, _⟩ => ⟨S1x5632, .f32⟩
  | .hbm, ⟨4, _⟩ => ⟨S1x2816x1024, .f32⟩
  | .hbm, ⟨5, _⟩ => ⟨S1x1024, .f32⟩
  | .hbm, ⟨6, _⟩ => ⟨S8192x1024, .f32⟩
  | .hbm, ⟨7, _⟩ => ⟨S3x5632, .f32⟩
  | .hbm, ⟨8, _⟩ => ⟨S3x8x704, .f32⟩
  | .hbm, ⟨9, _⟩ => ⟨S8x3x704, .f32⟩
  | .hbm, ⟨10, _⟩ => ⟨S_, .i32⟩
  | .hbm, ⟨11, _⟩ => ⟨S_, .f32⟩
  | .hbm, ⟨12, _⟩ => ⟨S8x3x768, .f32⟩
  | .hbm, ⟨13, _⟩ => ⟨S3x8x768, .f32⟩
  | .hbm, ⟨14, _⟩ => ⟨S3x6144, .f32⟩
  | .hbm, ⟨15, _⟩ => ⟨S8x704, .f32⟩
  | .hbm, ⟨16, _⟩ => ⟨S_, .i32⟩
  | .hbm, ⟨17, _⟩ => ⟨S_, .f32⟩
  | .hbm, ⟨18, _⟩ => ⟨S8x768, .f32⟩
  | .hbm, ⟨19, _⟩ => ⟨S1x6144, .f32⟩
  | .hbm, ⟨20, _⟩ => ⟨S_, .f32⟩
  | .hbm, ⟨21, _⟩ => ⟨S4x6144, .f32⟩
  | .hbm, ⟨22, _⟩ => ⟨S8x6144, .f32⟩
  | .hbm, ⟨23, _⟩ => ⟨S1024x5632, .f32⟩
  | .hbm, ⟨24, _⟩ => ⟨S1024x8x704, .f32⟩
  | .hbm, ⟨25, _⟩ => ⟨S8x704x1024, .f32⟩
  | .hbm, ⟨26, _⟩ => ⟨S8x704x1024, .bf16⟩
  | .hbm, ⟨27, _⟩ => ⟨S_, .i32⟩
  | .hbm, ⟨28, _⟩ => ⟨S_, .bf16⟩
  | .hbm, ⟨29, _⟩ => ⟨S8x768x1024, .bf16⟩
  | .hbm, ⟨30, _⟩ => ⟨S2816x1024, .f32⟩
  | .hbm, ⟨31, _⟩ => ⟨S2816x1024, .bf16⟩
  | .hbm, ⟨32, _⟩ => ⟨S4x704x1024, .bf16⟩
  | .hbm, ⟨33, _⟩ => ⟨S_, .i32⟩
  | .hbm, ⟨34, _⟩ => ⟨S_, .bf16⟩
  | .hbm, ⟨35, _⟩ => ⟨S4x768x1024, .bf16⟩
  | .hbm, ⟨36, _⟩ => ⟨S_, .f32⟩
  | .hbm, ⟨37, _⟩ => ⟨S7x1024, .f32⟩
  | .hbm, ⟨38, _⟩ => ⟨S_, .f32⟩
  | .hbm, ⟨39, _⟩ => ⟨S8x1024, .f32⟩
  | .hbm, ⟨40, _⟩ => ⟨S16x1024, .f32⟩
  | .hbm, ⟨41, _⟩ => ⟨S8192x1024, .bf16⟩
  | .hbm, ⟨42, _⟩ => ⟨S8192x8x768, .f32⟩
  | .hbm, ⟨43, _⟩ => ⟨S8192x6144, .f32⟩
  | .hbm, ⟨44, _⟩ => ⟨S_, .f32⟩
  | .hbm, ⟨45, _⟩ => ⟨S2x6144, .f32⟩
  | .hbm, ⟨46, _⟩ => ⟨S8194x6144, .f32⟩
  | .hbm, ⟨47, _⟩ => ⟨S1x6144, .f32⟩
  | .hbm, ⟨48, _⟩ => ⟨S1x6144, .f32⟩
  | .hbm, ⟨49, _⟩ => ⟨S8192x6144, .f32⟩
  | .hbm, ⟨50, _⟩ => ⟨S8192x6144, .f32⟩
  | .hbm, ⟨51, _⟩ => ⟨S8192x6144, .f32⟩
  | .hbm, ⟨52, _⟩ => ⟨S8192x6144, .f32⟩
  | .hbm, ⟨53, _⟩ => ⟨S8192x6144, .f32⟩
  | .hbm, ⟨54, _⟩ => ⟨S1x6144, .f32⟩
  | .hbm, ⟨55, _⟩ => ⟨S8192x6144, .f32⟩
  | .hbm, ⟨56, _⟩ => ⟨S8192x6144, .f32⟩
  | .hbm, ⟨57, _⟩ => ⟨S8192x6144, .f32⟩
  | .hbm, ⟨58, _⟩ => ⟨S8192x6144, .f32⟩
  | .hbm, ⟨59, _⟩ => ⟨S1x6144, .f32⟩
  | .hbm, ⟨60, _⟩ => ⟨S8192x6144, .f32⟩
  | .hbm, ⟨61, _⟩ => ⟨S8192x6144, .f32⟩
  | .hbm, ⟨62, _⟩ => ⟨S8192x6144, .f32⟩
  | .hbm, ⟨63, _⟩ => ⟨S8192x6144, .bf16⟩
  | .hbm, ⟨64, _⟩ => ⟨S8192x6144, .bf16⟩
  | .hbm, ⟨65, _⟩ => ⟨S1024x8192, .bf16⟩
  | .hbm, ⟨66, _⟩ => ⟨S4x8192x1024, .f32⟩
  | .hbm, ⟨67, _⟩ => ⟨S2x4x1024x704, .f32⟩
  | .hbm, ⟨68, _⟩ => ⟨S4x704x1024, .f32⟩
  | .hbm, ⟨69, _⟩ => ⟨S2x4x8x768, .f32⟩
  | .hbm, ⟨70, _⟩ => ⟨S8x1024x704, .f32⟩
  | .hbm, ⟨71, _⟩ => ⟨S8x2x4x768, .f32⟩
  | .hbm, ⟨72, _⟩ => ⟨S8x6144, .f32⟩
  | .hbm, ⟨73, _⟩ => ⟨S1x6144, .f32⟩
  | .hbm, ⟨74, _⟩ => ⟨S6144, .f32⟩
  | .hbm, ⟨75, _⟩ => ⟨S8x768, .f32⟩
  | .hbm, ⟨76, _⟩ => ⟨S8x704, .f32⟩
  | .hbm, ⟨77, _⟩ => ⟨S1x5632, .f32⟩
  | .hbm, ⟨78, _⟩ => ⟨S3x6144, .f32⟩
  | .hbm, ⟨79, _⟩ => ⟨S3x8x768, .f32⟩
  | .hbm, ⟨80, _⟩ => ⟨S3x8x704, .f32⟩
  | .hbm, ⟨81, _⟩ => ⟨S1x3x5632, .f32⟩
  | .hbm, ⟨82, _⟩ => ⟨S1024x8x704, .f32⟩
  | .hbm, ⟨83, _⟩ => ⟨S1x1024x5632, .f32⟩
  | .hbm, ⟨84, _⟩ => ⟨S1x8192x1024, .f32⟩
  | .hbm, ⟨85, _⟩ => ⟨S8192x1024, .f32⟩
  | .hbm, ⟨86, _⟩ => ⟨S1x8192x1024, .f32⟩
  | .hbm, ⟨87, _⟩ => ⟨S8192x1024, .f32⟩
  | .hbm, ⟨88, _⟩ => ⟨S8192x1024, .f32⟩
  | .hbm, ⟨89, _⟩ => ⟨S1x8192x1024, .f32⟩
  | .hbm, ⟨90, _⟩ => ⟨S8192x1024, .f32⟩
  | .hbm, ⟨91, _⟩ => ⟨S1x8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S1x2816x1024, .f32⟩
  | .local _ .vmem, ⟨0, _⟩ => ⟨S512x1024, .f32⟩
  | .local _ .vmem, ⟨1, _⟩ => ⟨S512x1024, .f32⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S512x768, .bf16⟩
  | .local _ .vmem, ⟨10, _⟩ => ⟨S1024x512, .bf16⟩
  | .local _ .vmem, ⟨11, _⟩ => ⟨S1024x512, .bf16⟩
  | .local _ .vmem, ⟨12, _⟩ => ⟨S16x1024, .f32⟩
  | .local _ .vmem, ⟨13, _⟩ => ⟨S8x768, .f32⟩
  | .local _ .vmem, ⟨14, _⟩ => ⟨S8x768, .f32⟩
  | .local _ .vmem, ⟨15, _⟩ => ⟨S8x768, .f32⟩
  | .local _ .vmem, ⟨16, _⟩ => ⟨S8x768, .f32⟩
  | .local _ .vmem, ⟨17, _⟩ => ⟨S1x768x1024, .bf16⟩
  | .local _ .vmem, ⟨18, _⟩ => ⟨S1x768x1024, .bf16⟩
  | .local _ .vmem, ⟨19, _⟩ => ⟨S1x768x1024, .bf16⟩
  | .local _ .vmem, ⟨20, _⟩ => ⟨S1x768x1024, .bf16⟩
  | .local _ .vmem, ⟨21, _⟩ => ⟨S1x768x1024, .bf16⟩
  | .local _ .vmem, ⟨22, _⟩ => ⟨S1x768x1024, .bf16⟩
  | .local _ .vmem, ⟨23, _⟩ => ⟨S1x512x1024, .f32⟩
  | .local _ .vmem, ⟨24, _⟩ => ⟨S1x512x1024, .f32⟩
  | .local _ .vmem, ⟨25, _⟩ => ⟨S2x1x1024x704, .f32⟩
  | .local _ .vmem, ⟨26, _⟩ => ⟨S2x1x1024x704, .f32⟩
  | .local _ .vmem, ⟨27, _⟩ => ⟨S1x704x1024, .f32⟩
  | .local _ .vmem, ⟨28, _⟩ => ⟨S1x704x1024, .f32⟩
  | .local _ .vmem, ⟨29, _⟩ => ⟨S2x1x8x768, .f32⟩
  | .local _ .vmem, ⟨30, _⟩ => ⟨S2x1x8x768, .f32⟩
  | .local _ .vmem, ⟨31, _⟩ => ⟨S8x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_call2_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_call3_v0 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47_0 : Ref sig .tc := ⟨.hbm, 66, rfl⟩
abbrev main_v47_1 : Ref sig .tc := ⟨.hbm, 67, rfl⟩
abbrev main_v47_2 : Ref sig .tc := ⟨.hbm, 68, rfl⟩
abbrev main_v47_3 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c4_i32 : BitVec 32 := 4#32
  let v1 : BitVec 32 := Scalar.addi c4_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c4_i32 : BitVec 32 := 4#32
  let v1 : BitVec 32 := Scalar.addi c4_i32 arg0
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x768x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x768x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x768x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2x1x1024x704 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x704x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S2x1x8x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Reference2Ideal.lean ====
abbrev S8192x1024 : Shape := ⟨2, ![8192, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x1024 : Shape := ⟨2, ![1, 1024]⟩
abbrev S1024x5632 : Shape := ⟨2, ![1024, 5632]⟩
abbrev S8192x5632 : Shape := ⟨2, ![8192, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S8194x5632 : Shape := ⟨2, ![8194, 5632]⟩
abbrev S8192x2816 : Shape := ⟨2, ![8192, 2816]⟩
abbrev S2816x1024 : Shape := ⟨2, ![2816, 1024]⟩
abbrev S1024x2816 : Shape := ⟨2, ![1024, 2816]⟩
abbrev S5632x1024 : Shape := ⟨2, ![5632, 1024]⟩

abbrev nBuf : Space → Nat
  | .hbm => 131
  | .vmem => 0
  | .smem => 0
  | _ => 0

abbrev hbmTy0_0 (i : Nat) : BufTy := match i % 128 with
  | 0 => ⟨S8192x1024, .f32⟩
  | 1 => ⟨S1x1024x5632, .f32⟩
  | 2 => ⟨S1x3x5632, .f32⟩
  | 3 => ⟨S1x5632, .f32⟩
  | 4 => ⟨S1x2816x1024, .f32⟩
  | 5 => ⟨S1x1024, .f32⟩
  | 6 => ⟨S8192x1024, .f32⟩
  | 7 => ⟨S1024x5632, .f32⟩
  | 8 => ⟨S8192x5632, .f32⟩
  | 9 => ⟨S3x5632, .f32⟩
  | 10 => ⟨S5632, .f32⟩
  | 11 => ⟨S_, .f32⟩
  | 12 => ⟨S2x5632, .f32⟩
  | 13 => ⟨S8194x5632, .f32⟩
  | 14 => ⟨S_, .f32⟩
  | 15 => ⟨S2x5632, .f32⟩
  | 16 => ⟨S1x5632, .f32⟩
  | 17 => ⟨S5632, .f32⟩
  | 18 => ⟨S8192x5632, .f32⟩
  | 19 => ⟨S1x5632, .f32⟩
  | 20 => ⟨S8192x5632, .f32⟩
  | 21 => ⟨S8192x5632, .f32⟩
  | 22 => ⟨S_, .f32⟩
  | 23 => ⟨S8192x5632, .f32⟩
  | 24 => ⟨S8192x5632, .f32⟩
  | 25 => ⟨S1x5632, .f32⟩
  | 26 => ⟨S5632, .f32⟩
  | 27 => ⟨S8192x5632, .f32⟩
  | 28 => ⟨S1x5632, .f32⟩
  | 29 => ⟨S8192x5632, .f32⟩
  | 30 => ⟨S8192x5632, .f32⟩
  | 31 => ⟨S8192x5632, .f32⟩
  | 32 => ⟨S1x5632, .f32⟩
  | 33 => ⟨S5632, .f32⟩
  | 34 => ⟨S8192x5632, .f32⟩
  | 35 => ⟨S1x5632, .f32⟩
  | 36 => ⟨S8192x5632, .f32⟩
  | 37 => ⟨S8192x5632, .f32⟩
  | 38 => ⟨S8192x5632, .f32⟩
  | 39 => ⟨S1x5632, .f32⟩
  | 40 => ⟨S8192x5632, .f32⟩
  | 41 => ⟨S8192x5632, .f32⟩
  | 42 => ⟨S8192x2816, .f32⟩
  | 43 => ⟨S8192x2816, .f32⟩
  | 44 => ⟨S8192x2816, .f32⟩
  | 45 => ⟨S8192x2816, .f32⟩
  | 46 => ⟨S_, .f32⟩
  | 47 => ⟨S8192x2816, .f32⟩
  | 48 => ⟨S8192x2816, .f32⟩
  | 49 => ⟨S_, .f32⟩
  | 50 => ⟨S8192x2816, .f32⟩
  | 51 => ⟨S8192x2816, .f32⟩
  | 52 => ⟨S_, .f32⟩
  | 53 => ⟨S8192x2816, .f32⟩
  | 54 => ⟨S8192x2816, .f32⟩
  | 55 => ⟨S8192x2816, .f32⟩
  | 56 => ⟨S8192x2816, .f32⟩
  | 57 => ⟨S8192x2816, .f32⟩
  | 58 => ⟨S2816x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S1024x2816, .f32⟩
  | 65 => ⟨S2816x1024, .f32⟩
  | 66 => ⟨S8192x2816, .f32⟩
  | 67 => ⟨S1x2816x1024, .f32⟩
  | 68 => ⟨S8192x2816, .f32⟩
  | 69 => ⟨S8192x2816, .f32⟩
  | 70 => ⟨S8192x2816, .f32⟩
  | 71 => ⟨S8192x2816, .f32⟩
  | 72 => ⟨S8192x2816, .f32⟩
  | 73 => ⟨S8192x2816, .f32⟩
  | 74 => ⟨S8192x5632, .f32⟩
  | 75 => ⟨S_, .f32⟩
  | 76 => ⟨S5632, .f32⟩
  | 77 => ⟨S1x5632, .f32⟩
  | 78 => ⟨S_, .f32⟩
  | 79 => ⟨S5632, .f32⟩
  | 80 => ⟨S8192x5632, .f32⟩
  | 81 => ⟨S8192x5632, .f32⟩
  | 82 => ⟨S8192x5632, .f32⟩
  | 83 => ⟨S_, .f32⟩
  | 84 => ⟨S5632, .f32⟩
  | 85 => ⟨S1x5632, .f32⟩
  | 86 => ⟨S_, .f32⟩
  | 87 => ⟨S5632, .f32⟩
  | 88 => ⟨S_, .f32⟩
  | 89 => ⟨S8194x5632, .f32⟩
  | 90 => ⟨S1x5632, .f32⟩
  | 91 => ⟨S_, .f32⟩
  | 92 => ⟨S3x5632, .f32⟩
  | 93 => ⟨S8192x5632, .f32⟩
  | 94 => ⟨S8192x5632, .f32⟩
  | 95 => ⟨S8192x5632, .f32⟩
  | 96 => ⟨S_, .f32⟩
  | 97 => ⟨S5632, .f32⟩
  | 98 => ⟨S1x5632, .f32⟩
  | 99 => ⟨S_, .f32⟩
  | 100 => ⟨S5632, .f32⟩
  | 101 => ⟨S_, .f32⟩
  | 102 => ⟨S8194x5632, .f32⟩
  | 103 => ⟨S8194x5632, .f32⟩
  | 104 => ⟨S1x5632, .f32⟩
  | 105 => ⟨S_, .f32⟩
  | 106 => ⟨S3x5632, .f32⟩
  | 107 => ⟨S3x5632, .f32⟩
  | 108 => ⟨S8192x5632, .f32⟩
  | 109 => ⟨S8192x5632, .f32⟩
  | 110 => ⟨S8192x5632, .f32⟩
  | 111 => ⟨S_, .f32⟩
  | 112 => ⟨S5632, .f32⟩
  | 113 => ⟨S1x5632, .f32⟩
  | 114 => ⟨S_, .f32⟩
  | 115 => ⟨S5632, .f32⟩
  | 116 => ⟨S_, .f32⟩
  | 117 => ⟨S8194x5632, .f32⟩
  | 118 => ⟨S8194x5632, .f32⟩
  | 119 => ⟨S1x5632, .f32⟩
  | 120 => ⟨S_, .f32⟩
  | 121 => ⟨S3x5632, .f32⟩
  | 122 => ⟨S3x5632, .f32⟩
  | 123 => ⟨S2x5632, .f32⟩
  | 124 => ⟨S8192x5632, .f32⟩
  | 125 => ⟨S1x5632, .f32⟩
  | 126 => ⟨S1x3x5632, .f32⟩
  | 127 => ⟨S5632x1024, .f32⟩
  | _ => ⟨S8192x1024, .f32⟩

abbrev hbmTy0_1 (i : Nat) : BufTy := match i % 128 with
  | 0 => ⟨S1024x5632, .f32⟩
  | 1 => ⟨S8192x1024, .f32⟩
  | 2 => ⟨S1x1024x5632, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v34_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v34_1 : Ref sig .tc := ⟨.hbm, 55, rfl⟩
abbrev main_v34_0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v48 : Ref sig .tc := ⟨.hbm, 73, rfl⟩
abbrev main_v49 : Ref sig .tc := ⟨.hbm, 74, rfl⟩
abbrev main_cst_2 : Ref sig .tc := ⟨.hbm, 75, rfl⟩
abbrev main_v50 : Ref sig .tc := ⟨.hbm, 76, rfl⟩
abbrev main_v51 : Ref sig .tc := ⟨.hbm, 77, rfl⟩
abbrev main_cst_3 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_4 : Ref sig .tc := ⟨.hbm, 83, rfl⟩
abbrev main_v56 : Ref sig .tc := ⟨.hbm, 84, rfl⟩
abbrev main_v57 : Ref sig .tc := ⟨.hbm, 85, rfl⟩
abbrev main_cst_5 : Ref sig .tc := ⟨.hbm, 86, rfl⟩
abbrev main_v58 : Ref sig .tc := ⟨.hbm, 87, rfl⟩
abbrev main_cst_6 : Ref sig .tc := ⟨.hbm, 88, rfl⟩
abbrev main_v59 : Ref sig .tc := ⟨.hbm, 89, rfl⟩
abbrev main_v60 : Ref sig .tc := ⟨.hbm, 90, rfl⟩
abbrev main_cst_7 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_8 : Ref sig .tc := ⟨.hbm, 96, rfl⟩
abbrev main_v65 : Ref sig .tc := ⟨.hbm, 97, rfl⟩
abbrev main_v66 : Ref sig .tc := ⟨.hbm, 98, rfl⟩
abbrev main_cst_9 : Ref sig .tc := ⟨.hbm, 99, rfl⟩
abbrev main_v67 : Ref sig .tc := ⟨.hbm, 100, rfl⟩
abbrev main_cst_10 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_11 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_12 : Ref sig .tc := ⟨.hbm, 111, rfl⟩
abbrev main_v76 : Ref sig .tc := ⟨.hbm, 112, rfl⟩
abbrev main_v77 : Ref sig .tc := ⟨.hbm, 113, rfl⟩
abbrev main_cst_13 : Ref sig .tc := ⟨.hbm, 114, rfl⟩
abbrev main_v78 : Ref sig .tc := ⟨.hbm, 115, rfl⟩
abbrev main_cst_14 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_15 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩

abbrev nD : Nat := 1
abbrev τ : Topo := Topo.v7x

variable {F : FTy → Type} [FloatOps F]
-- ==== Kernel4.lean ====
abbrev S8192x1024 : Shape := ⟨2, ![8192, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x1024 : Shape := ⟨2, ![1, 1024]⟩
abbrev S1024 : Shape := ⟨1, ![1024]⟩
abbrev S3x5632 : Shape := ⟨2, ![3, 5632]⟩
abbrev S3x8x704 : Shape := ⟨3, ![3, 8, 704]⟩
abbrev S8x3x704 : Shape := ⟨3, ![8, 3, 704]⟩
abbrev S_ : Shape := ⟨0, ![]⟩
abbrev S8x3x768 : Shape := ⟨3, ![8, 3, 768]⟩
abbrev S3x8x768 : Shape := ⟨3, ![3, 8, 768]⟩
abbrev S3x6144 : Shape := ⟨2, ![3, 6144]⟩
abbrev S8x704 : Shape := ⟨2, ![8, 704]⟩
abbrev S8x768 : Shape := ⟨2, ![8, 768]⟩
abbrev S1x6144 : Shape := ⟨2, ![1, 6144]⟩
abbrev S4x6144 : Shape := ⟨2, ![4, 6144]⟩
abbrev S8x6144 : Shape := ⟨2, ![8, 6144]⟩
abbrev S1024x5632 : Shape := ⟨2, ![1024, 5632]⟩
abbrev S1024x8x704 : Shape := ⟨3, ![1024, 8, 704]⟩
abbrev S8x704x1024 : Shape := ⟨3, ![8, 704, 1024]⟩
abbrev S8x768x1024 : Shape := ⟨3, ![8, 768, 1024]⟩
abbrev S2816x1024 : Shape := ⟨2, ![2816, 1024]⟩
abbrev S4x704x1024 : Shape := ⟨3, ![4, 704, 1024]⟩
abbrev S4x768x1024 : Shape := ⟨3, ![4, 768, 1024]⟩
abbrev S7x1024 : Shape := ⟨2, ![7, 1024]⟩
abbrev S6x1024 : Shape := ⟨2, ![6, 1024]⟩
abbrev S16x1024 : Shape := ⟨2, ![16, 1024]⟩
abbrev S8192x6144 : Shape := ⟨2, ![8192, 6144]⟩
abbrev S8x1024 : Shape := ⟨2, ![8, 1024]⟩
abbrev S256x1024 : Shape := ⟨2, ![256, 1024]⟩
abbrev S256x6144 : Shape := ⟨2, ![256, 6144]⟩
abbrev S8x1024x768 : Shape := ⟨3, ![8, 1024, 768]⟩
abbrev S768x1024 : Shape := ⟨2, ![768, 1024]⟩
abbrev S1x768x1024 : Shape := ⟨3, ![1, 768, 1024]⟩
abbrev S1024x768 : Shape := ⟨2, ![1024, 768]⟩
abbrev S1x1024x768 : Shape := ⟨3, ![1, 1024, 768]⟩
abbrev S256x768 : Shape := ⟨2, ![256, 768]⟩
abbrev S264x768 : Shape := ⟨2, ![264, 768]⟩
abbrev S1x768 : Shape := ⟨2, ![1, 768]⟩
abbrev S256 : Shape := ⟨1, ![256]⟩
abbrev S256x1 : Shape := ⟨2, ![256, 1]⟩

abbrev nBuf : Space → Nat
  | .hbm => 57
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1x1024, .f32⟩
  | .hbm, ⟨7, _⟩ => ⟨S1024, .f32⟩
  | .hbm, ⟨8, _⟩ => ⟨S8192x1024, .f32⟩
  | .hbm, ⟨9, _⟩ => ⟨S3x5632, .f32⟩
  | .hbm, ⟨10, _⟩ => ⟨S3x8x704, .f32⟩
  | .hbm, ⟨11, _⟩ => ⟨S8x3x704, .f32⟩
  | .hbm, ⟨12, _⟩ => ⟨S_, .i32⟩
  | .hbm, ⟨13, _⟩ => ⟨S_, .f32⟩
  | .hbm, ⟨14, _⟩ => ⟨S8x3x768, .f32⟩
  | .hbm, ⟨15, _⟩ => ⟨S3x8x768, .f32⟩
  | .hbm, ⟨16, _⟩ => ⟨S3x6144, .f32⟩
  | .hbm, ⟨17, _⟩ => ⟨S8x704, .f32⟩
  | .hbm, ⟨18, _⟩ => ⟨S_, .i32⟩
  | .hbm, ⟨19, _⟩ => ⟨S_, .f32⟩
  | .hbm, ⟨20, _⟩ => ⟨S8x768, .f32⟩
  | .hbm, ⟨21, _⟩ => ⟨S1x6144, .f32⟩
  | .hbm, ⟨22, _⟩ => ⟨S_, .f32⟩
  | .hbm, ⟨23, _⟩ => ⟨S4x6144, .f32⟩
  | .hbm, ⟨24, _⟩ => ⟨S8x6144, .f32⟩
  | .hbm, ⟨25, _⟩ => ⟨S1024x5632, .f32⟩
  | .hbm, ⟨26, _⟩ => ⟨S1024x8x704, .f32⟩
  | .hbm, ⟨27, _⟩ => ⟨S8x704x1024, .f32⟩
  | .hbm, ⟨28, _⟩ => ⟨S8x704x1024, .bf16⟩
  | .hbm, ⟨29, _⟩ => ⟨S_, .i32⟩
  | .hbm, ⟨30, _⟩ => ⟨S_, .bf16⟩
  | .hbm, ⟨31, _⟩ => ⟨S8x768x1024, .bf16⟩
  | .hbm, ⟨32, _⟩ => ⟨S2816x1024, .f32⟩
  | .hbm, ⟨33, _⟩ => ⟨S2816x1024, .bf16⟩
  | .hbm, ⟨34, _⟩ => ⟨S4x704x1024, .bf16⟩
  | .hbm, ⟨35, _⟩ => ⟨S_, .i32⟩
  | .hbm, ⟨36, _⟩ => ⟨S_, .bf16⟩
  | .hbm, ⟨37, _⟩ => ⟨S4x768x1024, .bf16⟩
  | .hbm, ⟨38, _⟩ => ⟨S_, .f32⟩
  | .hbm, ⟨39, _⟩ => ⟨S7x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S_, .f32⟩
  | .hbm, ⟨44, _⟩ => ⟨S6x1024, .f32⟩
  | .hbm, ⟨45, _⟩ => ⟨S16x1024, .f32⟩
  | .hbm, ⟨46, _⟩ => ⟨S8192x1024, .bf16⟩
  | .hbm, ⟨47, _⟩ => ⟨S8192x6144, .bf16⟩
  | .hbm, ⟨48, _⟩ => ⟨S8192x6144, .bf16⟩
  | .hbm, ⟨49, _⟩ => ⟨S8192x1024, .f32⟩
  | .hbm, ⟨50, _⟩ => ⟨S8x1024, .f32⟩
  | .hbm, ⟨51, _⟩ => ⟨S1x1024, .f32⟩
  | .hbm, ⟨52, _⟩ => ⟨S_, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S16x1024, .f32⟩
  | .local _ .vmem, ⟨7, _⟩ => ⟨S8x6144, .f32⟩
  | .local _ .vmem, ⟨8, _⟩ => ⟨S256x6144, .bf16⟩
  | .local _ .vmem, ⟨9, _⟩ => ⟨S256x6144, .bf16⟩
  | .local _ .vmem, ⟨10, _⟩ => ⟨S256x6144, .bf16⟩
  | .local _ .vmem, ⟨11, _⟩ => ⟨S256x6144, .bf16⟩
  | .local _ .vmem, ⟨12, _⟩ => ⟨S256x1024, .f32⟩
  | .local _ .vmem, ⟨13, _⟩ => ⟨S256x1024, .f32⟩
  | .local _ .vmem, ⟨14, _⟩ => ⟨S8x1024, .f32⟩
  | .local _ .vmem, ⟨15, _⟩ => ⟨S8x1024x768, .bf16⟩
  | .local _ .vmem, ⟨16, _⟩ => ⟨S4x768x1024, .bf16⟩
  | .local _ .vmem, ⟨17, _⟩ => ⟨S8x6144, .f32⟩
  | .local _ .vmem, ⟨18, _⟩ => ⟨S768x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_call2_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_call3_v0 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26_0 : Ref sig .tc := ⟨.hbm, 47, rfl⟩
abbrev main_v26_1 : Ref sig .tc := ⟨.hbm, 48, rfl⟩
abbrev main_v26_2 : Ref sig .tc := ⟨.hbm, 49, rfl⟩
abbrev main_v26_3 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S8192x1024 : Shape := ⟨2, ![8192, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x1024 : Shape := ⟨2, ![1, 1024]⟩
abbrev S1024 : Shape := ⟨1, ![1024]⟩
abbrev S1024x5632 : Shape := ⟨2, ![1024, 5632]⟩
abbrev S8192x5632 : Shape := ⟨2, ![8192, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S8194x5632 : Shape := ⟨2, ![8194, 5632]⟩
abbrev S8192x2816 : Shape := ⟨2, ![8192, 2816]⟩
abbrev S2816x1024 : Shape := ⟨2, ![2816, 1024]⟩
abbrev S8192 : Shape := ⟨1, ![8192]⟩
abbrev S8192x1 : Shape := ⟨2, ![8192, 1]⟩

abbrev nBuf : Space → Nat
  | .hbm => 131
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024x5632, .f32⟩
  | 3 => ⟨S1x3x5632, .f32⟩
  | 4 => ⟨S1x5632, .f32⟩
  | 5 => ⟨S1x2816x1024, .f32⟩
  | 6 => ⟨S1x1024, .f32⟩
  | 7 => ⟨S1024, .f32⟩
  | 8 => ⟨S8192x1024, .f32⟩
  | 9 => ⟨S1024x5632, .f32⟩
  | 10 => ⟨S8192x5632, .f32⟩
  | 11 => ⟨S3x5632, .f32⟩
  | 12 => ⟨S5632, .f32⟩
  | 13 => ⟨S_, .f32⟩
  | 14 => ⟨S2x5632, .f32⟩
  | 15 => ⟨S8194x5632, .f32⟩
  | 16 => ⟨S1x5632, .f32⟩
  | 17 => ⟨S5632, .f32⟩
  | 18 => ⟨S8192x5632, .f32⟩
  | 19 => ⟨S1x5632, .f32⟩
  | 20 => ⟨S8192x5632, .f32⟩
  | 21 => ⟨S8192x5632, .f32⟩
  | 22 => ⟨S_, .f32⟩
  | 23 => ⟨S8192x5632, .f32⟩
  | 24 => ⟨S8192x5632, .f32⟩
  | 25 => ⟨S1x5632, .f32⟩
  | 26 => ⟨S5632, .f32⟩
  | 27 => ⟨S8192x5632, .f32⟩
  | 28 => ⟨S1x5632, .f32⟩
  | 29 => ⟨S8192x5632, .f32⟩
  | 30 => ⟨S8192x5632, .f32⟩
  | 31 => ⟨S8192x5632, .f32⟩
  | 32 => ⟨S1x5632, .f32⟩
  | 33 => ⟨S5632, .f32⟩
  | 34 => ⟨S8192x5632, .f32⟩
  | 35 => ⟨S1x5632, .f32⟩
  | 36 => ⟨S8192x5632, .f32⟩
  | 37 => ⟨S8192x5632, .f32⟩
  | 38 => ⟨S8192x5632, .f32⟩
  | 39 => ⟨S1x5632, .f32⟩
  | 40 => ⟨S8192x5632, .f32⟩
  | 41 => ⟨S8192x5632, .f32⟩
  | 42 => ⟨S8192x2816, .f32⟩
  | 43 => ⟨S8192x2816, .f32⟩
  | 44 => ⟨S8192x2816, .f32⟩
  | 45 => ⟨S8192x2816, .f32⟩
  | 46 => ⟨S_, .f32⟩
  | 47 => ⟨S8192x2816, .f32⟩
  | 48 => ⟨S8192x2816, .f32⟩
  | 49 => ⟨S_, .f32⟩
  | 50 => ⟨S8192x2816, .f32⟩
  | 51 => ⟨S8192x2816, .f32⟩
  | 52 => ⟨S8192x2816, .f32⟩
  | 53 => ⟨S8192x2816, .f32⟩
  | 54 => ⟨S2816x1024, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S_, .f32⟩
  | 67 => ⟨S8192x1, .f32⟩
  | 68 => ⟨S8192x1, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x1024, .f32⟩
  | 75 => ⟨S8192x1024, .f32⟩
  | 76 => ⟨S1x1024, .f32⟩
  | 77 => ⟨S8192x1024, .f32⟩
  | 78 => ⟨S8192x1024, .f32⟩
  | 79 => ⟨S8192x1024, .f32⟩
  | 80 => ⟨S8192x1024, .f32⟩
  | 81 => ⟨S_, .f32⟩
  | 82 => ⟨S8192x1024, .f32⟩
  | 83 => ⟨S8192x1024, .f32⟩
  | 84 => ⟨S_, .f32⟩
  | 85 => ⟨S8192, .f32⟩
  | 86 => ⟨S_, .f32⟩
  | 87 => ⟨S8192, .f32⟩
  | 88 => ⟨S8192, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S8192, .f32⟩
  | 97 => ⟨S_, .f32⟩
  | 98 => ⟨S8192, .f32⟩
  | 99 => ⟨S8192, .f32⟩
  | 100 => ⟨S8192x1024, .f32⟩
  | 101 => ⟨S8192x1024, .f32⟩
  | 102 => ⟨S8192x1024, .f32⟩
  | 103 => ⟨S_, .f32⟩
  | 104 => ⟨S1024, .f32⟩
  | 105 => ⟨S1x1024, .f32⟩
  | 106 => ⟨S8192x1024, .f32⟩
  | 107 => ⟨S8192x1024, .f32⟩
  | 108 => ⟨S_, .f32⟩
  | 109 => ⟨S1024, .f32⟩
  | 110 => ⟨S8192x1024, .f32⟩
  | 111 => ⟨S_, .f32⟩
  | 112 => ⟨S8192, .f32⟩
  | 113 => ⟨S8192x1, .f32⟩
  | 114 => ⟨S8192x1024, .f32⟩
  | 115 => ⟨S8192x1024, .f32⟩
  | 116 => ⟨S8192x1, .f32⟩
  | 117 => ⟨S_, .f32⟩
  | 118 => ⟨S8192x1, .f32⟩
  | 119 => ⟨S8192x1, .f32⟩
  | 120 => ⟨S_, .f32⟩
  | 121 => ⟨S8192, .f32⟩
  | 122 => ⟨S8192x1024, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S1024, .f32⟩
  | 2 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_1 : Ref sig .tc := ⟨.hbm, 60, rfl⟩
abbrev main_v41 : Ref sig .tc := ⟨.hbm, 61, rfl⟩
abbrev main_v42 : Ref sig .tc := ⟨.hbm, 62, rfl⟩
abbrev main_cst_2 : Ref sig .tc := ⟨.hbm, 63, rfl⟩
abbrev main_v43 : Ref sig .tc := ⟨.hbm, 64, rfl⟩
abbrev main_v44 : Ref sig .tc := ⟨.hbm, 65, rfl⟩
abbrev main_cst_3 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_5 : Ref sig .tc := ⟨.hbm, 81, rfl⟩
abbrev main_v58 : Ref sig .tc := ⟨.hbm, 82, rfl⟩
abbrev main_v59 : Ref sig .tc := ⟨.hbm, 83, rfl⟩
abbrev main_cst_6 : Ref sig .tc := ⟨.hbm, 84, rfl⟩
abbrev main_v60 : Ref sig .tc := ⟨.hbm, 85, rfl⟩
abbrev main_cst_7 : Ref sig .tc := ⟨.hbm, 86, rfl⟩
abbrev main_v61 : Ref sig .tc := ⟨.hbm, 87, rfl⟩
abbrev main_v62 : Ref sig .tc := ⟨.hbm, 88, rfl⟩
abbrev main_cst_8 : Ref sig .tc := ⟨.hbm, 89, rfl⟩
abbrev main_v63 : Ref sig .tc := ⟨.hbm, 90, rfl⟩
abbrev main_cst_9 : Ref sig .tc := ⟨.hbm, 91, rfl⟩
abbrev main_v64 : Ref sig .tc := ⟨.hbm, 92, rfl⟩
abbrev main_cst_10 : Ref sig .tc := ⟨.hbm, 93, rfl⟩
abbrev main_cst_11 : Ref sig .tc := ⟨.hbm, 94, rfl⟩
abbrev main_v65 : Ref sig .tc := ⟨.hbm, 95, rfl⟩
abbrev main_v66 : Ref sig .tc := ⟨.hbm, 96, rfl⟩
abbrev main_cst_12 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_13 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_14 : Ref sig .tc := ⟨.hbm, 108, rfl⟩
abbrev main_v76 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_16 : Ref sig .tc := ⟨.hbm, 117, rfl⟩
abbrev main_v83 : Ref sig .tc := ⟨.hbm, 118, rfl⟩
abbrev main_v84 : Ref sig .tc := ⟨.hbm, 119, rfl⟩
abbrev main_cst_17 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_18 : Ref sig .tc := ⟨.hbm, 128, rfl⟩
abbrev main_v92 : Ref sig .tc := ⟨.hbm, 129, rfl⟩
abbrev main_v93 : Ref sig .tc := ⟨.hbm, 130, rfl⟩

abbrev nD : Nat := 1
abbrev τ : Topo := Topo.v7x

variable {F : FTy → Type} [FloatOps F]
-- ==== Kernel3.lean ====
abbrev S8192x2048 : Shape := ⟨2, ![8192, 2048]⟩
abbrev S8192x1024 : Shape := ⟨2, ![8192, 1024]⟩
abbrev S1x31x512 : Shape := ⟨3, ![1, 31, 512]⟩
abbrev S1x512 : Shape := ⟨2, ![1, 512]⟩
abbrev S1x8x128x128 : Shape := ⟨4, ![1, 8, 128, 128]⟩
abbrev S1x8x128 : Shape := ⟨3, ![1, 8, 128]⟩
abbrev S1x1024 : Shape := ⟨2, ![1, 1024]⟩
abbrev S1x1024x1024 : Shape := ⟨3, ![1, 1024, 1024]⟩
abbrev S31x512 : Shape := ⟨2, ![31, 512]⟩
abbrev S_ : Shape := ⟨0, ![]⟩
abbrev S32x512 : Shape := ⟨2, ![32, 512]⟩
abbrev S3x1024 : Shape := ⟨2, ![3, 1024]⟩
abbrev S7x1024 : Shape := ⟨2, ![7, 1024]⟩
abbrev S16x1024 : Shape := ⟨2, ![16, 1024]⟩
abbrev S3x512 : Shape := ⟨2, ![3, 512]⟩
abbrev S8x512 : Shape := ⟨2, ![8, 512]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S8192x512 : Shape := ⟨2, ![8192, 512]⟩
abbrev S1024x1024 : Shape := ⟨2, ![1024, 1024]⟩
abbrev S8192x256 : Shape := ⟨2, ![8192, 256]⟩
abbrev S1024x8192 : Shape := ⟨2, ![1024, 8192]⟩
abbrev S512x512 : Shape := ⟨2, ![512, 512]⟩
abbrev S512x1024 : Shape := ⟨2, ![512, 1024]⟩
abbrev S512x256 : Shape := ⟨2, ![512, 256]⟩
abbrev S1024x512 : Shape := ⟨2, ![1024, 512]⟩
abbrev S32x128 : Shape := ⟨2, ![32, 128]⟩
abbrev S512x128 : Shape := ⟨2, ![512, 128]⟩
abbrev S544x128 : Shape := ⟨2, ![544, 128]⟩
abbrev S1x128 : Shape := ⟨2, ![1, 128]⟩
abbrev S512 : Shape := ⟨1, ![512]⟩
abbrev S512x1 : Shape := ⟨2, ![512, 1]⟩
abbrev S128x128 : Shape := ⟨2, ![128, 128]⟩
abbrev S1x1x128x128 : Shape := ⟨4, ![1, 1, 128, 128]⟩

abbrev nBuf : Space → Nat
  | .hbm => 60
  | .vmem => 37
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S1x31x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x8x128x128, .f32⟩
  | .hbm, ⟨9, _⟩ => ⟨S1x8x128, .f32⟩
  | .hbm, ⟨10, _⟩ => ⟨S1x1024, .f32⟩
  | .hbm, ⟨11, _⟩ => ⟨S1x1024x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S31x512, .f32⟩
  | .hbm, ⟨17, _⟩ => ⟨S_, .i32⟩
  | .hbm, ⟨18, _⟩ => ⟨S_, .f32⟩
  | .hbm, ⟨19, _⟩ => ⟨S32x512, .f32⟩
  | .hbm, ⟨20, _⟩ => ⟨S_, .f32⟩
  | .hbm, ⟨21, _⟩ => ⟨S3x1024, .f32⟩
  | .hbm, ⟨22, _⟩ => ⟨S_, .f32⟩
  | .hbm, ⟨23, _⟩ => ⟨S1x1024, .f32⟩
  | .hbm, ⟨24, _⟩ => ⟨S_, .f32⟩
  | .hbm, ⟨25, _⟩ => ⟨S7x1024, .f32⟩
  | .hbm, ⟨26, _⟩ => ⟨S16x1024, .f32⟩
  | .hbm, ⟨27, _⟩ => ⟨S_, .f32⟩
  | .hbm, ⟨28, _⟩ => ⟨S3x512, .f32⟩
  | .hbm, ⟨29, _⟩ => ⟨S8x512, .f32⟩
  | .hbm, ⟨30, _⟩ => ⟨S8x128, .f32⟩
  | .hbm, ⟨31, _⟩ => ⟨S128x8, .f32⟩
  | .hbm, ⟨32, _⟩ => ⟨S128x8x64, .f32⟩
  | .hbm, ⟨33, _⟩ => ⟨S128x512, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S1024x1024, .f32⟩
  | .hbm, ⟨48, _⟩ => ⟨S1024x1024, .bf16⟩
  | .hbm, ⟨49, _⟩ => ⟨S8192x512, .f32⟩
  | .hbm, ⟨50, _⟩ => ⟨S8192x512, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S8192x256, .f32⟩
  | .hbm, ⟨59, _⟩ => ⟨S1024x8192, .bf16⟩
  | .local _ .vmem, ⟨0, _⟩ => ⟨S512x512, .f32⟩
  | .local _ .vmem, ⟨1, _⟩ => ⟨S512x512, .f32⟩
  | .local _ .vmem, ⟨2, _⟩ => ⟨S32x512, .f32⟩
  | .local _ .vmem, ⟨3, _⟩ => ⟨S32x512, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S16x1024, .f32⟩
  | .local _ .vmem, ⟨9, _⟩ => ⟨S8x512, .f32⟩
  | .local _ .vmem, ⟨10, _⟩ => ⟨S32x512, .f32⟩
  | .local _ .vmem, ⟨11, _⟩ => ⟨S1x8x128x128, .f32⟩
  | .local _ .vmem, ⟨12, _⟩ => ⟨S128x512, .f32⟩
  | .local _ .vmem, ⟨13, _⟩ => ⟨S1024x1024, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x256, .f32⟩
  | .local _ .vmem, ⟨33, _⟩ => ⟨S512x256, .f32⟩
  | .local _ .vmem, ⟨34, _⟩ => ⟨S1024x512, .bf16⟩
  | .local _ .vmem, ⟨35, _⟩ => ⟨S1024x512, .bf16⟩
  | .local _ .vmem, ⟨36, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_cst_1 : Ref sig .tc := ⟨.hbm, 24, rfl⟩
abbrev main_v4 : Ref sig .tc := ⟨.hbm, 25, rfl⟩
abbrev main_v5 : Ref sig .tc := ⟨.hbm, 26, rfl⟩
abbrev main_cst_2 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_4 : Ref sig .tc := ⟨.hbm, 40, rfl⟩
abbrev main_v17 : Ref sig .tc := ⟨.hbm, 41, rfl⟩
abbrev main_v18 : Ref sig .tc := ⟨.hbm, 42, rfl⟩
abbrev main_cst_5 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24_0 : Ref sig .tc := ⟨.hbm, 49, rfl⟩
abbrev main_v24_1 : Ref sig .tc := ⟨.hbm, 50, rfl⟩
abbrev main_v24_2 : Ref sig .tc := ⟨.hbm, 51, rfl⟩
abbrev main_v24_3 : Ref sig .tc := ⟨.hbm, 52, rfl⟩
abbrev main_v24_4 : Ref sig .tc := ⟨.hbm, 53, rfl⟩
abbrev main_v24_5 : Ref sig .tc := ⟨.hbm, 54, rfl⟩
abbrev main_v24_6 : Ref sig .tc := ⟨.hbm, 55, rfl⟩
abbrev main_v24_7 : Ref sig .tc := ⟨.hbm, 56, rfl⟩
abbrev main_v24_8 : Ref sig .tc := ⟨.hbm, 57, rfl⟩
abbrev main_v24_9 : Ref sig .tc := ⟨.hbm, 58, rfl⟩
abbrev main_v24_10 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference3Ideal.lean ====
abbrev S8192x2048 : Shape := ⟨2, ![8192, 2048]⟩
abbrev S8192x1024 : Shape := ⟨2, ![8192, 1024]⟩
abbrev S1x31x512 : Shape := ⟨3, ![1, 31, 512]⟩
abbrev S1x512 : Shape := ⟨2, ![1, 512]⟩
abbrev S1x8x128x128 : Shape := ⟨4, ![1, 8, 128, 128]⟩
abbrev S1x8x128 : Shape := ⟨3, ![1, 8, 128]⟩
abbrev S1x1024 : Shape := ⟨2, ![1, 1024]⟩
abbrev S1x1024x1024 : Shape := ⟨3, ![1, 1024, 1024]⟩
abbrev S8192x512 : Shape := ⟨2, ![8192, 512]⟩
abbrev S_ : Shape := ⟨0, ![]⟩
abbrev S31x512 : Shape := ⟨2, ![31, 512]⟩
abbrev S512 : Shape := ⟨1, ![512]⟩
abbrev S30x512 : Shape := ⟨2, ![30, 512]⟩
abbrev S8222x512 : Shape := ⟨2, ![8222, 512]⟩
abbrev S8192 : Shape := ⟨1, ![8192]⟩
abbrev S8192x1 : Shape := ⟨2, ![8192, 1]⟩
abbrev S64x128x8x64 : Shape := ⟨4, ![64, 128, 8, 64]⟩
abbrev S8x128x128 : Shape := ⟨3, ![8, 128, 128]⟩
abbrev S128x128 : Shape := ⟨2, ![128, 128]⟩
abbrev S1x128x128 : Shape := ⟨3, ![1, 128, 128]⟩
abbrev S8x64x64x128 : Shape := ⟨4, ![8, 64, 64, 128]⟩
abbrev S8x128 : Shape := ⟨2, ![8, 128]⟩
abbrev S128x8 : Shape := ⟨2, ![128, 8]⟩
abbrev S1x128x8x1 : Shape := ⟨4, ![1, 128, 8, 1]⟩
abbrev S1024x1024 : Shape := ⟨2, ![1024, 1024]⟩

abbrev nBuf : Space → Nat
  | .hbm => 435
  | .vmem => 0
  | .smem => 0
  | _ => 0

abbrev hbmTy0_0 (i : Nat) : BufTy := match i % 128 with
  | 0 => ⟨S8192x2048, .f32⟩
  | 1 => ⟨S8192x1024, .f32⟩
  | 2 => ⟨S1x31x512, .f32⟩
  | 3 => ⟨S1x512, .f32⟩
  | 4 => ⟨S1x512, .f32⟩
  | 5 => ⟨S1x512, .f32⟩
  | 6 => ⟨S1x512, .f32⟩
  | 7 => ⟨S1x512, .f32⟩
  | 8 => ⟨S1x8x128x128, .f32⟩
  | 9 => ⟨S1x8x128, .f32⟩
  | 10 => ⟨S1x1024, .f32⟩
  | 11 => ⟨S1x1024x1024, .f32⟩
  | 12 => ⟨S1x1024, .f32⟩
  | 13 => ⟨S1x1024, .f32⟩
  | 14 => ⟨S1x1024, .f32⟩
  | 15 => ⟨S1x1024, .f32⟩
  | 16 => ⟨S8192x512, .f32⟩
  | 17 => ⟨S8192x512, .f32⟩
  | 18 => ⟨S8192x512, .f32⟩
  | 19 => ⟨S8192x512, .f32⟩
  | 20 => ⟨S8192x512, .f32⟩
  | 21 => ⟨S8192x512, .f32⟩
  | 22 => ⟨S_, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S8192x512, .f32⟩
  | 29 => ⟨S31x512, .f32⟩
  | 30 => ⟨S512, .f32⟩
  | 31 => ⟨S_, .f32⟩
  | 32 => ⟨S30x512, .f32⟩
  | 33 => ⟨S8222x512, .f32⟩
  | 34 => ⟨S1x512, .f32⟩
  | 35 => ⟨S512, .f32⟩
  | 36 => ⟨S8192x512, .f32⟩
  | 37 => ⟨S1x512, .f32⟩
  | 38 => ⟨S8192x512, .f32⟩
  | 39 => ⟨S8192x512, .f32⟩
  | 40 => ⟨S_, .f32⟩
  | 41 => ⟨S8192x512, .f32⟩
  | 42 => ⟨S8192x512, .f32⟩
  | 43 => ⟨S1x512, .f32⟩
  | 44 => ⟨S512, .f32⟩
  | 45 => ⟨S8192x512, .f32⟩
  | 46 => ⟨S1x512, .f32⟩
  | 47 => ⟨S8192x512, .f32⟩
  | 48 => ⟨S8192x512, .f32⟩
  | 49 => ⟨S8192x512, .f32⟩
  | 50 => ⟨S1x512, .f32⟩
  | 51 => ⟨S512, .f32⟩
  | 52 => ⟨S8192x512, .f32⟩
  | 53 => ⟨S1x512, .f32⟩
  | 54 => ⟨S8192x512, .f32⟩
  | 55 => ⟨S8192x512, .f32⟩
  | 56 => ⟨S8192x512, .f32⟩
  | 57 => ⟨S1x512, .f32⟩
  | 58 => ⟨S512, .f32⟩
  | 59 => ⟨S8192x512, .f32⟩
  | 60 => ⟨S1x512, .f32⟩
  | 61 => ⟨S8192x512, .f32⟩
  | 62 => ⟨S8192x512, .f32⟩
  | 63 => ⟨S8192x512, .f32⟩
  | 64 => ⟨S1x512, .f32⟩
  | 65 => ⟨S512, .f32⟩
  | 66 => ⟨S8192x512, .f32⟩
  | 67 => ⟨S1x512, .f32⟩
  | 68 => ⟨S8192x512, .f32⟩
  | 69 => ⟨S8192x512, .f32⟩
  | 70 => ⟨S8192x512, .f32⟩
  | 71 => ⟨S1x512, .f32⟩
  | 72 => ⟨S512, .f32⟩
  | 73 => ⟨S8192x512, .f32⟩
  | 74 => ⟨S1x512, .f32⟩
  | 75 => ⟨S8192x512, .f32⟩
  | 76 => ⟨S8192x512, .f32⟩
  | 77 => ⟨S8192x512, .f32⟩
  | 78 => ⟨S1x512, .f32⟩
  | 79 => ⟨S512, .f32⟩
  | 80 => ⟨S8192x512, .f32⟩
  | 81 => ⟨S1x512, .f32⟩
  | 82 => ⟨S8192x512, .f32⟩
  | 83 => ⟨S8192x512, .f32⟩
  | 84 => ⟨S8192x512, .f32⟩
  | 85 => ⟨S1x512, .f32⟩
  | 86 => ⟨S512, .f32⟩
  | 87 => ⟨S8192x512, .f32⟩
  | 88 => ⟨S1x512, .f32⟩
  | 89 => ⟨S8192x512, .f32⟩
  | 90 => ⟨S8192x512, .f32⟩
  | 91 => ⟨S8192x512, .f32⟩
  | 92 => ⟨S1x512, .f32⟩
  | 93 => ⟨S512, .f32⟩
  | 94 => ⟨S8192x512, .f32⟩
  | 95 => ⟨S1x512, .f32⟩
  | 96 => ⟨S8192x512, .f32⟩
  | 97 => ⟨S8192x512, .f32⟩
  | 98 => ⟨S8192x512, .f32⟩
  | 99 => ⟨S1x512, .f32⟩
  | 100 => ⟨S512, .f32⟩
  | 101 => ⟨S8192x512, .f32⟩
  | 102 => ⟨S1x512, .f32⟩
  | 103 => ⟨S8192x512, .f32⟩
  | 104 => ⟨S8192x512, .f32⟩
  | 105 => ⟨S8192x512, .f32⟩
  | 106 => ⟨S1x512, .f32⟩
  | 107 => ⟨S512, .f32⟩
  | 108 => ⟨S8192x512, .f32⟩
  | 109 => ⟨S1x512, .f32⟩
  | 110 => ⟨S8192x512, .f32⟩
  | 111 => ⟨S8192x512, .f32⟩
  | 112 => ⟨S8192x512, .f32⟩
  | 113 => ⟨S1x512, .f32⟩
  | 114 => ⟨S512, .f32⟩
  | 115 => ⟨S8192x512, .f32⟩
  | 116 => ⟨S1x512, .f32⟩
  | 117 => ⟨S8192x512, .f32⟩
  | 118 => ⟨S8192x512, .f32⟩
  | 119 => ⟨S8192x512, .f32⟩
  | 120 => ⟨S1x512, .f32⟩
  | 121 => ⟨S512, .f32⟩
  | 122 => ⟨S8192x512, .f32⟩
  | 123 => ⟨S1x512, .f32⟩
  | 124 => ⟨S8192x512, .f32⟩
  | 125 => ⟨S8192x512, .f32⟩
  | 126 => ⟨S8192x512, .f32⟩
  | 127 => ⟨S1x512, .f32⟩
  | _ => ⟨S8192x2048, .f32⟩

abbrev hbmTy0_1 (i : Nat) : BufTy := match i % 128 with
  | 0 => ⟨S512, .f32⟩
  | 1 => ⟨S8192x512, .f32⟩
  | 2 => ⟨S1x512, .f32⟩
  | 3 => ⟨S8192x512, .f32⟩
  | 4 => ⟨S8192x512, .f32⟩
  | 5 => ⟨S8192x512, .f32⟩
  | 6 => ⟨S1x512, .f32⟩
  | 7 => ⟨S512, .f32⟩
  | 8 => ⟨S8192x512, .f32⟩
  | 9 => ⟨S1x512, .f32⟩
  | 10 => ⟨S8192x512, .f32⟩
  | 11 => ⟨S8192x512, .f32⟩
  | 12 => ⟨S8192x512, .f32⟩
  | 13 => ⟨S1x512, .f32⟩
  | 14 => ⟨S512, .f32⟩
  | 15 => ⟨S8192x512, .f32⟩
  | 16 => ⟨S1x512, .f32⟩
  | 17 => ⟨S8192x512, .f32⟩
  | 18 => ⟨S8192x512, .f32⟩
  | 19 => ⟨S8192x512, .f32⟩
  | 20 => ⟨S1x512, .f32⟩
  | 21 => ⟨S512, .f32⟩
  | 22 => ⟨S8192x512, .f32⟩
  | 23 => ⟨S1x512, .f32⟩
  | 24 => ⟨S8192x512, .f32⟩
  | 25 => ⟨S8192x512, .f32⟩
  | 26 => ⟨S8192x512, .f32⟩
  | 27 => ⟨S1x512, .f32⟩
  | 28 => ⟨S512, .f32⟩
  | 29 => ⟨S8192x512, .f32⟩
  | 30 => ⟨S1x512, .f32⟩
  | 31 => ⟨S8192x512, .f32⟩
  | 32 => ⟨S8192x512, .f32⟩
  | 33 => ⟨S8192x512, .f32⟩
  | 34 => ⟨S1x512, .f32⟩
  | 35 => ⟨S512, .f32⟩
  | 36 => ⟨S8192x512, .f32⟩
  | 37 => ⟨S1x512, .f32⟩
  | 38 => ⟨S8192x512, .f32⟩
  | 39 => ⟨S8192x512, .f32⟩
  | 40 => ⟨S8192x512, .f32⟩
  | 41 => ⟨S1x512, .f32⟩
  | 42 => ⟨S512, .f32⟩
  | 43 => ⟨S8192x512, .f32⟩
  | 44 => ⟨S1x512, .f32⟩
  | 45 => ⟨S8192x512, .f32⟩
  | 46 => ⟨S8192x512, .f32⟩
  | 47 => ⟨S8192x512, .f32⟩
  | 48 => ⟨S1x512, .f32⟩
  | 49 => ⟨S512, .f32⟩
  | 50 => ⟨S8192x512, .f32⟩
  | 51 => ⟨S1x512, .f32⟩
  | 52 => ⟨S8192x512, .f32⟩
  | 53 => ⟨S8192x512, .f32⟩
  | 54 => ⟨S8192x512, .f32⟩
  | 55 => ⟨S1x512, .f32⟩
  | 56 => ⟨S512, .f32⟩
  | 57 => ⟨S8192x512, .f32⟩
  | 58 => ⟨S1x512, .f32⟩
  | 59 => ⟨S8192x512, .f32⟩
  | 60 => ⟨S8192x512, .f32⟩
  | 61 => ⟨S8192x512, .f32⟩
  | 62 => ⟨S1x512, .f32⟩
  | 63 => ⟨S512, .f32⟩
  | 64 => ⟨S8192x512, .f32⟩
  | 65 => ⟨S1x512, .f32⟩
  | 66 => ⟨S8192x512, .f32⟩
  | 67 => ⟨S8192x512, .f32⟩
  | 68 => ⟨S8192x512, .f32⟩
  | 69 => ⟨S1x512, .f32⟩
  | 70 => ⟨S512, .f32⟩
  | 71 => ⟨S8192x512, .f32⟩
  | 72 => ⟨S1x512, .f32⟩
  | 73 => ⟨S8192x512, .f32⟩
  | 74 => ⟨S8192x512, .f32⟩
  | 75 => ⟨S8192x512, .f32⟩
  | 76 => ⟨S1x512, .f32⟩
  | 77 => ⟨S512, .f32⟩
  | 78 => ⟨S8192x512, .f32⟩
  | 79 => ⟨S1x512, .f32⟩
  | 80 => ⟨S8192x512, .f32⟩
  | 81 => ⟨S8192x512, .f32⟩
  | 82 => ⟨S8192x512, .f32⟩
  | 83 => ⟨S1x512, .f32⟩
  | 84 => ⟨S512, .f32⟩
  | 85 => ⟨S8192x512, .f32⟩
  | 86 => ⟨S1x512, .f32⟩
  | 87 => ⟨S8192x512, .f32⟩
  | 88 => ⟨S8192x512, .f32⟩
  | 89 => ⟨S8192x512, .f32⟩
  | 90 => ⟨S1x512, .f32⟩
  | 91 => ⟨S512, .f32⟩
  | 92 => ⟨S8192x512, .f32⟩
  | 93 => ⟨S1x512, .f32⟩
  | 94 => ⟨S8192x512, .f32⟩
  | 95 => ⟨S8192x512, .f32⟩
  | 96 => ⟨S8192x512, .f32⟩
  | 97 => ⟨S1x512, .f32⟩
  | 98 => ⟨S512, .f32⟩
  | 99 => ⟨S8192x512, .f32⟩
  | 100 => ⟨S1x512, .f32⟩
  | 101 => ⟨S8192x512, .f32⟩
  | 102 => ⟨S8192x512, .f32⟩
  | 103 => ⟨S8192x512, .f32⟩
  | 104 => ⟨S1x512, .f32⟩
  | 105 => ⟨S512, .f32⟩
  | 106 => ⟨S8192x512, .f32⟩
  | 107 => ⟨S1x512, .f32⟩
  | 108 => ⟨S8192x512, .f32⟩
  | 109 => ⟨S8192x512, .f32⟩
  | 110 => ⟨S8192x512, .f32⟩
  | 111 => ⟨S1x512, .f32⟩
  | 112 => ⟨S512, .f32⟩
  | 113 => ⟨S8192x512, .f32⟩
  | 114 => ⟨S1x512, .f32⟩
  | 115 => ⟨S8192x512, .f32⟩
  | 116 => ⟨S8192x512, .f32⟩
  | 117 => ⟨S8192x512, .f32⟩
  | 118 => ⟨S1x512, .f32⟩
  | 119 => ⟨S512, .f32⟩
  | 120 => ⟨S8192x512, .f32⟩
  | 121 => ⟨S1x512, .f32⟩
  | 122 => ⟨S8192x512, .f32⟩
  | 123 => ⟨S8192x512, .f32⟩
  | 124 => ⟨S8192x512, .f32⟩
  | 125 => ⟨S1x512, .f32⟩
  | 126 => ⟨S8192x512, .f32⟩
  | 127 => ⟨S8192x512, .f32⟩
  | _ => ⟨S8192x2048, .f32⟩

abbrev hbmTy0_2 (i : Nat) : BufTy := match i % 128 with
  | 0 => ⟨S_, .f32⟩
  | 1 => ⟨S8192, .f32⟩
  | 2 => ⟨S8192x1, .f32⟩
  | 3 => ⟨S_, .f32⟩
  | 4 => ⟨S8192x1, .f32⟩
  | 5 => ⟨S8192x1, .f32⟩
  | 6 => ⟨S8192x512, .f32⟩
  | 7 => ⟨S8192x512, .f32⟩
  | 8 => ⟨S8192x512, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x512, .f32⟩
  | 20 => ⟨S8192x512, .f32⟩
  | 21 => ⟨S8192x512, .f32⟩
  | 22 => ⟨S8192x512, .f32⟩
  | 23 => ⟨S8192x512, .f32⟩
  | 24 => ⟨S8192x512, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S8192x512, .f32⟩
  | 34 => ⟨S8192x512, .f32⟩
  | 35 => ⟨S8192x512, .f32⟩
  | 36 => ⟨S_, .f32⟩
  | 37 => ⟨S8192x512, .f32⟩
  | 38 => ⟨S8192x512, .f32⟩
  | 39 => ⟨S8192x512, .f32⟩
  | 40 => ⟨S_, .f32⟩
  | 41 => ⟨S8192x512, .f32⟩
  | 42 => ⟨S8192x512, .f32⟩
  | 43 => ⟨S8192x512, .f32⟩
  | 44 => ⟨S_, .f32⟩
  | 45 => ⟨S8192x512, .f32⟩
  | 46 => ⟨S8192x512, .f32⟩
  | 47 => ⟨S_, .f32⟩
  | 48 => ⟨S8192x512, .f32⟩
  | 49 => ⟨S8192x512, .f32⟩
  | 50 => ⟨S8192x512, .f32⟩
  | 51 => ⟨S8192x512, .f32⟩
  | 52 => ⟨S8192x512, .f32⟩
  | 53 => ⟨S_, .f32⟩
  | 54 => ⟨S8192x512, .f32⟩
  | 55 => ⟨S8192x512, .f32⟩
  | 56 => ⟨S8192x512, .f32⟩
  | 57 => ⟨S_, .f32⟩
  | 58 => ⟨S8192x512, .f32⟩
  | 59 => ⟨S8192x512, .f32⟩
  | 60 => ⟨S8192x512, .f32⟩
  | 61 => ⟨S_, .f32⟩
  | 62 => ⟨S8192x512, .f32⟩
  | 63 => ⟨S8192x512, .f32⟩
  | 64 => ⟨S_, .f32⟩
  | 65 => ⟨S8192x512, .f32⟩
  | 66 => ⟨S8192x512, .f32⟩
  | 67 => ⟨S8192x512, .f32⟩
  | 68 => ⟨S_, .f32⟩
  | 69 => ⟨S8192, .f32⟩
  | 70 => ⟨S8192x1, .f32⟩
  | 71 => ⟨S_, .f32⟩
  | 72 => ⟨S8192x1, .f32⟩
  | 73 => ⟨S8192x1, .f32⟩
  | 74 => ⟨S8192x512, .f32⟩
  | 75 => ⟨S8192x512, .f32⟩
  | 76 => ⟨S8192x512, .f32⟩
  | 77 => ⟨S_, .f32⟩
  | 78 => ⟨S8192, .f32⟩
  | 79 => ⟨S8192x1, .f32⟩
  | 80 => ⟨S_, .f32⟩
  | 81 => ⟨S8192x1, .f32⟩
  | 82 => ⟨S8192x1, .f32⟩
  | 83 => ⟨S_, .f32⟩
  | 84 => ⟨S8192x1, .f32⟩
  | 85 => ⟨S8192x1, .f32⟩
  | 86 => ⟨S8192x1, .f32⟩
  | 87 => ⟨S8192x512, .f32⟩
  | 88 => ⟨S8192x512, .f32⟩
  | 89 => ⟨S8192x512, .f32⟩
  | 90 => ⟨S8192x512, .f32⟩
  | 91 => ⟨S8192x512, .f32⟩
  | 92 => ⟨S8192x512, .f32⟩
  | 93 => ⟨S64x128x8x64, .f32⟩
  | 94 => ⟨S8x128x128, .f32⟩
  | 95 => ⟨S_, .f32⟩
  | 96 => ⟨S128x128, .f32⟩
  | 97 => ⟨S128x128, .i32⟩
  | 98 => ⟨S_, .i32⟩
  | 99 => ⟨S128x128, .i32⟩
  | 100 => ⟨S128x128, .i32⟩
  | 101 => ⟨S128x128, .i32⟩
  | 102 => ⟨S128x128, .i1⟩
  | 103 => ⟨S_, .f32⟩
  | 104 => ⟨S128x128, .f32⟩
  | 105 => ⟨S128x128, .f32⟩
  | 106 => ⟨S1x128x128, .f32⟩
  | 107 => ⟨S8x128x128, .f32⟩
  | 108 => ⟨S8x128x128, .f32⟩
  | 109 => ⟨S8x64x64x128, .f32⟩
  | 110 => ⟨S64x128x8x64, .f32⟩
  | 111 => ⟨S8x128, .f32⟩
  | 112 => ⟨S128x8, .f32⟩
  | 113 => ⟨S1x128x8x1, .f32⟩
  | 114 => ⟨S64x128x8x64, .f32⟩
  | 115 => ⟨S64x128x8x64, .f32⟩
  | 116 => ⟨S8192x512, .f32⟩
  | 117 => ⟨S8192x512, .f32⟩
  | 118 => ⟨S1x512, .f32⟩
  | 119 => ⟨S8192x512, .f32⟩
  | 120 => ⟨S_, .f32⟩
  | 121 => ⟨S8192, .f32⟩
  | 122 => ⟨S8192x1, .f32⟩
  | 123 => ⟨S_, .f32⟩
  | 124 => ⟨S8192x1, .f32⟩
  | 125 => ⟨S8192x1, .f32⟩
  | 126 => ⟨S_, .f32⟩
  | 127 => ⟨S8192x1, .f32⟩
  | _ => ⟨S8192x2048, .f32⟩

abbrev hbmTy0_3 (i : Nat) : BufTy := match i % 128 with
  | 0 => ⟨S8192x1, .f32⟩
  | 1 => ⟨S8192x1, .f32⟩
  | 2 => ⟨S8192x512, .f32⟩
  | 3 => ⟨S8192x512, .f32⟩
  | 4 => ⟨S8192x512, .f32⟩
  | 5 => ⟨S8192x512, .f32⟩
  | 6 => ⟨S1x512, .f32⟩
  | 7 => ⟨S8192x512, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x512, .f32⟩
  | 19 => ⟨S8192x512, .f32⟩
  | 20 => ⟨S8192x512, .f32⟩
  | 21 => ⟨S8192x512, .f32⟩
  | 22 => ⟨S8192x1024, .f32⟩
  | 23 => ⟨S1024x1024, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S_, .f32⟩
  | 30 => ⟨S8192, .f32⟩
  | 31 => ⟨S8192x1, .f32⟩
  | 32 => ⟨S_, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x1, .f32⟩
  | 39 => ⟨S8192x1024, .f32⟩
  | 40 => ⟨S8192x1024, .f32⟩
  | 41 => ⟨S8192x1024, .f32⟩
  | 42 => ⟨S8192x1024, .f32⟩
  | 43 => ⟨S_, .f32⟩
  | 44 => ⟨S1x1024, .f32⟩
  | 45 => ⟨S1x1024, .f32⟩
  | 46 => ⟨S8192x1024, .f32⟩
  | 47 => ⟨S8192x1024, .f32⟩
  | 48 => ⟨S8192x1024, .f32⟩
  | 49 => ⟨S8192x1024, .f32⟩
  | 50 => ⟨S8192x1024, .bf16⟩
  | _ => ⟨S8192x2048, .f32⟩

abbrev hbmTy (i : Nat) : BufTy := match i / 128 with
  | 0 => hbmTy0_0 i
  | 1 => hbmTy0_1 i
  | 2 => hbmTy0_2 i
  | 3 => hbmTy0_3 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_v221 : Ref sig .tc := ⟨.hbm, 241, rfl⟩
abbrev main_v222 : Ref sig .tc := ⟨.hbm, 242, rfl⟩
abbrev main_v223 : Ref sig .tc := ⟨.hbm, 243, rfl⟩
abbrev main_v224 : Ref sig .tc := ⟨.hbm, 244, rfl⟩
abbrev main_v225 : Ref sig .tc := ⟨.hbm, 245, rfl⟩
abbrev main_v226 : Ref sig .tc := ⟨.hbm, 246, rfl⟩
abbrev main_v227 : Ref sig .tc := ⟨.hbm, 247, rfl⟩
abbrev main_v228 : Ref sig .tc := ⟨.hbm, 248, rfl⟩
abbrev main_v229 : Ref sig .tc := ⟨.hbm, 249, rfl⟩
abbrev main_v230 : Ref sig .tc := ⟨.hbm, 250, rfl⟩
abbrev main_v231 : Ref sig .tc := ⟨.hbm, 251, rfl⟩
abbrev main_v232 : Ref sig .tc := ⟨.hbm, 252, rfl⟩
abbrev main_v233 : Ref sig .tc := ⟨.hbm, 253, rfl⟩
abbrev main_v234 : Ref sig .tc := ⟨.hbm, 254, rfl⟩
abbrev main_v235 : Ref sig .tc := ⟨.hbm, 255, rfl⟩
abbrev main_cst_3 : Ref sig .tc := ⟨.hbm, 256, rfl⟩
abbrev main_v236 : Ref sig .tc := ⟨.hbm, 257, rfl⟩
abbrev main_v237 : Ref sig .tc := ⟨.hbm, 258, rfl⟩
abbrev main_cst_4 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_cst_5 : Ref sig .tc := ⟨.hbm, 265, rfl⟩
abbrev main_v243 : Ref sig .tc := ⟨.hbm, 266, rfl⟩
abbrev main_v244 : Ref sig .tc := ⟨.hbm, 267, rfl⟩
abbrev main_cst_6 : Ref sig .tc := ⟨.hbm, 268, rfl⟩
abbrev main_v245 : Ref sig .tc := ⟨.hbm, 269, rfl⟩
abbrev main_v246 : Ref sig .tc := ⟨.hbm, 270, rfl⟩
abbrev main_cst_7 : Ref sig .tc := ⟨.hbm, 271, rfl⟩
abbrev main_v247 : Ref sig .tc := ⟨.hbm, 272, rfl⟩
abbrev main_v248 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩
abbrev main_call0_v0 : Ref sig .tc := ⟨.hbm, 281, rfl⟩
abbrev main_call0_v1 : Ref sig .tc := ⟨.hbm, 282, rfl⟩
abbrev main_call0_cst : Ref sig .tc := ⟨.hbm, 283, rfl⟩
abbrev main_call0_v2 : Ref sig .tc := ⟨.hbm, 284, rfl⟩
abbrev main_call0_v3 : Ref sig .tc := ⟨.hbm, 285, rfl⟩
abbrev main_call0_cst_0 : Ref sig .tc := ⟨.hbm, 286, rfl⟩
abbrev main_call0_v4 : Ref sig .tc := ⟨.hbm, 287, rfl⟩
abbrev main_call0_v5 : Ref sig .tc := ⟨.hbm, 288, rfl⟩
abbrev main_v256 : Ref sig .tc := ⟨.hbm, 289, rfl⟩
abbrev main_v257 : Ref sig .tc := ⟨.hbm, 290, rfl⟩
abbrev main_v258 : Ref sig .tc := ⟨.hbm, 291, rfl⟩
abbrev main_cst_8 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_cst_9 : Ref sig .tc := ⟨.hbm, 296, rfl⟩
abbrev main_v262 : Ref sig .tc := ⟨.hbm, 297, rfl⟩
abbrev main_v263 : Ref sig .tc := ⟨.hbm, 298, rfl⟩
abbrev main_v264 : Ref sig .tc := ⟨.hbm, 299, rfl⟩
abbrev main_cst_10 : Ref sig .tc := ⟨.hbm, 300, rfl⟩
abbrev main_v265 : Ref sig .tc := ⟨.hbm, 301, rfl⟩
abbrev main_v266 : Ref sig .tc := ⟨.hbm, 302, rfl⟩
abbrev main_cst_11 : Ref sig .tc := ⟨.hbm, 303, rfl⟩
abbrev main_v267 : Ref sig .tc := ⟨.hbm, 304, rfl⟩
abbrev main_v268 : Ref sig .tc := ⟨.hbm, 305, rfl⟩
abbrev main_v269 : Ref sig .tc := ⟨.hbm, 306, rfl⟩
abbrev main_v270 : Ref sig .tc := ⟨.hbm, 307, rfl⟩
abbrev main_v271 : Ref sig .tc := ⟨.hbm, 308, rfl⟩
abbrev main_cst_12 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_cst_13 : Ref sig .tc := ⟨.hbm, 313, rfl⟩
abbrev main_v275 : Ref sig .tc := ⟨.hbm, 314, rfl⟩
abbrev main_v276 : Ref sig .tc := ⟨.hbm, 315, rfl⟩
abbrev main_v277 : Ref sig .tc := ⟨.hbm, 316, rfl⟩
abbrev main_cst_14 : Ref sig .tc := ⟨.hbm, 317, rfl⟩
abbrev main_v278 : Ref sig .tc := ⟨.hbm, 318, rfl⟩
abbrev main_v279 : Ref sig .tc := ⟨.hbm, 319, rfl⟩
abbrev main_cst_15 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_cst_16 : Ref sig .tc := ⟨.hbm, 324, rfl⟩
abbrev main_v283 : Ref sig .tc := ⟨.hbm, 325, rfl⟩
abbrev main_v284 : Ref sig .tc := ⟨.hbm, 326, rfl⟩
abbrev main_cst_17 : Ref sig .tc := ⟨.hbm, 327, rfl⟩
abbrev main_v285 : Ref sig .tc := ⟨.hbm, 328, rfl⟩
abbrev main_v286 : Ref sig .tc := ⟨.hbm, 329, rfl⟩
abbrev main_v287 : Ref sig .tc := ⟨.hbm, 330, rfl⟩
abbrev main_v288 : Ref sig .tc := ⟨.hbm, 331, rfl⟩
abbrev main_v289 : Ref sig .tc := ⟨.hbm, 332, rfl⟩
abbrev main_cst_18 : Ref sig .tc := ⟨.hbm, 333, rfl⟩
abbrev main_v290 : Ref sig .tc := ⟨.hbm, 334, rfl⟩
abbrev main_v291 : Ref sig .tc := ⟨.hbm, 335, rfl⟩
abbrev main_cst_19 : Ref sig .tc := ⟨.hbm, 336, rfl⟩
abbrev main_v292 : Ref sig .tc := ⟨.hbm, 337, rfl⟩
abbrev main_v293 : Ref sig .tc := ⟨.hbm, 338, rfl⟩
abbrev main_cst_20 : Ref sig .tc := ⟨.hbm, 339, rfl⟩
abbrev main_v294 : Ref sig .tc := ⟨.hbm, 340, rfl⟩
abbrev main_v295 : Ref sig .tc := ⟨.hbm, 341, rfl⟩
abbrev main_v296 : Ref sig .tc := ⟨.hbm, 342, rfl⟩
abbrev main_v297 : Ref sig .tc := ⟨.hbm, 343, rfl⟩
abbrev main_v298 : Ref sig .tc := ⟨.hbm, 344, rfl⟩
abbrev main_v299 : Ref sig .tc := ⟨.hbm, 345, rfl⟩
abbrev main_v300 : Ref sig .tc := ⟨.hbm, 346, rfl⟩
abbrev main_v301 : Ref sig .tc := ⟨.hbm, 347, rfl⟩
abbrev main_v302 : Ref sig .tc := ⟨.hbm, 348, rfl⟩
abbrev main_v303 : Ref sig .tc := ⟨.hbm, 349, rfl⟩
abbrev main_v304 : Ref sig .tc := ⟨.hbm, 350, rfl⟩
abbrev main_cst_21 : Ref sig .tc := ⟨.hbm, 351, rfl⟩
abbrev main_v305 : Ref sig .tc := ⟨.hbm, 352, rfl⟩
abbrev main_call1_v0 : Ref sig .tc := ⟨.hbm, 353, rfl⟩
abbrev main_call1_c : Ref sig .tc := ⟨.hbm, 354, rfl⟩
abbrev main_call1_v1 : Ref sig .tc := ⟨.hbm, 355, rfl⟩
abbrev main_call1_v2 : Ref sig .tc := ⟨.hbm, 356, rfl⟩
abbrev main_call1_v3 : Ref sig .tc := ⟨.hbm, 357, rfl⟩
abbrev main_call1_v4 : Ref sig .tc := ⟨.hbm, 358, rfl⟩
abbrev main_call1_cst : Ref sig .tc := ⟨.hbm, 359, rfl⟩
abbrev main_call1_v5 : Ref sig .tc := ⟨.hbm, 360, rfl⟩
abbrev main_v306 : Ref sig .tc := ⟨.hbm, 361, rfl⟩
abbrev main_v307 : Ref sig .tc := ⟨.hbm, 362, rfl⟩
abbrev main_v308 : Ref sig .tc := ⟨.hbm, 363, rfl⟩
abbrev main_v309 : Ref sig .tc := ⟨.hbm, 364, rfl⟩
abbrev main_v310 : Ref sig .tc := ⟨.hbm, 365, rfl⟩
abbrev main_v311 : Ref sig .tc := ⟨.hbm, 366, rfl⟩
abbrev main_v312 : Ref sig .tc := ⟨.hbm, 367, rfl⟩
abbrev main_v313 : Ref sig .tc := ⟨.hbm, 368, rfl⟩
abbrev main_v314 : Ref sig .tc := ⟨.hbm, 369, rfl⟩
abbrev main_v315 : Ref sig .tc := ⟨.hbm, 370, rfl⟩
abbrev main_v316 : Ref sig .tc := ⟨.hbm, 371, rfl⟩
abbrev main_v317 : Ref sig .tc := ⟨.hbm, 372, rfl⟩
abbrev main_v318 : Ref sig .tc := ⟨.hbm, 373, rfl⟩
abbrev main_v319 : Ref sig .tc := ⟨.hbm, 374, rfl⟩
abbrev main_v320 : Ref sig .tc := ⟨.hbm, 375, rfl⟩
abbrev main_cst_22 : Ref sig .tc := ⟨.hbm, 376, rfl⟩
abbrev main_v321 : Ref sig .tc := ⟨.hbm, 377, rfl⟩
abbrev main_v322 : Ref sig .tc := ⟨.hbm, 378, rfl⟩
abbrev main_cst_23 : Ref sig .tc := ⟨.hbm, 379, rfl⟩
abbrev main_v323 : Ref sig .tc := ⟨.hbm, 380, rfl⟩
abbrev main_v324 : Ref sig .tc := ⟨.hbm, 381, rfl⟩
abbrev main_cst_24 : Ref sig .tc := ⟨.hbm, 382, rfl⟩
abbrev main_v325 : Ref sig .tc := ⟨.hbm, 383, rfl⟩
abbrev main_v326 : Ref sig .tc := ⟨.hbm, 384, rfl⟩
abbrev main_v327 : Ref sig .tc := ⟨.hbm, 385, rfl⟩
abbrev main_v328 : Ref sig .tc := ⟨.hbm, 386, rfl⟩
abbrev main_v329 : Ref sig .tc := ⟨.hbm, 387, rfl⟩
abbrev main_v330 : Ref sig .tc := ⟨.hbm, 388, rfl⟩
abbrev main_v331 : Ref sig .tc := ⟨.hbm, 389, rfl⟩
abbrev main_v332 : Ref sig .tc := ⟨.hbm, 390, rfl⟩
abbrev main_v333 : Ref sig .tc := ⟨.hbm, 391, rfl⟩
abbrev main_cst_25 : Ref sig .tc := ⟨.hbm, 392, rfl⟩
abbrev main_v334 : Ref sig .tc := ⟨.hbm, 393, rfl⟩
abbrev main_v335 : Ref sig .tc := ⟨.hbm, 394, rfl⟩
abbrev main_cst_26 : Ref sig .tc := ⟨.hbm, 395, rfl⟩
abbrev main_v336 : Ref sig .tc := ⟨.hbm, 396, rfl⟩
abbrev main_v337 : Ref sig .tc := ⟨.hbm, 397, rfl⟩
abbrev main_cst_27 : Ref sig .tc := ⟨.hbm, 398, rfl⟩
abbrev main_v338 : Ref sig .tc := ⟨.hbm, 399, rfl⟩
abbrev main_v339 : Ref sig .tc := ⟨.hbm, 400, rfl⟩
abbrev main_v340 : Ref sig .tc := ⟨.hbm, 401, rfl⟩
abbrev main_v341 : Ref sig .tc := ⟨.hbm, 402, rfl⟩
abbrev main_v342 : Ref sig .tc := ⟨.hbm, 403, rfl⟩
abbrev main_v343 : Ref sig .tc := ⟨.hbm, 404, rfl⟩
abbrev main_v344 : Ref sig .tc := ⟨.hbm, 405, rfl⟩
abbrev main_v345 : Ref sig .tc := ⟨.hbm, 406, rfl⟩
abbrev main_v346 : Ref sig .tc := ⟨.hbm, 407, rfl⟩
abbrev main_v347 : Ref sig .tc := ⟨.hbm, 408, rfl⟩
abbrev main_v348 : Ref sig .tc := ⟨.hbm, 409, rfl⟩
abbrev main_v349 : Ref sig .tc := ⟨.hbm, 410, rfl⟩
abbrev main_v350 : Ref sig .tc := ⟨.hbm, 411, rfl⟩
abbrev main_v351 : Ref sig .tc := ⟨.hbm, 412, rfl⟩
abbrev main_cst_28 : Ref sig .tc := ⟨.hbm, 413, rfl⟩
abbrev main_v352 : Ref sig .tc := ⟨.hbm, 414, rfl⟩
abbrev main_v353 : Ref sig .tc := ⟨.hbm, 415, rfl⟩
abbrev main_cst_29 : Ref sig .tc := ⟨.hbm, 416, rfl⟩
abbrev main_v354 : Ref sig .tc := ⟨.hbm, 417, rfl⟩
abbrev main_v355 : Ref sig .tc := ⟨.hbm, 418, rfl⟩
abbrev main_cst_30 : Ref sig .tc := ⟨.hbm, 419, rfl⟩
abbrev main_v356 : Ref sig .tc := ⟨.hbm, 420, rfl⟩
abbrev main_v357 : Ref sig .tc := ⟨.hbm, 421, rfl⟩
abbrev main_v358 : Ref sig .tc := ⟨.hbm, 422, rfl⟩
abbrev main_v359 : Ref sig .tc := ⟨.hbm, 423, rfl⟩
abbrev main_v360 : Ref sig .tc := ⟨.hbm, 424, rfl⟩
abbrev main_v361 : Ref sig .tc := ⟨.hbm, 425, rfl⟩
abbrev main_v362 : Ref sig .tc := ⟨.hbm, 426, rfl⟩
abbrev main_cst_31 : Ref sig .tc := ⟨.hbm, 427, rfl⟩
abbrev main_v363 : Ref sig .tc := ⟨.hbm, 428, rfl⟩
abbrev main_v364 : Ref sig .tc := ⟨.hbm, 429, rfl⟩
abbrev main_v365 : Ref sig .tc := ⟨.hbm, 430, rfl⟩
abbrev main_v366 : Ref sig .tc := ⟨.hbm, 431, rfl⟩
abbrev main_v367 : Ref sig .tc := ⟨.hbm, 432, rfl⟩
abbrev main_v368 : Ref sig .tc := ⟨.hbm, 433, rfl⟩
abbrev main_v369 : Ref sig .tc := ⟨.hbm, 434, rfl⟩

abbrev nD : Nat := 1
abbrev τ : Topo := Topo.v7x

variable {F : FTy → Type} [FloatOps F]
-- ==== Kernel5.lean ====
abbrev S4x8192x1024 : Shape := ⟨3, ![4, 8192, 1024]⟩
abbrev S8192x1024 : Shape := ⟨2, ![8192, 1024]⟩
abbrev S1x1024 : Shape := ⟨2, ![1, 1024]⟩
abbrev S1x1024x2048 : Shape := ⟨3, ![1, 1024, 2048]⟩
abbrev S1x31x512 : Shape := ⟨3, ![1, 31, 512]⟩
abbrev S1x512 : Shape := ⟨2, ![1, 512]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S31x512 : Shape := ⟨2, ![31, 512]⟩
abbrev S_ : Shape := ⟨0, ![]⟩
abbrev S32x512 : Shape := ⟨2, ![32, 512]⟩
abbrev S7x1024 : Shape := ⟨2, ![7, 1024]⟩
abbrev S16x1024 : Shape := ⟨2, ![16, 1024]⟩
abbrev S3x512 : Shape := ⟨2, ![3, 512]⟩
abbrev S8x512 : Shape := ⟨2, ![8, 512]⟩
abbrev S8x128x128 : Shape := ⟨3, ![8, 128, 128]⟩
abbrev S1024x2048 : Shape := ⟨2, ![1024, 2048]⟩
abbrev S1024x8x256 : Shape := ⟨3, ![1024, 8, 256]⟩
abbrev S8x1024x256 : Shape := ⟨3, ![8, 1024, 256]⟩
abbrev S8192 : Shape := ⟨1, ![8192]⟩
abbrev S8192x1 : Shape := ⟨2, ![8192, 1]⟩
abbrev S8192x2048 : Shape := ⟨2, ![8192, 2048]⟩
abbrev S8192x512 : Shape := ⟨2, ![8192, 512]⟩
abbrev S30x512 : Shape := ⟨2, ![30, 512]⟩
abbrev S8222x512 : Shape := ⟨2, ![8222, 512]⟩
abbrev S1x8222x512 : Shape := ⟨3, ![1, 8222, 512]⟩
abbrev S32x8222x512 : Shape := ⟨3, ![32, 8222, 512]⟩
abbrev S263104x512 : Shape := ⟨2, ![263104, 512]⟩
abbrev S254913x512 : Shape := ⟨2, ![254913, 512]⟩
abbrev S31x8223x512 : Shape := ⟨3, ![31, 8223, 512]⟩
abbrev S31x8192x512 : Shape := ⟨3, ![31, 8192, 512]⟩
abbrev S31x1x512 : Shape := ⟨3, ![31, 1, 512]⟩
abbrev S64x128x8x64 : Shape := ⟨4, ![64, 128, 8, 64]⟩
abbrev S128x128 : Shape := ⟨2, ![128, 128]⟩
abbrev S1x128x128 : Shape := ⟨3, ![1, 128, 128]⟩
abbrev S128x8x128 : Shape := ⟨3, ![128, 8, 128]⟩
abbrev S1x128x8x1x128 : Shape := ⟨5, ![1, 128, 8, 1, 128]⟩
abbrev S64x8x64x128 : Shape := ⟨4, ![64, 8, 64, 128]⟩
abbrev S64x1x8x64x128 : Shape := ⟨5, ![64, 1, 8, 64, 128]⟩
abbrev S64x128x8x64x128 : Shape := ⟨5, ![64, 128, 8, 64, 128]⟩
abbrev S8x128 : Shape := ⟨2, ![8, 128]⟩
abbrev S128x8 : Shape := ⟨2, ![128, 8]⟩
abbrev S1x128x8x1 : Shape := ⟨4, ![1, 128, 8, 1]⟩
abbrev S1024x1024 : Shape := ⟨2, ![1024, 1024]⟩
abbrev S8192x128 : Shape := ⟨2, ![8192, 128]⟩
abbrev S8192x256 : Shape := ⟨2, ![8192, 256]⟩
abbrev S1024x8192 : Shape := ⟨2, ![1024, 8192]⟩
abbrev S1x256x1024 : Shape := ⟨3, ![1, 256, 1024]⟩
abbrev S256x1024 : Shape := ⟨2, ![256, 1024]⟩
abbrev S256x512 : Shape := ⟨2, ![256, 512]⟩
abbrev S256x256 : Shape := ⟨2, ![256, 256]⟩
abbrev S256x2048 : Shape := ⟨2, ![256, 2048]⟩
abbrev S1024x256 : Shape := ⟨2, ![1024, 256]⟩
abbrev S128x512 : Shape := ⟨2, ![128, 512]⟩
abbrev S256 : Shape := ⟨1, ![256]⟩
abbrev S256x1 : Shape := ⟨2, ![256, 1]⟩
abbrev S1024 : Shape := ⟨1, ![1024]⟩
abbrev S256x128 : Shape := ⟨2, ![256, 128]⟩
abbrev S512 : Shape := ⟨1, ![512]⟩
abbrev S32x128 : Shape := ⟨2, ![32, 128]⟩
abbrev S288x128 : Shape := ⟨2, ![288, 128]⟩
abbrev S1x128 : Shape := ⟨2, ![1, 128]⟩
abbrev S128 : Shape := ⟨1, ![128]⟩
abbrev S1x1024x256 : Shape := ⟨3, ![1, 1024, 256]⟩
abbrev S128x1 : Shape := ⟨2, ![128, 1]⟩

abbrev nBuf : Space → Nat
  | .hbm => 284
  | .vmem => 59
  | .smem => 0
  | _ => 0

abbrev hbmTy0_0 (i : Nat) : BufTy := match i % 128 with
  | 0 => ⟨S4x8192x1024, .f32⟩
  | 1 => ⟨S8192x1024, .f32⟩
  | 2 => ⟨S8192x1024, .f32⟩
  | 3 => ⟨S1x1024, .f32⟩
  | 4 => ⟨S1x1024, .f32⟩
  | 5 => ⟨S1x1024, .f32⟩
  | 6 => ⟨S1x1024x2048, .f32⟩
  | 7 => ⟨S1x31x512, .f32⟩
  | 8 => ⟨S1x512, .f32⟩
  | 9 => ⟨S1x512, .f32⟩
  | 10 => ⟨S1x512, .f32⟩
  | 11 => ⟨S1x512, .f32⟩
  | 12 => ⟨S1x512, .f32⟩
  | 13 => ⟨S1x8x128x128, .f32⟩
  | 14 => ⟨S1x8x128, .f32⟩
  | 15 => ⟨S1x1024, .f32⟩
  | 16 => ⟨S1x1024x1024, .f32⟩
  | 17 => ⟨S1x1024, .f32⟩
  | 18 => ⟨S1x1024, .f32⟩
  | 19 => ⟨S1x1024, .f32⟩
  | 20 => ⟨S1x1024, .f32⟩
  | 21 => ⟨S31x512, .f32⟩
  | 22 => ⟨S_, .i32⟩
  | 23 => ⟨S_, .f32⟩
  | 24 => ⟨S32x512, .f32⟩
  | 25 => ⟨S_, .f32⟩
  | 26 => ⟨S1x1024, .f32⟩
  | 27 => ⟨S_, .f32⟩
  | 28 => ⟨S7x1024, .f32⟩
  | 29 => ⟨S16x1024, .f32⟩
  | 30 => ⟨S_, .f32⟩
  | 31 => ⟨S3x512, .f32⟩
  | 32 => ⟨S8x512, .f32⟩
  | 33 => ⟨S8x128x128, .f32⟩
  | 34 => ⟨S8x128x128, .f32⟩
  | 35 => ⟨S1024x2048, .f32⟩
  | 36 => ⟨S1024x2048, .bf16⟩
  | 37 => ⟨S1024x8x256, .bf16⟩
  | 38 => ⟨S8x1024x256, .bf16⟩
  | 39 => ⟨S8192x1024, .f32⟩
  | 40 => ⟨S_, .f32⟩
  | 41 => ⟨S8192, .f32⟩
  | 42 => ⟨S8192x1, .f32⟩
  | 43 => ⟨S_, .f32⟩
  | 44 => ⟨S8192x1, .f32⟩
  | 45 => ⟨S8192x1, .f32⟩
  | 46 => ⟨S_, .f32⟩
  | 47 => ⟨S8192x1, .f32⟩
  | 48 => ⟨S8192x1, .f32⟩
  | 49 => ⟨S8192x1, .f32⟩
  | 50 => ⟨S8192x1024, .f32⟩
  | 51 => ⟨S8192x1024, .f32⟩
  | 52 => ⟨S8192x1024, .f32⟩
  | 53 => ⟨S8192x1024, .f32⟩
  | 54 => ⟨S_, .f32⟩
  | 55 => ⟨S1x1024, .f32⟩
  | 56 => ⟨S1x1024, .f32⟩
  | 57 => ⟨S8192x1024, .f32⟩
  | 58 => ⟨S8192x1024, .f32⟩
  | 59 => ⟨S8192x1024, .f32⟩
  | 60 => ⟨S8192x1024, .f32⟩
  | 61 => ⟨S1024x2048, .f32⟩
  | 62 => ⟨S8192x2048, .f32⟩
  | 63 => ⟨S8192x512, .f32⟩
  | 64 => ⟨S8192x512, .f32⟩
  | 65 => ⟨S8192x512, .f32⟩
  | 66 => ⟨S8192x512, .f32⟩
  | 67 => ⟨S_, .f32⟩
  | 68 => ⟨S8192x512, .f32⟩
  | 69 => ⟨S8192x512, .f32⟩
  | 70 => ⟨S_, .f32⟩
  | 71 => ⟨S8192x512, .f32⟩
  | 72 => ⟨S8192x512, .f32⟩
  | 73 => ⟨S8192x512, .f32⟩
  | 74 => ⟨S_, .f32⟩
  | 75 => ⟨S30x512, .f32⟩
  | 76 => ⟨S8222x512, .f32⟩
  | 77 => ⟨S1x8222x512, .f32⟩
  | 78 => ⟨S32x8222x512, .f32⟩
  | 79 => ⟨S263104x512, .f32⟩
  | 80 => ⟨S254913x512, .f32⟩
  | 81 => ⟨S31x8223x512, .f32⟩
  | 82 => ⟨S31x8192x512, .f32⟩
  | 83 => ⟨S31x512, .f32⟩
  | 84 => ⟨S31x1x512, .f32⟩
  | 85 => ⟨S31x8192x512, .f32⟩
  | 86 => ⟨S31x8192x512, .f32⟩
  | 87 => ⟨S_, .f32⟩
  | 88 => ⟨S8192x512, .f32⟩
  | 89 => ⟨S8192x512, .f32⟩
  | 90 => ⟨S8192x512, .f32⟩
  | 91 => ⟨S_, .f32⟩
  | 92 => ⟨S8192, .f32⟩
  | 93 => ⟨S8192x1, .f32⟩
  | 94 => ⟨S_, .f32⟩
  | 95 => ⟨S8192x1, .f32⟩
  | 96 => ⟨S8192x1, .f32⟩
  | 97 => ⟨S8192x512, .f32⟩
  | 98 => ⟨S8192x512, .f32⟩
  | 99 => ⟨S8192x512, .f32⟩
  | 100 => ⟨S_, .f32⟩
  | 101 => ⟨S8192, .f32⟩
  | 102 => ⟨S8192x1, .f32⟩
  | 103 => ⟨S_, .f32⟩
  | 104 => ⟨S8192x1, .f32⟩
  | 105 => ⟨S8192x1, .f32⟩
  | 106 => ⟨S_, .f32⟩
  | 107 => ⟨S8192x1, .f32⟩
  | 108 => ⟨S8192x1, .f32⟩
  | 109 => ⟨S8192x1, .f32⟩
  | 110 => ⟨S8192x512, .f32⟩
  | 111 => ⟨S8192x512, .f32⟩
  | 112 => ⟨S8192x512, .f32⟩
  | 113 => ⟨S8192x512, .f32⟩
  | 114 => ⟨S8192x512, .f32⟩
  | 115 => ⟨S8192x512, .f32⟩
  | 116 => ⟨S8192x512, .f32⟩
  | 117 => ⟨S8192x512, .f32⟩
  | 118 => ⟨S_, .f32⟩
  | 119 => ⟨S8192x512, .f32⟩
  | 120 => ⟨S8192x512, .f32⟩
  | 121 => ⟨S_, .f32⟩
  | 122 => ⟨S8192x512, .f32⟩
  | 123 => ⟨S8192x512, .f32⟩
  | 124 => ⟨S8192x512, .f32⟩
  | 125 => ⟨S8192x1024, .f32⟩
  | 126 => ⟨S_, .f32⟩
  | 127 => ⟨S8192x1024, .f32⟩
  | _ => ⟨S4x8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S_, .f32⟩
  | 5 => ⟨S8192x1024, .f32⟩
  | 6 => ⟨S8192x1024, .f32⟩
  | 7 => ⟨S8192x1024, .f32⟩
  | 8 => ⟨S_, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S_, .f32⟩
  | 23 => ⟨S8192x1024, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S8192x1024, .f32⟩
  | 41 => ⟨S8192x1024, .f32⟩
  | 42 => ⟨S8192x512, .f32⟩
  | 43 => ⟨S8192x512, .f32⟩
  | 44 => ⟨S8192x512, .f32⟩
  | 45 => ⟨S8192x512, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S8192x512, .f32⟩
  | 53 => ⟨S8192x512, .f32⟩
  | 54 => ⟨S8192x512, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S_, .f32⟩
  | 62 => ⟨S8192x1, .f32⟩
  | 63 => ⟨S8192x1, .f32⟩
  | 64 => ⟨S8192x1, .f32⟩
  | 65 => ⟨S8192x512, .f32⟩
  | 66 => ⟨S8192x512, .f32⟩
  | 67 => ⟨S8192x512, .f32⟩
  | 68 => ⟨S8192x512, .f32⟩
  | 69 => ⟨S8192x512, .f32⟩
  | 70 => ⟨S8192x512, .f32⟩
  | 71 => ⟨S64x128x8x64, .f32⟩
  | 72 => ⟨S8x128x128, .f32⟩
  | 73 => ⟨S_, .f32⟩
  | 74 => ⟨S128x128, .f32⟩
  | 75 => ⟨S128x128, .i32⟩
  | 76 => ⟨S_, .i32⟩
  | 77 => ⟨S128x128, .i32⟩
  | 78 => ⟨S128x128, .i32⟩
  | 79 => ⟨S128x128, .i32⟩
  | 80 => ⟨S128x128, .i1⟩
  | 81 => ⟨S_, .f32⟩
  | 82 => ⟨S128x128, .f32⟩
  | 83 => ⟨S128x128, .f32⟩
  | 84 => ⟨S1x128x128, .f32⟩
  | 85 => ⟨S8x128x128, .f32⟩
  | 86 => ⟨S8x128x128, .f32⟩
  | 87 => ⟨S128x8x128, .f32⟩
  | 88 => ⟨S1x128x8x1x128, .f32⟩
  | 89 => ⟨S64x8x64x128, .f32⟩
  | 90 => ⟨S64x1x8x64x128, .f32⟩
  | 91 => ⟨S64x128x8x64x128, .f32⟩
  | 92 => ⟨S64x128x8x64x128, .f32⟩
  | 93 => ⟨S64x128x8x64x128, .f32⟩
  | 94 => ⟨S_, .f32⟩
  | 95 => ⟨S64x128x8x64, .f32⟩
  | 96 => ⟨S8x128, .f32⟩
  | 97 => ⟨S128x8, .f32⟩
  | 98 => ⟨S1x128x8x1, .f32⟩
  | 99 => ⟨S64x128x8x64, .f32⟩
  | 100 => ⟨S64x128x8x64, .f32⟩
  | 101 => ⟨S8192x512, .f32⟩
  | 102 => ⟨S1x512, .f32⟩
  | 103 => ⟨S8192x512, .f32⟩
  | 104 => ⟨S_, .f32⟩
  | 105 => ⟨S8192, .f32⟩
  | 106 => ⟨S8192x1, .f32⟩
  | 107 => ⟨S_, .f32⟩
  | 108 => ⟨S8192x1, .f32⟩
  | 109 => ⟨S8192x1, .f32⟩
  | 110 => ⟨S_, .f32⟩
  | 111 => ⟨S8192x1, .f32⟩
  | 112 => ⟨S8192x1, .f32⟩
  | 113 => ⟨S8192x1, .f32⟩
  | 114 => ⟨S8192x512, .f32⟩
  | 115 => ⟨S8192x512, .f32⟩
  | 116 => ⟨S8192x512, .f32⟩
  | 117 => ⟨S8192x512, .f32⟩
  | 118 => ⟨S8192x512, .f32⟩
  | 119 => ⟨S1x512, .f32⟩
  | 120 => ⟨S8192x512, .f32⟩
  | 121 => ⟨S_, .f32⟩
  | 122 => ⟨S8192, .f32⟩
  | 123 => ⟨S8192x1, .f32⟩
  | 124 => ⟨S_, .f32⟩
  | 125 => ⟨S8192x1, .f32⟩
  | 126 => ⟨S8192x1, .f32⟩
  | 127 => ⟨S_, .f32⟩
  | _ => ⟨S4x8192x1024, .f32⟩

abbrev hbmTy0_2 (i : Nat) : BufTy := match i % 128 with
  | 0 => ⟨S8192x1, .f32⟩
  | 1 => ⟨S8192x1, .f32⟩
  | 2 => ⟨S8192x1, .f32⟩
  | 3 => ⟨S8192x512, .f32⟩
  | 4 => ⟨S8192x512, .f32⟩
  | 5 => ⟨S8192x512, .f32⟩
  | 6 => ⟨S8192x512, .f32⟩
  | 7 => ⟨S8192x1024, .f32⟩
  | 8 => ⟨S1024x1024, .f32⟩
  | 9 => ⟨S8192x1024, .f32⟩
  | 10 => ⟨S8192x1024, .f32⟩
  | 11 => ⟨S8192x1024, .f32⟩
  | 12 => ⟨S8192x1024, .f32⟩
  | 13 => ⟨S8192x128, .f32⟩
  | 14 => ⟨S8192x128, .f32⟩
  | 15 => ⟨S8192x256, .f32⟩
  | 16 => ⟨S8x128x128, .f32⟩
  | 17 => ⟨S1024x1024, .f32⟩
  | 18 => ⟨S1024x1024, .bf16⟩
  | 19 => ⟨S8192x1024, .f32⟩
  | 20 => ⟨S8192x2048, .bf16⟩
  | 21 => ⟨S1024x8192, .bf16⟩
  | 22 => ⟨S8192x1024, .bf16⟩
  | 23 => ⟨S16x1024, .f32⟩
  | 24 => ⟨S8x512, .f32⟩
  | 25 => ⟨S32x512, .f32⟩
  | 26 => ⟨S8x128x128, .f32⟩
  | 27 => ⟨S128x128, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x256, .f32⟩
  | .local _ .vmem, ⟨33, _⟩ => ⟨S256x256, .f32⟩
  | .local _ .vmem, ⟨34, _⟩ => ⟨S16x1024, .f32⟩
  | .local _ .vmem, ⟨35, _⟩ => ⟨S8x512, .f32⟩
  | .local _ .vmem, ⟨36, _⟩ => ⟨S32x512, .f32⟩
  | .local _ .vmem, ⟨37, _⟩ => ⟨S8x128x128, .f32⟩
  | .local _ .vmem, ⟨38, _⟩ => ⟨S8x128x128, .f32⟩
  | .local _ .vmem, ⟨39, _⟩ => ⟨S1024x1024, .bf16⟩
  | .local _ .vmem, ⟨40, _⟩ => ⟨S8x1024x256, .bf16⟩
  | .local _ .vmem, ⟨41, _⟩ => ⟨S256x1024, .f32⟩
  | .local _ .vmem, ⟨42, _⟩ => ⟨S256x1024, .f32⟩
  | .local _ .vmem, ⟨43, _⟩ => ⟨S256x2048, .bf16⟩
  | .local _ .vmem, ⟨44, _⟩ => ⟨S256x2048, .bf16⟩
  | .local _ .vmem, ⟨45, _⟩ => ⟨S1024x256, .bf16⟩
  | .local _ .vmem, ⟨46, _⟩ => ⟨S1024x256, .bf16⟩
  | .local _ .vmem, ⟨47, _⟩ => ⟨S256x1024, .bf16⟩
  | .local _ .vmem, ⟨48, _⟩ => ⟨S256x1024, .bf16⟩
  | .local _ .vmem, ⟨49, _⟩ => ⟨S16x1024, .f32⟩
  | .local _ .vmem, ⟨50, _⟩ => ⟨S8x512, .f32⟩
  | .local _ .vmem, ⟨51, _⟩ => ⟨S32x512, .f32⟩
  | .local _ .vmem, ⟨52, _⟩ => ⟨S8x128x128, .f32⟩
  | .local _ .vmem, ⟨53, _⟩ => ⟨S128x128, .f32⟩
  | .local _ .vmem, ⟨54, _⟩ => ⟨S128x512, .f32⟩
  | .local _ .vmem, ⟨55, _⟩ => ⟨S32x512, .f32⟩
  | .local _ .vmem, ⟨56, _⟩ => ⟨S256x512, .f32⟩
  | .local _ .vmem, ⟨57, _⟩ => ⟨S256x512, .f32⟩
  | .local _ .vmem, ⟨58, _⟩ => ⟨S256x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_c : Ref sig .tc := ⟨.hbm, 22, rfl⟩
abbrev main_call0_v0 : Ref sig .tc := ⟨.hbm, 23, rfl⟩
abbrev main_v1 : Ref sig .tc := ⟨.hbm, 24, rfl⟩
abbrev main_cst : Ref sig .tc := ⟨.hbm, 25, rfl⟩
abbrev main_v2 : Ref sig .tc := ⟨.hbm, 26, rfl⟩
abbrev main_cst_0 : Ref sig .tc := ⟨.hbm, 27, rfl⟩
abbrev main_v3 : Ref sig .tc := ⟨.hbm, 28, rfl⟩
abbrev main_v4 : Ref sig .tc := ⟨.hbm, 29, rfl⟩
abbrev main_cst_1 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_2 : Ref sig .tc := ⟨.hbm, 40, rfl⟩
abbrev main_v14 : Ref sig .tc := ⟨.hbm, 41, rfl⟩
abbrev main_v15 : Ref sig .tc := ⟨.hbm, 42, rfl⟩
abbrev main_cst_3 : Ref sig .tc := ⟨.hbm, 43, rfl⟩
abbrev main_v16 : Ref sig .tc := ⟨.hbm, 44, rfl⟩
abbrev main_v17 : Ref sig .tc := ⟨.hbm, 45, rfl⟩
abbrev main_cst_4 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_5 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_6 : Ref sig .tc := ⟨.hbm, 67, rfl⟩
abbrev main_v37 : Ref sig .tc := ⟨.hbm, 68, rfl⟩
abbrev main_v38 : Ref sig .tc := ⟨.hbm, 69, rfl⟩
abbrev main_cst_7 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_8 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_9 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_10 : Ref sig .tc := ⟨.hbm, 91, rfl⟩
abbrev main_v57 : Ref sig .tc := ⟨.hbm, 92, rfl⟩
abbrev main_v58 : Ref sig .tc := ⟨.hbm, 93, rfl⟩
abbrev main_cst_11 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_12 : Ref sig .tc := ⟨.hbm, 100, rfl⟩
abbrev main_v64 : Ref sig .tc := ⟨.hbm, 101, rfl⟩
abbrev main_v65 : Ref sig .tc := ⟨.hbm, 102, rfl⟩
abbrev main_cst_13 : Ref sig .tc := ⟨.hbm, 103, rfl⟩
abbrev main_v66 : Ref sig .tc := ⟨.hbm, 104, rfl⟩
abbrev main_v67 : Ref sig .tc := ⟨.hbm, 105, rfl⟩
abbrev main_cst_14 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_call1_v0 : Ref sig .tc := ⟨.hbm, 116, rfl⟩
abbrev main_call1_v1 : Ref sig .tc := ⟨.hbm, 117, rfl⟩
abbrev main_call1_cst : Ref sig .tc := ⟨.hbm, 118, rfl⟩
abbrev main_call1_v2 : Ref sig .tc := ⟨.hbm, 119, rfl⟩
abbrev main_call1_v3 : Ref sig .tc := ⟨.hbm, 120, rfl⟩
abbrev main_call1_cst_0 : Ref sig .tc := ⟨.hbm, 121, rfl⟩
abbrev main_call1_v4 : Ref sig .tc := ⟨.hbm, 122, rfl⟩
abbrev main_call1_v5 : Ref sig .tc := ⟨.hbm, 123, rfl⟩
abbrev main_v77 : Ref sig .tc := ⟨.hbm, 124, rfl⟩
abbrev main_v78 : Ref sig .tc := ⟨.hbm, 125, rfl⟩
abbrev main_cst_15 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_cst_16 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_17 : Ref sig .tc := ⟨.hbm, 136, rfl⟩
abbrev main_v87 : Ref sig .tc := ⟨.hbm, 137, rfl⟩
abbrev main_v88 : Ref sig .tc := ⟨.hbm, 138, rfl⟩
abbrev main_cst_18 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_19 : Ref sig .tc := ⟨.hbm, 144, rfl⟩
abbrev main_v93 : Ref sig .tc := ⟨.hbm, 145, rfl⟩
abbrev main_v94 : Ref sig .tc := ⟨.hbm, 146, rfl⟩
abbrev main_cst_20 : Ref sig .tc := ⟨.hbm, 147, rfl⟩
abbrev main_v95 : Ref sig .tc := ⟨.hbm, 148, rfl⟩
abbrev main_v96 : Ref sig .tc := ⟨.hbm, 149, rfl⟩
abbrev main_cst_21 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_cst_22 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_cst_23 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_cst_24 : Ref sig .tc := ⟨.hbm, 162, rfl⟩
abbrev main_v106 : Ref sig .tc := ⟨.hbm, 163, rfl⟩
abbrev main_v107 : Ref sig .tc := ⟨.hbm, 164, rfl⟩
abbrev main_cst_25 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_cst_26 : Ref sig .tc := ⟨.hbm, 174, rfl⟩
abbrev main_v116 : Ref sig .tc := ⟨.hbm, 175, rfl⟩
abbrev main_v117 : Ref sig .tc := ⟨.hbm, 176, rfl⟩
abbrev main_cst_27 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_cst_28 : Ref sig .tc := ⟨.hbm, 183, rfl⟩
abbrev main_v123 : Ref sig .tc := ⟨.hbm, 184, rfl⟩
abbrev main_v124 : Ref sig .tc := ⟨.hbm, 185, rfl⟩
abbrev main_cst_29 : Ref sig .tc := ⟨.hbm, 186, rfl⟩
abbrev main_v125 : Ref sig .tc := ⟨.hbm, 187, rfl⟩
abbrev main_v126 : Ref sig .tc := ⟨.hbm, 188, rfl⟩
abbrev main_cst_30 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_cst_31 : Ref sig .tc := ⟨.hbm, 201, rfl⟩
abbrev main_v138 : Ref sig .tc := ⟨.hbm, 202, rfl⟩
abbrev main_call2_v0 : Ref sig .tc := ⟨.hbm, 203, rfl⟩
abbrev main_call2_c : Ref sig .tc := ⟨.hbm, 204, rfl⟩
abbrev main_call2_v1 : Ref sig .tc := ⟨.hbm, 205, rfl⟩
abbrev main_call2_v2 : Ref sig .tc := ⟨.hbm, 206, rfl⟩
abbrev main_call2_v3 : Ref sig .tc := ⟨.hbm, 207, rfl⟩
abbrev main_call2_v4 : Ref sig .tc := ⟨.hbm, 208, rfl⟩
abbrev main_call2_cst : Ref sig .tc := ⟨.hbm, 209, rfl⟩
abbrev main_call2_v5 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_cst_32 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_cst_33 : Ref sig .tc := ⟨.hbm, 232, rfl⟩
abbrev main_v159 : Ref sig .tc := ⟨.hbm, 233, rfl⟩
abbrev main_v160 : Ref sig .tc := ⟨.hbm, 234, rfl⟩
abbrev main_cst_34 : Ref sig .tc := ⟨.hbm, 235, rfl⟩
abbrev main_v161 : Ref sig .tc := ⟨.hbm, 236, rfl⟩
abbrev main_v162 : Ref sig .tc := ⟨.hbm, 237, rfl⟩
abbrev main_cst_35 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_cst_36 : Ref sig .tc := ⟨.hbm, 249, rfl⟩
abbrev main_v173 : Ref sig .tc := ⟨.hbm, 250, rfl⟩
abbrev main_v174 : Ref sig .tc := ⟨.hbm, 251, rfl⟩
abbrev main_cst_37 : Ref sig .tc := ⟨.hbm, 252, rfl⟩
abbrev main_v175 : Ref sig .tc := ⟨.hbm, 253, rfl⟩
abbrev main_v176 : Ref sig .tc := ⟨.hbm, 254, rfl⟩
abbrev main_cst_38 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196_0 : Ref sig .tc := ⟨.hbm, 275, rfl⟩
abbrev main_v196_1 : Ref sig .tc := ⟨.hbm, 276, rfl⟩
abbrev main_v196_2 : Ref sig .tc := ⟨.hbm, 277, rfl⟩
abbrev main_v196_3 : Ref sig .tc := ⟨.hbm, 278, rfl⟩
abbrev main_v196_4 : Ref sig .tc := ⟨.hbm, 279, rfl⟩
abbrev main_v196_5 : Ref sig .tc := ⟨.hbm, 280, rfl⟩
abbrev main_v196_6 : Ref sig .tc := ⟨.hbm, 281, rfl⟩
abbrev main_v196_7 : Ref sig .tc := ⟨.hbm, 282, rfl⟩
abbrev main_v196_8 : Ref sig .tc := ⟨.hbm, 283, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg18_0 : Ref sig .tc := ⟨.vmem, 35, rfl⟩
abbrev cc0_stg19_0 : Ref sig .tc := ⟨.vmem, 36, rfl⟩
abbrev cc0_stg20_0 : Ref sig .tc := ⟨.vmem, 37, rfl⟩
abbrev cc0_stg21_0 : Ref sig .tc := ⟨.vmem, 38, rfl⟩
abbrev cc0_stg22_0 : Ref sig .tc := ⟨.vmem, 39, rfl⟩
abbrev cc0_stg23_0 : Ref sig .tc := ⟨.vmem, 40, rfl⟩
abbrev cc0_stg24_0 : Ref sig .tc := ⟨.vmem, 41, rfl⟩
abbrev cc0_stg24_1 : Ref sig .tc := ⟨.vmem, 42, rfl⟩
abbrev cc0_stg25_0 : Ref sig .tc := ⟨.vmem, 43, rfl⟩
abbrev cc0_stg25_1 : Ref sig .tc := ⟨.vmem, 44, rfl⟩
abbrev cc0_stg26_0 : Ref sig .tc := ⟨.vmem, 45, rfl⟩
abbrev cc0_stg26_1 : Ref sig .tc := ⟨.vmem, 46, rfl⟩
abbrev cc0_stg27_0 : Ref sig .tc := ⟨.vmem, 47, rfl⟩
abbrev cc0_stg27_1 : Ref sig .tc := ⟨.vmem, 48, rfl⟩
abbrev cc0_stg28_0 : Ref sig .tc := ⟨.vmem, 49, rfl⟩
abbrev cc0_stg29_0 : Ref sig .tc := ⟨.vmem, 50, rfl⟩
abbrev cc0_stg30_0 : Ref sig .tc := ⟨.vmem, 51, rfl⟩
abbrev cc0_stg31_0 : Ref sig .tc := ⟨.vmem, 52, rfl⟩
abbrev cc0_stg32_0 : Ref sig .tc := ⟨.vmem, 53, rfl⟩
abbrev cc0_scratch0 : Ref sig .tc := ⟨.vmem, 54, rfl⟩
abbrev cc0_scratch1 : Ref sig .tc := ⟨.vmem, 55, rfl⟩
abbrev cc0_scratch2 : Ref sig .tc := ⟨.vmem, 56, rfl⟩
abbrev cc0_scratch3 : Ref sig .tc := ⟨.vmem, 57, rfl⟩
abbrev cc0_scratch4 : Ref sig .tc := ⟨.vmem, 58, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem18_0 : DmaSem sig := 35
abbrev cc0_sem19_0 : DmaSem sig := 36
abbrev cc0_sem20_0 : DmaSem sig := 37
abbrev cc0_sem21_0 : DmaSem sig := 38
abbrev cc0_sem22_0 : DmaSem sig := 39
abbrev cc0_sem23_0 : DmaSem sig := 40
abbrev cc0_sem24_0 : DmaSem sig := 41
abbrev cc0_sem24_1 : DmaSem sig := 42
abbrev cc0_sem25_0 : DmaSem sig := 43
abbrev cc0_sem25_1 : DmaSem sig := 44
abbrev cc0_sem26_0 : DmaSem sig := 45
abbrev cc0_sem26_1 : DmaSem sig := 46
abbrev cc0_sem27_0 : DmaSem sig := 47
abbrev cc0_sem27_1 : DmaSem sig := 48
abbrev cc0_sem28_0 : DmaSem sig := 49
abbrev cc0_sem29_0 : DmaSem sig := 50
abbrev cc0_sem30_0 : DmaSem sig := 51
abbrev cc0_sem31_0 : DmaSem sig := 52
abbrev cc0_sem32_0 : DmaSem sig := 53

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c31_i32 : BitVec 32 := 31#32
  let v2570 : BitVec 1 := Scalar.cmpi .eq arg0 c31_i32
  let v2571 : BitVec 32 := Scalar.extui v2570
  let c0_i32_1469 : BitVec 32 := 0#32
  let v2572 : BitVec 1 := Scalar.cmpi .ne v2571 c0_i32_1469
  v2572

def cc0_transform_0 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  let c0_i32_0 : BitVec 32 := 0#32
  ![c1_i32.toNat, v0.toNat, c0_i32.toNat]

def cc0_transform_2 (i : grid0.Coords) : Fin 3 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  let c0_i32_0 : BitVec 32 := 0#32
  ![c2_i32.toNat, v0.toNat, c0_i32.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  let c0_i32_0 : BitVec 32 := 0#32
  ![c3_i32.toNat, v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_25 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_26 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![c0_i32.toNat, v0.toNat]

def cc0_transform_27 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S16x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S32x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1024x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x1024x256 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S256x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x2048 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1024x256 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 1 → Memref sig .tc .vmem S16x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S8x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S32x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S8x128x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S128x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]
-- ==== Reference5Ideal.lean ====
abbrev S4x8192x1024 : Shape := ⟨3, ![4, 8192, 1024]⟩
abbrev S8192x1024 : Shape := ⟨2, ![8192, 1024]⟩
abbrev S1x1024 : Shape := ⟨2, ![1, 1024]⟩
abbrev S1x1024x2048 : Shape := ⟨3, ![1, 1024, 2048]⟩
abbrev S1x31x512 : Shape := ⟨3, ![1, 31, 512]⟩
abbrev S1x512 : Shape := ⟨2, ![1, 512]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S_ : Shape := ⟨0, ![]⟩
abbrev S8192 : Shape := ⟨1, ![8192]⟩
abbrev S8192x1 : Shape := ⟨2, ![8192, 1]⟩
abbrev S1024x2048 : Shape := ⟨2, ![1024, 2048]⟩
abbrev S8192x2048 : Shape := ⟨2, ![8192, 2048]⟩
abbrev S8192x512 : Shape := ⟨2, ![8192, 512]⟩
abbrev S31x512 : Shape := ⟨2, ![31, 512]⟩
abbrev S512 : Shape := ⟨1, ![512]⟩
abbrev S30x512 : Shape := ⟨2, ![30, 512]⟩
abbrev S8222x512 : Shape := ⟨2, ![8222, 512]⟩
abbrev S64x128x8x64 : Shape := ⟨4, ![64, 128, 8, 64]⟩
abbrev S8x128x128 : Shape := ⟨3, ![8, 128, 128]⟩
abbrev S128x128 : Shape := ⟨2, ![128, 128]⟩
abbrev S1x128x128 : Shape := ⟨3, ![1, 128, 128]⟩
abbrev S8x64x64x128 : Shape := ⟨4, ![8, 64, 64, 128]⟩
abbrev S8x128 : Shape := ⟨2, ![8, 128]⟩
abbrev S128x8 : Shape := ⟨2, ![128, 8]⟩
abbrev S1x128x8x1 : Shape := ⟨4, ![1, 128, 8, 1]⟩
abbrev S1024x1024 : Shape := ⟨2, ![1024, 1024]⟩
abbrev S1x8192x1024 : Shape := ⟨3, ![1, 8192, 1024]⟩

abbrev nBuf : Space → Nat
  | .hbm => 529
  | .vmem => 0
  | .smem => 0
  | _ => 0

abbrev hbmTy0_0 (i : Nat) : BufTy := match i % 128 with
  | 0 => ⟨S4x8192x1024, .f32⟩
  | 1 => ⟨S8192x1024, .f32⟩
  | 2 => ⟨S8192x1024, .f32⟩
  | 3 => ⟨S1x1024, .f32⟩
  | 4 => ⟨S1x1024, .f32⟩
  | 5 => ⟨S1x1024, .f32⟩
  | 6 => ⟨S1x1024x2048, .f32⟩
  | 7 => ⟨S1x31x512, .f32⟩
  | 8 => ⟨S1x512, .f32⟩
  | 9 => ⟨S1x512, .f32⟩
  | 10 => ⟨S1x512, .f32⟩
  | 11 => ⟨S1x512, .f32⟩
  | 12 => ⟨S1x512, .f32⟩
  | 13 => ⟨S1x8x128x128, .f32⟩
  | 14 => ⟨S1x8x128, .f32⟩
  | 15 => ⟨S1x1024, .f32⟩
  | 16 => ⟨S1x1024x1024, .f32⟩
  | 17 => ⟨S1x1024, .f32⟩
  | 18 => ⟨S1x1024, .f32⟩
  | 19 => ⟨S1x1024, .f32⟩
  | 20 => ⟨S1x1024, .f32⟩
  | 21 => ⟨S8192x1024, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x1, .f32⟩
  | 32 => ⟨S8192x1024, .f32⟩
  | 33 => ⟨S8192x1024, .f32⟩
  | 34 => ⟨S8192x1024, .f32⟩
  | 35 => ⟨S8192x1024, .f32⟩
  | 36 => ⟨S_, .f32⟩
  | 37 => ⟨S1x1024, .f32⟩
  | 38 => ⟨S1x1024, .f32⟩
  | 39 => ⟨S8192x1024, .f32⟩
  | 40 => ⟨S8192x1024, .f32⟩
  | 41 => ⟨S8192x1024, .f32⟩
  | 42 => ⟨S8192x1024, .f32⟩
  | 43 => ⟨S1024x2048, .f32⟩
  | 44 => ⟨S8192x2048, .f32⟩
  | 45 => ⟨S8192x512, .f32⟩
  | 46 => ⟨S8192x512, .f32⟩
  | 47 => ⟨S8192x512, .f32⟩
  | 48 => ⟨S8192x512, .f32⟩
  | 49 => ⟨S8192x512, .f32⟩
  | 50 => ⟨S8192x512, .f32⟩
  | 51 => ⟨S_, .f32⟩
  | 52 => ⟨S8192x512, .f32⟩
  | 53 => ⟨S8192x512, .f32⟩
  | 54 => ⟨S_, .f32⟩
  | 55 => ⟨S8192x512, .f32⟩
  | 56 => ⟨S8192x512, .f32⟩
  | 57 => ⟨S8192x512, .f32⟩
  | 58 => ⟨S31x512, .f32⟩
  | 59 => ⟨S512, .f32⟩
  | 60 => ⟨S_, .f32⟩
  | 61 => ⟨S30x512, .f32⟩
  | 62 => ⟨S8222x512, .f32⟩
  | 63 => ⟨S1x512, .f32⟩
  | 64 => ⟨S512, .f32⟩
  | 65 => ⟨S8192x512, .f32⟩
  | 66 => ⟨S1x512, .f32⟩
  | 67 => ⟨S8192x512, .f32⟩
  | 68 => ⟨S8192x512, .f32⟩
  | 69 => ⟨S_, .f32⟩
  | 70 => ⟨S8192x512, .f32⟩
  | 71 => ⟨S8192x512, .f32⟩
  | 72 => ⟨S1x512, .f32⟩
  | 73 => ⟨S512, .f32⟩
  | 74 => ⟨S8192x512, .f32⟩
  | 75 => ⟨S1x512, .f32⟩
  | 76 => ⟨S8192x512, .f32⟩
  | 77 => ⟨S8192x512, .f32⟩
  | 78 => ⟨S8192x512, .f32⟩
  | 79 => ⟨S1x512, .f32⟩
  | 80 => ⟨S512, .f32⟩
  | 81 => ⟨S8192x512, .f32⟩
  | 82 => ⟨S1x512, .f32⟩
  | 83 => ⟨S8192x512, .f32⟩
  | 84 => ⟨S8192x512, .f32⟩
  | 85 => ⟨S8192x512, .f32⟩
  | 86 => ⟨S1x512, .f32⟩
  | 87 => ⟨S512, .f32⟩
  | 88 => ⟨S8192x512, .f32⟩
  | 89 => ⟨S1x512, .f32⟩
  | 90 => ⟨S8192x512, .f32⟩
  | 91 => ⟨S8192x512, .f32⟩
  | 92 => ⟨S8192x512, .f32⟩
  | 93 => ⟨S1x512, .f32⟩
  | 94 => ⟨S512, .f32⟩
  | 95 => ⟨S8192x512, .f32⟩
  | 96 => ⟨S1x512, .f32⟩
  | 97 => ⟨S8192x512, .f32⟩
  | 98 => ⟨S8192x512, .f32⟩
  | 99 => ⟨S8192x512, .f32⟩
  | 100 => ⟨S1x512, .f32⟩
  | 101 => ⟨S512, .f32⟩
  | 102 => ⟨S8192x512, .f32⟩
  | 103 => ⟨S1x512, .f32⟩
  | 104 => ⟨S8192x512, .f32⟩
  | 105 => ⟨S8192x512, .f32⟩
  | 106 => ⟨S8192x512, .f32⟩
  | 107 => ⟨S1x512, .f32⟩
  | 108 => ⟨S512, .f32⟩
  | 109 => ⟨S8192x512, .f32⟩
  | 110 => ⟨S1x512, .f32⟩
  | 111 => ⟨S8192x512, .f32⟩
  | 112 => ⟨S8192x512, .f32⟩
  | 113 => ⟨S8192x512, .f32⟩
  | 114 => ⟨S1x512, .f32⟩
  | 115 => ⟨S512, .f32⟩
  | 116 => ⟨S8192x512, .f32⟩
  | 117 => ⟨S1x512, .f32⟩
  | 118 => ⟨S8192x512, .f32⟩
  | 119 => ⟨S8192x512, .f32⟩
  | 120 => ⟨S8192x512, .f32⟩
  | 121 => ⟨S1x512, .f32⟩
  | 122 => ⟨S512, .f32⟩
  | 123 => ⟨S8192x512, .f32⟩
  | 124 => ⟨S1x512, .f32⟩
  | 125 => ⟨S8192x512, .f32⟩
  | 126 => ⟨S8192x512, .f32⟩
  | 127 => ⟨S8192x512, .f32⟩
  | _ => ⟨S4x8192x1024, .f32⟩

abbrev hbmTy0_1 (i : Nat) : BufTy := match i % 128 with
  | 0 => ⟨S1x512, .f32⟩
  | 1 => ⟨S512, .f32⟩
  | 2 => ⟨S8192x512, .f32⟩
  | 3 => ⟨S1x512, .f32⟩
  | 4 => ⟨S8192x512, .f32⟩
  | 5 => ⟨S8192x512, .f32⟩
  | 6 => ⟨S8192x512, .f32⟩
  | 7 => ⟨S1x512, .f32⟩
  | 8 => ⟨S512, .f32⟩
  | 9 => ⟨S8192x512, .f32⟩
  | 10 => ⟨S1x512, .f32⟩
  | 11 => ⟨S8192x512, .f32⟩
  | 12 => ⟨S8192x512, .f32⟩
  | 13 => ⟨S8192x512, .f32⟩
  | 14 => ⟨S1x512, .f32⟩
  | 15 => ⟨S512, .f32⟩
  | 16 => ⟨S8192x512, .f32⟩
  | 17 => ⟨S1x512, .f32⟩
  | 18 => ⟨S8192x512, .f32⟩
  | 19 => ⟨S8192x512, .f32⟩
  | 20 => ⟨S8192x512, .f32⟩
  | 21 => ⟨S1x512, .f32⟩
  | 22 => ⟨S512, .f32⟩
  | 23 => ⟨S8192x512, .f32⟩
  | 24 => ⟨S1x512, .f32⟩
  | 25 => ⟨S8192x512, .f32⟩
  | 26 => ⟨S8192x512, .f32⟩
  | 27 => ⟨S8192x512, .f32⟩
  | 28 => ⟨S1x512, .f32⟩
  | 29 => ⟨S512, .f32⟩
  | 30 => ⟨S8192x512, .f32⟩
  | 31 => ⟨S1x512, .f32⟩
  | 32 => ⟨S8192x512, .f32⟩
  | 33 => ⟨S8192x512, .f32⟩
  | 34 => ⟨S8192x512, .f32⟩
  | 35 => ⟨S1x512, .f32⟩
  | 36 => ⟨S512, .f32⟩
  | 37 => ⟨S8192x512, .f32⟩
  | 38 => ⟨S1x512, .f32⟩
  | 39 => ⟨S8192x512, .f32⟩
  | 40 => ⟨S8192x512, .f32⟩
  | 41 => ⟨S8192x512, .f32⟩
  | 42 => ⟨S1x512, .f32⟩
  | 43 => ⟨S512, .f32⟩
  | 44 => ⟨S8192x512, .f32⟩
  | 45 => ⟨S1x512, .f32⟩
  | 46 => ⟨S8192x512, .f32⟩
  | 47 => ⟨S8192x512, .f32⟩
  | 48 => ⟨S8192x512, .f32⟩
  | 49 => ⟨S1x512, .f32⟩
  | 50 => ⟨S512, .f32⟩
  | 51 => ⟨S8192x512, .f32⟩
  | 52 => ⟨S1x512, .f32⟩
  | 53 => ⟨S8192x512, .f32⟩
  | 54 => ⟨S8192x512, .f32⟩
  | 55 => ⟨S8192x512, .f32⟩
  | 56 => ⟨S1x512, .f32⟩
  | 57 => ⟨S512, .f32⟩
  | 58 => ⟨S8192x512, .f32⟩
  | 59 => ⟨S1x512, .f32⟩
  | 60 => ⟨S8192x512, .f32⟩
  | 61 => ⟨S8192x512, .f32⟩
  | 62 => ⟨S8192x512, .f32⟩
  | 63 => ⟨S1x512, .f32⟩
  | 64 => ⟨S512, .f32⟩
  | 65 => ⟨S8192x512, .f32⟩
  | 66 => ⟨S1x512, .f32⟩
  | 67 => ⟨S8192x512, .f32⟩
  | 68 => ⟨S8192x512, .f32⟩
  | 69 => ⟨S8192x512, .f32⟩
  | 70 => ⟨S1x512, .f32⟩
  | 71 => ⟨S512, .f32⟩
  | 72 => ⟨S8192x512, .f32⟩
  | 73 => ⟨S1x512, .f32⟩
  | 74 => ⟨S8192x512, .f32⟩
  | 75 => ⟨S8192x512, .f32⟩
  | 76 => ⟨S8192x512, .f32⟩
  | 77 => ⟨S1x512, .f32⟩
  | 78 => ⟨S512, .f32⟩
  | 79 => ⟨S8192x512, .f32⟩
  | 80 => ⟨S1x512, .f32⟩
  | 81 => ⟨S8192x512, .f32⟩
  | 82 => ⟨S8192x512, .f32⟩
  | 83 => ⟨S8192x512, .f32⟩
  | 84 => ⟨S1x512, .f32⟩
  | 85 => ⟨S512, .f32⟩
  | 86 => ⟨S8192x512, .f32⟩
  | 87 => ⟨S1x512, .f32⟩
  | 88 => ⟨S8192x512, .f32⟩
  | 89 => ⟨S8192x512, .f32⟩
  | 90 => ⟨S8192x512, .f32⟩
  | 91 => ⟨S1x512, .f32⟩
  | 92 => ⟨S512, .f32⟩
  | 93 => ⟨S8192x512, .f32⟩
  | 94 => ⟨S1x512, .f32⟩
  | 95 => ⟨S8192x512, .f32⟩
  | 96 => ⟨S8192x512, .f32⟩
  | 97 => ⟨S8192x512, .f32⟩
  | 98 => ⟨S1x512, .f32⟩
  | 99 => ⟨S512, .f32⟩
  | 100 => ⟨S8192x512, .f32⟩
  | 101 => ⟨S1x512, .f32⟩
  | 102 => ⟨S8192x512, .f32⟩
  | 103 => ⟨S8192x512, .f32⟩
  | 104 => ⟨S8192x512, .f32⟩
  | 105 => ⟨S1x512, .f32⟩
  | 106 => ⟨S512, .f32⟩
  | 107 => ⟨S8192x512, .f32⟩
  | 108 => ⟨S1x512, .f32⟩
  | 109 => ⟨S8192x512, .f32⟩
  | 110 => ⟨S8192x512, .f32⟩
  | 111 => ⟨S8192x512, .f32⟩
  | 112 => ⟨S1x512, .f32⟩
  | 113 => ⟨S512, .f32⟩
  | 114 => ⟨S8192x512, .f32⟩
  | 115 => ⟨S1x512, .f32⟩
  | 116 => ⟨S8192x512, .f32⟩
  | 117 => ⟨S8192x512, .f32⟩
  | 118 => ⟨S8192x512, .f32⟩
  | 119 => ⟨S1x512, .f32⟩
  | 120 => ⟨S512, .f32⟩
  | 121 => ⟨S8192x512, .f32⟩
  | 122 => ⟨S1x512, .f32⟩
  | 123 => ⟨S8192x512, .f32⟩
  | 124 => ⟨S8192x512, .f32⟩
  | 125 => ⟨S8192x512, .f32⟩
  | 126 => ⟨S1x512, .f32⟩
  | 127 => ⟨S512, .f32⟩
  | _ => ⟨S4x8192x1024, .f32⟩

abbrev hbmTy0_2 (i : Nat) : BufTy := match i % 128 with
  | 0 => ⟨S8192x512, .f32⟩
  | 1 => ⟨S1x512, .f32⟩
  | 2 => ⟨S8192x512, .f32⟩
  | 3 => ⟨S8192x512, .f32⟩
  | 4 => ⟨S8192x512, .f32⟩
  | 5 => ⟨S1x512, .f32⟩
  | 6 => ⟨S512, .f32⟩
  | 7 => ⟨S8192x512, .f32⟩
  | 8 => ⟨S1x512, .f32⟩
  | 9 => ⟨S8192x512, .f32⟩
  | 10 => ⟨S8192x512, .f32⟩
  | 11 => ⟨S8192x512, .f32⟩
  | 12 => ⟨S1x512, .f32⟩
  | 13 => ⟨S512, .f32⟩
  | 14 => ⟨S8192x512, .f32⟩
  | 15 => ⟨S1x512, .f32⟩
  | 16 => ⟨S8192x512, .f32⟩
  | 17 => ⟨S8192x512, .f32⟩
  | 18 => ⟨S8192x512, .f32⟩
  | 19 => ⟨S1x512, .f32⟩
  | 20 => ⟨S512, .f32⟩
  | 21 => ⟨S8192x512, .f32⟩
  | 22 => ⟨S1x512, .f32⟩
  | 23 => ⟨S8192x512, .f32⟩
  | 24 => ⟨S8192x512, .f32⟩
  | 25 => ⟨S8192x512, .f32⟩
  | 26 => ⟨S1x512, .f32⟩
  | 27 => ⟨S8192x512, .f32⟩
  | 28 => ⟨S8192x512, .f32⟩
  | 29 => ⟨S_, .f32⟩
  | 30 => ⟨S8192, .f32⟩
  | 31 => ⟨S8192x1, .f32⟩
  | 32 => ⟨S_, .f32⟩
  | 33 => ⟨S8192x1, .f32⟩
  | 34 => ⟨S8192x1, .f32⟩
  | 35 => ⟨S8192x512, .f32⟩
  | 36 => ⟨S8192x512, .f32⟩
  | 37 => ⟨S8192x512, .f32⟩
  | 38 => ⟨S_, .f32⟩
  | 39 => ⟨S8192, .f32⟩
  | 40 => ⟨S8192x1, .f32⟩
  | 41 => ⟨S_, .f32⟩
  | 42 => ⟨S8192x1, .f32⟩
  | 43 => ⟨S8192x1, .f32⟩
  | 44 => ⟨S_, .f32⟩
  | 45 => ⟨S8192x1, .f32⟩
  | 46 => ⟨S8192x1, .f32⟩
  | 47 => ⟨S8192x1, .f32⟩
  | 48 => ⟨S8192x512, .f32⟩
  | 49 => ⟨S8192x512, .f32⟩
  | 50 => ⟨S8192x512, .f32⟩
  | 51 => ⟨S8192x512, .f32⟩
  | 52 => ⟨S8192x512, .f32⟩
  | 53 => ⟨S8192x512, .f32⟩
  | 54 => ⟨S8192x512, .f32⟩
  | 55 => ⟨S8192x512, .f32⟩
  | 56 => ⟨S_, .f32⟩
  | 57 => ⟨S8192x512, .f32⟩
  | 58 => ⟨S8192x512, .f32⟩
  | 59 => ⟨S_, .f32⟩
  | 60 => ⟨S8192x512, .f32⟩
  | 61 => ⟨S8192x512, .f32⟩
  | 62 => ⟨S8192x512, .f32⟩
  | 63 => ⟨S8192x512, .f32⟩
  | 64 => ⟨S8192x512, .f32⟩
  | 65 => ⟨S_, .f32⟩
  | 66 => ⟨S8192x512, .f32⟩
  | 67 => ⟨S8192x512, .f32⟩
  | 68 => ⟨S8192x512, .f32⟩
  | 69 => ⟨S_, .f32⟩
  | 70 => ⟨S8192x512, .f32⟩
  | 71 => ⟨S8192x512, .f32⟩
  | 72 => ⟨S8192x512, .f32⟩
  | 73 => ⟨S_, .f32⟩
  | 74 => ⟨S8192x512, .f32⟩
  | 75 => ⟨S8192x512, .f32⟩
  | 76 => ⟨S_, .f32⟩
  | 77 => ⟨S8192x512, .f32⟩
  | 78 => ⟨S8192x512, .f32⟩
  | 79 => ⟨S8192x512, .f32⟩
  | 80 => ⟨S8192x512, .f32⟩
  | 81 => ⟨S8192x512, .f32⟩
  | 82 => ⟨S_, .f32⟩
  | 83 => ⟨S8192x512, .f32⟩
  | 84 => ⟨S8192x512, .f32⟩
  | 85 => ⟨S8192x512, .f32⟩
  | 86 => ⟨S_, .f32⟩
  | 87 => ⟨S8192x512, .f32⟩
  | 88 => ⟨S8192x512, .f32⟩
  | 89 => ⟨S8192x512, .f32⟩
  | 90 => ⟨S_, .f32⟩
  | 91 => ⟨S8192x512, .f32⟩
  | 92 => ⟨S8192x512, .f32⟩
  | 93 => ⟨S_, .f32⟩
  | 94 => ⟨S8192x512, .f32⟩
  | 95 => ⟨S8192x512, .f32⟩
  | 96 => ⟨S8192x512, .f32⟩
  | 97 => ⟨S_, .f32⟩
  | 98 => ⟨S8192, .f32⟩
  | 99 => ⟨S8192x1, .f32⟩
  | 100 => ⟨S_, .f32⟩
  | 101 => ⟨S8192x1, .f32⟩
  | 102 => ⟨S8192x1, .f32⟩
  | 103 => ⟨S8192x512, .f32⟩
  | 104 => ⟨S8192x512, .f32⟩
  | 105 => ⟨S8192x512, .f32⟩
  | 106 => ⟨S_, .f32⟩
  | 107 => ⟨S8192, .f32⟩
  | 108 => ⟨S8192x1, .f32⟩
  | 109 => ⟨S_, .f32⟩
  | 110 => ⟨S8192x1, .f32⟩
  | 111 => ⟨S8192x1, .f32⟩
  | 112 => ⟨S_, .f32⟩
  | 113 => ⟨S8192x1, .f32⟩
  | 114 => ⟨S8192x1, .f32⟩
  | 115 => ⟨S8192x1, .f32⟩
  | 116 => ⟨S8192x512, .f32⟩
  | 117 => ⟨S8192x512, .f32⟩
  | 118 => ⟨S8192x512, .f32⟩
  | 119 => ⟨S8192x512, .f32⟩
  | 120 => ⟨S8192x512, .f32⟩
  | 121 => ⟨S8192x512, .f32⟩
  | 122 => ⟨S64x128x8x64, .f32⟩
  | 123 => ⟨S8x128x128, .f32⟩
  | 124 => ⟨S_, .f32⟩
  | 125 => ⟨S128x128, .f32⟩
  | 126 => ⟨S128x128, .i32⟩
  | 127 => ⟨S_, .i32⟩
  | _ => ⟨S4x8192x1024, .f32⟩

abbrev hbmTy0_3 (i : Nat) : BufTy := match i % 128 with
  | 0 => ⟨S128x128, .i32⟩
  | 1 => ⟨S128x128, .i32⟩
  | 2 => ⟨S128x128, .i32⟩
  | 3 => ⟨S128x128, .i1⟩
  | 4 => ⟨S_, .f32⟩
  | 5 => ⟨S128x128, .f32⟩
  | 6 => ⟨S128x128, .f32⟩
  | 7 => ⟨S1x128x128, .f32⟩
  | 8 => ⟨S8x128x128, .f32⟩
  | 9 => ⟨S8x128x128, .f32⟩
  | 10 => ⟨S8x64x64x128, .f32⟩
  | 11 => ⟨S64x128x8x64, .f32⟩
  | 12 => ⟨S8x128, .f32⟩
  | 13 => ⟨S128x8, .f32⟩
  | 14 => ⟨S1x128x8x1, .f32⟩
  | 15 => ⟨S64x128x8x64, .f32⟩
  | 16 => ⟨S64x128x8x64, .f32⟩
  | 17 => ⟨S8192x512, .f32⟩
  | 18 => ⟨S8192x512, .f32⟩
  | 19 => ⟨S1x512, .f32⟩
  | 20 => ⟨S8192x512, .f32⟩
  | 21 => ⟨S_, .f32⟩
  | 22 => ⟨S8192, .f32⟩
  | 23 => ⟨S8192x1, .f32⟩
  | 24 => ⟨S_, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x1, .f32⟩
  | 31 => ⟨S8192x512, .f32⟩
  | 32 => ⟨S8192x512, .f32⟩
  | 33 => ⟨S8192x512, .f32⟩
  | 34 => ⟨S8192x512, .f32⟩
  | 35 => ⟨S1x512, .f32⟩
  | 36 => ⟨S8192x512, .f32⟩
  | 37 => ⟨S_, .f32⟩
  | 38 => ⟨S8192, .f32⟩
  | 39 => ⟨S8192x1, .f32⟩
  | 40 => ⟨S_, .f32⟩
  | 41 => ⟨S8192x1, .f32⟩
  | 42 => ⟨S8192x1, .f32⟩
  | 43 => ⟨S_, .f32⟩
  | 44 => ⟨S8192x1, .f32⟩
  | 45 => ⟨S8192x1, .f32⟩
  | 46 => ⟨S8192x1, .f32⟩
  | 47 => ⟨S8192x512, .f32⟩
  | 48 => ⟨S8192x512, .f32⟩
  | 49 => ⟨S8192x512, .f32⟩
  | 50 => ⟨S8192x512, .f32⟩
  | 51 => ⟨S8192x1024, .f32⟩
  | 52 => ⟨S1024x1024, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S_, .f32⟩
  | 59 => ⟨S8192, .f32⟩
  | 60 => ⟨S8192x1, .f32⟩
  | 61 => ⟨S_, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x1, .f32⟩
  | 68 => ⟨S8192x1024, .f32⟩
  | 69 => ⟨S8192x1024, .f32⟩
  | 70 => ⟨S8192x1024, .f32⟩
  | 71 => ⟨S8192x1024, .f32⟩
  | 72 => ⟨S_, .f32⟩
  | 73 => ⟨S1x1024, .f32⟩
  | 74 => ⟨S1x1024, .f32⟩
  | 75 => ⟨S8192x1024, .f32⟩
  | 76 => ⟨S8192x1024, .f32⟩
  | 77 => ⟨S8192x1024, .f32⟩
  | 78 => ⟨S8192x1024, .f32⟩
  | 79 => ⟨S8192x1024, .bf16⟩
  | 80 => ⟨S8192x1024, .f32⟩
  | 81 => ⟨S8192x1024, .f32⟩
  | 82 => ⟨S8192x1024, .f32⟩
  | 83 => ⟨S8192x1024, .f32⟩
  | 84 => ⟨S_, .f32⟩
  | 85 => ⟨S8192, .f32⟩
  | 86 => ⟨S8192x1, .f32⟩
  | 87 => ⟨S_, .f32⟩
  | 88 => ⟨S8192x1, .f32⟩
  | 89 => ⟨S8192x1, .f32⟩
  | 90 => ⟨S_, .f32⟩
  | 91 => ⟨S8192x1, .f32⟩
  | 92 => ⟨S8192x1, .f32⟩
  | 93 => ⟨S8192x1, .f32⟩
  | 94 => ⟨S8192x1, .f32⟩
  | 95 => ⟨S_, .f32⟩
  | 96 => ⟨S8192x1, .f32⟩
  | 97 => ⟨S8192x1, .f32⟩
  | 98 => ⟨S8192x1024, .f32⟩
  | 99 => ⟨S8192x1024, .f32⟩
  | 100 => ⟨S8192x1024, .f32⟩
  | 101 => ⟨S8192x1024, .f32⟩
  | 102 => ⟨S_, .f32⟩
  | 103 => ⟨S1x1024, .f32⟩
  | 104 => ⟨S1x1024, .f32⟩
  | 105 => ⟨S8192x1024, .f32⟩
  | 106 => ⟨S8192x1024, .f32⟩
  | 107 => ⟨S8192x1024, .f32⟩
  | 108 => ⟨S8192x1024, .f32⟩
  | 109 => ⟨S1x8192x1024, .f32⟩
  | 110 => ⟨S8192x1024, .f32⟩
  | 111 => ⟨S1x8192x1024, .f32⟩
  | 112 => ⟨S8192x1024, .f32⟩
  | 113 => ⟨S8192x1024, .f32⟩
  | 114 => ⟨S1x8192x1024, .f32⟩
  | 115 => ⟨S8192x1024, .f32⟩
  | 116 => ⟨S8192x1024, .f32⟩
  | 117 => ⟨S1x8192x1024, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S8192x1024, .f32⟩
  | 124 => ⟨S8192x1024, .f32⟩
  | 125 => ⟨S_, .f32⟩
  | 126 => ⟨S8192, .f32⟩
  | 127 => ⟨S8192x1, .f32⟩
  | _ => ⟨S4x8192x1024, .f32⟩

abbrev hbmTy0_4 (i : Nat) : BufTy := match i % 128 with
  | 0 => ⟨S8192x1024, .f32⟩
  | 1 => ⟨S8192x1024, .f32⟩
  | 2 => ⟨S8192x1024, .f32⟩
  | 3 => ⟨S8192x1, .f32⟩
  | 4 => ⟨S_, .f32⟩
  | 5 => ⟨S8192x1, .f32⟩
  | 6 => ⟨S8192x1, .f32⟩
  | 7 => ⟨S_, .f32⟩
  | 8 => ⟨S8192, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .bf16⟩
  | _ => ⟨S4x8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_cst_0 : Ref sig .tc := ⟨.hbm, 25, rfl⟩
abbrev main_v3 : Ref sig .tc := ⟨.hbm, 26, rfl⟩
abbrev main_v4 : Ref sig .tc := ⟨.hbm, 27, rfl⟩
abbrev main_cst_1 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_2 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩
abbrev main_cst_4 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩
abbrev main_v237 : Ref sig .tc := ⟨.hbm, 266, rfl⟩
abbrev main_v238 : Ref sig .tc := ⟨.hbm, 267, rfl⟩
abbrev main_v239 : Ref sig .tc := ⟨.hbm, 268, rfl⟩
abbrev main_v240 : Ref sig .tc := ⟨.hbm, 269, rfl⟩
abbrev main_v241 : Ref sig .tc := ⟨.hbm, 270, rfl⟩
abbrev main_v242 : Ref sig .tc := ⟨.hbm, 271, rfl⟩
abbrev main_v243 : Ref sig .tc := ⟨.hbm, 272, rfl⟩
abbrev main_v244 : Ref sig .tc := ⟨.hbm, 273, rfl⟩
abbrev main_v245 : Ref sig .tc := ⟨.hbm, 274, rfl⟩
abbrev main_v246 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_v255 : Ref sig .tc := ⟨.hbm, 284, rfl⟩
abbrev main_cst_7 : Ref sig .tc := ⟨.hbm, 285, rfl⟩
abbrev main_v256 : Ref sig .tc := ⟨.hbm, 286, rfl⟩
abbrev main_v257 : Ref sig .tc := ⟨.hbm, 287, rfl⟩
abbrev main_cst_8 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_cst_9 : Ref sig .tc := ⟨.hbm, 294, rfl⟩
abbrev main_v263 : Ref sig .tc := ⟨.hbm, 295, rfl⟩
abbrev main_v264 : Ref sig .tc := ⟨.hbm, 296, rfl⟩
abbrev main_cst_10 : Ref sig .tc := ⟨.hbm, 297, rfl⟩
abbrev main_v265 : Ref sig .tc := ⟨.hbm, 298, rfl⟩
abbrev main_v266 : Ref sig .tc := ⟨.hbm, 299, rfl⟩
abbrev main_cst_11 : Ref sig .tc := ⟨.hbm, 300, rfl⟩
abbrev main_v267 : Ref sig .tc := ⟨.hbm, 301, rfl⟩
abbrev main_v268 : Ref sig .tc := ⟨.hbm, 302, rfl⟩
abbrev main_v269 : Ref sig .tc := ⟨.hbm, 303, rfl⟩
abbrev main_v270 : Ref sig .tc := ⟨.hbm, 304, rfl⟩
abbrev main_v271 : Ref sig .tc := ⟨.hbm, 305, rfl⟩
abbrev main_v272 : Ref sig .tc := ⟨.hbm, 306, rfl⟩
abbrev main_v273 : Ref sig .tc := ⟨.hbm, 307, rfl⟩
abbrev main_v274 : Ref sig .tc := ⟨.hbm, 308, rfl⟩
abbrev main_v275 : Ref sig .tc := ⟨.hbm, 309, rfl⟩
abbrev main_call0_v0 : Ref sig .tc := ⟨.hbm, 310, rfl⟩
abbrev main_call0_v1 : Ref sig .tc := ⟨.hbm, 311, rfl⟩
abbrev main_call0_cst : Ref sig .tc := ⟨.hbm, 312, rfl⟩
abbrev main_call0_v2 : Ref sig .tc := ⟨.hbm, 313, rfl⟩
abbrev main_call0_v3 : Ref sig .tc := ⟨.hbm, 314, rfl⟩
abbrev main_call0_cst_0 : Ref sig .tc := ⟨.hbm, 315, rfl⟩
abbrev main_call0_v4 : Ref sig .tc := ⟨.hbm, 316, rfl⟩
abbrev main_call0_v5 : Ref sig .tc := ⟨.hbm, 317, rfl⟩
abbrev main_v276 : Ref sig .tc := ⟨.hbm, 318, rfl⟩
abbrev main_v277 : Ref sig .tc := ⟨.hbm, 319, rfl⟩
abbrev main_v278 : Ref sig .tc := ⟨.hbm, 320, rfl⟩
abbrev main_cst_12 : Ref sig .tc := ⟨.hbm, 321, rfl⟩
abbrev main_v279 : Ref sig .tc := ⟨.hbm, 322, rfl⟩
abbrev main_v280 : Ref sig .tc := ⟨.hbm, 323, rfl⟩
abbrev main_v281 : Ref sig .tc := ⟨.hbm, 324, rfl⟩
abbrev main_cst_13 : Ref sig .tc := ⟨.hbm, 325, rfl⟩
abbrev main_v282 : Ref sig .tc := ⟨.hbm, 326, rfl⟩
abbrev main_v283 : Ref sig .tc := ⟨.hbm, 327, rfl⟩
abbrev main_v284 : Ref sig .tc := ⟨.hbm, 328, rfl⟩
abbrev main_cst_14 : Ref sig .tc := ⟨.hbm, 329, rfl⟩
abbrev main_v285 : Ref sig .tc := ⟨.hbm, 330, rfl⟩
abbrev main_v286 : Ref sig .tc := ⟨.hbm, 331, rfl⟩
abbrev main_cst_15 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩
abbrev main_v291 : Ref sig .tc := ⟨.hbm, 337, rfl⟩
abbrev main_cst_16 : Ref sig .tc := ⟨.hbm, 338, rfl⟩
abbrev main_v292 : Ref sig .tc := ⟨.hbm, 339, rfl⟩
abbrev main_v293 : Ref sig .tc := ⟨.hbm, 340, rfl⟩
abbrev main_v294 : Ref sig .tc := ⟨.hbm, 341, rfl⟩
abbrev main_cst_17 : Ref sig .tc := ⟨.hbm, 342, rfl⟩
abbrev main_v295 : Ref sig .tc := ⟨.hbm, 343, rfl⟩
abbrev main_v296 : Ref sig .tc := ⟨.hbm, 344, rfl⟩
abbrev main_v297 : Ref sig .tc := ⟨.hbm, 345, rfl⟩
abbrev main_cst_18 : Ref sig .tc := ⟨.hbm, 346, rfl⟩
abbrev main_v298 : Ref sig .tc := ⟨.hbm, 347, rfl⟩
abbrev main_v299 : Ref sig .tc := ⟨.hbm, 348, rfl⟩
abbrev main_cst_19 : Ref sig .tc := ⟨.hbm, 349, rfl⟩
abbrev main_v300 : Ref sig .tc := ⟨.hbm, 350, rfl⟩
abbrev main_v301 : Ref sig .tc := ⟨.hbm, 351, rfl⟩
abbrev main_v302 : Ref sig .tc := ⟨.hbm, 352, rfl⟩
abbrev main_cst_20 : Ref sig .tc := ⟨.hbm, 353, rfl⟩
abbrev main_v303 : Ref sig .tc := ⟨.hbm, 354, rfl⟩
abbrev main_v304 : Ref sig .tc := ⟨.hbm, 355, rfl⟩
abbrev main_cst_21 : Ref sig .tc := ⟨.hbm, 356, rfl⟩
abbrev main_v305 : Ref sig .tc := ⟨.hbm, 357, rfl⟩
abbrev main_v306 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_cst_22 : Ref sig .tc := ⟨.hbm, 362, rfl⟩
abbrev main_v310 : Ref sig .tc := ⟨.hbm, 363, rfl⟩
abbrev main_v311 : Ref sig .tc := ⟨.hbm, 364, rfl⟩
abbrev main_cst_23 : Ref sig .tc := ⟨.hbm, 365, rfl⟩
abbrev main_v312 : Ref sig .tc := ⟨.hbm, 366, rfl⟩
abbrev main_v313 : Ref sig .tc := ⟨.hbm, 367, rfl⟩
abbrev main_cst_24 : Ref sig .tc := ⟨.hbm, 368, rfl⟩
abbrev main_v314 : Ref sig .tc := ⟨.hbm, 369, rfl⟩
abbrev main_v315 : Ref sig .tc := ⟨.hbm, 370, rfl⟩
abbrev main_v316 : Ref sig .tc := ⟨.hbm, 371, rfl⟩
abbrev main_v317 : Ref sig .tc := ⟨.hbm, 372, rfl⟩
abbrev main_v318 : Ref sig .tc := ⟨.hbm, 373, rfl⟩
abbrev main_v319 : Ref sig .tc := ⟨.hbm, 374, rfl⟩
abbrev main_v320 : Ref sig .tc := ⟨.hbm, 375, rfl⟩
abbrev main_v321 : Ref sig .tc := ⟨.hbm, 376, rfl⟩
abbrev main_v322 : Ref sig .tc := ⟨.hbm, 377, rfl⟩
abbrev main_v323 : Ref sig .tc := ⟨.hbm, 378, rfl⟩
abbrev main_v324 : Ref sig .tc := ⟨.hbm, 379, rfl⟩
abbrev main_cst_25 : Ref sig .tc := ⟨.hbm, 380, rfl⟩
abbrev main_v325 : Ref sig .tc := ⟨.hbm, 381, rfl⟩
abbrev main_call1_v0 : Ref sig .tc := ⟨.hbm, 382, rfl⟩
abbrev main_call1_c : Ref sig .tc := ⟨.hbm, 383, rfl⟩
abbrev main_call1_v1 : Ref sig .tc := ⟨.hbm, 384, rfl⟩
abbrev main_call1_v2 : Ref sig .tc := ⟨.hbm, 385, rfl⟩
abbrev main_call1_v3 : Ref sig .tc := ⟨.hbm, 386, rfl⟩
abbrev main_call1_v4 : Ref sig .tc := ⟨.hbm, 387, rfl⟩
abbrev main_call1_cst : Ref sig .tc := ⟨.hbm, 388, rfl⟩
abbrev main_call1_v5 : Ref sig .tc := ⟨.hbm, 389, rfl⟩
abbrev main_v326 : Ref sig .tc := ⟨.hbm, 390, rfl⟩
abbrev main_v327 : Ref sig .tc := ⟨.hbm, 391, rfl⟩
abbrev main_v328 : Ref sig .tc := ⟨.hbm, 392, rfl⟩
abbrev main_v329 : Ref sig .tc := ⟨.hbm, 393, rfl⟩
abbrev main_v330 : Ref sig .tc := ⟨.hbm, 394, rfl⟩
abbrev main_v331 : Ref sig .tc := ⟨.hbm, 395, rfl⟩
abbrev main_v332 : Ref sig .tc := ⟨.hbm, 396, rfl⟩
abbrev main_v333 : Ref sig .tc := ⟨.hbm, 397, rfl⟩
abbrev main_v334 : Ref sig .tc := ⟨.hbm, 398, rfl⟩
abbrev main_v335 : Ref sig .tc := ⟨.hbm, 399, rfl⟩
abbrev main_v336 : Ref sig .tc := ⟨.hbm, 400, rfl⟩
abbrev main_v337 : Ref sig .tc := ⟨.hbm, 401, rfl⟩
abbrev main_v338 : Ref sig .tc := ⟨.hbm, 402, rfl⟩
abbrev main_v339 : Ref sig .tc := ⟨.hbm, 403, rfl⟩
abbrev main_v340 : Ref sig .tc := ⟨.hbm, 404, rfl⟩
abbrev main_cst_26 : Ref sig .tc := ⟨.hbm, 405, rfl⟩
abbrev main_v341 : Ref sig .tc := ⟨.hbm, 406, rfl⟩
abbrev main_v342 : Ref sig .tc := ⟨.hbm, 407, rfl⟩
abbrev main_cst_27 : Ref sig .tc := ⟨.hbm, 408, rfl⟩
abbrev main_v343 : Ref sig .tc := ⟨.hbm, 409, rfl⟩
abbrev main_v344 : Ref sig .tc := ⟨.hbm, 410, rfl⟩
abbrev main_cst_28 : Ref sig .tc := ⟨.hbm, 411, rfl⟩
abbrev main_v345 : Ref sig .tc := ⟨.hbm, 412, rfl⟩
abbrev main_v346 : Ref sig .tc := ⟨.hbm, 413, rfl⟩
abbrev main_v347 : Ref sig .tc := ⟨.hbm, 414, rfl⟩
abbrev main_v348 : Ref sig .tc := ⟨.hbm, 415, rfl⟩
abbrev main_v349 : Ref sig .tc := ⟨.hbm, 416, rfl⟩
abbrev main_v350 : Ref sig .tc := ⟨.hbm, 417, rfl⟩
abbrev main_v351 : Ref sig .tc := ⟨.hbm, 418, rfl⟩
abbrev main_v352 : Ref sig .tc := ⟨.hbm, 419, rfl⟩
abbrev main_v353 : Ref sig .tc := ⟨.hbm, 420, rfl⟩
abbrev main_cst_29 : Ref sig .tc := ⟨.hbm, 421, rfl⟩
abbrev main_v354 : Ref sig .tc := ⟨.hbm, 422, rfl⟩
abbrev main_v355 : Ref sig .tc := ⟨.hbm, 423, rfl⟩
abbrev main_cst_30 : Ref sig .tc := ⟨.hbm, 424, rfl⟩
abbrev main_v356 : Ref sig .tc := ⟨.hbm, 425, rfl⟩
abbrev main_v357 : Ref sig .tc := ⟨.hbm, 426, rfl⟩
abbrev main_cst_31 : Ref sig .tc := ⟨.hbm, 427, rfl⟩
abbrev main_v358 : Ref sig .tc := ⟨.hbm, 428, rfl⟩
abbrev main_v359 : Ref sig .tc := ⟨.hbm, 429, rfl⟩
abbrev main_v360 : Ref sig .tc := ⟨.hbm, 430, rfl⟩
abbrev main_v361 : Ref sig .tc := ⟨.hbm, 431, rfl⟩
abbrev main_v362 : Ref sig .tc := ⟨.hbm, 432, rfl⟩
abbrev main_v363 : Ref sig .tc := ⟨.hbm, 433, rfl⟩
abbrev main_v364 : Ref sig .tc := ⟨.hbm, 434, rfl⟩
abbrev main_v365 : Ref sig .tc := ⟨.hbm, 435, rfl⟩
abbrev main_v366 : Ref sig .tc := ⟨.hbm, 436, rfl⟩
abbrev main_v367 : Ref sig .tc := ⟨.hbm, 437, rfl⟩
abbrev main_v368 : Ref sig .tc := ⟨.hbm, 438, rfl⟩
abbrev main_v369 : Ref sig .tc := ⟨.hbm, 439, rfl⟩
abbrev main_v370 : Ref sig .tc := ⟨.hbm, 440, rfl⟩
abbrev main_v371 : Ref sig .tc := ⟨.hbm, 441, rfl⟩
abbrev main_cst_32 : Ref sig .tc := ⟨.hbm, 442, rfl⟩
abbrev main_v372 : Ref sig .tc := ⟨.hbm, 443, rfl⟩
abbrev main_v373 : Ref sig .tc := ⟨.hbm, 444, rfl⟩
abbrev main_cst_33 : Ref sig .tc := ⟨.hbm, 445, rfl⟩
abbrev main_v374 : Ref sig .tc := ⟨.hbm, 446, rfl⟩
abbrev main_v375 : Ref sig .tc := ⟨.hbm, 447, rfl⟩
abbrev main_cst_34 : Ref sig .tc := ⟨.hbm, 448, rfl⟩
abbrev main_v376 : Ref sig .tc := ⟨.hbm, 449, rfl⟩
abbrev main_v377 : Ref sig .tc := ⟨.hbm, 450, rfl⟩
abbrev main_v378 : Ref sig .tc := ⟨.hbm, 451, rfl⟩
abbrev main_v379 : Ref sig .tc := ⟨.hbm, 452, rfl⟩
abbrev main_v380 : Ref sig .tc := ⟨.hbm, 453, rfl⟩
abbrev main_v381 : Ref sig .tc := ⟨.hbm, 454, rfl⟩
abbrev main_v382 : Ref sig .tc := ⟨.hbm, 455, rfl⟩
abbrev main_cst_35 : Ref sig .tc := ⟨.hbm, 456, rfl⟩
abbrev main_v383 : Ref sig .tc := ⟨.hbm, 457, rfl⟩
abbrev main_v384 : Ref sig .tc := ⟨.hbm, 458, rfl⟩
abbrev main_v385 : Ref sig .tc := ⟨.hbm, 459, rfl⟩
abbrev main_v386 : Ref sig .tc := ⟨.hbm, 460, rfl⟩
abbrev main_v387 : Ref sig .tc := ⟨.hbm, 461, rfl⟩
abbrev main_v388 : Ref sig .tc := ⟨.hbm, 462, rfl⟩
abbrev main_v389 : Ref sig .tc := ⟨.hbm, 463, rfl⟩
abbrev main_v390 : Ref sig .tc := ⟨.hbm, 464, rfl⟩
abbrev main_v391 : Ref sig .tc := ⟨.hbm, 465, rfl⟩
abbrev main_v392 : Ref sig .tc := ⟨.hbm, 466, rfl⟩
abbrev main_v393 : Ref sig .tc := ⟨.hbm, 467, rfl⟩
abbrev main_cst_36 : Ref sig .tc := ⟨.hbm, 468, rfl⟩
abbrev main_v394 : Ref sig .tc := ⟨.hbm, 469, rfl⟩
abbrev main_v395 : Ref sig .tc := ⟨.hbm, 470, rfl⟩
abbrev main_cst_37 : Ref sig .tc := ⟨.hbm, 471, rfl⟩
abbrev main_v396 : Ref sig .tc := ⟨.hbm, 472, rfl⟩
abbrev main_v397 : Ref sig .tc := ⟨.hbm, 473, rfl⟩
abbrev main_cst_38 : Ref sig .tc := ⟨.hbm, 474, rfl⟩
abbrev main_v398 : Ref sig .tc := ⟨.hbm, 475, rfl⟩
abbrev main_v399 : Ref sig .tc := ⟨.hbm, 476, rfl⟩
abbrev main_v400 : Ref sig .tc := ⟨.hbm, 477, rfl⟩
abbrev main_v401 : Ref sig .tc := ⟨.hbm, 478, rfl⟩
abbrev main_cst_39 : Ref sig .tc := ⟨.hbm, 479, rfl⟩
abbrev main_v402 : Ref sig .tc := ⟨.hbm, 480, rfl⟩
abbrev main_v403 : Ref sig .tc := ⟨.hbm, 481, rfl⟩
abbrev main_v404 : Ref sig .tc := ⟨.hbm, 482, rfl⟩
abbrev main_v405 : Ref sig .tc := ⟨.hbm, 483, rfl⟩
abbrev main_v406 : Ref sig .tc := ⟨.hbm, 484, rfl⟩
abbrev main_v407 : Ref sig .tc := ⟨.hbm, 485, rfl⟩
abbrev main_cst_40 : Ref sig .tc := ⟨.hbm, 486, rfl⟩
abbrev main_v408 : Ref sig .tc := ⟨.hbm, 487, rfl⟩
abbrev main_v409 : Ref sig .tc := ⟨.hbm, 488, rfl⟩
abbrev main_v410 : Ref sig .tc := ⟨.hbm, 489, rfl⟩
abbrev main_v411 : Ref sig .tc := ⟨.hbm, 490, rfl⟩
abbrev main_v412 : Ref sig .tc := ⟨.hbm, 491, rfl⟩
abbrev main_v413 : Ref sig .tc := ⟨.hbm, 492, rfl⟩
abbrev main_v414 : Ref sig .tc := ⟨.hbm, 493, rfl⟩
abbrev main_v415 : Ref sig .tc := ⟨.hbm, 494, rfl⟩
abbrev main_v416 : Ref sig .tc := ⟨.hbm, 495, rfl⟩
abbrev main_v417 : Ref sig .tc := ⟨.hbm, 496, rfl⟩
abbrev main_v418 : Ref sig .tc := ⟨.hbm, 497, rfl⟩
abbrev main_v419 : Ref sig .tc := ⟨.hbm, 498, rfl⟩
abbrev main_v420 : Ref sig .tc := ⟨.hbm, 499, rfl⟩
abbrev main_v421 : Ref sig .tc := ⟨.hbm, 500, rfl⟩
abbrev main_v422 : Ref sig .tc := ⟨.hbm, 501, rfl⟩
abbrev main_v423 : Ref sig .tc := ⟨.hbm, 502, rfl⟩
abbrev main_v424 : Ref sig .tc := ⟨.hbm, 503, rfl⟩
abbrev main_v425 : Ref sig .tc := ⟨.hbm, 504, rfl⟩
abbrev main_v426 : Ref sig .tc := ⟨.hbm, 505, rfl⟩
abbrev main_v427 : Ref sig .tc := ⟨.hbm, 506, rfl⟩
abbrev main_v428 : Ref sig .tc := ⟨.hbm, 507, rfl⟩
abbrev main_v429 : Ref sig .tc := ⟨.hbm, 508, rfl⟩
abbrev main_cst_41 : Ref sig .tc := ⟨.hbm, 509, rfl⟩
abbrev main_v430 : Ref sig .tc := ⟨.hbm, 510, rfl⟩
abbrev main_v431 : Ref sig .tc := ⟨.hbm, 511, rfl⟩
abbrev main_v432 : Ref sig .tc := ⟨.hbm, 512, rfl⟩
abbrev main_v433 : Ref sig .tc := ⟨.hbm, 513, rfl⟩
abbrev main_v434 : Ref sig .tc := ⟨.hbm, 514, rfl⟩
abbrev main_v435 : Ref sig .tc := ⟨.hbm, 515, rfl⟩
abbrev main_cst_42 : Ref sig .tc := ⟨.hbm, 516, rfl⟩
abbrev main_v436 : Ref sig .tc := ⟨.hbm, 517, rfl⟩
abbrev main_v437 : Ref sig .tc := ⟨.hbm, 518, rfl⟩
abbrev main_cst_43 : Ref sig .tc := ⟨.hbm, 519, rfl⟩
abbrev main_v438 : Ref sig .tc := ⟨.hbm, 520, rfl⟩
abbrev main_v439 : Ref sig .tc := ⟨.hbm, 521, rfl⟩
abbrev main_v440 : Ref sig .tc := ⟨.hbm, 522, rfl⟩
abbrev main_v441 : Ref sig .tc := ⟨.hbm, 523, rfl⟩
abbrev main_v442 : Ref sig .tc := ⟨.hbm, 524, rfl⟩
abbrev main_v443 : Ref sig .tc := ⟨.hbm, 525, rfl⟩
abbrev main_v444 : Ref sig .tc := ⟨.hbm, 526, rfl⟩
abbrev main_v445 : Ref sig .tc := ⟨.hbm, 527, rfl⟩
abbrev main_v446 : Ref sig .tc := ⟨.hbm, 528, rfl⟩

abbrev nD : Nat := 1
abbrev τ : Topo := Topo.v7x

variable {F : FTy → Type} [FloatOps F]
-- ==== Proof.Gates.lean ====
/- The logistic function as a hyperbolic tangent, over the extended reals. -/
module

public import Idealize.ShloMosaic.Lib.Pointwise
public import Mathlib.Analysis.SpecialFunctions.Trigonometric.DerivHyp
public import Mathlib.Tactic.FieldSimp
public import Mathlib.Tactic.Ring
public import Mathlib.Tactic.Positivity

@[expose] public section

noncomputable section

open Idealize.ShloMosaic

namespace Gates

/-- The word of one half is one half. -/
theorem half_word : Ideal.ofBits FTy.f32 1056964608#32 = ((1 / 2 : ℝ) : EReal) := by
  simp [Ideal.ofBits, Ideal.ieee, -EReal.coe_mul]
  norm_num

/-- `tanh (x/2) / 2 + 1/2` is the logistic function of a real. -/
theorem real_half_tanh (x : ℝ) : (1 / 2 : ℝ) * Real.tanh (1 / 2 * x) + 1 / 2 = (1 + Real.exp (-x))⁻¹ := by
  rw [Real.tanh_eq_sinh_div_cosh, Real.sinh_eq, Real.cosh_eq]
  have h : Real.exp (-x) = Real.exp (-(1 / 2 * x)) ^ 2 := by
    rw [← Real.exp_nat_mul]; congr 1; push_cast; ring
  have h2 : Real.exp (1 / 2 * x) = (Real.exp (-(1 / 2 * x)))⁻¹ := by rw [← Real.exp_neg, neg_neg]
  rw [h, h2]
  have hp := Real.exp_pos (-(1 / 2 * x))
  generalize Real.exp (-(1 / 2 * x)) = e at *
  have : (0 : ℝ) < 1 + e ^ 2 := by positivity
  field_simp
  ring

/-- `tanh (x/2) / 2 + 1/2` is the logistic function, at the infinities too. -/
theorem half_tanh (x : EReal) :
    Ideal.ofBits FTy.f32 1056964608#32 * Ideal.tanh (Ideal.ofBits FTy.f32 1056964608#32 * x)
      + Ideal.ofBits FTy.f32 1056964608#32 = Ideal.logistic x := by
  rw [half_word]
  induction x with
  | bot =>
    rw [EReal.coe_mul_bot_of_pos (by norm_num), Ideal.tanh_bot, Ideal.logistic_bot]
    have : (-1 : EReal) = ((-1 : ℝ) : EReal) := by simp
    rw [this, ← EReal.coe_mul, ← EReal.coe_add]; norm_num
  | top =>
    rw [EReal.coe_mul_top_of_pos (by norm_num), Ideal.tanh_top, Ideal.logistic_top, mul_one, ← EReal.coe_add]; norm_num
  | coe r =>
    rw [← EReal.coe_mul, Ideal.tanh_coe, ← EReal.coe_mul, ← EReal.coe_add, Ideal.logistic_coe, real_half_tanh]

/-- The reference writes the logistic function as a quotient. -/
theorem div_one_add_exp (x : EReal) : Ideal.div 1 (1 + Ideal.exp (-x)) = Ideal.logistic x := rfl

end Gates

end
-- ==== Proof.AdaValue.lean ====
/- The call `ada_grad_adam`: the gradient of `silu(c) @ w_ada` in `w_ada`, one row block of 256 at a time, and AdamW's
   step with it. Each block that the kernel writes is the block of the reference's array. -/
module

public import proofs.«01_k».proof.Proof.Gen.KernelIdeal.Frame
public import proofs.«01_k».proof.Proof.Gen.ReferenceIdeal.Run
public import Idealize.ShloMosaic.Lib.Pipeline.ValueKit
public import Idealize.ShloMosaic.Lib.Pointwise
public import proofs.«01_k».proof.Proof.Gates

@[expose] public section

set_option maxRecDepth 16384

noncomputable section

open Idealize.ShloMosaic Idealize.ShloMosaic.TcCoe Idealize.SL.Sem
open Idealize.ShloMosaic.Pipeline (Dat)

namespace Cert.KernelIdeal.AdaValue

open Cert.KernelIdeal Cert.KernelIdeal.Gen

variable (m : (ℓ : Loc nD τ sig) → Buf (Elt Ideal) ℓ)

/-- The gradient of `silu(c) @ w` in `w`, as the reference composes it. -/
def G (c : FVec Ideal Cert.ReferenceIdeal.S8x1024 .f32) (dm : FVec Ideal Cert.ReferenceIdeal.S8x768 .f32) :
    FVec Ideal Cert.ReferenceIdeal.S1x1024x768 .f32 :=
  broadcastInDim Cert.ReferenceIdeal.S1x1024x768 ![1, 2] Cert.ReferenceIdeal.Gen.bcast_S1024x768_S1x1024x768_1_2 (transpose Cert.ReferenceIdeal.S1024x768 [1, 0] (Host.dotGeneral Cert.ReferenceIdeal.dot_S8x768_S8x1024_S768x1024_0_0_1_1_n_n none dm (mulf c (Host.divf (broadcastInDim Cert.ReferenceIdeal.S8x1024 ![] Cert.ReferenceIdeal.Gen.bcast_S_S8x1024 (constant Cert.ReferenceIdeal.S_ .f32 0x3F800000#32)) (addf (broadcastInDim Cert.ReferenceIdeal.S8x1024 ![] Cert.ReferenceIdeal.Gen.bcast_S_S8x1024 (constant Cert.ReferenceIdeal.S_ .f32 0x3F800000#32)) (Host.exp (Host.negf c)))))) Cert.ReferenceIdeal.Gen.transposes_S768x1024_S1024x768_1_0)

/-- The block index of each window at a grid point. -/
theorem idx_val : ∀ t : Fin cfg0.N, win0_0.index t = ![t.val, 0]
    ∧ win0_1.index t = ![0, 0]
    ∧ win0_2.index t = ![0, t.val, 0]
    ∧ win0_3.index t = ![0, t.val, 0]
    ∧ win0_4.index t = ![0, t.val, 0]
    ∧ win0_5.index t = ![0, t.val, 0]
    ∧ win0_6.index t = ![0, t.val, 0]
    ∧ win0_7.index t = ![0, t.val, 0]
    ∧ win0_8.index t = ![0, t.val, 0] :=
  (by decide +kernel : ∀ t : Fin grid0.N, _)

/-- The gradient block of a grid point is the reference's block. -/
theorem point_grad (c : Dev nD) (t : Fin cfg0.N) (y : S1x256x768.Idx) :
    k0_pay8 (k0_pay12 (iblk m c 0 t) (iblk m c 1 t) (iblk m c 2 t) (iblk m c 3 t) (iblk m c 4 t))
      (k0_pay13 (iblk m c 0 t) (iblk m c 1 t) (iblk m c 2 t) (iblk m c 3 t) (iblk m c 4 t))
      (k0_pay14 (iblk m c 0 t) (iblk m c 1 t) (iblk m c 2 t) (iblk m c 3 t) (iblk m c 4 t))
      (View.ld (iblk m c 1 t) r0_6) (View.ld (iblk m c 1 t) r0_7) (View.ld (iblk m c 1 t) r0_8) y
    = G (m ((c : Thread nD τ).loc main_arg0)) (m ((c : Thread nD τ).loc main_arg1)) (((cfg0.win 5).blk t).view.emb y) := by
  pointwise [k0_pay8, k0_pay12, k0_pay13, k0_pay14, k0_pay4, k0_pay5, k0_pay6, k0_pay7, G]
  rw [Fin.sum_univ_eight]
  set_option backward.isDefEq.respectTransparency false in
  simp only [Gates.half_tanh, Gates.div_one_add_exp]
  blk_point [iblk, V, idx_val t]

/-- A constant word over the whole array of `w_ada`'s shape. -/
abbrev word (w : BitVec 32) : FVec Ideal Cert.ReferenceIdeal.S1x1024x768 .f32 :=
  broadcastInDim Cert.ReferenceIdeal.S1x1024x768 ![] Cert.ReferenceIdeal.Gen.bcast_S_S1x1024x768
    (constant (F := Ideal) Cert.ReferenceIdeal.S_ .f32 w)

/-- AdamW's new first moment, from the gradient and the old one. -/
def newM (g mo : FVec Ideal Cert.ReferenceIdeal.S1x1024x768 .f32) : FVec Ideal Cert.ReferenceIdeal.S1x1024x768 .f32 :=
  addf (mulf (word 0x3F666666#32) mo) (mulf (word 0x3DCCCCCD#32) g)

/-- AdamW's new second moment, from the gradient and the old one. -/
def newV (g ve : FVec Ideal Cert.ReferenceIdeal.S1x1024x768 .f32) : FVec Ideal Cert.ReferenceIdeal.S1x1024x768 .f32 :=
  addf (mulf (word 0x3F7FBE77#32) ve) (mulf (word 0x3A83126F#32) (mulf g g))

/-- AdamW's step, from the new moments and the weight. -/
def step (mo ve w : FVec Ideal Cert.ReferenceIdeal.S1x1024x768 .f32) : FVec Ideal Cert.ReferenceIdeal.S1x1024x768 .f32 :=
  mulf (word 0xBA83126F#32) (addf (Host.divf (Host.divf mo (word 0x3F26BD02#32))
    (addf (Host.sqrt (Host.divf ve (word 0x3C231ACC#32))) (word 0x322BCC77#32))) (mulf (word 0x3C23D70A#32) w))

/-- The gradient block before its leading axis of length one is added. -/
theorem point_sum (c : Dev nD) (t : Fin cfg0.N) (y : S1x256x768.Idx) :
    k0_pay7 (k0_pay12 (iblk m c 0 t) (iblk m c 1 t) (iblk m c 2 t) (iblk m c 3 t) (iblk m c 4 t))
      (k0_pay13 (iblk m c 0 t) (iblk m c 1 t) (iblk m c 2 t) (iblk m c 3 t) (iblk m c 4 t))
      (k0_pay14 (iblk m c 0 t) (iblk m c 1 t) (iblk m c 2 t) (iblk m c 3 t) (iblk m c 4 t))
      (View.ld (iblk m c 1 t) r0_6) (View.ld (iblk m c 1 t) r0_7) (View.ld (iblk m c 1 t) r0_8) (ix2 (y 1) (y 2))
    = G (m ((c : Thread nD τ).loc main_arg0)) (m ((c : Thread nD τ).loc main_arg1)) (((cfg0.win 5).blk t).view.emb y) := by
  rw [← point_grad m c t y]
  pointwise [k0_pay8]

/-- The first moment's block. -/
theorem point_m (c : Dev nD) (t : Fin cfg0.N) (y : S1x256x768.Idx) :
    k0_pay2 (k0_pay15 (iblk m c 0 t) (iblk m c 1 t) (iblk m c 2 t) (iblk m c 3 t) (iblk m c 4 t)) y
    = newM (G (m ((c : Thread nD τ).loc main_arg0)) (m ((c : Thread nD τ).loc main_arg1)))
        (m ((c : Thread nD τ).loc main_arg3)) (((cfg0.win 7).blk t).view.emb y) := by
  pointwise [k0_pay2, k0_pay15, k0_pay10, newM]
  set_option backward.isDefEq.respectTransparency false in
  erw [point_sum m c t y]
  blk_point [iblk, V, idx_val t]

/-- The second moment's block. -/
theorem point_v (c : Dev nD) (t : Fin cfg0.N) (y : S1x256x768.Idx) :
    k0_pay3 (k0_pay16 (iblk m c 0 t) (iblk m c 1 t) (iblk m c 2 t) (iblk m c 3 t) (iblk m c 4 t)) y
    = newV (G (m ((c : Thread nD τ).loc main_arg0)) (m ((c : Thread nD τ).loc main_arg1)))
        (m ((c : Thread nD τ).loc main_arg4)) (((cfg0.win 8).blk t).view.emb y) := by
  pointwise [k0_pay3, k0_pay16, k0_pay11, newV]
  set_option backward.isDefEq.respectTransparency false in
  erw [point_sum m c t y]
  blk_point [iblk, V, idx_val t]

/-- The step's block. -/
theorem point_d (c : Dev nD) (t : Fin cfg0.N) (y : S1x256x768.Idx) :
    k0_pay1 (k0_pay9 (iblk m c 2 t))
      (k0_pay15 (iblk m c 0 t) (iblk m c 1 t) (iblk m c 2 t) (iblk m c 3 t) (iblk m c 4 t))
      (k0_pay16 (iblk m c 0 t) (iblk m c 1 t) (iblk m c 2 t) (iblk m c 3 t) (iblk m c 4 t))
      (FloatOps.ofBits FTy.f32 0x3F26BD02#32) y
    = step (newM (G (m ((c : Thread nD τ).loc main_arg0)) (m ((c : Thread nD τ).loc main_arg1)))
          (m ((c : Thread nD τ).loc main_arg3)))
        (newV (G (m ((c : Thread nD τ).loc main_arg0)) (m ((c : Thread nD τ).loc main_arg1)))
          (m ((c : Thread nD τ).loc main_arg4))) (m ((c : Thread nD τ).loc main_arg2))
        (((cfg0.win 6).blk t).view.emb y) := by
  pointwise [k0_pay1, k0_pay9, k0_pay15, k0_pay16, k0_pay10, k0_pay11, newM, newV, step]
  set_option backward.isDefEq.respectTransparency false in
  erw [point_sum m c t y]
  blk_point [iblk, V, idx_val t]

/-- The gradient of `w_ada` after the run. -/
theorem final_g (c : Dev nD) : (dats m 0 c).arrAt 5 (cfgs 0).N
    = G (m ((c : Thread nD τ).loc main_arg0)) (m ((c : Thread nD τ).loc main_arg1)) := by
  refine (dats m 0 c).arrAt_eq_of_covers 5 _ (by decide +kernel) fun t hf y => ?_
  blk_simp; rw [after0_5]; frame_out
  exact point_grad m c t y

/-- AdamW's step of `w_ada` after the run. -/
theorem final_d (c : Dev nD) : (dats m 0 c).arrAt 6 (cfgs 0).N
    = step (newM (G (m ((c : Thread nD τ).loc main_arg0)) (m ((c : Thread nD τ).loc main_arg1)))
          (m ((c : Thread nD τ).loc main_arg3)))
        (newV (G (m ((c : Thread nD τ).loc main_arg0)) (m ((c : Thread nD τ).loc main_arg1)))
          (m ((c : Thread nD τ).loc main_arg4))) (m ((c : Thread nD τ).loc main_arg2)) := by
  refine (dats m 0 c).arrAt_eq_of_covers 6 _ (by decide +kernel) fun t hf y => ?_
  blk_simp; rw [after0_6]; frame_out
  exact point_d m c t y

/-- The new first moment of `w_ada` after the run. -/
theorem final_m (c : Dev nD) : (dats m 0 c).arrAt 7 (cfgs 0).N
    = newM (G (m ((c : Thread nD τ).loc main_arg0)) (m ((c : Thread nD τ).loc main_arg1)))
        (m ((c : Thread nD τ).loc main_arg3)) := by
  refine (dats m 0 c).arrAt_eq_of_covers 7 _ (by decide +kernel) fun t hf y => ?_
  blk_simp; rw [after0_7]; frame_out
  exact point_m m c t y

/-- The new second moment of `w_ada` after the run. -/
theorem final_v (c : Dev nD) : (dats m 0 c).arrAt 8 (cfgs 0).N
    = newV (G (m ((c : Thread nD τ).loc main_arg0)) (m ((c : Thread nD τ).loc main_arg1)))
        (m ((c : Thread nD τ).loc main_arg4)) := by
  refine (dats m 0 c).arrAt_eq_of_covers 8 _ (by decide +kernel) fun t hf y => ?_
  blk_simp; rw [after0_8]; frame_out
  exact point_v m c t y

end Cert.KernelIdeal.AdaValue

end
-- ==== Proof.Ada.lean ====
/- The value claim about `ada_grad_adam`: what the call leaves in each of its four arrays is what the reference leaves. -/
module

public import proofs.«01_k».proof.Defs
public import proofs.«01_k».proof.Proof.AdaValue
public import proofs.«01_k».proof.Proof.Gen.ReferenceIdeal.Run
public import Idealize.ShloMosaic.Lib.Claim

@[expose] public section

noncomputable section

namespace Cert.Ada

open Idealize.ShloMosaic Idealize.SL.Sem

/-- The gradient of `w_ada`, AdamW's step and its two new moments are the reference's. -/
theorem algebraic : Cert.algebraic_KernelIdeal_ReferenceIdeal := by
  pair_intro
  · run_from Cert.KernelIdeal.Gen.run_main m g
  · refine (θ_run _ _ _).mono (fun r h c => ?_) (Cert.ReferenceIdeal.Value.run (F := Ideal) m' g')
    obtain ⟨a0, a1, a2, a3, a4⟩ := hagree c
    obtain ⟨hg, hd, hm, hv, hr⟩ := h c
    refine ⟨hg.trans ?_, hd.trans ?_, hm.trans ?_, hv.trans ?_, hr⟩ <;> rw [a0, a1] <;> try rw [a3]
    · exact (Cert.KernelIdeal.AdaValue.final_g m c).symm
    · rw [a2, a4]
      exact (Cert.KernelIdeal.AdaValue.final_d m c).symm
    · exact (Cert.KernelIdeal.AdaValue.final_m m c).symm
    · rw [a4]
      exact (Cert.KernelIdeal.AdaValue.final_v m c).symm

/-- The reference ends with every semaphore counter at zero. -/
theorem frame_reference : Cert.quiescent_ReferenceIdeal := fun m ρ _ =>
  (θ_run _ _ _).mono (fun r h => ⟨fun c => (h c).2.2.2.2, sem_eq_zero_of_no_sems (by decide) r.2⟩)
    (Cert.ReferenceIdeal.Value.run (F := Ideal) m ρ)

end Cert.Ada

end
-- ==== Proof.FfnMath.lean ====
/- The gradient of the gated convolutional feed-forward layer, entry by entry over the extended reals: `pre = h @ w_up`, a
   causal convolution of three taps along the rows, the halves `val` and `gate`, and `gt * ((silu(gate) * val) @ w_down)`. -/
module

public import Idealize.ShloMosaic.Lib.Pointwise

@[expose] public section

set_option maxRecDepth 16384

noncomputable section

open Idealize.ShloMosaic

namespace Cert.Ffn

/-- The layer's arguments and the gradient of its result. -/
structure In where
  /-- the layer's input -/
  h : Fin 8192 → Fin 1024 → EReal
  /-- the weight of the first product -/
  wu : Fin 1024 → Fin 5632 → EReal
  /-- the taps of the convolution -/
  cw : Fin 3 → Fin 5632 → EReal
  /-- its bias -/
  cb : Fin 5632 → EReal
  /-- the weight of the second product -/
  wd : Fin 2816 → Fin 1024 → EReal
  /-- the factor of each column of the result -/
  gt : Fin 1024 → EReal
  /-- the gradient of the result -/
  dx : Fin 8192 → Fin 1024 → EReal

/-- A column of the first half. -/
def lo (k : Fin 2816) : Fin 5632 := ⟨k.val, by omega⟩
/-- A column of the second half. -/
def hi (k : Fin 2816) : Fin 5632 := ⟨2816 + k.val, by omega⟩

/-- A column moved down by `s` rows: zeros come in at the top. -/
def back (s : ℕ) (f : Fin 8192 → EReal) (n : Fin 8192) : EReal :=
  if h : n.val < s then 0 else f ⟨n.val - s, by omega⟩

/-- A column moved up by `s` rows: zeros come in at the bottom. -/
def fwd (s : ℕ) (f : Fin 8192 → EReal) (n : Fin 8192) : EReal :=
  if h : n.val + s < 8192 then f ⟨n.val + s, h⟩ else 0

namespace In

variable (A : In)

/-- `h @ w_up` -/
def pre (n : Fin 8192) (c : Fin 5632) : EReal := ∑ d : Fin 1024, A.h n d * A.wu d c

/-- the causal convolution of `pre` -/
def conv (n : Fin 8192) (c : Fin 5632) : EReal :=
  A.cb c + A.cw 0 c * back 2 (fun r => A.pre r c) n + A.cw 1 c * back 1 (fun r => A.pre r c) n + A.cw 2 c * A.pre n c

/-- the half that is multiplied by the gate -/
def val (n : Fin 8192) (k : Fin 2816) : EReal := A.conv n (lo k)
/-- the gate's argument -/
def gate (n : Fin 8192) (k : Fin 2816) : EReal := A.conv n (hi k)
/-- the gate's logistic -/
def sg (n : Fin 8192) (k : Fin 2816) : EReal := Ideal.logistic (A.gate n k)
/-- the gate: `silu` -/
def sl (n : Fin 8192) (k : Fin 2816) : EReal := A.gate n k * A.sg n k
/-- the gradient of the second product -/
def do2 (n : Fin 8192) (d : Fin 1024) : EReal := A.dx n d * A.gt d
/-- the gradient of `silu(gate) * val` -/
def df (n : Fin 8192) (k : Fin 2816) : EReal := ∑ d : Fin 1024, A.do2 n d * A.wd k d
/-- the gradient of `val` -/
def dval (n : Fin 8192) (k : Fin 2816) : EReal := A.df n k * A.sl n k
/-- the gradient of `gate` -/
def dgate (n : Fin 8192) (k : Fin 2816) : EReal :=
  A.df n k * A.val n k * (A.sg n k * (1 + A.gate n k * (1 - A.sg n k)))
/-- the gradient of the convolution's result -/
def dup (n : Fin 8192) (c : Fin 5632) : EReal :=
  if h : c.val < 2816 then A.dval n ⟨c.val, h⟩ else A.dgate n ⟨c.val - 2816, by omega⟩
/-- the gradient of `pre` -/
def dpre (n : Fin 8192) (c : Fin 5632) : EReal :=
  A.cw 0 c * fwd 2 (fun r => A.dup r c) n + A.cw 1 c * fwd 1 (fun r => A.dup r c) n + A.cw 2 c * A.dup n c

/-- the gradient of `h` -/
def gH (n : Fin 8192) (d : Fin 1024) : EReal := ∑ c : Fin 5632, A.dpre n c * A.wu d c
/-- the gradient of `w_up` -/
def gUp (d : Fin 1024) (c : Fin 5632) : EReal := ∑ n : Fin 8192, A.h n d * A.dpre n c
/-- the gradient of the taps -/
def gCw (j : Fin 3) (c : Fin 5632) : EReal := ∑ n : Fin 8192, fwd (2 - j.val) (fun r => A.dup r c) n * A.pre n c
/-- the gradient of the bias -/
def gCb (c : Fin 5632) : EReal := ∑ n : Fin 8192, A.dup n c
/-- the gradient of `w_down` -/
def gDown (k : Fin 2816) (d : Fin 1024) : EReal := ∑ n : Fin 8192, A.sl n k * A.val n k * A.do2 n d

theorem dup_lo (n : Fin 8192) (k : Fin 2816) : A.dup n (lo k) = A.dval n k := by
  have h : (lo k).val < 2816 := k.isLt
  simp only [dup, h, dif_pos]
  rfl

theorem dup_hi (n : Fin 8192) (k : Fin 2816) : A.dup n (hi k) = A.dgate n k := by
  have h : ¬ (hi k).val < 2816 := by simp [hi]
  have e : (⟨(hi k).val - 2816, by omega⟩ : Fin 2816) = k := Fin.ext (by simp [hi])
  simp only [dup, h, dif_neg, not_false_eq_true, e]

end In

end Cert.Ffn

end
-- ==== Proof.Reals.lean ====
/- Extended reals that are real numbers: sums, products and the logistic of them are real numbers, and a product with a
   sum of them distributes. -/
module

public import Idealize.ShloMosaic.Lib.Pointwise
public import Idealize.ShloMosaic.Lib.ReduceAll
public import Mathlib.Tactic.Ring

@[expose] public section

noncomputable section

open Idealize.ShloMosaic

namespace Cert

/-- The extended real is a real number. -/
def IsReal (x : EReal) : Prop := ∃ r : ℝ, x = r

namespace IsReal

theorem zero : IsReal 0 := ⟨0, rfl⟩
theorem one : IsReal 1 := ⟨1, rfl⟩

theorem add {x y : EReal} (hx : IsReal x) (hy : IsReal y) : IsReal (x + y) := by
  obtain ⟨a, rfl⟩ := hx
  obtain ⟨b, rfl⟩ := hy
  exact ⟨a + b, (EReal.coe_add a b).symm⟩

theorem mul {x y : EReal} (hx : IsReal x) (hy : IsReal y) : IsReal (x * y) := by
  obtain ⟨a, rfl⟩ := hx
  obtain ⟨b, rfl⟩ := hy
  exact ⟨a * b, (EReal.coe_mul a b).symm⟩

theorem sub {x y : EReal} (hx : IsReal x) (hy : IsReal y) : IsReal (x - y) := by
  obtain ⟨a, rfl⟩ := hx
  obtain ⟨b, rfl⟩ := hy
  exact ⟨a - b, (EReal.coe_sub a b).symm⟩

theorem sum {ι : Type} (s : Finset ι) {f : ι → EReal} (h : ∀ i, IsReal (f i)) : IsReal (∑ i ∈ s, f i) :=
  Finset.sum_induction f IsReal (fun _ _ => add) zero fun i _ => h i

theorem logistic {x : EReal} (hx : IsReal x) : IsReal (Ideal.logistic x) := by
  obtain ⟨a, rfl⟩ := hx
  refine ⟨1 / (1 + Real.exp (-a)), ?_⟩
  have h : (1 + Real.exp (-a)) ≠ 0 := (add_pos zero_lt_one (Real.exp_pos _)).ne'
  rw [Ideal.logistic, ← EReal.coe_neg, Ideal.exp_coe, ← EReal.coe_one, ← EReal.coe_add, Ideal.div_coe h, ← EReal.coe_mul, one_mul]

/-- An absolute value below `+∞` is that of a real number. -/
theorem of_abs_lt_top {x : EReal} (h : max x (-x) < ⊤) : IsReal x := by
  induction x with
  | bot => simp at h
  | top => simp at h
  | coe a => exact ⟨a, rfl⟩

/-- The word of `+∞`. -/
theorem top_word : Ideal.ofBits FTy.f32 0x7F800000#32 = ⊤ := by simp [Ideal.ofBits, Ideal.ieee]

/-- An array all of whose absolute values are below `+∞` holds real numbers. -/
theorem of_all {z s t u : Shape} {axes : List (Fin s.rank)} [Subsingleton t.Idx] (x : FVec Ideal s .f32) (init : u.Idx → BitVec 1)
    {ds : Fin z.rank → Fin s.rank} (hb : z.BroadcastsInDim s ds) (h : s.ReducesTo axes t) (hu : 0 < u.numel) (j : t.Idx)
    (e : Host.reduce IntOp.andi (cmpf .olt (Host.absf x) (broadcastInDim s ds hb (constant (F := Ideal) z .f32 0x7F800000#32)))
      init h hu j = 1#1) (i : s.Idx) : IsReal (x i : EReal) := by
  have h1 := Host.reduce_andi_all _ _ _ _ j e i
  refine of_abs_lt_top ?_
  have h2 : Ideal.cmp .olt (max (x i : EReal) (-(x i : EReal))) (Ideal.ofBits FTy.f32 0x7F800000#32) = 1#1 := h1
  rw [top_word] at h2
  by_contra hn
  simp [Ideal.cmp, hn] at h2

end IsReal

end Cert

end
-- ==== Proof.FfnReal.lean ====
/- The gradient of the gate of the feed-forward layer for finite arguments, in the two ways of writing it down. -/
module

public import proofs.«01_k».proof.Proof.FfnMath
public import proofs.«01_k».proof.Proof.Reals

@[expose] public section

set_option maxRecDepth 16384

noncomputable section

open Idealize.ShloMosaic

namespace Cert.Ffn.In

variable {A : In}

/-- Every argument is a real number. -/
structure Real (A : In) : Prop where
  h : ∀ n d, IsReal (A.h n d)
  wu : ∀ d c, IsReal (A.wu d c)
  cw : ∀ j c, IsReal (A.cw j c)
  cb : ∀ c, IsReal (A.cb c)
  wd : ∀ k d, IsReal (A.wd k d)
  gt : ∀ d, IsReal (A.gt d)
  dx : ∀ n d, IsReal (A.dx n d)

theorem real_back {f : Fin 8192 → EReal} (hf : ∀ n, IsReal (f n)) (s : ℕ) (n : Fin 8192) : IsReal (back s f n) := by
  unfold back
  split
  · exact IsReal.zero
  · exact hf _

theorem Real.pre (hA : A.Real) (n : Fin 8192) (c : Fin 5632) : IsReal (A.pre n c) :=
  IsReal.sum _ fun d => (hA.h n d).mul (hA.wu d c)

theorem Real.conv (hA : A.Real) (n : Fin 8192) (c : Fin 5632) : IsReal (A.conv n c) :=
  (((hA.cb c).add ((hA.cw 0 c).mul (real_back (fun r => hA.pre r c) 2 n))).add
    ((hA.cw 1 c).mul (real_back (fun r => hA.pre r c) 1 n))).add ((hA.cw 2 c).mul (hA.pre n c))

theorem Real.df (hA : A.Real) (n : Fin 8192) (k : Fin 2816) : IsReal (A.df n k) :=
  IsReal.sum _ fun d => ((hA.dx n d).mul (hA.gt d)).mul (hA.wd k d)

/-- The gate's gradient, the product of its argument's derivative multiplied out. -/
theorem Real.dgate (hA : A.Real) (n : Fin 8192) (k : Fin 2816) :
    A.dgate n k = A.df n k * A.val n k * A.sg n k
      + A.gate n k * (A.df n k * A.val n k) * (A.sg n k * (1 - A.sg n k)) := by
  obtain ⟨d, hd⟩ := (hA.df n k).mul (hA.conv n (lo k))
  obtain ⟨g, hg⟩ := hA.conv n (hi k)
  obtain ⟨s, hs⟩ := IsReal.logistic (hA.conv n (hi k))
  have e1 : A.df n k * A.val n k = d := hd
  have e2 : A.gate n k = g := hg
  have e3 : A.sg n k = s := hs
  rw [In.dgate, e1, e2, e3]
  simp only [← EReal.coe_one, ← EReal.coe_add, ← EReal.coe_mul, ← EReal.coe_sub]
  congr 1
  ring

end Cert.Ffn.In

end
-- ==== Proof.FfnRef.lean ====
/- The reference's values of `bwd_ffn`, line by line: each array that the derivative of the feed-forward layer passes
   through, as a function of the arrays before it, and what it holds at an index. -/
module

public import proofs.«01_k».proof.Proof.FfnReal
public import proofs.«01_k».proof.Proof.Gates
public import proofs.«01_k».proof.Proof.Gen.Reference2Ideal.Run
public import Idealize.ShloMosaic.Lib.Claim

@[expose] public section

set_option maxRecDepth 16384

noncomputable section

open Idealize.ShloMosaic Idealize.ShloMosaic.TcCoe Idealize.SL.Sem

namespace Cert.Reference2Ideal.FfnRef

open Cert.Reference2Ideal Cert.Reference2Ideal.Gen

/-- An array of floats over the reals. -/
local notation "V" => fun s : Shape => FVec Ideal s FTy.f32

/-- `h @ w_up` -/
def rPre (h : V S8192x1024) (wu : V S1x1024x5632) : V S8192x5632 :=
  Host.dotGeneral dot_S8192x1024_S1024x5632_S8192x5632_1_0_0_1_n_n none h (shapeCast _ wu shapeCasts_S1x1024x5632_S1024x5632)

/-- two rows of zeros before `pre` -/
def rExt (p : V S8192x5632) : V S8194x5632 :=
  concatenate S8194x5632 0 [⟨S2x5632, (broadcastInDim S2x5632 ![] bcast_S_S2x5632 (constant S_ .f32 0x00000000#32))⟩, ⟨S8192x5632, p⟩]
    concatenates_S2x5632_S8192x5632_S8194x5632_d0

def rBack0 (p : V S8192x5632) : V S8192x5632 := extractStridedSlice S8192x5632 ![0, 0] (rExt p) slices_S8194x5632_S8192x5632_0_0
def rBack1 (p : V S8192x5632) : V S8192x5632 := extractStridedSlice S8192x5632 ![1, 0] (rExt p) slices_S8194x5632_S8192x5632_1_0
def rBack2 (p : V S8192x5632) : V S8192x5632 := extractStridedSlice S8192x5632 ![2, 0] (rExt p) slices_S8194x5632_S8192x5632_2_0

/-- a row, repeated down the rows -/
def rRow (v : V S5632) : V S8192x5632 :=
  broadcastInDim S8192x5632 ![0, 1] bcast_S1x5632_S8192x5632_0_1 (broadcastInDim S1x5632 ![1] bcast_S5632_S1x5632_1 v)

def rTap0 (cw : V S1x3x5632) : V S5632 := shapeCast _ (extractStridedSlice S1x5632 ![0, 0]
  (shapeCast _ cw shapeCasts_S1x3x5632_S3x5632) slices_S3x5632_S1x5632_0_0) shapeCasts_S1x5632_S5632
def rTap1 (cw : V S1x3x5632) : V S5632 := shapeCast _ (extractStridedSlice S1x5632 ![1, 0]
  (shapeCast _ cw shapeCasts_S1x3x5632_S3x5632) slices_S3x5632_S1x5632_1_0) shapeCasts_S1x5632_S5632
def rTap2 (cw : V S1x3x5632) : V S5632 := shapeCast _ (extractStridedSlice S1x5632 ![2, 0]
  (shapeCast _ cw shapeCasts_S1x3x5632_S3x5632) slices_S3x5632_S1x5632_2_0) shapeCasts_S1x5632_S5632

/-- the convolution -/
def rConv (p : V S8192x5632) (cw : V S1x3x5632) (cb : V S1x5632) : V S8192x5632 :=
  addf (addf (addf (addf (broadcastInDim S8192x5632 ![] bcast_S_S8192x5632 (constant S_ .f32 0x00000000#32))
    (mulf (rRow (rTap0 cw)) (rBack0 p))) (mulf (rRow (rTap1 cw)) (rBack1 p))) (mulf (rRow (rTap2 cw)) (rBack2 p)))
    (rRow (shapeCast _ cb shapeCasts_S1x5632_S5632))

def rVal (u : V S8192x5632) : V S8192x2816 := extractStridedSlice S8192x2816 ![0, 0] u slices_S8192x5632_S8192x2816_0_0
def rGate (u : V S8192x5632) : V S8192x2816 := extractStridedSlice S8192x2816 ![0, 2816] u slices_S8192x5632_S8192x2816_0_2816

def rOnes : V S8192x2816 := broadcastInDim S8192x2816 ![] bcast_S_S8192x2816 (constant S_ .f32 0x3F800000#32)

/-- the logistic, as the host writes it -/
def rSig (g : V S8192x2816) : V S8192x2816 := Host.divf rOnes (addf rOnes (Host.exp (Host.negf g)))

/-- the gradient of the second product -/
def rDo (gt : V S1x1024) (dx : V S8192x1024) : V S8192x1024 :=
  mulf (broadcastInDim S8192x1024 ![0, 1] bcast_S1x1024_S8192x1024_0_1 gt) dx

def rDf (d : V S8192x1024) (wd : V S1x2816x1024) : V S8192x2816 :=
  Host.dotGeneral dot_S8192x1024_S2816x1024_S8192x2816_1_1_0_0_n_n none d (shapeCast _ wd shapeCasts_S1x2816x1024_S2816x1024)

/-- the gradient of the gate's argument -/
def rDgate (sg g f : V S8192x2816) : V S8192x2816 :=
  addf (mulf f sg) (mulf (mulf g f) (mulf sg (subf rOnes sg)))

def rJoin (a b : V S8192x2816) : V S8192x5632 :=
  concatenate S8192x5632 1 [⟨S8192x2816, a⟩, ⟨S8192x2816, b⟩] concatenates_S8192x2816_S8192x2816_S8192x5632_d1

def rZero : V S_ := constant S_ .f32 0x00000000#32

/-- the gradient of `pre` -/
def rDpre (cw : V S1x3x5632) (u : V S8192x5632) : V S8192x5632 :=
  extractStridedSlice S8192x5632 ![2, 0] (addf (addf
    (pad S8194x5632 ![2, 0] ![0, 0] ![0, 0] (mulf (rRow (rTap2 cw)) u) rZero pads_S8192x5632_S8194x5632_200_000 h_S_)
    (pad S8194x5632 ![1, 0] ![1, 0] ![0, 0] (mulf (rRow (rTap1 cw)) u) rZero pads_S8192x5632_S8194x5632_110_000 h_S_))
    (pad S8194x5632 ![0, 0] ![2, 0] ![0, 0] (mulf (rRow (rTap0 cw)) u) rZero pads_S8192x5632_S8194x5632_020_000 h_S_))
    slices_S8194x5632_S8192x5632_2_0

/-- the sum over the rows -/
def rSum (u : V S8192x5632) : V S5632 :=
  Host.reduceAdd (shapeCast _ (Host.reduceAdd u rZero reducesTo_S8192x5632_S5632_d0 h_S_) shapeCasts_S5632_S1x5632) rZero
    reducesTo_S1x5632_S5632_d0 h_S_

def rUp1 (v : V S5632) : V S1x5632 := broadcastInDim S1x5632 ![1] bcast_S5632_S1x5632_1 v

def rGcw (u p : V S8192x5632) : V S1x3x5632 :=
  broadcastInDim S1x3x5632 ![1, 2] bcast_S3x5632_S1x3x5632_1_2 (addf (addf
    (pad S3x5632 ![2, 0] ![0, 0] ![0, 0] (rUp1 (rSum (mulf u (rBack2 p)))) rZero pads_S1x5632_S3x5632_200_000 h_S_)
    (pad S3x5632 ![1, 0] ![1, 0] ![0, 0] (rUp1 (rSum (mulf u (rBack1 p)))) rZero pads_S1x5632_S3x5632_110_000 h_S_))
    (pad S3x5632 ![0, 0] ![2, 0] ![0, 0] (rUp1 (rSum (mulf u (rBack0 p)))) rZero pads_S1x5632_S3x5632_020_000 h_S_))

def rGdown (d : V S8192x1024) (f : V S8192x2816) : V S1x2816x1024 :=
  broadcastInDim S1x2816x1024 ![1, 2] bcast_S2816x1024_S1x2816x1024_1_2 (transpose S2816x1024 [1, 0]
    (Host.dotGeneral dot_S8192x1024_S8192x2816_S1024x2816_0_0_1_1_n_n none d f) transposes_S1024x2816_S2816x1024_1_0)

def rGup (dp : V S8192x5632) (h : V S8192x1024) : V S1x1024x5632 :=
  broadcastInDim S1x1024x5632 ![1, 2] bcast_S1024x5632_S1x1024x5632_1_2 (transpose S1024x5632 [1, 0]
    (Host.dotGeneral dot_S8192x5632_S8192x1024_S5632x1024_0_0_1_1_n_n none dp h) transposes_S5632x1024_S1024x5632_1_0)

def rGh (dp : V S8192x5632) (wu : V S1x1024x5632) : V S8192x1024 :=
  Host.dotGeneral dot_S8192x5632_S1024x5632_S8192x1024_1_1_0_0_n_n none dp (shapeCast _ wu shapeCasts_S1x1024x5632_S1024x5632)

section Run

variable (m : (ℓ : Loc nD τ sig) → Buf (Elt Ideal) ℓ) (c : Dev nD)

abbrev aH : V S8192x1024 := m ((c.tc : Thread nD τ).loc main_arg0)
abbrev aWu : V S1x1024x5632 := m ((c.tc : Thread nD τ).loc main_arg1)
abbrev aCw : V S1x3x5632 := m ((c.tc : Thread nD τ).loc main_arg2)
abbrev aCb : V S1x5632 := m ((c.tc : Thread nD τ).loc main_arg3)
abbrev aWd : V S1x2816x1024 := m ((c.tc : Thread nD τ).loc main_arg4)
abbrev aGt : V S1x1024 := m ((c.tc : Thread nD τ).loc main_arg5)
abbrev aDx : V S8192x1024 := m ((c.tc : Thread nD τ).loc main_arg6)

def xPre : V S8192x5632 := rPre (aH m c) (aWu m c)
def xConv : V S8192x5632 := rConv (xPre m c) (aCw m c) (aCb m c)
def xVal : V S8192x2816 := rVal (xConv m c)
def xGate : V S8192x2816 := rGate (xConv m c)
def xSig : V S8192x2816 := rSig (xGate m c)
def xSl : V S8192x2816 := mulf (xGate m c) (xSig m c)
def xDo : V S8192x1024 := rDo (aGt m c) (aDx m c)
def xDf : V S8192x2816 := rDf (xDo m c) (aWd m c)
def xDup : V S8192x5632 :=
  rJoin (mulf (xSl m c) (xDf m c)) (rDgate (xSig m c) (xGate m c) (mulf (xDf m c) (xVal m c)))
def xDpre : V S8192x5632 := rDpre (aCw m c) (xDup m c)

theorem out4_eq : Value.res_main_v45 (F := Ideal) m c = rGdown (xDo m c) (mulf (xSl m c) (xVal m c)) := rfl
theorem out3_eq : Value.res_main_v86 (F := Ideal) m c = rUp1 (rSum (xDup m c)) := rfl
theorem out2_eq : Value.res_main_v87 (F := Ideal) m c = rGcw (xDup m c) (xPre m c) := rfl
theorem out1_eq : Value.res_main_v91 (F := Ideal) m c = rGup (xDpre m c) (aH m c) := rfl
theorem out0_eq : Value.res_main_v90 (F := Ideal) m c = rGh (xDpre m c) (aWu m c) := rfl

end Run

end Cert.Reference2Ideal.FfnRef

end
-- ==== Proof.FfnRefAt.lean ====
/- What each array of the reference of `bwd_ffn` holds at an index. -/
module

public import proofs.«01_k».proof.Proof.FfnRef

@[expose] public section

set_option maxRecDepth 16384

noncomputable section

open Idealize.ShloMosaic Idealize.ShloMosaic.TcCoe Idealize.SL.Sem

namespace Cert.Reference2Ideal.FfnRef

open Cert.Reference2Ideal Cert.Reference2Ideal.Gen

/-- An array of floats over the reals. -/
local notation "V" => fun s : Shape => FVec Ideal s FTy.f32

theorem rPre_at (h : V S8192x1024) (wu : V S1x1024x5632) (n : Fin 8192) (c : Fin 5632) :
    (rPre h wu (ix2 n c) : EReal) = ∑ d : Fin 1024, h (ix2 n d) * wu (ix3 0 d c) := by
  pointwise [rPre]

theorem rBack0_at (p : V S8192x5632) (n : Fin 8192) (c : Fin 5632) :
    (rBack0 p (ix2 n c) : EReal) = Ffn.back 2 (fun r => p (ix2 r c)) n := by
  pointwise [rBack0, rExt, Ffn.back]

theorem rBack1_at (p : V S8192x5632) (n : Fin 8192) (c : Fin 5632) :
    (rBack1 p (ix2 n c) : EReal) = Ffn.back 1 (fun r => p (ix2 r c)) n := by
  pointwise [rBack1, rExt, Ffn.back]
  by_cases h : n.val < 1
  · rw [dif_pos h, dif_pos (by omega)]
  · rw [dif_neg h, dif_neg (by omega)]
    simp only [show 1 + n.val - 2 = n.val - 1 by omega]

theorem rBack2_at (p : V S8192x5632) (n : Fin 8192) (c : Fin 5632) : (rBack2 p (ix2 n c) : EReal) = p (ix2 n c) := by
  pointwise [rBack2, rExt]

theorem rRow_at (v : V S5632) (n : Fin 8192) (c : Fin 5632) : (rRow v (ix2 n c) : EReal) = v (ix1 c) := by
  pointwise [rRow]

theorem rTap0_at (cw : V S1x3x5632) (c : Fin 5632) : (rTap0 cw (ix1 c) : EReal) = cw (ix3 0 0 c) := by
  pointwise [rTap0]
theorem rTap1_at (cw : V S1x3x5632) (c : Fin 5632) : (rTap1 cw (ix1 c) : EReal) = cw (ix3 0 1 c) := by
  pointwise [rTap1]
theorem rTap2_at (cw : V S1x3x5632) (c : Fin 5632) : (rTap2 cw (ix1 c) : EReal) = cw (ix3 0 2 c) := by
  pointwise [rTap2]

theorem rVal_at (u : V S8192x5632) (n : Fin 8192) (k : Fin 2816) : (rVal u (ix2 n k) : EReal) = u (ix2 n (Ffn.lo k)) := by
  pointwise [rVal, Ffn.lo]
theorem rGate_at (u : V S8192x5632) (n : Fin 8192) (k : Fin 2816) : (rGate u (ix2 n k) : EReal) = u (ix2 n (Ffn.hi k)) := by
  pointwise [rGate, Ffn.hi]

theorem rSig_at (g : V S8192x2816) (n : Fin 8192) (k : Fin 2816) :
    (rSig g (ix2 n k) : EReal) = Ideal.logistic (g (ix2 n k)) := by
  pointwise [rSig, rOnes, Ideal.logistic]

theorem rDo_at (gt : V S1x1024) (dx : V S8192x1024) (n : Fin 8192) (d : Fin 1024) :
    (rDo gt dx (ix2 n d) : EReal) = gt (ix2 0 d) * dx (ix2 n d) := by
  pointwise [rDo]

theorem rDf_at (d : V S8192x1024) (wd : V S1x2816x1024) (n : Fin 8192) (k : Fin 2816) :
    (rDf d wd (ix2 n k) : EReal) = ∑ e : Fin 1024, d (ix2 n e) * wd (ix3 0 k e) := by
  pointwise [rDf]

theorem rDgate_at (sg g f : V S8192x2816) (i : S8192x2816.Idx) :
    (rDgate sg g f i : EReal) = f i * sg i + g i * f i * (sg i * (1 - sg i)) := by
  pointwise [rDgate, rOnes]

theorem rJoin_lo (a b : V S8192x2816) (n : Fin 8192) (k : Fin 2816) : (rJoin a b (ix2 n (Ffn.lo k)) : EReal) = a (ix2 n k) := by
  pointwise [rJoin, Ffn.lo]
theorem rJoin_hi (a b : V S8192x2816) (n : Fin 8192) (k : Fin 2816) : (rJoin a b (ix2 n (Ffn.hi k)) : EReal) = b (ix2 n k) := by
  pointwise [rJoin, Ffn.hi]

theorem rConv_at (p : V S8192x5632) (cw : V S1x3x5632) (cb : V S1x5632) (n : Fin 8192) (c : Fin 5632) :
    (rConv p cw cb (ix2 n c) : EReal)
      = 0 + cw (ix3 0 0 c) * rBack0 p (ix2 n c) + cw (ix3 0 1 c) * rBack1 p (ix2 n c) + cw (ix3 0 2 c) * rBack2 p (ix2 n c) + cb (ix2 0 c) := by
  pointwise [rConv, rRow, rTap0, rTap1, rTap2]

theorem rDpre_at (cw : V S1x3x5632) (u : V S8192x5632) (n : Fin 8192) (c : Fin 5632) :
    (rDpre cw u (ix2 n c) : EReal)
      = cw (ix3 0 2 c) * u (ix2 n c) + (if h : n.val + 1 < 8192 then cw (ix3 0 1 c) * u (ix2 ⟨n.val + 1, h⟩ c) else 0)
        + (if h : n.val + 2 < 8192 then cw (ix3 0 0 c) * u (ix2 ⟨n.val + 2, h⟩ c) else 0) := by
  pointwise [rDpre, rRow, rTap0, rTap1, rTap2, rZero]
  simp only [show 2 + n.val - 1 = n.val + 1 by omega, show 2 + n.val = n.val + 2 by omega]
  by_cases h : n.val + 1 < 8192
  · rw [dif_pos h, dif_pos ⟨by omega, h⟩]
    rfl
  · rw [dif_neg h, dif_neg (fun q => h q.2)]

theorem rSum_at (u : V S8192x5632) (c : Fin 5632) : (rSum u (ix1 c) : EReal) = ∑ n : Fin 8192, u (ix2 n c) := by
  pointwise [rSum, rZero]
  exact Fin.sum_univ_one _

theorem rGcw_at (u p : V S8192x5632) (c : Fin 5632) :
    (rGcw u p (ix3 0 0 c) : EReal) = rSum (mulf u (rBack0 p)) (ix1 c)
    ∧ (rGcw u p (ix3 0 1 c) : EReal) = rSum (mulf u (rBack1 p)) (ix1 c)
    ∧ (rGcw u p (ix3 0 2 c) : EReal) = rSum (mulf u (rBack2 p)) (ix1 c) := by
  refine ⟨?_, ?_, ?_⟩ <;> pointwise [rGcw, rUp1, rZero]

theorem rUp1_at (v : V S5632) (c : Fin 5632) : (rUp1 v (ix2 0 c) : EReal) = v (ix1 c) := by
  pointwise [rUp1]

theorem rGdown_at (d : V S8192x1024) (f : V S8192x2816) (k : Fin 2816) (e : Fin 1024) :
    (rGdown d f (ix3 0 k e) : EReal) = ∑ n : Fin 8192, d (ix2 n e) * f (ix2 n k) := by
  pointwise [rGdown]

theorem rGup_at (dp : V S8192x5632) (h : V S8192x1024) (d : Fin 1024) (c : Fin 5632) :
    (rGup dp h (ix3 0 d c) : EReal) = ∑ n : Fin 8192, dp (ix2 n c) * h (ix2 n d) := by
  pointwise [rGup]

theorem rGh_at (dp : V S8192x5632) (wu : V S1x1024x5632) (n : Fin 8192) (d : Fin 1024) :
    (rGh dp wu (ix2 n d) : EReal) = ∑ c : Fin 5632, dp (ix2 n c) * wu (ix3 0 d c) := by
  pointwise [rGh]

end Cert.Reference2Ideal.FfnRef

end
-- ==== Proof.FfnRefEq.lean ====
/- The reference's five results of `bwd_ffn` are the gradients of the layer, entry by entry. -/
module

public import proofs.«01_k».proof.Proof.FfnRefAt

@[expose] public section

set_option maxRecDepth 16384

noncomputable section

open Idealize.ShloMosaic Idealize.ShloMosaic.TcCoe Idealize.SL.Sem

namespace Cert.Ffn

/-- A sum of products with one factor moved down is the sum with the other moved up. -/
theorem sum_back_one (f g : Fin 8192 → EReal) : ∑ n, f n * back 1 g n = ∑ n, fwd 1 f n * g n := by
  rw [Fin.sum_univ_succ (n := 8191), Fin.sum_univ_castSucc (n := 8191)]
  have h0 : back 1 g 0 = 0 := by simp [back]
  have h1 : fwd 1 f (Fin.last 8191) = 0 := by simp [fwd]
  rw [h0, h1, mul_zero, zero_mul, zero_add, add_zero]
  refine Finset.sum_congr rfl fun i _ => ?_
  have e0 : back 1 g i.succ = g i.castSucc := by
    rw [back, dif_neg (by simp)]
    exact congrArg g (Fin.ext (by simp))
  have e1 : fwd 1 f i.castSucc = f i.succ := by
    rw [fwd, dif_pos (by simp; omega)]
    exact congrArg f (Fin.ext (by simp))
  rw [e0, e1]

theorem back_back (g : Fin 8192 → EReal) : back 1 (back 1 g) = back 2 g := by
  funext n
  unfold back
  by_cases h : n.val < 1
  · rw [dif_pos h, dif_pos (by omega)]
  · by_cases h2 : n.val < 2
    · rw [dif_neg h, dif_pos h2, dif_pos (by show n.val - 1 < 1; omega)]
    · rw [dif_neg h, dif_neg h2, dif_neg (by show ¬ n.val - 1 < 1; omega)]
      exact congrArg g (Fin.ext (by show n.val - 1 - 1 = n.val - 2; omega))

theorem fwd_fwd (g : Fin 8192 → EReal) : fwd 1 (fwd 1 g) = fwd 2 g := by
  funext n
  unfold fwd
  by_cases h : n.val + 1 < 8192
  · by_cases h2 : n.val + 2 < 8192
    · rw [dif_pos h, dif_pos h2]
    · rw [dif_pos h, dif_neg h2]
  · rw [dif_neg h, dif_neg (by omega)]

theorem sum_back_two (f g : Fin 8192 → EReal) : ∑ n, f n * back 2 g n = ∑ n, fwd 2 f n * g n := by
  rw [← back_back, sum_back_one, sum_back_one, fwd_fwd]

theorem fwd_zero (f : Fin 8192 → EReal) : fwd 0 f = f := by
  funext n
  rw [fwd, dif_pos (by omega)]
  rfl

/-- A factor of the moved column. -/
theorem mul_fwd (s : ℕ) (a : EReal) (f : Fin 8192 → EReal) (n : Fin 8192) :
    (if h : n.val + s < 8192 then a * f ⟨n.val + s, h⟩ else 0) = a * fwd s f n := by
  unfold fwd
  by_cases h : n.val + s < 8192
  · rw [dif_pos h, dif_pos h]
  · rw [dif_neg h, dif_neg h, mul_zero]

theorem lo_or_hi (c : Fin 5632) : (∃ k, c = lo k) ∨ ∃ k, c = hi k := by
  by_cases h : c.val < 2816
  · exact Or.inl ⟨⟨c.val, h⟩, rfl⟩
  · exact Or.inr ⟨⟨c.val - 2816, by omega⟩, Fin.ext (by show c.val = 2816 + (c.val - 2816); omega)⟩

end Cert.Ffn

namespace Cert.Reference2Ideal.FfnRef

open Cert.Reference2Ideal Cert.Reference2Ideal.Gen

variable (m : (ℓ : Loc nD τ sig) → Buf (Elt Ideal) ℓ) (c : Dev nD)

/-- The layer's arguments, read from the memory. -/
def inp : Ffn.In where
  h n d := aH m c (ix2 n d)
  wu d q := aWu m c (ix3 0 d q)
  cw r q := aCw m c (ix3 0 r q)
  cb q := aCb m c (ix2 0 q)
  wd k d := aWd m c (ix3 0 k d)
  gt d := aGt m c (ix2 0 d)
  dx n d := aDx m c (ix2 n d)

theorem xPre_at (n : Fin 8192) (q : Fin 5632) : (xPre m c (ix2 n q) : EReal) = (inp m c).pre n q :=
  rPre_at (aH m c) (aWu m c) n q

theorem xConv_at (n : Fin 8192) (q : Fin 5632) : (xConv m c (ix2 n q) : EReal) = (inp m c).conv n q := by
  refine (rConv_at (xPre m c) (aCw m c) (aCb m c) n q).trans ?_
  have e : (fun r => (xPre m c (ix2 r q) : EReal)) = fun r => (inp m c).pre r q := funext fun r => xPre_at m c r q
  rw [rBack0_at, rBack1_at, rBack2_at, e, xPre_at, zero_add]
  show (inp m c).cw 0 q * _ + (inp m c).cw 1 q * _ + (inp m c).cw 2 q * _ + (inp m c).cb q = _
  rw [Ffn.In.conv, add_comm _ ((inp m c).cb q), ← add_assoc, ← add_assoc]

theorem xVal_at (n : Fin 8192) (k : Fin 2816) : (xVal m c (ix2 n k) : EReal) = (inp m c).val n k :=
  (rVal_at (xConv m c) n k).trans (xConv_at m c n _)

theorem xGate_at (n : Fin 8192) (k : Fin 2816) : (xGate m c (ix2 n k) : EReal) = (inp m c).gate n k :=
  (rGate_at (xConv m c) n k).trans (xConv_at m c n _)

theorem xSig_at (n : Fin 8192) (k : Fin 2816) : (xSig m c (ix2 n k) : EReal) = (inp m c).sg n k :=
  (rSig_at (xGate m c) n k).trans (congrArg Ideal.logistic (xGate_at m c n k))

theorem xSl_at (n : Fin 8192) (k : Fin 2816) : (xSl m c (ix2 n k) : EReal) = (inp m c).sl n k :=
  congrArg₂ (fun a b : EReal => a * b) (xGate_at m c n k) (xSig_at m c n k)

theorem xDo_at (n : Fin 8192) (d : Fin 1024) : (xDo m c (ix2 n d) : EReal) = (inp m c).do2 n d :=
  (rDo_at (aGt m c) (aDx m c) n d).trans (mul_comm _ _)

theorem xDf_at (n : Fin 8192) (k : Fin 2816) : (xDf m c (ix2 n k) : EReal) = (inp m c).df n k :=
  (rDf_at (xDo m c) (aWd m c) n k).trans (Finset.sum_congr rfl fun d _ =>
    congrArg (fun a : EReal => a * aWd m c (ix3 0 k d)) (xDo_at m c n d))

theorem xDup_at (hA : (inp m c).Real) (n : Fin 8192) (q : Fin 5632) : (xDup m c (ix2 n q) : EReal) = (inp m c).dup n q := by
  rcases Ffn.lo_or_hi q with ⟨k, rfl⟩ | ⟨k, rfl⟩
  · refine (rJoin_lo _ _ n k).trans ?_
    rw [Ffn.In.dup_lo, Ffn.In.dval, mul_comm]
    exact congrArg₂ (fun a b : EReal => a * b) (xSl_at m c n k) (xDf_at m c n k)
  · refine (rJoin_hi _ _ n k).trans ?_
    rw [Ffn.In.dup_hi, hA.dgate, rDgate_at]
    have e : ((mulf (xDf m c) (xVal m c)) (ix2 n k) : EReal) = (inp m c).df n k * (inp m c).val n k :=
      congrArg₂ (fun a b : EReal => a * b) (xDf_at m c n k) (xVal_at m c n k)
    rw [e, xSig_at, xGate_at]

theorem xDpre_at (hA : (inp m c).Real) (n : Fin 8192) (q : Fin 5632) : (xDpre m c (ix2 n q) : EReal) = (inp m c).dpre n q := by
  refine (rDpre_at (aCw m c) (xDup m c) n q).trans ?_
  simp only [xDup_at m c hA]
  rw [Ffn.mul_fwd 1 _ fun r => (inp m c).dup r q, Ffn.mul_fwd 2 _ fun r => (inp m c).dup r q]
  rw [Ffn.In.dpre, add_comm, add_comm (aCw m c (ix3 0 2 q) * _ : EReal), ← add_assoc]
  rfl

theorem out0_at (hA : (inp m c).Real) (n : Fin 8192) (d : Fin 1024) :
    (Value.res_main_v90 (F := Ideal) m c (ix2 n d) : EReal) = (inp m c).gH n d := by
  rw [out0_eq]
  refine (rGh_at _ _ n d).trans (Finset.sum_congr rfl fun q _ => ?_)
  exact congrArg (fun a : EReal => a * aWu m c (ix3 0 d q)) (xDpre_at m c hA n q)

theorem out1_at (hA : (inp m c).Real) (d : Fin 1024) (q : Fin 5632) :
    (Value.res_main_v91 (F := Ideal) m c (ix3 0 d q) : EReal) = (inp m c).gUp d q := by
  rw [out1_eq]
  refine (rGup_at _ _ d q).trans (Finset.sum_congr rfl fun n _ => ?_)
  rw [xDpre_at m c hA n q]
  exact mul_comm _ _

theorem out2_at (hA : (inp m c).Real) (j : Fin 3) (q : Fin 5632) :
    (Value.res_main_v87 (F := Ideal) m c (ix3 0 j q) : EReal) = (inp m c).gCw j q := by
  rw [out2_eq]
  have ed : (fun r => (xDup m c (ix2 r q) : EReal)) = fun r => (inp m c).dup r q := funext fun r => xDup_at m c hA r q
  have ep : (fun r => (xPre m c (ix2 r q) : EReal)) = fun r => (inp m c).pre r q := funext fun r => xPre_at m c r q
  obtain ⟨h0, h1, h2⟩ := rGcw_at (xDup m c) (xPre m c) q
  fin_cases j
  · refine h0.trans ((rSum_at _ q).trans ?_)
    refine (Finset.sum_congr rfl fun n _ => ?_).trans (Ffn.sum_back_two (fun r => (inp m c).dup r q) fun r => (inp m c).pre r q)
    exact congrArg₂ (fun a b : EReal => a * b) (xDup_at m c hA n q) ((rBack0_at _ n q).trans (by rw [ep]))
  · refine h1.trans ((rSum_at _ q).trans ?_)
    refine (Finset.sum_congr rfl fun n _ => ?_).trans (Ffn.sum_back_one (fun r => (inp m c).dup r q) fun r => (inp m c).pre r q)
    exact congrArg₂ (fun a b : EReal => a * b) (xDup_at m c hA n q) ((rBack1_at _ n q).trans (by rw [ep]))
  · refine h2.trans ((rSum_at _ q).trans (Finset.sum_congr rfl fun n _ => ?_))
    refine congrArg₂ (fun a b : EReal => a * b) ((xDup_at m c hA n q).trans ?_) ((rBack2_at _ n q).trans (xPre_at m c n q))
    exact (congrFun (Ffn.fwd_zero fun r => (inp m c).dup r q) n).symm

theorem out3_at (hA : (inp m c).Real) (q : Fin 5632) :
    (Value.res_main_v86 (F := Ideal) m c (ix2 0 q) : EReal) = (inp m c).gCb q := by
  rw [out3_eq]
  exact (rUp1_at _ q).trans ((rSum_at _ q).trans (Finset.sum_congr rfl fun n _ => xDup_at m c hA n q))

theorem out4_at (k : Fin 2816) (d : Fin 1024) :
    (Value.res_main_v45 (F := Ideal) m c (ix3 0 k d) : EReal) = (inp m c).gDown k d := by
  rw [out4_eq]
  refine (rGdown_at _ _ k d).trans (Finset.sum_congr rfl fun n _ => ?_)
  refine Eq.trans ?_ (mul_comm _ _)
  exact congrArg₂ (fun a b : EReal => a * b) (xDo_at m c n d)
    (congrArg₂ (fun a b : EReal => a * b) (xSl_at m c n k) (xVal_at m c n k))

end Cert.Reference2Ideal.FfnRef

end
-- ==== Proof.FfnOps.lean ====
/- What the host lines of the call `bwd_ffn` hand to it: each array that the kernel reads, at an index, in the arguments. -/
module

public import proofs.«01_k».proof.Proof.Gen.Kernel2Ideal.Frame.Runs
public import Idealize.ShloMosaic.Lib.Claim
public import Idealize.ShloMosaic.Lib.Pipeline.ValueKit
public import Idealize.ShloMosaic.Lib.Pointwise
public import Idealize.ShloMosaic.Lib.StableHlo.ReadAt
public import proofs.«01_k».proof.Proof.FfnMath

@[expose] public section

set_option maxRecDepth 16384

noncomputable section

open Idealize.ShloMosaic Idealize.ShloMosaic.TcCoe Idealize.SL.Sem
open Idealize.ShloMosaic.Pipeline (Dat)

namespace Cert.Kernel2Ideal.FfnOps

open Cert.Kernel2Ideal Cert.Kernel2Ideal.Gen

variable (m : (ℓ : Loc nD τ sig) → Buf (Elt Ideal) ℓ)

/-- What the buffers hold before the last host line. -/
def σ (c : Dev nD) : Valuation τ sig (Elt Ideal) := StableHlo.after (hostOps0 ++ hostOps0_1 ++ hostOps0_2 ++ hostOps0_3 ++ hostOps0_4 ++ hostOps0_5 ++ hostOps0_6 ++ hostOps0_7) (fun b => m (c, b))

theorem V_eq (c : Dev nD) (b : Ref sig .tc) : V m c b = StableHlo.after hostOps0_8 (σ m c) (Proc.devRef .tc b) := by
  rfl

/-- The layer's arguments, read from the memory. -/
def inp (c : Dev nD) : Ffn.In where
  h n d := (m ((c : Thread nD τ).loc main_arg0) : FVec Ideal S8192x1024 .f32) (ix2 n d)
  wu d q := (m ((c : Thread nD τ).loc main_arg1) : FVec Ideal S1x1024x5632 .f32) (ix3 0 d q)
  cw r q := (m ((c : Thread nD τ).loc main_arg2) : FVec Ideal S1x3x5632 .f32) (ix3 0 r q)
  cb q := (m ((c : Thread nD τ).loc main_arg3) : FVec Ideal S1x5632 .f32) (ix2 0 q)
  wd k d := (m ((c : Thread nD τ).loc main_arg4) : FVec Ideal S1x2816x1024 .f32) (ix3 0 k d)
  gt d := (m ((c : Thread nD τ).loc main_arg5) : FVec Ideal S1x1024 .f32) (ix2 0 d)
  dx n d := (m ((c : Thread nD τ).loc main_arg6) : FVec Ideal S8192x1024 .f32) (ix2 n d)

/-- The column of the block `p` of 704 columns. -/
def col (p : Fin 8) (k : Fin 704) : Fin 5632 := ⟨p.val * 704 + k.val, by omega⟩
/-- The same column, of the blocks padded to 768 columns. -/
def pcol (p : Fin 8) (k : Fin 768) : Fin 6144 := ⟨p.val * 768 + k.val, by omega⟩
/-- A column of a block among the 768 of the padded block. -/
def wide (k : Fin 704) : Fin 768 := ⟨k.val, by omega⟩

theorem pcol_div (p : Fin 8) (k : Fin 768) : (pcol p k).val / 768 = p.val := by
  have := k.isLt
  show (p.val * 768 + k.val) / 768 = p.val
  omega

theorem pcol_mod (p : Fin 8) (k : Fin 768) : (pcol p k).val % 768 = k.val := by
  have := k.isLt
  show (p.val * 768 + k.val) % 768 = k.val
  omega

/-- The padding word is zero. -/
theorem pad_zero : (FloatOps.sitofp (F := Ideal) FTy.bf16 (0#32 : BitVec 32) : EReal) = 0 := by
  simp [FloatOps.sitofp]

/-- The padded `w_down` at a column of the layer. -/
theorem σ_v19 (c : Dev nD) (j : Fin 4) (k : Fin 704) (d : Fin 1024) :
    (σ m c (Proc.devRef .tc main_v19) : FVec Ideal S4x768x1024 .bf16) (ix3 j (wide k) d)
      = (inp m c).wd ⟨j.val * 704 + k.val, by omega⟩ d := by
  unfold σ
  simp only [hostOps0, hostOps0_1, hostOps0_2, hostOps0_3, hostOps0_4, hostOps0_5, hostOps0_6, hostOps0_7, List.cons_append, List.nil_append]
  after_reads_at
  exact dif_pos k.isLt

/-- The padded transpose of `w_up`: zero in the padding. -/
theorem σ_v15 (c : Dev nD) (p : Fin 8) (k : Fin 768) (d : Fin 1024) :
    (σ m c (Proc.devRef .tc main_v15) : FVec Ideal S8x768x1024 .bf16) (ix3 p k d)
      = if h : k.val < 704 then (inp m c).wu d (col p ⟨k.val, h⟩) else 0 := by
  unfold σ
  simp only [hostOps0, hostOps0_1, hostOps0_2, hostOps0_3, hostOps0_4, hostOps0_5, hostOps0_6, hostOps0_7, List.cons_append, List.nil_append]
  after_reads_at
  split
  · rfl
  · exact pad_zero

/-- The taps, at a column of the layer. -/
theorem σ_v10 (c : Dev nD) (r : Fin 3) (p : Fin 8) (k : Fin 704) :
    (σ m c (Proc.devRef .tc main_v10) : FVec Ideal S8x6144 .f32) (ix2 ⟨r.val, by omega⟩ (pcol p (wide k)))
      = (inp m c).cw r (col p k) := by
  unfold σ
  simp only [hostOps0, hostOps0_1, hostOps0_2, hostOps0_3, hostOps0_4, hostOps0_5, hostOps0_6, hostOps0_7, List.cons_append, List.nil_append]
  after_reads_at
  simp only [StableHlo.upto, List.take_succ_cons, List.take_zero]
  after_reads_at
  rw [dif_pos (by rw [pcol_div, pcol_mod]; exact ⟨p.isLt, k.isLt⟩)]
  exact congrArg (m (c, Proc.tc.devRef main_arg2)) (congrArg (ix3 0 r) (Fin.ext (by
    show _ / 768 * 704 + _ % 768 = _
    rw [pcol_div, pcol_mod]; rfl)))

/-- The bias, at a column of the layer. -/
theorem σ_v10_3 (c : Dev nD) (p : Fin 8) (k : Fin 704) :
    (σ m c (Proc.devRef .tc main_v10) : FVec Ideal S8x6144 .f32) (ix2 3 (pcol p (wide k)))
      = (inp m c).cb (col p k) := by
  unfold σ
  simp only [hostOps0, hostOps0_1, hostOps0_2, hostOps0_3, hostOps0_4, hostOps0_5, hostOps0_6, hostOps0_7, List.cons_append, List.nil_append]
  after_reads_at
  simp only [StableHlo.upto, List.take_succ_cons, List.take_zero]
  after_reads_at
  rw [dif_pos (by rw [pcol_div, pcol_mod]; exact ⟨p.isLt, k.isLt⟩)]
  exact congrArg (m (c, Proc.tc.devRef main_arg3)) (congrArg (ix2 0) (Fin.ext (by
    show _ / 768 * 704 + _ % 768 = _
    rw [pcol_div, pcol_mod]; rfl)))

/-- An argument is what the memory holds. -/
theorem σ_arg0 (c : Dev nD) (n : Fin 8192) (d : Fin 1024) :
    (σ m c (Proc.devRef .tc main_arg0) : FVec Ideal S8192x1024 .f32) (ix2 n d) = (inp m c).h n d := by
  unfold σ
  simp only [hostOps0, hostOps0_1, hostOps0_2, hostOps0_3, hostOps0_4, hostOps0_5, hostOps0_6, hostOps0_7, List.cons_append, List.nil_append]
  after_reads_at
  rfl

theorem σ_arg5 (c : Dev nD) (d : Fin 1024) :
    (σ m c (Proc.devRef .tc main_arg5) : FVec Ideal S1x1024 .f32) (ix2 0 d) = (inp m c).gt d := by
  unfold σ
  simp only [hostOps0, hostOps0_1, hostOps0_2, hostOps0_3, hostOps0_4, hostOps0_5, hostOps0_6, hostOps0_7, List.cons_append, List.nil_append]
  after_reads_at
  rfl

theorem σ_arg6 (c : Dev nD) (n : Fin 8192) (d : Fin 1024) :
    (σ m c (Proc.devRef .tc main_arg6) : FVec Ideal S8192x1024 .f32) (ix2 n d) = (inp m c).dx n d := by
  unfold σ
  simp only [hostOps0, hostOps0_1, hostOps0_2, hostOps0_3, hostOps0_4, hostOps0_5, hostOps0_6, hostOps0_7, List.cons_append, List.nil_append]
  after_reads_at
  rfl

/-- `w_down` as the kernel reads it. -/
theorem V_v19 (c : Dev nD) (j : Fin 4) (k : Fin 704) (d : Fin 1024) :
    (V m c main_v19 : FVec Ideal S4x768x1024 .bf16) (ix3 j (wide k) d)
      = (inp m c).wd ⟨j.val * 704 + k.val, by omega⟩ d := by
  rw [V_eq]
  after_reads_simp
  exact σ_v19 m c j k d

/-- `w_up` as the kernel reads it. -/
theorem V_v15 (c : Dev nD) (p : Fin 8) (k : Fin 768) (d : Fin 1024) :
    (V m c main_v15 : FVec Ideal S8x768x1024 .bf16) (ix3 p k d)
      = if h : k.val < 704 then (inp m c).wu d (col p ⟨k.val, h⟩) else 0 := by
  rw [V_eq]
  after_reads_simp
  exact σ_v15 m c p k d

/-- The taps as the kernel reads them. -/
theorem V_v10 (c : Dev nD) (r : Fin 3) (p : Fin 8) (k : Fin 704) :
    (V m c main_v10 : FVec Ideal S8x6144 .f32) (ix2 ⟨r.val, by omega⟩ (pcol p (wide k)))
      = (inp m c).cw r (col p k) := by
  rw [V_eq]
  after_reads_simp
  exact σ_v10 m c r p k

/-- The factors as the kernel reads them. -/
theorem V_v22 (c : Dev nD) (d : Fin 1024) :
    (V m c main_v22 : FVec Ideal S16x1024 .f32) (ix2 7 d) = (inp m c).gt d := by
  rw [V_eq]
  after_reads_at
  exact σ_arg5 m c d

/-- The transposed input as the kernel reads it. -/
theorem V_v46 (c : Dev nD) (d : Fin 1024) (n : Fin 8192) :
    (V m c main_v46 : FVec Ideal S1024x8192 .bf16) (ix2 d n) = (inp m c).h n d := by
  rw [V_eq]
  after_reads_at
  exact σ_arg0 m c n d

/-- The gradient of the layer's result as the kernel reads it. -/
theorem V_arg6 (c : Dev nD) (n : Fin 8192) (d : Fin 1024) :
    (V m c main_arg6 : FVec Ideal S8192x1024 .f32) (ix2 n d) = (inp m c).dx n d := by
  rw [V_eq]
  after_reads_simp
  exact σ_arg6 m c n d

/-- The layer's input before the last host line. -/
def s0 (c : Dev nD) : S8192x1024.Idx → EReal := σ m c (Proc.devRef .tc main_arg0)
/-- The padded transpose of `w_up` before the last host line. -/
def s15 (c : Dev nD) : S8x768x1024.Idx → EReal := σ m c (Proc.devRef .tc main_v15)

/-- The product's sum at a column of the layer. -/
theorem sum_pre (c : Dev nD) (n : Fin 8192) (p : Fin 8) (k : Fin 704) :
    (∑ x : Fin 1024, s0 m c (ix2 n x) * s15 m c
            (ix3 ⟨(pcol p (wide k)).val / 768, by have := (pcol p (wide k)).isLt; omega⟩
              ⟨(pcol p (wide k)).val % 768, Nat.mod_lt _ (by norm_num)⟩ x) : EReal)
      = (inp m c).pre n (col p k) := by
  unfold Ffn.In.pre
  refine Finset.sum_congr rfl fun x _ => ?_
  refine congrArg₂ (· * ·) (σ_arg0 m c n x) ((σ_v15 m c _ _ x).trans ?_)
  have e : (pcol p (wide k)).val % 768 < 704 := by rw [pcol_mod]; exact k.isLt
  rw [dif_pos e]
  refine congrArg ((inp m c).wu x) (Fin.ext ?_)
  show _ / 768 * 704 + _ % 768 = _
  rw [pcol_div, pcol_mod]; rfl

/-- The saved first product. -/
theorem V_v44 (c : Dev nD) (n : Fin 8192) (p : Fin 8) (k : Fin 704) :
    (V m c main_v44 : FVec Ideal S8192x6144 .bf16) (ix2 n (pcol p (wide k))) = (inp m c).pre n (col p k) := by
  rw [V_eq]
  after_reads_at
  exact sum_pre m c n p k

/-- The saved convolution. -/
theorem V_v45 (c : Dev nD) (n : Fin 8192) (p : Fin 8) (k : Fin 704) :
    (V m c main_v45 : FVec Ideal S8192x6144 .bf16) (ix2 n (pcol p (wide k))) = (inp m c).conv n (col p k) := by
  rw [V_eq]
  after_reads_at
  simp only [StableHlo.upto, List.take_succ_cons, List.take_zero]
  after_reads_at
  refine congrArg₂ (· + ·) (congrArg₂ (· + ·) (congrArg₂ (· + ·) (σ_v10_3 m c p k)
    (congrArg₂ (· * ·) (σ_v10 m c 0 p k) ?_)) (congrArg₂ (· * ·) (σ_v10 m c 1 p k) ?_))
    (congrArg₂ (· * ·) (σ_v10 m c 2 p k) (sum_pre m c n p k))
  · unfold Ffn.back
    split
    · rfl
    · exact sum_pre m c _ p k
  · unfold Ffn.back
    by_cases h : n.val < 1
    · rw [dif_pos h, dif_pos (by omega)]
    · rw [dif_neg h, dif_neg (by omega)]
      refine (sum_pre m c _ p k).trans (congrArg (fun r => (inp m c).pre r (col p k)) (Fin.ext ?_))
      show 1 + n.val - 2 = n.val - 1
      omega

end Cert.Kernel2Ideal.FfnOps
-- ==== Proof.FfnBlk.lean ====
/- The blocks that a grid point of `bwd_ffn` reads: point `16 j + i` works on the rows of tile `15 - i` and on the columns
   of the blocks `j` (first half) and `4 + j` (second half). -/
module

public import proofs.«01_k».proof.Proof.FfnOps

@[expose] public section

set_option maxRecDepth 16384

noncomputable section

open Idealize.ShloMosaic Idealize.ShloMosaic.TcCoe Idealize.SL.Sem
open Idealize.ShloMosaic.Pipeline (Dat)

namespace Cert.Kernel2Ideal.FfnBlk

open Cert.Kernel2Ideal Cert.Kernel2Ideal.Gen Cert.Kernel2Ideal.FfnOps

variable (m : (ℓ : Loc nD τ sig) → Buf (Elt Ideal) ℓ)

/-- The block index of each window at a grid point. -/
theorem idx_val : ∀ t : Fin cfg0.N, win0_0.index t = ![15 - t.val % 16, 0]
    ∧ win0_1.index t = ![15 - t.val % 16, t.val / 16]
    ∧ win0_2.index t = ![15 - t.val % 16, 4 + t.val / 16]
    ∧ win0_3.index t = ![15 - t.val % 16, t.val / 16]
    ∧ win0_4.index t = ![15 - t.val % 16, 4 + t.val / 16]
    ∧ win0_5.index t = ![0, 15 - t.val % 16]
    ∧ win0_6.index t = ![0, 0]
    ∧ win0_7.index t = ![0, t.val / 16]
    ∧ win0_8.index t = ![0, 4 + t.val / 16]
    ∧ win0_9.index t = ![t.val / 16, 0, 0]
    ∧ win0_10.index t = ![4 + t.val / 16, 0, 0]
    ∧ win0_11.index t = ![t.val / 16, 0, 0]
    ∧ win0_12.index t = ![t.val / 16, 15 - t.val % 16, 0]
    ∧ win0_13.index t = ![0, t.val / 16, 0, 0]
    ∧ win0_14.index t = ![t.val / 16, 0, 0]
    ∧ win0_15.index t = ![0, t.val / 16, 0, 0] :=
  (by decide +kernel : ∀ t : Fin grid0.N, _)

/-- The row of the arrays that row `x` of a point's tile is. -/
def row (t : Fin cfg0.N) (x : Fin 512) : Fin 8192 := ⟨512 * (15 - t.val % 16) + x.val, by omega⟩
/-- The block of columns of a point. -/
def jb (t : Fin cfg0.N) : Fin 4 := ⟨t.val / 16, by have : t.val < 64 := t.isLt; omega⟩
/-- A column of a half, from its block and its place there. -/
def hcol (j : Fin 4) (k : Fin 704) : Fin 2816 := ⟨j.val * 704 + k.val, by omega⟩
/-- The same block in the first half of the columns. -/
def pl (j : Fin 4) : Fin 8 := ⟨j.val, by omega⟩
/-- The same block in the second half of the columns. -/
def ph (j : Fin 4) : Fin 8 := ⟨4 + j.val, by omega⟩

theorem col_pl (j : Fin 4) (k : Fin 704) : col (pl j) k = Ffn.lo (hcol j k) := rfl
theorem col_ph (j : Fin 4) (k : Fin 704) : col (ph j) k = Ffn.hi (hcol j k) :=
  Fin.ext (by show (4 + j.val) * 704 + k.val = 2816 + (j.val * 704 + k.val); omega)

/-- The gradient of the layer's result. -/
theorem b0 (c : Dev nD) (t : Fin cfg0.N) (x : Fin 512) (d : Fin 1024) :
    (iblk m c 0 t : S512x1024.Idx → EReal) (ix2 x d) = (inp m c).dx (row t x) d := by
  rw [← V_arg6]
  blk_simp [iblk]
  blk_ext [idx_val t]
  all_goals simp only [row, pcol, pl, ph, jb, wide]
  all_goals omega

/-- The saved product, first half. -/
theorem b1 (c : Dev nD) (t : Fin cfg0.N) (x : Fin 512) (k : Fin 704) :
    (iblk m c 1 t : S512x768.Idx → EReal) (ix2 x (wide k)) = (inp m c).pre (row t x) (Ffn.lo (hcol (jb t) k)) := by
  rw [← col_pl, ← V_v44]
  blk_simp [iblk]
  blk_ext [idx_val t]
  all_goals simp only [row, pcol, pl, ph, jb, wide]
  all_goals omega

/-- The saved product, second half. -/
theorem b2 (c : Dev nD) (t : Fin cfg0.N) (x : Fin 512) (k : Fin 704) :
    (iblk m c 2 t : S512x768.Idx → EReal) (ix2 x (wide k)) = (inp m c).pre (row t x) (Ffn.hi (hcol (jb t) k)) := by
  rw [← col_ph, ← V_v44]
  blk_simp [iblk]
  blk_ext [idx_val t]
  all_goals simp only [row, pcol, pl, ph, jb, wide]
  all_goals omega

/-- The saved convolution, first half. -/
theorem b3 (c : Dev nD) (t : Fin cfg0.N) (x : Fin 512) (k : Fin 704) :
    (iblk m c 3 t : S512x768.Idx → EReal) (ix2 x (wide k)) = (inp m c).conv (row t x) (Ffn.lo (hcol (jb t) k)) := by
  rw [← col_pl, ← V_v45]
  blk_simp [iblk]
  blk_ext [idx_val t]
  all_goals simp only [row, pcol, pl, ph, jb, wide]
  all_goals omega

/-- The saved convolution, second half. -/
theorem b4 (c : Dev nD) (t : Fin cfg0.N) (x : Fin 512) (k : Fin 704) :
    (iblk m c 4 t : S512x768.Idx → EReal) (ix2 x (wide k)) = (inp m c).conv (row t x) (Ffn.hi (hcol (jb t) k)) := by
  rw [← col_ph, ← V_v45]
  blk_simp [iblk]
  blk_ext [idx_val t]
  all_goals simp only [row, pcol, pl, ph, jb, wide]
  all_goals omega

/-- The transposed input. -/
theorem b5 (c : Dev nD) (t : Fin cfg0.N) (x : Fin 512) (d : Fin 1024) :
    (iblk m c 5 t : S1024x512.Idx → EReal) (ix2 d x) = (inp m c).h (row t x) d := by
  rw [← V_v46]
  blk_simp [iblk]
  blk_ext [idx_val t]
  all_goals simp only [row, pcol, pl, ph, jb, wide]
  all_goals omega

/-- The factors. -/
theorem b6 (c : Dev nD) (t : Fin cfg0.N) (d : Fin 1024) :
    (iblk m c 6 t : S16x1024.Idx → EReal) (ix2 7 d) = (inp m c).gt d := by
  rw [← V_v22]
  blk_simp [iblk]
  blk_ext [idx_val t]
  all_goals simp only [row, pcol, pl, ph, jb, wide]
  all_goals omega

/-- The taps, first half. -/
theorem b7 (c : Dev nD) (t : Fin cfg0.N) (r : Fin 3) (k : Fin 704) :
    (iblk m c 7 t : S8x768.Idx → EReal) (ix2 ⟨r.val, by omega⟩ (wide k)) = (inp m c).cw r (Ffn.lo (hcol (jb t) k)) := by
  rw [← col_pl, ← V_v10]
  blk_simp [iblk]
  blk_ext [idx_val t]
  all_goals simp only [row, pcol, pl, ph, jb, wide]
  all_goals omega

/-- The taps, second half. -/
theorem b8 (c : Dev nD) (t : Fin cfg0.N) (r : Fin 3) (k : Fin 704) :
    (iblk m c 8 t : S8x768.Idx → EReal) (ix2 ⟨r.val, by omega⟩ (wide k)) = (inp m c).cw r (Ffn.hi (hcol (jb t) k)) := by
  rw [← col_ph, ← V_v10]
  blk_simp [iblk]
  blk_ext [idx_val t]
  all_goals simp only [row, pcol, pl, ph, jb, wide]
  all_goals omega

/-- The weight of the second product. -/
theorem b11 (c : Dev nD) (t : Fin cfg0.N) (k : Fin 704) (d : Fin 1024) :
    (iblk m c 11 t : S1x768x1024.Idx → EReal) (ix3 0 (wide k) d) = (inp m c).wd (hcol (jb t) k) d := by
  rw [show hcol (jb t) k = (⟨(jb t).val * 704 + k.val, by omega⟩ : Fin 2816) from rfl, ← V_v19]
  blk_simp [iblk]
  blk_ext [idx_val t]
  all_goals simp only [row, pcol, pl, ph, jb, wide]
  all_goals omega

/-- The weight of the first product, first half: zero in the padding. -/
theorem b9 (c : Dev nD) (t : Fin cfg0.N) (k : Fin 768) (d : Fin 1024) :
    (iblk m c 9 t : S1x768x1024.Idx → EReal) (ix3 0 k d)
      = if h : k.val < 704 then (inp m c).wu d (Ffn.lo (hcol (jb t) ⟨k.val, h⟩)) else 0 := by
  simp only [← col_pl]
  rw [← V_v15]
  blk_simp [iblk]
  blk_ext [idx_val t]
  all_goals simp only [row, pcol, pl, ph, jb, wide]
  all_goals omega

/-- The weight of the first product, second half: zero in the padding. -/
theorem b10 (c : Dev nD) (t : Fin cfg0.N) (k : Fin 768) (d : Fin 1024) :
    (iblk m c 10 t : S1x768x1024.Idx → EReal) (ix3 0 k d)
      = if h : k.val < 704 then (inp m c).wu d (Ffn.hi (hcol (jb t) ⟨k.val, h⟩)) else 0 := by
  simp only [← col_ph]
  rw [← V_v15]
  blk_simp [iblk]
  blk_ext [idx_val t]
  all_goals simp only [row, pcol, pl, ph, jb, wide]
  all_goals omega

end Cert.Kernel2Ideal.FfnBlk
-- ==== Proof.FfnPay.lean ====
/- What the kernel's stored values are at an index, of any operands. -/
module

public import proofs.«01_k».proof.Proof.FfnBlk
public import proofs.«01_k».proof.Proof.Gates

@[expose] public section

set_option maxRecDepth 16384

noncomputable section

open Idealize.ShloMosaic Idealize.ShloMosaic.TcCoe Idealize.SL.Sem
open Idealize.ShloMosaic.Pipeline (Dat)

namespace Cert.Kernel2Ideal.FfnPay

open Cert.Kernel2Ideal Cert.Kernel2Ideal.Gen

/-- The kernel's word for one. -/
theorem one_word : Ideal.ofBits FTy.f32 1065353216#32 = 1 := by
  simp [Ideal.ofBits, Ideal.ieee, -EReal.coe_mul]
  norm_num

section operands

variable (v3 : FVec Ideal S512x1024 .f32) (v4 : FVec Ideal S1x1024 .f32) (v9 : FVec Ideal S1x768x1024 .bf16)
  (v12 v15 : FVec Ideal S512x768 .bf16) (u v w y z : FVec Ideal S512x768 .f32) (e : FVec Ideal S8x768 .f32)
  (a b c : FVec Ideal S1x768 .f32) (p : FVec Ideal S1x1x1x768 .f32)

/-- the gradient that reaches the gated product -/
theorem pay8_at (x : Fin 512) (k : Fin 768) : (k0_pay8 (F := Ideal) v3 v4 v9 (ix2 x k) : EReal)
    = ∑ d : Fin 1024, (v3 (ix2 x d) : EReal) * v4 (ix2 0 d) * v9 (ix3 0 k d) := by
  pointwise [k0_pay8, k0_pay7]

theorem pay9_at (x : Fin 512) (k : Fin 768) : (k0_pay9 (F := Ideal) v12 (ix2 x k) : EReal) = v12 (ix2 x k) := by
  pointwise [k0_pay9]

theorem pay10_at (x : Fin 512) (k : Fin 768) : (k0_pay10 (F := Ideal) v12 (ix2 x k) : EReal) = v12 (ix2 x k) := by
  pointwise [k0_pay10]

/-- the logistic function of the gate's argument -/
theorem pay11_at (x : Fin 512) (k : Fin 768) : (k0_pay11 (F := Ideal) v15 (ix2 x k) : EReal) = Ideal.logistic (v15 (ix2 x k)) := by
  pointwise [k0_pay11, k0_pay10]
  exact Gates.half_tanh _

/-- the gate -/
theorem pay12_at (x : Fin 512) (k : Fin 768) :
    (k0_pay12 (F := Ideal) v15 (ix2 x k) : EReal) = (v15 (ix2 x k) : EReal) * Ideal.logistic (v15 (ix2 x k)) := by
  pointwise [k0_pay12, k0_pay11, k0_pay10]
  rw [Gates.half_tanh]

theorem pay14_at (s : FVec Ideal S1x704x1024 .f32) (k : Fin 704) (d : Fin 1024) :
    (k0_pay14 (F := Ideal) (k0_pay13 (F := Ideal) v3 v4 v12 v15 s) (ix3 0 k d) : EReal) = (s (ix3 0 k d) : EReal)
      + ∑ x : Fin 512, (v15 (ix2 x (FfnOps.wide k)) : EReal) * Ideal.logistic (v15 (ix2 x (FfnOps.wide k)))
          * v12 (ix2 x (FfnOps.wide k)) * ((v3 (ix2 x d) : EReal) * v4 (ix2 0 d)) := by
  pointwise [k0_pay14, k0_pay13, k0_pay12, k0_pay11, k0_pay10, k0_pay9, k0_pay7]
  simp only [Gates.half_tanh]
  rfl

theorem pay15_at (x : Fin 512) (k : Fin 768) : (k0_pay15 (F := Ideal) v w (ix2 x k) : EReal) = (v (ix2 x k) : EReal) * w (ix2 x k) := by
  pointwise [k0_pay15]

theorem pay16_at (x : Fin 512) (k : Fin 768) : (k0_pay16 (F := Ideal) v w y z (ix2 x k) : EReal)
    = (v (ix2 x k) : EReal) * w (ix2 x k) * (z (ix2 x k) * (1 + (y (ix2 x k) : EReal) * (1 - z (ix2 x k)))) := by
  pointwise [k0_pay16]

theorem pay17_at (q : FVec Ideal S1024x512 .bf16) (x : Fin 512) (d : Fin 1024) :
    (k0_pay17 (F := Ideal) q (ix2 d x) : EReal) = q (ix2 d x) := by
  pointwise [k0_pay17]

theorem pay20_at (x : Fin 8) (k : Fin 768) : (k0_pay20 (F := Ideal) v w (ix2 x k) : EReal) = k0_pay15 v w (ix2 ⟨x.val, by omega⟩ k) := by
  pointwise [k0_pay20]

theorem pay33_at (x : Fin 8) (k : Fin 768) : (k0_pay33 (F := Ideal) v (ix2 x k) : EReal) = v (ix2 ⟨x.val, by omega⟩ k) := by
  pointwise [k0_pay33]

theorem pay34_at (x : Fin 512) (k : Fin 768) : (k0_pay34 (F := Ideal) v e (ix2 x k) : EReal)
    = if h : x.val + 1 < 512 then v (ix2 ⟨x.val + 1, h⟩ k) else e (ix2 ⟨x.val + 1 - 512, by omega⟩ k) := by
  pointwise [k0_pay34, k0_pay32]
  simp only [show (x.val + 520 - 519) % 520 = x.val + 1 by omega]

theorem pay35_at (x : Fin 512) (k : Fin 768) : (k0_pay35 (F := Ideal) (k0_pay32 v e) (ix2 x k) : EReal)
    = if h : x.val + 2 < 512 then v (ix2 ⟨x.val + 2, h⟩ k) else e (ix2 ⟨x.val + 2 - 512, by omega⟩ k) := by
  pointwise [k0_pay35, k0_pay32]
  simp only [show (x.val + 520 - 518) % 520 = x.val + 2 by omega]

theorem pay21_eq : k0_pay21 v w e = k0_pay34 (k0_pay15 (F := Ideal) v w) e := rfl
theorem pay22_eq : k0_pay22 v w e = k0_pay35 (k0_pay32 (k0_pay15 (F := Ideal) v w) e) := rfl
theorem pay29_eq : k0_pay29 u v w a b c = k0_pay42 u v w a b c := rfl

/-- the gradient of the first product, of the two shifted gradients -/
theorem pay42_at (x : Fin 512) (k : Fin 768) : (k0_pay42 (F := Ideal) u v w a b c (ix2 x k) : EReal)
    = (a (ix2 0 k) : EReal) * w (ix2 x k) + (b (ix2 0 k) : EReal) * v (ix2 x k) + (c (ix2 0 k) : EReal) * u (ix2 x k) := by
  pointwise [k0_pay42]

theorem pay2_at (q : FVec Ideal S512x1024 .f32) (f : FVec Ideal S512x768 .bf16) (x : Fin 512) (d : Fin 1024) :
    (k0_pay2 (F := Ideal) q f v9 (ix3 0 x d) : EReal) = (q (ix2 x d) : EReal) + ∑ k : Fin 768, (f (ix2 x k) : EReal) * v9 (ix3 0 k d) := by
  pointwise [k0_pay2]

theorem pay31_at (x : Fin 512) (d : Fin 1024) :
    (k0_pay31 (F := Ideal) u k0_pay18 v w a b c v9 (ix2 x d) : EReal)
      = ∑ k : Fin 768, (k0_pay42 (F := Ideal) u v w a b c (ix2 x k) : EReal) * v9 (ix3 0 k d) := by
  pointwise [k0_pay31, k0_pay18, pay29_eq]

theorem pay30_at (q : FVec Ideal S1024x512 .bf16) (s : FVec Ideal S1x1x1024x704 .f32) (d : Fin 1024) (k : Fin 704) :
    (k0_pay30 (F := Ideal) u q v w a b c s (ix4 0 0 d k) : EReal) = (s (ix4 0 0 d k) : EReal)
      + ∑ x : Fin 512, (q (ix2 d x) : EReal) * k0_pay42 u v w a b c (ix2 x (FfnOps.wide k)) := by
  pointwise [k0_pay30, pay29_eq]
  rfl

theorem pay43_at (q : FVec Ideal S1024x512 .bf16) (s : FVec Ideal S1x1x1024x704 .f32) (d : Fin 1024) (k : Fin 704) :
    (k0_pay1 (F := Ideal) (k0_pay43 (F := Ideal) u q v w a b c s) (ix4 0 0 d k) : EReal) = (s (ix4 0 0 d k) : EReal)
      + ∑ x : Fin 512, (q (ix2 d x) : EReal) * k0_pay42 u v w a b c (ix2 x (FfnOps.wide k)) := by
  pointwise [k0_pay43, k0_pay1]
  rfl

theorem pay25_at (k : Fin 768) : (k0_pay25 (F := Ideal) (k0_pay24 v w p) (ix4 0 0 0 k) : EReal)
    = (p (ix4 0 0 0 k) : EReal) + ∑ x : Fin 512, (k0_pay15 (F := Ideal) v w (ix2 x k) : EReal) := by
  pointwise [k0_pay25, k0_pay24]

theorem pay37_at (k : Fin 768) : (k0_pay37 (F := Ideal) v p (ix4 0 0 0 k) : EReal)
    = (p (ix4 0 0 0 k) : EReal) + ∑ x : Fin 512, (v (ix2 x k) : EReal) := by
  pointwise [k0_pay37]

theorem pay26_at (k : Fin 768) : (k0_pay26 (F := Ideal) v w p (ix4 0 0 0 k) : EReal)
    = (p (ix4 0 0 0 k) : EReal) + ∑ x : Fin 512, (v (ix2 x k) : EReal) * w (ix2 x k) := by
  pointwise [k0_pay26]

theorem pay27_eq : k0_pay27 v w p = k0_pay26 v w p := rfl
theorem pay28_eq : k0_pay28 v w p = k0_pay26 v w p := rfl
theorem pay41_eq : k0_pay41 v w p = k0_pay26 v w p := rfl
theorem pay40_eq : k0_pay40 (k0_pay39 v v12 p) = k0_pay26 v (k0_pay36 v12) p := rfl
theorem pay38_eq (f : FVec Ideal S520x768 .f32) : k0_pay38 f v12 p = k0_pay26 (k0_pay35 (F := Ideal) f) (k0_pay36 v12) p := rfl
theorem pay23_eq : k0_pay23 (F := Ideal) v12 = k0_pay9 v12 := rfl
theorem pay36_eq : k0_pay36 (F := Ideal) v12 = k0_pay9 v12 := rfl

end operands

end Cert.Kernel2Ideal.FfnPay

end
-- ==== Proof.FfnPoint.lean ====
/- The kernel's values at a grid point, as the layer's gradient at the rows and columns of the point. -/
module

public import proofs.«01_k».proof.Proof.FfnPay

@[expose] public section

set_option maxRecDepth 16384

noncomputable section

open Idealize.ShloMosaic Idealize.ShloMosaic.TcCoe Idealize.SL.Sem
open Idealize.ShloMosaic.Pipeline (Dat)

namespace Cert.Kernel2Ideal.FfnPoint

open Cert.Kernel2Ideal Cert.Kernel2Ideal.Gen Cert.Kernel2Ideal.FfnOps Cert.Kernel2Ideal.FfnBlk Cert.Kernel2Ideal.FfnPay

section canon

variable {Val : EltTy → Type} [∀ e, Nonempty (Val e)] {S : Shape} {e : EltTy} {off size : Fin S.rank → ℕ}
  (inb : ∀ a, off a + size a ≤ S.size a) (w : (Rect.unit off size inb).shape.Idx → Val e) (L : List (View.Piece Val S e)) (y : S.Idx)

/-- The last store's value, where it stored. -/
theorem canon_hit (x : (Rect.unit off size inb).shape.Idx) (h : ∀ a, (y a : ℕ) = off a + x a) :
    View.canon ((⟨Rect.unit off size inb, w⟩ : View.Piece Val S e) :: L) y = w x := by
  have : y = (Rect.unit off size inb).emb x :=
    funext fun a => Fin.ext ((h a).trans (by show _ = off a + 1 * (x a : ℕ); omega))
  rw [this]
  exact View.canon_cons_emb _ w L x

/-- The earlier stores' value, where the last one did not store. -/
theorem canon_miss (a : Fin S.rank) (h : (y a : ℕ) < off a ∨ off a + size a ≤ (y a : ℕ)) :
    View.canon ((⟨Rect.unit off size inb, w⟩ : View.Piece Val S e) :: L) y = View.canon L y := by
  refine View.canon_cons_of_not_mem _ L fun hy => ?_
  obtain ⟨x, hx⟩ := (Rect.unit off size inb).exists_idx_of_mem hy
  have h1 : (y a : ℕ) = off a + x a := by
    rw [← hx]
    show off a + 1 * (x a : ℕ) = _
    omega
  have h2 : (x a : ℕ) < size a := (x a).isLt
  omega

/-- A load of what stores left, where the loaded index is. -/
theorem readCov_at {sig : RefSig} {κ : Kind} {sp : Space} (V : View sig κ sp S e) (x : (Rect.unit off size inb).shape.Idx)
    (h : ∀ a, (y a : ℕ) = off a + x a) : V.readCov L (Rect.unit off size inb).toLoadRect x = View.canon L y := by
  rw [View.readCov_eq_canon']
  exact congrArg (View.canon L) (funext fun a => Fin.ext ((Rect.idx_unit_val off size inb x a).trans (h a).symm))

/-- Contents written piece by piece, read where the last store stored. -/
theorem read_hit {sig : RefSig} {κ : Kind} {sp : Space} (V : View sig κ sp S e) (f : V.ty.Contents Val)
    (x : (Rect.unit off size inb).shape.Idx) (h : ∀ a, (y a : ℕ) = off a + x a) :
    V.read Val (V.writes Val f ((⟨Rect.unit off size inb, w⟩ : View.Piece Val S e) :: L)) y = w x := by
  have : y = (Rect.unit off size inb).emb x :=
    funext fun a => Fin.ext ((h a).trans (by show _ = off a + 1 * (x a : ℕ); omega))
  rw [this]
  exact View.read_writes_cons_emb V f _ w L x

/-- Contents written piece by piece, read where the last store did not store. -/
theorem read_miss {sig : RefSig} {κ : Kind} {sp : Space} (V : View sig κ sp S e) (f : V.ty.Contents Val) (a : Fin S.rank)
    (h : (y a : ℕ) < off a ∨ off a + size a ≤ (y a : ℕ)) :
    V.read Val (V.writes Val f ((⟨Rect.unit off size inb, w⟩ : View.Piece Val S e) :: L)) y = V.read Val (V.writes Val f L) y := by
  rw [View.writes_cons]
  refine View.read_slice_write_of_not_mem _ _ _ _ fun hy => ?_
  rw [Rect.map_emb_univ] at hy
  obtain ⟨x, hx⟩ := (Rect.unit off size inb).exists_idx_of_mem hy
  have h1 : (y a : ℕ) = off a + x a := by
    rw [← hx]
    show off a + 1 * (x a : ℕ) = _
    omega
  have h2 : (x a : ℕ) < size a := (x a).isLt
  omega

end canon

variable (m : (ℓ : Loc nD τ sig) → Buf (Elt Ideal) ℓ) (c : Dev nD) (t : Fin cfg0.N)

/-- The gradient that reaches the gated product. -/
def DF : FVec Ideal S512x768 .f32 :=
  k0_pay8 (iblk m c 0 t) (View.ld (iblk m c 6 t) (Rect.unit ![7, 0] ![1, 1024] inb_S16x1024_S1x1024_7_0)) (iblk m c 11 t)
/-- The gradient of the first half. -/
def DV : FVec Ideal S512x768 .f32 := k0_pay15 (DF m c t) (k0_pay12 (iblk m c 4 t))
/-- The gradient of the second half. -/
def DG : FVec Ideal S512x768 .f32 :=
  k0_pay16 (DF m c t) (k0_pay9 (iblk m c 3 t)) (k0_pay10 (iblk m c 4 t)) (k0_pay11 (iblk m c 4 t))

theorem ld6 (d : Fin 1024) : (View.ld (iblk m c 6 t) (Rect.unit ![7, 0] ![1, 1024] inb_S16x1024_S1x1024_7_0) (ix2 0 d) : EReal)
    = (inp m c).gt d :=
  (View.ld_unit_apply_of _ _ _ _ _ (ix2 7 d) (by intro a; fin_cases a <;> simp)).trans (b6 m c t d)

theorem DF_at (x : Fin 512) (k : Fin 704) : (DF m c t (ix2 x (wide k)) : EReal) = (inp m c).df (row t x) (hcol (jb t) k) := by
  unfold DF
  rw [pay8_at]
  exact Finset.sum_congr rfl fun d _ =>
    congrArg₂ (· * ·) (congrArg₂ (· * ·) (b0 m c t x d) (ld6 m c t d)) (b11 m c t k d)

theorem DV_at (x : Fin 512) (k : Fin 704) :
    (DV m c t (ix2 x (wide k)) : EReal) = (inp m c).dup (row t x) (Ffn.lo (hcol (jb t) k)) := by
  unfold DV
  rw [pay15_at, pay12_at, DF_at, Ffn.In.dup_lo]
  have h := b4 m c t x k
  exact congrArg₂ (· * ·) rfl (congrArg₂ (· * ·) h (congrArg Ideal.logistic h))

theorem DG_at (x : Fin 512) (k : Fin 704) :
    (DG m c t (ix2 x (wide k)) : EReal) = (inp m c).dup (row t x) (Ffn.hi (hcol (jb t) k)) := by
  unfold DG
  rw [pay16_at, pay9_at, pay10_at, pay11_at, DF_at, Ffn.In.dup_hi]
  exact congrArg₂ (fun p q : EReal => (inp m c).df (row t x) (hcol (jb t) k) * p * (Ideal.logistic q * (1 + q * (1 - Ideal.logistic q))))
    (b3 m c t x k) (b4 m c t x k)

/-- The first rows of the tile below, or zero at the last rows of all. -/
def below (g : Fin 8192 → EReal) (r : Fin 8) : EReal :=
  if h : t.val % 16 = 0 then 0 else g ⟨512 * (16 - t.val % 16) + r.val, by omega⟩

variable (v : FVec Ideal S512x768 .f32) (e : FVec Ideal S8x768 .f32) (g : Fin 8192 → EReal) (k : Fin 768)
  (hv : ∀ x, (v (ix2 x k) : EReal) = g (row t x)) (he : ∀ r, (e (ix2 r k) : EReal) = below t g r) (x : Fin 512)

include hv he

theorem shift1 : (k0_pay34 (F := Ideal) v e (ix2 x k) : EReal) = Ffn.fwd 1 g (row t x) := by
  rw [pay34_at]
  unfold Ffn.fwd
  by_cases h : x.val + 1 < 512
  · have h2 : (row t x).val + 1 < 8192 := by simp only [row]; omega
    rw [dif_pos h, dif_pos h2]
    exact (hv _).trans (congrArg g (Fin.ext (by simp only [row]; omega)))
  · rw [dif_neg h]
    refine (he _).trans ?_
    unfold below
    by_cases h0 : t.val % 16 = 0
    · rw [dif_pos h0, dif_neg (by simp only [row]; omega)]
    · rw [dif_neg h0, dif_pos (by simp only [row]; omega)]
      exact congrArg g (Fin.ext (by simp only [row]; omega))

theorem shift2 : (k0_pay35 (F := Ideal) (k0_pay32 v e) (ix2 x k) : EReal) = Ffn.fwd 2 g (row t x) := by
  rw [pay35_at]
  unfold Ffn.fwd
  by_cases h : x.val + 2 < 512
  · have h2 : (row t x).val + 2 < 8192 := by simp only [row]; omega
    rw [dif_pos h, dif_pos h2]
    exact (hv _).trans (congrArg g (Fin.ext (by simp only [row]; omega)))
  · rw [dif_neg h]
    refine (he _).trans ?_
    unfold below
    by_cases h0 : t.val % 16 = 0
    · rw [dif_pos h0, dif_neg (by simp only [row]; omega)]
    · rw [dif_neg h0, dif_pos (by simp only [row]; omega)]
      exact congrArg g (Fin.ext (by simp only [row]; omega))

/-- The three taps over the gradient and the gradient from below. -/
theorem taps (a b d : FVec Ideal S1x768 .f32) : (k0_pay42 (F := Ideal) v (k0_pay34 v e) (k0_pay35 (k0_pay32 v e)) a b d (ix2 x k) : EReal)
    = (a (ix2 0 k) : EReal) * Ffn.fwd 2 g (row t x) + (b (ix2 0 k) : EReal) * Ffn.fwd 1 g (row t x)
      + (d (ix2 0 k) : EReal) * g (row t x) := by
  rw [pay42_at, shift1 t v e g k hv he, shift2 t v e g k hv he]
  exact congrArg₂ (· + ·) rfl (congrArg₂ (· * ·) rfl (hv x))

end Cert.Kernel2Ideal.FfnPoint

end
-- ==== Proof.FfnOut.lean ====
/- What the kernel's four results hold after a grid point. -/
module

public import proofs.«01_k».proof.Proof.FfnPoint
public import proofs.«01_k».proof.Proof.Gen.Kernel2Ideal.Frame

@[expose] public section

set_option maxRecDepth 16384

noncomputable section

open Idealize.ShloMosaic Idealize.ShloMosaic.TcCoe Idealize.SL.Sem
open Idealize.ShloMosaic.Pipeline (Dat)

namespace Cert.Kernel2Ideal.FfnOut

open Cert.Kernel2Ideal Cert.Kernel2Ideal.Gen Cert.Kernel2Ideal.FfnOps Cert.Kernel2Ideal.FfnBlk Cert.Kernel2Ideal.FfnPay
open Cert.Kernel2Ideal.FfnPoint

variable (m : (ℓ : Loc nD τ sig) → Buf (Elt Ideal) ℓ) (c : Dev nD)

/-- The carried rows after a point, first half: the first rows of its tile. -/
theorem carry_lo (t : Fin cfg0.N) (r : Fin 8) (k : Fin 704) :
    ((outsAt0 m c t.val t.isLt).2.2.2.2 (ix2 r ⟨k.val, by omega⟩) : EReal)
      = (inp m c).dup (row t ⟨r.val, by omega⟩) (Ffn.lo (hcol (jb t) k)) := by
  rw [← DV_at]
  by_cases h : t.val % 16 = 0
  · rw [outsAt0_A m c t h]
    frame_out
    refine (canon_miss _ _ _ _ (1 : Fin 2) (.inl ?_)).trans ?_
    · show k.val < 768; omega
    refine (canon_hit _ _ _ _ (ix2 r (wide k)) ?_).trans ?_
    · intro a; fin_cases a <;> simp [wide]
    exact pay20_at (DF m c t) (k0_pay12 (iblk m c 4 t)) r (wide k)
  · rw [outsAt0_B m c t h]
    frame_out
    refine (canon_miss _ _ _ _ (1 : Fin 2) (.inl ?_)).trans ?_
    · show k.val < 768; omega
    refine (canon_hit _ _ _ _ (ix2 r (wide k)) ?_).trans ?_
    · intro a; fin_cases a <;> simp [wide]
    exact pay20_at (DF m c t) (k0_pay12 (iblk m c 4 t)) r (wide k)

/-- The carried rows after a point, second half. -/
theorem carry_hi (t : Fin cfg0.N) (r : Fin 8) (k : Fin 704) :
    ((outsAt0 m c t.val t.isLt).2.2.2.2 (ix2 r ⟨768 + k.val, by omega⟩) : EReal)
      = (inp m c).dup (row t ⟨r.val, by omega⟩) (Ffn.hi (hcol (jb t) k)) := by
  rw [← DG_at]
  by_cases h : t.val % 16 = 0
  · rw [outsAt0_A m c t h]
    frame_out
    refine (canon_hit _ _ _ _ (ix2 r (wide k)) ?_).trans ?_
    · intro a; fin_cases a <;> simp [wide]
    exact pay33_at (DG m c t) r (wide k)
  · rw [outsAt0_B m c t h]
    frame_out
    refine (canon_hit _ _ _ _ (ix2 r (wide k)) ?_).trans ?_
    · intro a; fin_cases a <;> simp [wide]
    exact pay33_at (DG m c t) r (wide k)

/-- The carried rows, first half, at a block's first point. -/
def firstLo : FVec Ideal S8x768 .f32 :=
  fun i => (View.whole cc0_scratch0).readCov (Val := Elt Ideal) [⟨Rect.unit ![0, 0] ![8, 1536] inb_S8x1536_S8x1536_0_0, k0_pay3 (F := Ideal)⟩]
    (Rect.unit (s := S8x1536) ![0, 0] ![8, 768] inb_S8x1536_S8x768_0_0).toLoadRect i
/-- The carried rows, second half, at a block's first point. -/
def firstHi (w : FVec Ideal S8x768 .f32) : FVec Ideal S8x768 .f32 :=
  fun i => (View.whole cc0_scratch0).readCov (Val := Elt Ideal) [⟨Rect.unit ![0, 0] ![8, 768] inb_S8x1536_S8x768_0_0, w⟩,
    ⟨Rect.unit ![0, 0] ![8, 1536] inb_S8x1536_S8x1536_0_0, k0_pay3 (F := Ideal)⟩]
    (Rect.unit (s := S8x1536) ![0, 768] ![8, 768] inb_S8x1536_S8x768_0_768).toLoadRect i
/-- The carried rows, first half, at a later point. -/
def nextLo (S : FVec Ideal S8x1536 .f32) : FVec Ideal S8x768 .f32 :=
  fun i => View.ld (Val := Elt Ideal) (e' := .f32) S (Rect.unit (s := S8x1536) ![0, 0] ![8, 768] inb_S8x1536_S8x768_0_0) i
/-- The carried rows, second half, at a later point. -/
def nextHi (S : FVec Ideal S8x1536 .f32) : FVec Ideal S8x768 .f32 :=
  fun i => View.ld (Val := Elt Ideal) (e' := .f32) S (Rect.unit (s := S8x1536) ![0, 768] ![8, 768] inb_S8x1536_S8x768_0_768) i

theorem zero_rows (r : Fin 8) (k : Fin 1536) : (k0_pay3 (F := Ideal) (ix2 r k) : EReal) = 0 := by
  pointwise [k0_pay3]

section carried

variable (t : Fin cfg0.N) (g : Fin 8192 → EReal) (r : Fin 8) (k : Fin 768)

theorem firstLo_at (h : t.val % 16 = 0) : (firstLo (ix2 r k) : EReal) = below t g r := by
  rw [below, dif_pos h]
  refine (readCov_at _ _ (ix2 r ⟨k.val, by omega⟩ : S8x1536.Idx) _ (ix2 r k) ?_).trans ?_
  · intro a; fin_cases a <;> simp
  refine (canon_hit _ _ _ _ (ix2 r ⟨k.val, by omega⟩) ?_).trans ?_
  · intro a; fin_cases a <;> simp
  exact zero_rows r _

theorem firstHi_at (w : FVec Ideal S8x768 .f32) (h : t.val % 16 = 0) : (firstHi w (ix2 r k) : EReal) = below t g r := by
  rw [below, dif_pos h]
  refine (readCov_at _ _ (ix2 r ⟨768 + k.val, by omega⟩ : S8x1536.Idx) _ (ix2 r k) ?_).trans ?_
  · intro a; fin_cases a <;> simp
  refine (canon_miss _ _ _ _ (1 : Fin 2) (.inr ?_)).trans ?_
  · show 0 + 768 ≤ 768 + k.val; omega
  refine (canon_hit _ _ _ _ (ix2 r ⟨768 + k.val, by omega⟩) ?_).trans ?_
  · intro a; fin_cases a <;> simp
  exact zero_rows r _

end carried

section carried

variable (t : Fin cfg0.N) (h : ¬ t.val % 16 = 0) (hlt : t.val - 1 < cfg0.N) (r : Fin 8) (k : Fin 704)

include h

theorem nextLo_at : (nextLo (outsAt0 m c (t.val - 1) hlt).2.2.2.2 (ix2 r (wide k)) : EReal)
    = below t (fun n => (inp m c).dup n (Ffn.lo (hcol (jb t) k))) r := by
  rw [below, dif_neg h]
  refine Eq.trans (View.ld_unit_apply_of _ _ _ _ (ix2 r (wide k)) (ix2 r ⟨k.val, by omega⟩) ?_) ((carry_lo m c ⟨t.val - 1, hlt⟩ r k).trans ?_)
  · intro a; fin_cases a <;> simp [wide]
  · refine congrArg₂ (inp m c).dup (Fin.ext ?_) (congrArg Ffn.lo (congrArg (hcol · k) (Fin.ext ?_)))
    · show 512 * (15 - (t.val - 1) % 16) + r.val = 512 * (16 - t.val % 16) + r.val; omega
    · show (t.val - 1) / 16 = t.val / 16; omega

theorem nextHi_at : (nextHi (outsAt0 m c (t.val - 1) hlt).2.2.2.2 (ix2 r (wide k)) : EReal)
    = below t (fun n => (inp m c).dup n (Ffn.hi (hcol (jb t) k))) r := by
  rw [below, dif_neg h]
  refine Eq.trans (View.ld_unit_apply_of _ _ _ _ (ix2 r (wide k)) (ix2 r ⟨768 + k.val, by omega⟩) ?_) ((carry_hi m c ⟨t.val - 1, hlt⟩ r k).trans ?_)
  · intro a; fin_cases a <;> simp [wide]
  · refine congrArg₂ (inp m c).dup (Fin.ext ?_) (congrArg Ffn.hi (congrArg (hcol · k) (Fin.ext ?_)))
    · show 512 * (15 - (t.val - 1) % 16) + r.val = 512 * (16 - t.val % 16) + r.val; omega
    · show (t.val - 1) / 16 = t.val / 16; omega

end carried

end Cert.Kernel2Ideal.FfnOut

end
-- ==== Proof.FfnVal.lean ====
/- The gradients of the input and of the two weights after a grid point, as sums over the point's rows and columns. -/
module

public import proofs.«01_k».proof.Proof.FfnOut
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.FfnVal

open Cert.Kernel2Ideal Cert.Kernel2Ideal.Gen Cert.Kernel2Ideal.FfnOps Cert.Kernel2Ideal.FfnBlk Cert.Kernel2Ideal.FfnPay
open Cert.Kernel2Ideal.FfnPoint Cert.Kernel2Ideal.FfnOut

/-- A sum over a padded block whose last columns are zero. -/
theorem pad_sum (f : Fin 768 → EReal) (g : Fin 704 → EReal) :
    (∑ k : Fin 768, f k * (if h : k.val < 704 then g ⟨k.val, h⟩ else 0)) = ∑ k : Fin 704, f (wide k) * g k := by
  rw [show (∑ k : Fin 768, f k * (if h : k.val < 704 then g ⟨k.val, h⟩ else 0))
      = ∑ k : Fin (704 + 64), f (Fin.cast (by rfl) k) * (if h : k.val < 704 then g ⟨k.val, h⟩ else 0) from rfl, Fin.sum_univ_add]
  have h2 : (∑ i : Fin 64, f (Fin.cast (by rfl) (Fin.natAdd 704 i)) * (if h : (Fin.natAdd 704 i).val < 704 then g ⟨(Fin.natAdd 704 i).val, h⟩ else 0)) = 0 :=
    Finset.sum_eq_zero fun i _ => by rw [dif_neg (by simp), mul_zero]
  rw [h2, add_zero]
  exact Finset.sum_congr rfl fun k _ => by rw [dif_pos (by simp)]; rfl

/-- The columns of a point in the half `h`. -/
def half (h : Fin 2) (k : Fin 2816) : Fin 5632 := if h = 0 then Ffn.lo k else Ffn.hi k

variable (m : (ℓ : Loc nD τ sig) → Buf (Elt Ideal) ℓ) (c : Dev nD) (t : Fin cfg0.N)

/-- The taps of a point's columns, first half. -/
theorem tap_lo (j : ℕ) (hj : j < 3) (inb) (k : Fin 704) :
    (View.ld (Val := Elt Ideal) (e' := .f32) (iblk m c 7 t : S8x768.Idx → Elt Ideal .f32) (Rect.unit (s := S8x768) ![j, 0] ![1, 768] inb) (ix2 0 (wide k)) : EReal)
      = (inp m c).cw ⟨j, hj⟩ (Ffn.lo (hcol (jb t) k)) :=
  (View.ld_unit_apply_of _ _ _ _ _ (ix2 ⟨j, by omega⟩ (wide k)) (by intro a; fin_cases a <;> simp)).trans (b7 m c t ⟨j, hj⟩ k)

/-- The taps of a point's columns, second half. -/
theorem tap_hi (j : ℕ) (hj : j < 3) (inb) (k : Fin 704) :
    (View.ld (Val := Elt Ideal) (e' := .f32) (iblk m c 8 t : S8x768.Idx → Elt Ideal .f32) (Rect.unit (s := S8x768) ![j, 0] ![1, 768] inb) (ix2 0 (wide k)) : EReal)
      = (inp m c).cw ⟨j, hj⟩ (Ffn.hi (hcol (jb t) k)) :=
  (View.ld_unit_apply_of _ _ _ _ _ (ix2 ⟨j, by omega⟩ (wide k)) (by intro a; fin_cases a <;> simp)).trans (b8 m c t ⟨j, hj⟩ k)

/-- The gradient of the first product at a point, first half, of the rows `E` carried from below. -/
def PL (E : FVec Ideal S8x768 .f32) : FVec Ideal S512x768 .bf16 :=
  k0_pay42 (DV m c t) (k0_pay34 (DV m c t) E) (k0_pay35 (k0_pay32 (DV m c t) E))
    (View.ld (iblk m c 7 t) (Rect.unit ![0, 0] ![1, 768] inb_S8x768_S1x768_0_0))
    (View.ld (iblk m c 7 t) (Rect.unit ![1, 0] ![1, 768] inb_S8x768_S1x768_1_0))
    (View.ld (iblk m c 7 t) (Rect.unit ![2, 0] ![1, 768] inb_S8x768_S1x768_2_0))
/-- The gradient of the first product at a point, second half. -/
def PH (E : FVec Ideal S8x768 .f32) : FVec Ideal S512x768 .bf16 :=
  k0_pay42 (DG m c t) (k0_pay34 (DG m c t) E) (k0_pay35 (k0_pay32 (DG m c t) E))
    (View.ld (iblk m c 8 t) (Rect.unit ![0, 0] ![1, 768] inb_S8x768_S1x768_0_0))
    (View.ld (iblk m c 8 t) (Rect.unit ![1, 0] ![1, 768] inb_S8x768_S1x768_1_0))
    (View.ld (iblk m c 8 t) (Rect.unit ![2, 0] ![1, 768] inb_S8x768_S1x768_2_0))

/-- The rows `E` are those of the tile below, first half. -/
def IsLo (E : FVec Ideal S8x768 .f32) : Prop :=
  ∀ r k, (E (ix2 r (wide k)) : EReal) = below t (fun n => (inp m c).dup n (Ffn.lo (hcol (jb t) k))) r
/-- The rows `E` are those of the tile below, second half. -/
def IsHi (E : FVec Ideal S8x768 .f32) : Prop :=
  ∀ r k, (E (ix2 r (wide k)) : EReal) = below t (fun n => (inp m c).dup n (Ffn.hi (hcol (jb t) k))) r

theorem PL_at (E : FVec Ideal S8x768 .f32) (hE : IsLo m c t E) (x : Fin 512) (k : Fin 704) :
    (PL m c t E (ix2 x (wide k)) : EReal) = (inp m c).dpre (row t x) (Ffn.lo (hcol (jb t) k)) := by
  unfold PL
  refine (taps t (DV m c t) E (fun n => (inp m c).dup n (Ffn.lo (hcol (jb t) k))) (wide k) (fun x => DV_at m c t x k) (fun r => hE r k) x _ _ _).trans ?_
  exact congrArg₂ (· + ·) (congrArg₂ (· + ·) (congrArg₂ (· * ·) (tap_lo m c t 0 (by omega) _ k) rfl)
    (congrArg₂ (· * ·) (tap_lo m c t 1 (by omega) _ k) rfl)) (congrArg₂ (· * ·) (tap_lo m c t 2 (by omega) _ k) rfl)

theorem PH_at (E : FVec Ideal S8x768 .f32) (hE : IsHi m c t E) (x : Fin 512) (k : Fin 704) :
    (PH m c t E (ix2 x (wide k)) : EReal) = (inp m c).dpre (row t x) (Ffn.hi (hcol (jb t) k)) := by
  unfold PH
  refine (taps t (DG m c t) E (fun n => (inp m c).dup n (Ffn.hi (hcol (jb t) k))) (wide k) (fun x => DG_at m c t x k) (fun r => hE r k) x _ _ _).trans ?_
  exact congrArg₂ (· + ·) (congrArg₂ (· + ·) (congrArg₂ (· * ·) (tap_hi m c t 0 (by omega) _ k) rfl)
    (congrArg₂ (· * ·) (tap_hi m c t 1 (by omega) _ k) rfl)) (congrArg₂ (· * ·) (tap_hi m c t 2 (by omega) _ k) rfl)

/-- The part of the input's gradient that a point's columns give. -/
def termH (n : Fin 8192) (d : Fin 1024) (j : Fin 4) : EReal :=
  (∑ k : Fin 704, (inp m c).dpre n (Ffn.lo (hcol j k)) * (inp m c).wu d (Ffn.lo (hcol j k)))
    + ∑ k : Fin 704, (inp m c).dpre n (Ffn.hi (hcol j k)) * (inp m c).wu d (Ffn.hi (hcol j k))

theorem point12 (E E' : FVec Ideal S8x768 .f32) (hE : IsLo m c t E) (hE' : IsHi m c t E') (x : Fin 512) (d : Fin 1024) :
    (k0_pay2 (F := Ideal) (k0_pay31 (DV m c t) k0_pay18 (k0_pay34 (DV m c t) E) (k0_pay35 (k0_pay32 (DV m c t) E))
        (View.ld (iblk m c 7 t) (Rect.unit ![0, 0] ![1, 768] inb_S8x768_S1x768_0_0))
        (View.ld (iblk m c 7 t) (Rect.unit ![1, 0] ![1, 768] inb_S8x768_S1x768_1_0))
        (View.ld (iblk m c 7 t) (Rect.unit ![2, 0] ![1, 768] inb_S8x768_S1x768_2_0)) (iblk m c 9 t))
      (PH m c t E') (iblk m c 10 t) (ix3 0 x d) : EReal) = termH m c (row t x) d (jb t) := by
  rw [pay2_at]
  refine congrArg₂ (· + ·) ?_ ?_
  · refine (pay31_at _ _ _ _ _ _ _ x d).trans ?_
    refine (Finset.sum_congr rfl fun k _ => congrArg₂ (· * ·) rfl (b9 m c t k d)).trans ?_
    refine (pad_sum (fun k => (PL m c t E (ix2 x k) : EReal)) fun k => (inp m c).wu d (Ffn.lo (hcol (jb t) k))).trans ?_
    exact Finset.sum_congr rfl fun k _ => congrArg₂ (· * ·) (PL_at m c t E hE x k) rfl
  · refine (Finset.sum_congr rfl fun k _ => congrArg₂ (· * ·) rfl (b10 m c t k d)).trans ?_
    refine (pad_sum (fun k => (PH m c t E' (ix2 x k) : EReal)) fun k => (inp m c).wu d (Ffn.hi (hcol (jb t) k))).trans ?_
    exact Finset.sum_congr rfl fun k _ => congrArg₂ (· * ·) (PH_at m c t E' hE' x k) rfl

theorem isLo_first (h : t.val % 16 = 0) : IsLo m c t firstLo := fun r k => firstLo_at t _ r (wide k) h
theorem isHi_first (w : FVec Ideal S8x768 .f32) (h : t.val % 16 = 0) : IsHi m c t (firstHi w) := fun r k => firstHi_at t _ r (wide k) w h
theorem isLo_next (h : ¬ t.val % 16 = 0) (hlt) : IsLo m c t (nextLo (outsAt0 m c (t.val - 1) hlt).2.2.2.2) :=
  fun r k => nextLo_at m c t h hlt r k
theorem isHi_next (h : ¬ t.val % 16 = 0) (hlt) : IsHi m c t (nextHi (outsAt0 m c (t.val - 1) hlt).2.2.2.2) :=
  fun r k => nextHi_at m c t h hlt r k

/-- The part of the input's gradient after a point. -/
theorem out12_at (x : Fin 512) (d : Fin 1024) :
    ((outsAt0 m c t.val t.isLt).1 (ix3 0 x d) : EReal) = termH m c (row t x) d (jb t) := by
  by_cases h : t.val % 16 = 0
  · rw [outsAt0_A m c t h]
    frame_out
    exact point12 m c t firstLo (firstHi _) (isLo_first m c t h) (isHi_first m c t _ h) x d
  · rw [outsAt0_B m c t h]
    frame_out
    simp only [read_unread_whole]
    exact point12 m c t (nextLo _) (nextHi _) (isLo_next m c t h _) (isHi_next m c t h _) x d

/-- The part of the first weight's gradient that a point's rows give. -/
def termUp (d : Fin 1024) (col : Fin 5632) : EReal := ∑ x : Fin 512, (inp m c).h (row t x) d * (inp m c).dpre (row t x) col

theorem point13_lo (E : FVec Ideal S8x768 .f32) (hE : IsLo m c t E) (s : FVec Ideal S1x1x1024x704 .f32) (d : Fin 1024) (k : Fin 704) :
    (k0_pay30 (F := Ideal) (DV m c t) (k0_pay17 (iblk m c 5 t)) (k0_pay34 (DV m c t) E) (k0_pay35 (k0_pay32 (DV m c t) E))
        (View.ld (iblk m c 7 t) (Rect.unit ![0, 0] ![1, 768] inb_S8x768_S1x768_0_0))
        (View.ld (iblk m c 7 t) (Rect.unit ![1, 0] ![1, 768] inb_S8x768_S1x768_1_0))
        (View.ld (iblk m c 7 t) (Rect.unit ![2, 0] ![1, 768] inb_S8x768_S1x768_2_0)) s (ix4 0 0 d k) : EReal)
      = (s (ix4 0 0 d k) : EReal) + termUp m c t d (Ffn.lo (hcol (jb t) k)) := by
  refine (pay30_at _ _ _ _ _ _ _ s d k).trans (congrArg₂ (· + ·) rfl (Finset.sum_congr rfl fun x _ => congrArg₂ (· * ·) ?_ (PL_at m c t E hE x k)))
  exact (pay17_at _ x d).trans (b5 m c t x d)

theorem point13_hi (E : FVec Ideal S8x768 .f32) (hE : IsHi m c t E) (s : FVec Ideal S1x1x1024x704 .f32) (d : Fin 1024) (k : Fin 704) :
    (k0_pay1 (F := Ideal) (k0_pay43 (DG m c t) (k0_pay17 (iblk m c 5 t)) (k0_pay34 (DG m c t) E) (k0_pay35 (k0_pay32 (DG m c t) E))
        (View.ld (iblk m c 8 t) (Rect.unit ![0, 0] ![1, 768] inb_S8x768_S1x768_0_0))
        (View.ld (iblk m c 8 t) (Rect.unit ![1, 0] ![1, 768] inb_S8x768_S1x768_1_0))
        (View.ld (iblk m c 8 t) (Rect.unit ![2, 0] ![1, 768] inb_S8x768_S1x768_2_0)) s) (ix4 0 0 d k) : EReal)
      = (s (ix4 0 0 d k) : EReal) + termUp m c t d (Ffn.hi (hcol (jb t) k)) := by
  refine (pay43_at _ _ _ _ _ _ _ s d k).trans (congrArg₂ (· + ·) rfl (Finset.sum_congr rfl fun x _ => congrArg₂ (· * ·) ?_ (PH_at m c t E hE x k)))
  exact (pay17_at _ x d).trans (b5 m c t x d)

theorem zero13 (h : Fin 2) (d : Fin 1024) (k : Fin 704) : (k0_pay4 (F := Ideal) (ix4 h 0 d k) : EReal) = 0 := by
  pointwise [k0_pay4]

theorem out13_A (h0 : t.val % 16 = 0) (h : Fin 2) (d : Fin 1024) (k : Fin 704) :
    ((outsAt0 m c t.val t.isLt).2.1 (ix4 h 0 d k) : EReal) = termUp m c t d (half h (hcol (jb t) k)) := by
  rw [outsAt0_A m c t h0]
  frame_out
  fin_cases h
  · refine (canon_miss _ _ _ _ (0 : Fin 4) (.inl Nat.zero_lt_one)).trans ?_
    refine (canon_hit _ _ _ _ (ix4 0 0 d k) ?_).trans ?_
    · intro a; fin_cases a <;> simp
    refine (point13_lo m c t firstLo (isLo_first m c t h0) _ d k).trans ?_
    refine (congrArg₂ (· + ·) ?_ rfl).trans (zero_add _)
    refine (readCov_at _ _ (ix4 0 0 d k : S2x1x1024x704.Idx) _ (ix4 0 0 d k) ?_).trans ?_
    · intro a; fin_cases a <;> simp
    refine (canon_hit _ _ _ _ (ix4 0 0 d k) ?_).trans ?_
    · intro a; fin_cases a <;> simp
    exact zero13 0 d k
  · refine (canon_hit _ _ _ _ (ix4 0 0 d k) ?_).trans ?_
    · intro a; fin_cases a <;> simp
    refine (point13_hi m c t (firstHi _) (isHi_first m c t _ h0) _ d k).trans ?_
    refine (congrArg₂ (· + ·) ?_ rfl).trans (zero_add _)
    refine (readCov_at _ _ (ix4 1 0 d k : S2x1x1024x704.Idx) _ (ix4 0 0 d k) ?_).trans ?_
    · intro a; fin_cases a <;> simp
    refine (canon_miss _ _ _ _ (0 : Fin 4) (.inr (le_refl 1))).trans ?_
    refine (canon_hit _ _ _ _ (ix4 1 0 d k) ?_).trans ?_
    · intro a; fin_cases a <;> simp
    exact zero13 1 d k

theorem out13_B (h0 : ¬ t.val % 16 = 0) (h : Fin 2) (d : Fin 1024) (k : Fin 704) :
    ((outsAt0 m c t.val t.isLt).2.1 (ix4 h 0 d k) : EReal)
      = ((outsAt0 m c (t.val - 1) (by omega)).2.1 (ix4 h 0 d k) : EReal) + termUp m c t d (half h (hcol (jb t) k)) := by
  rw [outsAt0_B m c t h0]
  frame_out
  simp only [read_unread_whole]
  fin_cases h
  · refine (canon_miss _ _ _ _ (0 : Fin 4) (.inl Nat.zero_lt_one)).trans ?_
    refine (canon_hit _ _ _ _ (ix4 0 0 d k) ?_).trans ?_
    · intro a; fin_cases a <;> simp
    refine (point13_lo m c t (nextLo _) (isLo_next m c t h0 _) _ d k).trans ?_
    refine congrArg₂ (· + ·) (View.ld_unit_apply_of _ _ _ _ (ix4 0 0 d k) (ix4 0 0 d k) ?_) rfl
    intro a; fin_cases a <;> simp
  · refine (canon_hit _ _ _ _ (ix4 0 0 d k) ?_).trans ?_
    · intro a; fin_cases a <;> simp
    refine (point13_hi m c t (nextHi _) (isHi_next m c t h0 _) _ d k).trans ?_
    refine congrArg₂ (· + ·) (View.ld_unit_apply_of _ _ _ _ (ix4 0 0 d k) (ix4 1 0 d k) ?_) rfl
    intro a; fin_cases a <;> simp

/-- The part of the second weight's gradient that a point's rows give. -/
def termDown (k : Fin 2816) (d : Fin 1024) : EReal :=
  ∑ x : Fin 512, (inp m c).sl (row t x) k * (inp m c).val (row t x) k * (inp m c).do2 (row t x) d

theorem point14 (s : FVec Ideal S1x704x1024 .f32) (k : Fin 704) (d : Fin 1024) :
    (k0_pay14 (F := Ideal) (k0_pay13 (iblk m c 0 t) (View.ld (iblk m c 6 t) (Rect.unit ![7, 0] ![1, 1024] inb_S16x1024_S1x1024_7_0))
      (iblk m c 3 t) (iblk m c 4 t) s) (ix3 0 k d) : EReal) = (s (ix3 0 k d) : EReal) + termDown m c t (hcol (jb t) k) d := by
  refine (pay14_at _ _ _ _ s k d).trans (congrArg₂ (· + ·) rfl (Finset.sum_congr rfl fun x _ => congrArg₂ (· * ·) ?_ ?_))
  · exact congrArg₂ (fun p q : EReal => q * Ideal.logistic q * p) (b3 m c t x k) (b4 m c t x k)
  · exact congrArg₂ (· * ·) (b0 m c t x d) (ld6 m c t d)

theorem zero14 (k : Fin 704) (d : Fin 1024) : (k0_pay5 (F := Ideal) (ix3 0 k d) : EReal) = 0 := by
  pointwise [k0_pay5]

theorem out14_A (h0 : t.val % 16 = 0) (k : Fin 704) (d : Fin 1024) :
    ((outsAt0 m c t.val t.isLt).2.2.1 (ix3 0 k d) : EReal) = termDown m c t (hcol (jb t) k) d := by
  rw [outsAt0_A m c t h0]
  frame_out
  exact (point14 m c t _ k d).trans ((congrArg₂ (· + ·) (zero14 k d) rfl).trans (zero_add _))

theorem out14_B (h0 : ¬ t.val % 16 = 0) (k : Fin 704) (d : Fin 1024) :
    ((outsAt0 m c t.val t.isLt).2.2.1 (ix3 0 k d) : EReal)
      = ((outsAt0 m c (t.val - 1) (by omega)).2.2.1 (ix3 0 k d) : EReal) + termDown m c t (hcol (jb t) k) d := by
  rw [outsAt0_B m c t h0]
  frame_out
  exact point14 m c t _ k d

end Cert.Kernel2Ideal.FfnVal

end
-- ==== Proof.FfnAcc.lean ====
/- The gradients of the convolution's taps and bias after a grid point, as sums over the point's rows. -/
module

public import proofs.«01_k».proof.Proof.FfnVal

@[expose] public section

set_option maxRecDepth 16384

noncomputable section

open Idealize.ShloMosaic Idealize.ShloMosaic.TcCoe Idealize.SL.Sem
open Idealize.ShloMosaic.Pipeline (Dat)

namespace Cert.Kernel2Ideal.FfnAcc

open Cert.Kernel2Ideal Cert.Kernel2Ideal.Gen Cert.Kernel2Ideal.FfnOps Cert.Kernel2Ideal.FfnBlk Cert.Kernel2Ideal.FfnPay
open Cert.Kernel2Ideal.FfnPoint Cert.Kernel2Ideal.FfnOut Cert.Kernel2Ideal.FfnVal

section rows

variable {p q : ℕ} (inb : ∀ a, (![p, 0, q, 0] : Fin 4 → ℕ) a + (![1, 1, 1, 768] : Fin 4 → ℕ) a ≤ S2x1x8x768.size a)
  (w : (Rect.unit (s := S2x1x8x768) ![p, 0, q, 0] ![1, 1, 1, 768] inb).shape.Idx → Elt Ideal .f32) (L : List (View.Piece (Elt Ideal) S2x1x8x768 .f32)) (h : Fin 2) (r : Fin 8) (k : Fin 768)

/-- A store at another row is not seen. -/
theorem row_miss (hn : h.val ≠ p ∨ r.val ≠ q) :
    View.canon ((⟨Rect.unit (s := S2x1x8x768) ![p, 0, q, 0] ![1, 1, 1, 768] inb, w⟩ : View.Piece (Elt Ideal) S2x1x8x768 .f32) :: L) (ix4 h 0 r k)
      = View.canon L (ix4 h 0 r k) := by
  rcases hn with hn | hn
  · refine canon_miss _ _ _ _ (0 : Fin 4) ?_
    show h.val < p ∨ p + 1 ≤ h.val; omega
  · refine canon_miss _ _ _ _ (2 : Fin 4) ?_
    show r.val < q ∨ q + 1 ≤ r.val; omega

/-- The store at the row. -/
theorem row_hit (hp : h.val = p) (hq : r.val = q) :
    View.canon ((⟨Rect.unit (s := S2x1x8x768) ![p, 0, q, 0] ![1, 1, 1, 768] inb, w⟩ : View.Piece (Elt Ideal) S2x1x8x768 .f32) :: L) (ix4 h 0 r k)
      = w (ix4 (0 : Fin 1) (0 : Fin 1) (0 : Fin 1) k) := by
  refine canon_hit (S := S2x1x8x768) (off := ![p, 0, q, 0]) (size := ![1, 1, 1, 768]) inb w L _ (ix4 0 0 0 k) ?_
  intro a; fin_cases a <;> simp [hp, hq]

/-- A load of a row. -/
theorem row_load {sig : RefSig} {κ : Kind} {sp : Space} (V : View sig κ sp S2x1x8x768 .f32) (hp : h.val = p) (hq : r.val = q) :
    V.readCov L (Rect.unit (s := S2x1x8x768) ![p, 0, q, 0] ![1, 1, 1, 768] inb).toLoadRect (ix4 0 0 0 k) = View.canon L (ix4 h 0 r k) := by
  refine readCov_at (S := S2x1x8x768) (off := ![p, 0, q, 0]) (size := ![1, 1, 1, 768]) inb L _ V (ix4 0 0 0 k) ?_
  intro a; fin_cases a <;> simp [hp, hq]

/-- A load of a row of known contents. -/
theorem row_ld (X : S2x1x8x768.Idx → Elt Ideal .f32) (hp : h.val = p) (hq : r.val = q) :
    View.ld X (Rect.unit (s := S2x1x8x768) ![p, 0, q, 0] ![1, 1, 1, 768] inb) (ix4 0 0 0 k) = X (ix4 h 0 r k) := by
  refine View.ld_unit_apply_of _ _ _ _ _ _ ?_
  intro a; fin_cases a <;> simp [hp, hq]

variable {sig : RefSig} {κ : Kind} {sp : Space} (V : View sig κ sp S2x1x8x768 .f32) (f : V.ty.Contents (Elt Ideal))

theorem read_row_miss (hn : h.val ≠ p ∨ r.val ≠ q) :
    V.read (Elt Ideal) (V.writes (Elt Ideal) f ((⟨Rect.unit (s := S2x1x8x768) ![p, 0, q, 0] ![1, 1, 1, 768] inb, w⟩ : View.Piece (Elt Ideal) S2x1x8x768 .f32) :: L)) (ix4 h 0 r k)
      = V.read (Elt Ideal) (V.writes (Elt Ideal) f L) (ix4 h 0 r k) := by
  rcases hn with hn | hn
  · refine read_miss _ _ _ _ _ _ (0 : Fin 4) ?_
    show h.val < p ∨ p + 1 ≤ h.val; omega
  · refine read_miss _ _ _ _ _ _ (2 : Fin 4) ?_
    show r.val < q ∨ q + 1 ≤ r.val; omega

theorem read_row_hit (hp : h.val = p) (hq : r.val = q) :
    V.read (Elt Ideal) (V.writes (Elt Ideal) f ((⟨Rect.unit (s := S2x1x8x768) ![p, 0, q, 0] ![1, 1, 1, 768] inb, w⟩ : View.Piece (Elt Ideal) S2x1x8x768 .f32) :: L)) (ix4 h 0 r k)
      = w (ix4 (0 : Fin 1) (0 : Fin 1) (0 : Fin 1) k) := by
  refine read_hit (S := S2x1x8x768) (off := ![p, 0, q, 0]) (size := ![1, 1, 1, 768]) inb w L _ V f (ix4 0 0 0 k) ?_
  intro a; fin_cases a <;> simp [hp, hq]

end rows

/-- The zero fill. -/
theorem zero15 (inb) (h : Fin 2) (r : Fin 8) (k : Fin 768) :
    (View.canon [(⟨Rect.unit (s := S2x1x8x768) ![0, 0, 0, 0] ![2, 1, 8, 768] inb, k0_pay6 (F := Ideal)⟩ : View.Piece (Elt Ideal) S2x1x8x768 .f32)] (ix4 h 0 r k) : EReal) = 0 := by
  refine (canon_hit _ _ _ _ (ix4 h 0 r k) ?_).trans ?_
  · intro a; fin_cases a <;> simp
  pointwise [k0_pay6]

variable (m : (ℓ : Loc nD τ sig) → Buf (Elt Ideal) ℓ) (c : Dev nD) (t : Fin cfg0.N)

/-- The summand of one row: the bias's gradient in row 3, the taps' in rows 0 to 2. -/
def rowTerm (q : Fin 4) (g p : Fin 8192 → EReal) (n : Fin 8192) : EReal :=
  if q = 3 then g n else Ffn.fwd (2 - q.val) g n * p n

/-- The part of the gradients of taps and bias that a point's rows give. -/
def termAcc (q : Fin 4) (col : Fin 5632) : EReal :=
  ∑ x : Fin 512, rowTerm q (fun n => (inp m c).dup n col) (fun n => (inp m c).pre n col) (row t x)

section generic

variable (v w : FVec Ideal S512x768 .f32) (e : FVec Ideal S8x768 .f32) (s : FVec Ideal S1x1x1x768 .f32) (col : Fin 5632) (k : Fin 768)
  (hv : ∀ x, (v (ix2 x k) : EReal) = (inp m c).dup (row t x) col) (hw : ∀ x, (w (ix2 x k) : EReal) = (inp m c).pre (row t x) col)
  (he : ∀ r, (e (ix2 r k) : EReal) = below t (fun n => (inp m c).dup n col) r)

theorem fwd_zero (g : Fin 8192 → EReal) (n : Fin 8192) : Ffn.fwd 0 g n = g n := by
  unfold Ffn.fwd
  rw [dif_pos (by omega)]
  rfl

include hv hw he in
theorem acc0 : (k0_pay26 (F := Ideal) (k0_pay35 (k0_pay32 v e)) w s (ix4 0 0 0 k) : EReal) = (s (ix4 0 0 0 k) : EReal) + termAcc m c t 0 col :=
  (pay26_at _ w s k).trans (congrArg₂ (· + ·) rfl (Finset.sum_congr rfl fun x _ => congrArg₂ (· * ·) (shift2 t v e _ k hv he x) (hw x)))
include hv hw he in
theorem acc1 : (k0_pay26 (F := Ideal) (k0_pay34 v e) w s (ix4 0 0 0 k) : EReal) = (s (ix4 0 0 0 k) : EReal) + termAcc m c t 1 col :=
  (pay26_at _ w s k).trans (congrArg₂ (· + ·) rfl (Finset.sum_congr rfl fun x _ => congrArg₂ (· * ·) (shift1 t v e _ k hv he x) (hw x)))
include hv hw in
theorem acc2 : (k0_pay26 (F := Ideal) v w s (ix4 0 0 0 k) : EReal) = (s (ix4 0 0 0 k) : EReal) + termAcc m c t 2 col :=
  (pay26_at _ w s k).trans (congrArg₂ (· + ·) rfl (Finset.sum_congr rfl fun x _ => congrArg₂ (· * ·) ((hv x).trans (fwd_zero (fun n => (inp m c).dup n col) (row t x)).symm) (hw x)))
include hv in
theorem acc3 : (k0_pay37 (F := Ideal) v s (ix4 0 0 0 k) : EReal) = (s (ix4 0 0 0 k) : EReal) + termAcc m c t 3 col :=
  (pay37_at _ s k).trans (congrArg₂ (· + ·) rfl (Finset.sum_congr rfl fun x _ => hv x))

end generic

section halves

variable (E : FVec Ideal S8x768 .f32) (s : FVec Ideal S1x1x1x768 .f32) (k : Fin 704)

theorem lo0 (hE : IsLo m c t E) : (k0_pay26 (F := Ideal) (k0_pay22 (DF m c t) (k0_pay12 (iblk m c 4 t)) E) (k0_pay23 (iblk m c 1 t)) s (ix4 0 0 0 (wide k)) : EReal)
    = (s (ix4 0 0 0 (wide k)) : EReal) + termAcc m c t 0 (Ffn.lo (hcol (jb t) k)) :=
  acc0 m c t (DV m c t) (k0_pay9 (iblk m c 1 t)) E s _ _ (fun x => DV_at m c t x k) (fun x => (pay9_at _ x (wide k)).trans (b1 m c t x k)) (fun r => hE r k)
theorem lo1 (hE : IsLo m c t E) : (k0_pay27 (F := Ideal) (k0_pay21 (DF m c t) (k0_pay12 (iblk m c 4 t)) E) (k0_pay23 (iblk m c 1 t)) s (ix4 0 0 0 (wide k)) : EReal)
    = (s (ix4 0 0 0 (wide k)) : EReal) + termAcc m c t 1 (Ffn.lo (hcol (jb t) k)) :=
  acc1 m c t (DV m c t) (k0_pay9 (iblk m c 1 t)) E s _ _ (fun x => DV_at m c t x k) (fun x => (pay9_at _ x (wide k)).trans (b1 m c t x k)) (fun r => hE r k)
theorem lo2 : (k0_pay28 (F := Ideal) (DV m c t) (k0_pay23 (iblk m c 1 t)) s (ix4 0 0 0 (wide k)) : EReal)
    = (s (ix4 0 0 0 (wide k)) : EReal) + termAcc m c t 2 (Ffn.lo (hcol (jb t) k)) :=
  acc2 m c t (DV m c t) (k0_pay9 (iblk m c 1 t)) s _ _ (fun x => DV_at m c t x k) (fun x => (pay9_at _ x (wide k)).trans (b1 m c t x k))
theorem lo3 : (k0_pay25 (F := Ideal) (k0_pay24 (DF m c t) (k0_pay12 (iblk m c 4 t)) s) (ix4 0 0 0 (wide k)) : EReal)
    = (s (ix4 0 0 0 (wide k)) : EReal) + termAcc m c t 3 (Ffn.lo (hcol (jb t) k)) :=
  (pay25_at _ _ s _).trans (congrArg₂ (· + ·) rfl (Finset.sum_congr rfl fun x _ => DV_at m c t x k))
theorem hi0 (hE : IsHi m c t E) : (k0_pay38 (F := Ideal) (k0_pay32 (DG m c t) E) (iblk m c 2 t) s (ix4 0 0 0 (wide k)) : EReal)
    = (s (ix4 0 0 0 (wide k)) : EReal) + termAcc m c t 0 (Ffn.hi (hcol (jb t) k)) :=
  acc0 m c t (DG m c t) (k0_pay9 (iblk m c 2 t)) E s _ _ (fun x => DG_at m c t x k) (fun x => (pay9_at _ x (wide k)).trans (b2 m c t x k)) (fun r => hE r k)
theorem hi1 (hE : IsHi m c t E) : (k0_pay40 (F := Ideal) (k0_pay39 (k0_pay34 (DG m c t) E) (iblk m c 2 t) s) (ix4 0 0 0 (wide k)) : EReal)
    = (s (ix4 0 0 0 (wide k)) : EReal) + termAcc m c t 1 (Ffn.hi (hcol (jb t) k)) :=
  acc1 m c t (DG m c t) (k0_pay9 (iblk m c 2 t)) E s _ _ (fun x => DG_at m c t x k) (fun x => (pay9_at _ x (wide k)).trans (b2 m c t x k)) (fun r => hE r k)
theorem hi2 : (k0_pay41 (F := Ideal) (DG m c t) (k0_pay36 (iblk m c 2 t)) s (ix4 0 0 0 (wide k)) : EReal)
    = (s (ix4 0 0 0 (wide k)) : EReal) + termAcc m c t 2 (Ffn.hi (hcol (jb t) k)) :=
  acc2 m c t (DG m c t) (k0_pay9 (iblk m c 2 t)) s _ _ (fun x => DG_at m c t x k) (fun x => (pay9_at _ x (wide k)).trans (b2 m c t x k))
theorem hi3 : (k0_pay37 (F := Ideal) (DG m c t) s (ix4 0 0 0 (wide k)) : EReal)
    = (s (ix4 0 0 0 (wide k)) : EReal) + termAcc m c t 3 (Ffn.hi (hcol (jb t) k)) :=
  acc3 m c t (DG m c t) s _ _ (fun x => DG_at m c t x k)

end halves

theorem zero_at {x y : EReal} (hx : x = 0) : x + y = y := by rw [hx, zero_add]

theorem out15_A (h0 : t.val % 16 = 0) (h : Fin 2) (q : Fin 4) (k : Fin 704) :
    ((outsAt0 m c t.val t.isLt).2.2.2.1 (ix4 h 0 ⟨q.val, by omega⟩ (wide k)) : EReal) = termAcc m c t q (half h (hcol (jb t) k)) := by
  rw [outsAt0_A m c t h0]
  frame_out
  fin_cases h <;> fin_cases q
  · iterate 6 refine (row_miss _ _ _ _ _ _ (by simp)).trans ?_
    refine (row_hit _ _ _ _ _ _ (by simp) (by simp)).trans ?_
    refine (lo0 m c t firstLo _ k (isLo_first m c t h0)).trans (zero_at ?_)
    refine (row_load _ _ (0 : Fin 2) (0 : Fin 8) _ _ (by simp) (by simp)).trans ?_
    iterate 1 refine (row_miss _ _ _ _ _ _ (by simp)).trans ?_
    exact zero15 _ _ _ _
  · iterate 5 refine (row_miss _ _ _ _ _ _ (by simp)).trans ?_
    refine (row_hit _ _ _ _ _ _ (by simp) (by simp)).trans ?_
    refine (lo1 m c t firstLo _ k (isLo_first m c t h0)).trans (zero_at ?_)
    refine (row_load _ _ (0 : Fin 2) (1 : Fin 8) _ _ (by simp) (by simp)).trans ?_
    iterate 2 refine (row_miss _ _ _ _ _ _ (by simp)).trans ?_
    exact zero15 _ _ _ _
  · iterate 4 refine (row_miss _ _ _ _ _ _ (by simp)).trans ?_
    refine (row_hit _ _ _ _ _ _ (by simp) (by simp)).trans ?_
    refine (lo2 m c t _ k).trans (zero_at ?_)
    refine (row_load _ _ (0 : Fin 2) (2 : Fin 8) _ _ (by simp) (by simp)).trans ?_
    iterate 3 refine (row_miss _ _ _ _ _ _ (by simp)).trans ?_
    exact zero15 _ _ _ _
  · iterate 7 refine (row_miss _ _ _ _ _ _ (by simp)).trans ?_
    refine (row_hit _ _ _ _ _ _ (by simp) (by simp)).trans ?_
    refine (lo3 m c t _ k).trans (zero_at ?_)
    refine (row_load _ _ (0 : Fin 2) (3 : Fin 8) _ _ (by simp) (by simp)).trans ?_
    exact zero15 _ _ _ _
  · iterate 2 refine (row_miss _ _ _ _ _ _ (by simp)).trans ?_
    refine (row_hit _ _ _ _ _ _ (by simp) (by simp)).trans ?_
    refine (hi0 m c t (firstHi _) _ k (isHi_first m c t _ h0)).trans (zero_at ?_)
    refine (row_load _ _ (1 : Fin 2) (0 : Fin 8) _ _ (by simp) (by simp)).trans ?_
    iterate 5 refine (row_miss _ _ _ _ _ _ (by simp)).trans ?_
    exact zero15 _ _ _ _
  · iterate 1 refine (row_miss _ _ _ _ _ _ (by simp)).trans ?_
    refine (row_hit _ _ _ _ _ _ (by simp) (by simp)).trans ?_
    refine (hi1 m c t (firstHi _) _ k (isHi_first m c t _ h0)).trans (zero_at ?_)
    refine (row_load _ _ (1 : Fin 2) (1 : Fin 8) _ _ (by simp) (by simp)).trans ?_
    iterate 6 refine (row_miss _ _ _ _ _ _ (by simp)).trans ?_
    exact zero15 _ _ _ _
  · refine (row_hit _ _ _ _ _ _ (by simp) (by simp)).trans ?_
    refine (hi2 m c t _ k).trans (zero_at ?_)
    refine (row_load _ _ (1 : Fin 2) (2 : Fin 8) _ _ (by simp) (by simp)).trans ?_
    iterate 7 refine (row_miss _ _ _ _ _ _ (by simp)).trans ?_
    exact zero15 _ _ _ _
  · iterate 3 refine (row_miss _ _ _ _ _ _ (by simp)).trans ?_
    refine (row_hit _ _ _ _ _ _ (by simp) (by simp)).trans ?_
    refine (hi3 m c t _ k).trans (zero_at ?_)
    refine (row_load _ _ (1 : Fin 2) (3 : Fin 8) _ _ (by simp) (by simp)).trans ?_
    iterate 4 refine (row_miss _ _ _ _ _ _ (by simp)).trans ?_
    exact zero15 _ _ _ _

theorem out15_B (h0 : ¬ t.val % 16 = 0) (h : Fin 2) (q : Fin 4) (k : Fin 704) :
    ((outsAt0 m c t.val t.isLt).2.2.2.1 (ix4 h 0 ⟨q.val, by omega⟩ (wide k)) : EReal)
      = ((outsAt0 m c (t.val - 1) (by omega)).2.2.2.1 (ix4 h 0 ⟨q.val, by omega⟩ (wide k)) : EReal) + termAcc m c t q (half h (hcol (jb t) k)) := by
  rw [outsAt0_B m c t h0]
  frame_out
  simp only [read_unread_whole]
  fin_cases h <;> fin_cases q
  · iterate 6 refine (read_row_miss _ _ _ _ _ _ _ _ (by simp)).trans ?_
    refine (read_row_hit _ _ _ _ _ _ _ _ (by simp) (by simp)).trans ?_
    refine (lo0 m c t (nextLo _) _ k (isLo_next m c t h0 _)).trans (congrArg₂ (· + ·) ?_ rfl)
    exact row_ld _ (0 : Fin 2) (0 : Fin 8) _ _ (by simp) (by simp)
  · iterate 5 refine (read_row_miss _ _ _ _ _ _ _ _ (by simp)).trans ?_
    refine (read_row_hit _ _ _ _ _ _ _ _ (by simp) (by simp)).trans ?_
    refine (lo1 m c t (nextLo _) _ k (isLo_next m c t h0 _)).trans (congrArg₂ (· + ·) ?_ rfl)
    exact row_ld _ (0 : Fin 2) (1 : Fin 8) _ _ (by simp) (by simp)
  · iterate 4 refine (read_row_miss _ _ _ _ _ _ _ _ (by simp)).trans ?_
    refine (read_row_hit _ _ _ _ _ _ _ _ (by simp) (by simp)).trans ?_
    refine (lo2 m c t _ k).trans (congrArg₂ (· + ·) ?_ rfl)
    exact row_ld _ (0 : Fin 2) (2 : Fin 8) _ _ (by simp) (by simp)
  · iterate 7 refine (read_row_miss _ _ _ _ _ _ _ _ (by simp)).trans ?_
    refine (read_row_hit _ _ _ _ _ _ _ _ (by simp) (by simp)).trans ?_
    refine (lo3 m c t _ k).trans (congrArg₂ (· + ·) ?_ rfl)
    exact row_ld _ (0 : Fin 2) (3 : Fin 8) _ _ (by simp) (by simp)
  · iterate 2 refine (read_row_miss _ _ _ _ _ _ _ _ (by simp)).trans ?_
    refine (read_row_hit _ _ _ _ _ _ _ _ (by simp) (by simp)).trans ?_
    refine (hi0 m c t (nextHi _) _ k (isHi_next m c t h0 _)).trans (congrArg₂ (· + ·) ?_ rfl)
    exact row_ld _ (1 : Fin 2) (0 : Fin 8) _ _ (by simp) (by simp)
  · iterate 1 refine (read_row_miss _ _ _ _ _ _ _ _ (by simp)).trans ?_
    refine (read_row_hit _ _ _ _ _ _ _ _ (by simp) (by simp)).trans ?_
    refine (hi1 m c t (nextHi _) _ k (isHi_next m c t h0 _)).trans (congrArg₂ (· + ·) ?_ rfl)
    exact row_ld _ (1 : Fin 2) (1 : Fin 8) _ _ (by simp) (by simp)
  · refine (read_row_hit _ _ _ _ _ _ _ _ (by simp) (by simp)).trans ?_
    refine (hi2 m c t _ k).trans (congrArg₂ (· + ·) ?_ rfl)
    exact row_ld _ (1 : Fin 2) (2 : Fin 8) _ _ (by simp) (by simp)
  · iterate 3 refine (read_row_miss _ _ _ _ _ _ _ _ (by simp)).trans ?_
    refine (read_row_hit _ _ _ _ _ _ _ _ (by simp) (by simp)).trans ?_
    refine (hi3 m c t _ k).trans (congrArg₂ (· + ·) ?_ rfl)
    exact row_ld _ (1 : Fin 2) (3 : Fin 8) _ _ (by simp) (by simp)

end Cert.Kernel2Ideal.FfnAcc

end
-- ==== Proof.FfnFinal.lean ====
/- The kernel's four arrays after the run, entry by entry. -/
module

public import proofs.«01_k».proof.Proof.FfnAcc
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.FfnFinal

open Cert.Kernel2Ideal Cert.Kernel2Ideal.Gen Cert.Kernel2Ideal.FfnOps Cert.Kernel2Ideal.FfnBlk Cert.Kernel2Ideal.FfnPay
open Cert.Kernel2Ideal.FfnPoint Cert.Kernel2Ideal.FfnOut Cert.Kernel2Ideal.FfnVal Cert.Kernel2Ideal.FfnAcc

/-- The last point of a block of columns. -/
def lastPt (j : Fin 4) : Fin cfg0.N := ⟨16 * j.val + 15, by show 16 * j.val + 15 < 64; omega⟩

variable (m : (ℓ : Loc nD τ sig) → Buf (Elt Ideal) ℓ) (c : Dev nD)

/-- The reversed tiles of a column's rows are all its rows. -/
theorem rev_sum (f : Fin 8192 → EReal) :
    (∑ s : Fin 16, ∑ x : Fin 512, f ⟨512 * (15 - s.val) + x.val, by omega⟩) = ∑ n : Fin 8192, f n := by
  rw [← Equiv.sum_comp (Fin.revPerm : Equiv.Perm (Fin 16))]
  refine Fin.sum_mul_add_congr (S := 16) (n := 512) fun s x hl => congrArg f (Fin.ext ?_)
  simp only [Fin.revPerm_apply, Fin.val_rev]
  omega

section last

/-- A point of the same block of columns. -/
theorem same (t : Fin cfg0.N) (s : Fin 16) (hs : 16 * (t.val / 16) + s.val < cfg0.N) : jb ⟨16 * (t.val / 16) + s.val, hs⟩ = jb t :=
  Fin.ext (by show (16 * (t.val / 16) + s.val) / 16 = t.val / 16; omega)

theorem row_same (t : Fin cfg0.N) (s : Fin 16) (hs : 16 * (t.val / 16) + s.val < cfg0.N) (x : Fin 512) :
    row ⟨16 * (t.val / 16) + s.val, hs⟩ x = ⟨512 * (15 - s.val) + x.val, by omega⟩ :=
  Fin.ext (by show 512 * (15 - (16 * (t.val / 16) + s.val) % 16) + x.val = _; congr 3; omega)

variable (t : Fin cfg0.N) (ht : t.val % 16 = 16 - 1)

include ht

/-- The first weight's gradient at the last point of a block of columns. -/
theorem last13 (h : Fin 2) (d : Fin 1024) (k : Fin 704) :
    ((outsAt0 m c t.val t.isLt).2.1 (ix4 h 0 d k) : EReal) = (inp m c).gUp d (half h (hcol (jb t) k)) := by
  refine (Pipeline.eq_sum_fin_of_reset_step_apply_of_flush (N := cfg0.N)
    (fun n hn (i : Fin 2 × Fin 1024 × Fin 704) => ((outsAt0 m c n hn).2.1 (ix4 i.1 0 i.2.1 i.2.2) : EReal)) 16 (fun _ => 0)
    (fun t i => termUp m c t i.2.1 (half i.1 (hcol (jb t) i.2.2)))
    (fun t h i => (out13_A m c t h i.1 i.2.1 i.2.2).trans (zero_add _).symm)
    (fun t h i => out13_B m c t h i.1 i.2.1 i.2.2) t ht (h, d, k)).trans ?_
  rw [zero_add]
  simp only [termUp, row_same, same]
  exact rev_sum fun n => (inp m c).h n d * (inp m c).dpre n (half h (hcol (jb t) k))

/-- The second weight's gradient at the last point of a block of columns. -/
theorem last14 (k : Fin 704) (d : Fin 1024) :
    ((outsAt0 m c t.val t.isLt).2.2.1 (ix3 0 k d) : EReal) = (inp m c).gDown (hcol (jb t) k) d := by
  refine (Pipeline.eq_sum_fin_of_reset_step_apply_of_flush (N := cfg0.N)
    (fun n hn (i : Fin 704 × Fin 1024) => ((outsAt0 m c n hn).2.2.1 (ix3 0 i.1 i.2) : EReal)) 16 (fun _ => 0)
    (fun t i => termDown m c t (hcol (jb t) i.1) i.2)
    (fun t h i => (out14_A m c t h i.1 i.2).trans (zero_add _).symm)
    (fun t h i => out14_B m c t h i.1 i.2) t ht (k, d)).trans ?_
  rw [zero_add]
  simp only [termDown, row_same, same]
  exact rev_sum fun n => (inp m c).sl n (hcol (jb t) k) * (inp m c).val n (hcol (jb t) k) * (inp m c).do2 n d

/-- The gradients of taps and bias at the last point of a block of columns. -/
theorem last15 (h : Fin 2) (q : Fin 4) (k : Fin 704) :
    ((outsAt0 m c t.val t.isLt).2.2.2.1 (ix4 h 0 ⟨q.val, by omega⟩ (wide k)) : EReal)
      = ∑ n : Fin 8192, rowTerm q (fun n => (inp m c).dup n (half h (hcol (jb t) k))) (fun n => (inp m c).pre n (half h (hcol (jb t) k))) n := by
  refine (Pipeline.eq_sum_fin_of_reset_step_apply_of_flush (N := cfg0.N)
    (fun n hn (i : Fin 2 × Fin 4 × Fin 704) => ((outsAt0 m c n hn).2.2.2.1 (ix4 i.1 0 ⟨i.2.1.val, by omega⟩ (wide i.2.2)) : EReal)) 16 (fun _ => 0)
    (fun t i => termAcc m c t i.2.1 (half i.1 (hcol (jb t) i.2.2)))
    (fun t h i => (out15_A m c t h i.1 i.2.1 i.2.2).trans (zero_add _).symm)
    (fun t h i => out15_B m c t h i.1 i.2.1 i.2.2) t ht (h, q, k)).trans ?_
  rw [zero_add]
  simp only [termAcc, row_same, same]
  exact rev_sum _

end last

/-- The parts of the input's gradient after the run. -/
theorem final12 : (dats m 0 c).arrAt 12 (cfgs 0).N = fun y : S4x8192x1024.Idx => termH m c (y 1) (y 2) (y 0) := by
  refine (dats m 0 c).arrAt_eq_of_covers 12 _ (by decide +kernel) fun t hf y => ?_
  blk_simp
  rw [after0_12]
  obtain ⟨x, d, rfl⟩ : ∃ (x : Fin 512) (d : Fin 1024), y = ix3 (0 : Fin 1) x d :=
    ⟨y 1, y 2, (eq_ix3 y).trans (congrArg (ix3 · (y 1) (y 2)) (Subsingleton.elim _ _))⟩
  refine (out12_at m c t x d).trans ?_
  congr 1
  all_goals refine Fin.ext ?_
  all_goals blk_simp [idx_val t]
  all_goals simp only [row, jb]
  all_goals omega

/-- The first weight's gradient after the run. -/
theorem final13 : (dats m 0 c).arrAt 13 (cfgs 0).N = fun y : S2x4x1024x704.Idx => (inp m c).gUp (y 2) (half (y 0) (hcol (y 1) (y 3))) := by
  refine (dats m 0 c).arrAt_eq_of_covers 13 _ (by decide +kernel) fun t hf y => ?_
  blk_simp
  rw [after0_13]
  obtain ⟨h, d, k, rfl⟩ : ∃ (h : Fin 2) (d : Fin 1024) (k : Fin 704), y = ix4 h (0 : Fin 1) d k :=
    ⟨y 0, y 2, y 3, (eq_ix4 y).trans (congrArg (ix4 (y 0) · (y 2) (y 3)) (Subsingleton.elim _ _))⟩
  refine (last13 m c t ((flush0_13 t).mp hf) h d k).trans ?_
  have e : (win0_13.blk t).view.emb (ix4 h (0 : Fin 1) d k) = (ix4 h (jb t) d k : S2x4x1024x704.Idx) := by
    refine (eq_ix4 _).trans ?_
    congr 1
    all_goals refine Fin.ext ?_
    all_goals blk_simp [idx_val t]
    all_goals simp only [jb]
    all_goals omega
  erw [e]
  rfl

/-- The second weight's gradient after the run. -/
theorem final14 : (dats m 0 c).arrAt 14 (cfgs 0).N = fun y : S4x704x1024.Idx => (inp m c).gDown (hcol (y 0) (y 1)) (y 2) := by
  refine (dats m 0 c).arrAt_eq_of_covers 14 _ (by decide +kernel) fun t hf y => ?_
  blk_simp
  rw [after0_14]
  obtain ⟨k, d, rfl⟩ : ∃ (k : Fin 704) (d : Fin 1024), y = ix3 (0 : Fin 1) k d :=
    ⟨y 1, y 2, (eq_ix3 y).trans (congrArg (ix3 · (y 1) (y 2)) (Subsingleton.elim _ _))⟩
  refine (last14 m c t ((flush0_14 t).mp hf) k d).trans ?_
  have e : (win0_14.blk t).view.emb (ix3 (0 : Fin 1) k d) = (ix3 (jb t) k d : S4x704x1024.Idx) := by
    refine (eq_ix3 _).trans ?_
    congr 1
    all_goals refine Fin.ext ?_
    all_goals blk_simp [idx_val t]
    all_goals simp only [jb]
    all_goals omega
  erw [e]
  rfl

/-- The gradients of taps and bias after the run: what the last point of each block of columns left. -/
theorem final15 : (dats m 0 c).arrAt 15 (cfgs 0).N
    = fun y : S2x4x8x768.Idx => (outsAt0 m c (lastPt (y 1)).val (lastPt (y 1)).isLt).2.2.2.1 (ix4 (y 0) (0 : Fin 1) (y 2) (y 3)) := by
  refine (dats m 0 c).arrAt_eq_of_covers 15 _ (by decide +kernel) fun t hf y => ?_
  blk_simp
  rw [after0_15]
  obtain ⟨h, r, k, rfl⟩ : ∃ (h : Fin 2) (r : Fin 8) (k : Fin 768), y = ix4 h (0 : Fin 1) r k :=
    ⟨y 0, y 2, y 3, (eq_ix4 y).trans (congrArg (ix4 (y 0) · (y 2) (y 3)) (Subsingleton.elim _ _))⟩
  have e : (win0_15.blk t).view.emb (ix4 h (0 : Fin 1) r k) = (ix4 h (jb t) r k : S2x4x8x768.Idx) := by
    refine (eq_ix4 _).trans ?_
    congr 1
    all_goals refine Fin.ext ?_
    all_goals blk_simp [idx_val t]
    all_goals simp only [jb]
    all_goals omega
  erw [e]
  have l : lastPt (jb t) = t := Fin.ext (by have := (flush0_15 t).mp hf; show 16 * (t.val / 16) + 15 = t.val; omega)
  show _ = (outsAt0 m c (lastPt (jb t)).val (lastPt (jb t)).isLt).2.2.2.1 (ix4 h (0 : Fin 1) r k)
  rw [l]

/-- The gradient of a tap, from the kernel's array. -/
theorem acc_tap (j : Fin 4) (h : Fin 2) (q : Fin 3) (k : Fin 704) :
    ((outsAt0 m c (lastPt j).val (lastPt j).isLt).2.2.2.1 (ix4 h 0 ⟨q.val, by omega⟩ (wide k)) : EReal) = (inp m c).gCw q (half h (hcol j k)) := by
  have hj : jb (lastPt j) = j := Fin.ext (by show (16 * j.val + 15) / 16 = j.val; omega)
  have hm : (lastPt j).val % 16 = 16 - 1 := by show (16 * j.val + 15) % 16 = _; omega
  refine (last15 m c (lastPt j) hm h ⟨q.val, by omega⟩ k).trans ?_
  rw [hj]
  refine Finset.sum_congr rfl fun n _ => ?_
  rw [rowTerm, if_neg (by intro e; have := congrArg Fin.val e; simp at this; omega)]

/-- The gradient of the bias, from the kernel's array. -/
theorem acc_bias (j : Fin 4) (h : Fin 2) (k : Fin 704) :
    ((outsAt0 m c (lastPt j).val (lastPt j).isLt).2.2.2.1 (ix4 h 0 3 (wide k)) : EReal) = (inp m c).gCb (half h (hcol j k)) := by
  have hj : jb (lastPt j) = j := Fin.ext (by show (16 * j.val + 15) / 16 = j.val; omega)
  have hm : (lastPt j).val % 16 = 16 - 1 := by show (16 * j.val + 15) % 16 = _; omega
  refine (last15 m c (lastPt j) hm h 3 k).trans ?_
  rw [hj]
  exact Finset.sum_congr rfl fun n _ => by rw [rowTerm, if_pos rfl]

end Cert.Kernel2Ideal.FfnFinal

end
-- ==== Proof.FfnTail.lean ====
/- The host lines after the call `bwd_ffn`: its sums of blocks and its orders of columns. -/
module

public import proofs.«01_k».proof.Proof.FfnFinal

@[expose] public section

set_option maxRecDepth 16384

noncomputable section

open Idealize.ShloMosaic Idealize.ShloMosaic.TcCoe Idealize.SL.Sem

namespace Cert.Kernel2Ideal.FfnTail

open Cert.Kernel2Ideal Cert.Kernel2Ideal.Gen Cert.Kernel2Ideal.FfnOps Cert.Kernel2Ideal.FfnBlk Cert.Kernel2Ideal.FfnVal

theorem half_val (h : Fin 2) (j : Fin 4) (k : Fin 704) : (half h (hcol j k)).val = (4 * h.val + j.val) * 704 + k.val := by
  fin_cases h
  · show j.val * 704 + k.val = (4 * 0 + j.val) * 704 + k.val
    omega
  · show 2816 + (j.val * 704 + k.val) = (4 * 1 + j.val) * 704 + k.val
    omega

variable (T : Valuation τ sig (Elt Ideal))

/-- The sum of the four blocks of `dh2`. -/
theorem tail_h (n : Fin 8192) (d : Fin 1024) :
    (StableHlo.after hostOps1 T (Proc.devRef .tc main_v72) : FVec Ideal S8192x1024 .f32) (ix2 n d)
      = (fun A : FVec Ideal S4x8192x1024 .f32 => ((A (ix3 0 n d) + A (ix3 1 n d)) + (A (ix3 2 n d) + A (ix3 3 n d)) : EReal))
          (T (Proc.devRef .tc main_v47_0)) := by
  simp only [hostOps1]
  after_reads_at

theorem tail_up (d : Fin 1024) (h : Fin 2) (j : Fin 4) (k : Fin 704) :
    (StableHlo.after hostOps1 T (Proc.devRef .tc main_v61) : FVec Ideal S1x1024x5632 .f32) (ix3 0 d (half h (hcol j k)))
      = (T (Proc.devRef .tc main_v47_1) : FVec Ideal S2x4x1024x704 .f32) (ix4 h j d k) := by
  simp only [hostOps1]
  after_reads_at
  refine congrArg (T (Proc.devRef .tc main_v47_1)) ?_
  have hv := half_val h j k
  have hk := k.isLt
  have hj := j.isLt
  congr 1 <;> refine Fin.ext ?_ <;> simp only [wide, hv] <;> omega

theorem tail_cw (q : Fin 3) (h : Fin 2) (j : Fin 4) (k : Fin 704) :
    (StableHlo.after hostOps1 T (Proc.devRef .tc main_v59) : FVec Ideal S1x3x5632 .f32) (ix3 0 q (half h (hcol j k)))
      = (T (Proc.devRef .tc main_v47_3) : FVec Ideal S2x4x8x768 .f32) (ix4 h j ⟨q.val, by omega⟩ (wide k)) := by
  simp only [hostOps1]
  after_reads_at
  refine congrArg (T (Proc.devRef .tc main_v47_3)) ?_
  have hv := half_val h j k
  have hk := k.isLt
  have hj := j.isLt
  congr 1 <;> refine Fin.ext ?_ <;> simp only [wide, hv] <;> omega

theorem tail_cb (h : Fin 2) (j : Fin 4) (k : Fin 704) :
    (StableHlo.after hostOps1 T (Proc.devRef .tc main_v55) : FVec Ideal S1x5632 .f32) (ix2 0 (half h (hcol j k)))
      = (T (Proc.devRef .tc main_v47_3) : FVec Ideal S2x4x8x768 .f32) (ix4 h j 3 (wide k)) := by
  simp only [hostOps1]
  after_reads_at
  refine congrArg (T (Proc.devRef .tc main_v47_3)) ?_
  have hv := half_val h j k
  have hk := k.isLt
  have hj := j.isLt
  congr 1 <;> refine Fin.ext ?_ <;> simp only [wide, hv] <;> omega

theorem tail_down (j : Fin 4) (k : Fin 704) (d : Fin 1024) :
    (StableHlo.after hostOps1 T (Proc.devRef .tc main_v73) : FVec Ideal S1x2816x1024 .f32) (ix3 0 (hcol j k) d)
      = (T (Proc.devRef .tc main_v47_2) : FVec Ideal S4x704x1024 .f32) (ix3 j k d) := by
  simp only [hostOps1]
  after_reads_at
  refine congrArg (T (Proc.devRef .tc main_v47_2)) ?_
  have hk := k.isLt
  congr 1 <;> refine Fin.ext ?_ <;> simp only [hcol] <;> omega

end Cert.Kernel2Ideal.FfnTail

end
-- ==== Proof.Ffn.lean ====
/- The value claim about `bwd_ffn`: from finite arguments the call and the host lines around it leave the five gradients
   that the reference leaves. -/
module

public import proofs.«01_k».proof.Defs
public import proofs.«01_k».proof.Proof.FfnRefEq
public import proofs.«01_k».proof.Proof.FfnTail
public import Idealize.ShloMosaic.Lib.Claim

@[expose] public section

set_option maxRecDepth 16384

noncomputable section

open Idealize.ShloMosaic Idealize.ShloMosaic.TcCoe Idealize.SL.Sem

namespace Cert.Kernel2Ideal.FfnResults

open Cert.Kernel2Ideal Cert.Kernel2Ideal.Gen Cert.Kernel2Ideal.FfnOps Cert.Kernel2Ideal.FfnBlk Cert.Kernel2Ideal.FfnVal
open Cert.Kernel2Ideal.FfnFinal Cert.Kernel2Ideal.FfnTail

variable (m : (ℓ : Loc nD τ sig) → Buf (Elt Ideal) ℓ) (c : Dev nD)

/-- The buffers after the call and the host lines. -/
abbrev W (b : Ref sig .tc) : Buf (Elt Ideal) ((c.tc : Thread nD τ).loc b) :=
  Pipeline.afterTail₀ cfgs (dats m) 0 (V0 m) [hostOps1] c b

/-- The buffers right after the call. -/
def T : Valuation τ sig (Elt Ideal) :=
  Pipeline.withArrays (cfgs 0).spec c (V0 m c) fun w => (dats m 0 c).arrAt w (cfgs 0).N

/-- The array of a window that shares it with no other. -/
theorem T_at (w : Fin 16) (hw : ∀ w', Pipeline.arrRef (cfgs 0).spec w' = Pipeline.arrRef (cfgs 0).spec w → w' = w) :
    T m c (Proc.devRef .tc (Pipeline.arrRef (cfgs 0).spec w)) = (dats m 0 c).arrAt w (cfgs 0).N := by
  unfold T Pipeline.withArrays
  rw [dif_pos ⟨w, rfl⟩]
  suffices ∀ (w' : Fin 16) (e : Proc.devRef .tc (Pipeline.arrRef (cfgs 0).spec w') = Proc.devRef (τ := τ) .tc (Pipeline.arrRef (cfgs 0).spec w)),
      cast (congrArg (fun b' : DevRef τ sig => b'.ty.Contents (Elt Ideal)) e) ((dats m 0 c).arrAt w' (cfgs 0).N) = (dats m 0 c).arrAt w (cfgs 0).N
    from this _ (Exists.choose_spec (p := fun w' => Proc.devRef .tc (Pipeline.arrRef (cfgs 0).spec w') = Proc.devRef (τ := τ) .tc (Pipeline.arrRef (cfgs 0).spec w)) ⟨w, rfl⟩)
  intro w' e
  obtain rfl := hw w' (Proc.devRef_injective _ e)
  rfl

theorem T_12 : T m c (Proc.devRef .tc main_v47_0) = (dats m 0 c).arrAt 12 (cfgs 0).N :=
  T_at m c 12 (by decide)
theorem T_13 : T m c (Proc.devRef .tc main_v47_1) = (dats m 0 c).arrAt 13 (cfgs 0).N :=
  T_at m c 13 (by decide)
theorem T_14 : T m c (Proc.devRef .tc main_v47_2) = (dats m 0 c).arrAt 14 (cfgs 0).N :=
  T_at m c 14 (by decide)
theorem T_15 : T m c (Proc.devRef .tc main_v47_3) = (dats m 0 c).arrAt 15 (cfgs 0).N :=
  T_at m c 15 (by decide)

/-- The columns are the columns of the blocks. -/
theorem exists_col (q : Fin 5632) : ∃ h j k, q = half h (hcol j k) :=
  ⟨⟨q.val / 2816, by omega⟩, ⟨q.val % 2816 / 704, by omega⟩, ⟨q.val % 704, by omega⟩, Fin.ext (by rw [half_val]; simp only; omega)⟩

theorem exists_hcol (q : Fin 2816) : ∃ j k, q = hcol j k :=
  ⟨⟨q.val / 704, by omega⟩, ⟨q.val % 704, by omega⟩, Fin.ext (by simp only [hcol]; omega)⟩

/-- A sum over all columns, block by block. -/
theorem col_sum (f : Fin 5632 → EReal) (g : Fin 4 → EReal)
    (hg : ∀ j, g j = (∑ k : Fin 704, f (Ffn.lo (hcol j k))) + ∑ k : Fin 704, f (Ffn.hi (hcol j k))) :
    (g 0 + g 1) + (g 2 + g 3) = ∑ q, f q := by
  have e1 : ∀ u : Fin 2816 → EReal, ∑ j : Fin 4, ∑ k : Fin 704, u (hcol j k) = ∑ q, u q := fun u =>
    Fin.sum_mul_add_congr (S := 4) (n := 704) fun s k hl => rfl
  have e2 : ∑ q, f q = (∑ q : Fin 2816, f (Ffn.lo q)) + ∑ q : Fin 2816, f (Ffn.hi q) :=
    Fin.sum_univ_add (a := 2816) (b := 2816) f
  rw [e2, ← e1 fun q => f (Ffn.lo q), ← e1 fun q => f (Ffn.hi q), ← Finset.sum_add_distrib]
  simp only [← hg]
  rw [Fin.sum_univ_four, ← add_assoc (g 0 + g 1)]

theorem res_h (n : Fin 8192) (d : Fin 1024) : ((W m c main_v72 : FVec Ideal S8192x1024 .f32) (ix2 n d) : EReal) = (inp m c).gH n d := by
  refine (tail_h (T m c) n d).trans ?_
  rw [T_12, final12]
  exact col_sum (fun q => (inp m c).dpre n q * (inp m c).wu d q) (termH m c n d) fun j => rfl

theorem res_up (d : Fin 1024) (q : Fin 5632) : ((W m c main_v61 : FVec Ideal S1x1024x5632 .f32) (ix3 0 d q) : EReal) = (inp m c).gUp d q := by
  obtain ⟨h, j, k, rfl⟩ := exists_col q
  refine (tail_up (T m c) d h j k).trans ?_
  rw [T_13, final13]
  rfl

theorem res_cw (r : Fin 3) (q : Fin 5632) : ((W m c main_v59 : FVec Ideal S1x3x5632 .f32) (ix3 0 r q) : EReal) = (inp m c).gCw r q := by
  obtain ⟨h, j, k, rfl⟩ := exists_col q
  refine (tail_cw (T m c) r h j k).trans ?_
  rw [T_15, final15]
  exact acc_tap m c j h r k

theorem res_cb (q : Fin 5632) : ((W m c main_v55 : FVec Ideal S1x5632 .f32) (ix2 0 q) : EReal) = (inp m c).gCb q := by
  obtain ⟨h, j, k, rfl⟩ := exists_col q
  refine (tail_cb (T m c) h j k).trans ?_
  rw [T_15, final15]
  exact acc_bias m c j h k

theorem res_down (q : Fin 2816) (d : Fin 1024) : ((W m c main_v73 : FVec Ideal S1x2816x1024 .f32) (ix3 0 q d) : EReal) = (inp m c).gDown q d := by
  obtain ⟨j, k, rfl⟩ := exists_hcol q
  refine (tail_down (T m c) j k d).trans ?_
  rw [T_14, final14]
  rfl

end Cert.Kernel2Ideal.FfnResults

namespace Cert.Ffn

/-- The precondition: every argument is a real number. -/
theorem real_of_pre [Cert.Pre_finite_ffn.Facts] (m : (ℓ : Loc Kernel2Ideal.nD Kernel2Ideal.τ Kernel2Ideal.sig) → Buf (Elt Ideal) ℓ)
    (hpre : Pre_Kernel2Ideal_finite_ffn m) (c : Dev Kernel2Ideal.nD) : (Kernel2Ideal.FfnOps.inp m c).Real := by
  have e := congrFun (hpre c) ix0
  unfold Cert.Pre_finite_ffn.fn Cert.Pre_finite_ffn.fn_part1 at e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  haveI : Subsingleton Cert.Pre_finite_ffn.S_.Idx := ⟨fun a b => funext fun i => i.elim0⟩
  exact ⟨fun n d => IsReal.of_all _ _ _ _ _ _ h0 (ix2 n d), fun d q => IsReal.of_all _ _ _ _ _ _ h1 (ix3 0 d q),
    fun j q => IsReal.of_all _ _ _ _ _ _ h2 (ix3 0 j q), fun q => IsReal.of_all _ _ _ _ _ _ h3 (ix2 0 q),
    fun k d => IsReal.of_all _ _ _ _ _ _ h4 (ix3 0 k d), fun d => IsReal.of_all _ _ _ _ _ _ h5 (ix2 0 d),
    fun n d => IsReal.of_all _ _ _ _ _ _ h6 (ix2 n d)⟩

/-- The two memories hold the same arguments. -/
theorem inp_eq (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ) (c : Dev Kernel2Ideal.nD)
    (a0 : m' (c.tc.loc Reference2Ideal.main_arg0) = m (c.tc.loc Kernel2Ideal.main_arg0))
    (a1 : m' (c.tc.loc Reference2Ideal.main_arg1) = m (c.tc.loc Kernel2Ideal.main_arg1))
    (a2 : m' (c.tc.loc Reference2Ideal.main_arg2) = m (c.tc.loc Kernel2Ideal.main_arg2))
    (a3 : m' (c.tc.loc Reference2Ideal.main_arg3) = m (c.tc.loc Kernel2Ideal.main_arg3))
    (a4 : m' (c.tc.loc Reference2Ideal.main_arg4) = m (c.tc.loc Kernel2Ideal.main_arg4))
    (a5 : m' (c.tc.loc Reference2Ideal.main_arg5) = m (c.tc.loc Kernel2Ideal.main_arg5))
    (a6 : m' (c.tc.loc Reference2Ideal.main_arg6) = m (c.tc.loc Kernel2Ideal.main_arg6)) :
    Reference2Ideal.FfnRef.inp m' c = Kernel2Ideal.FfnOps.inp m c := by
  unfold Reference2Ideal.FfnRef.inp Kernel2Ideal.FfnOps.inp Reference2Ideal.FfnRef.aH Reference2Ideal.FfnRef.aWu
    Reference2Ideal.FfnRef.aCw Reference2Ideal.FfnRef.aCb Reference2Ideal.FfnRef.aWd Reference2Ideal.FfnRef.aGt Reference2Ideal.FfnRef.aDx
  rw [a0, a1, a2, a3, a4, a5, a6]

/-- The gradients of the layer's input, its two weights, the convolution's taps and its bias are the reference's. -/
theorem algebraic [Cert.Pre_finite_ffn.Facts] : Cert.algebraic_Kernel2Ideal_Reference2Ideal_pre_finite_ffn := by
  pair_intro
  · run_from Cert.Kernel2Ideal.Gen.run_main m g
    · exact Cert.Kernel2Ideal.Gen.W_main_arg0 m _ c
    · exact Cert.Kernel2Ideal.Gen.W_main_arg1 m _ c
    · exact Cert.Kernel2Ideal.Gen.W_main_arg2 m _ c
    · exact Cert.Kernel2Ideal.Gen.W_main_arg3 m _ c
    · exact Cert.Kernel2Ideal.Gen.W_main_arg4 m _ c
    · exact Cert.Kernel2Ideal.Gen.W_main_arg5 m _ c
  · refine (θ_run _ _ _).mono (fun r h c => ?_) (Cert.Reference2Ideal.Value.run (F := Ideal) m' g')
    obtain ⟨a0, a1, a2, a3, a4, a5, a6⟩ := hagree c
    have hi := inp_eq m m' c a0 a1 a2 a3 a4 a5 a6
    have hA : (Reference2Ideal.FfnRef.inp m' c).Real := hi ▸ real_of_pre m hpre c
    obtain ⟨h0, h1, h2, h3, h4, hr⟩ := h c
    refine ⟨h0.trans ?_, h1.trans ?_, h2.trans ?_, h3.trans ?_, h4.trans ?_, hr⟩
    · funext y
      obtain ⟨n, d, rfl⟩ : ∃ (n : Fin 8192) (d : Fin 1024), y = ix2 n d := ⟨y 0, y 1, eq_ix2 y⟩
      exact (Reference2Ideal.FfnRef.out0_at m' c hA n d).trans ((congrArg (·.gH n d) hi).trans
        (Kernel2Ideal.FfnResults.res_h m c n d).symm)
    · funext y
      obtain ⟨d, q, rfl⟩ : ∃ (d : Fin 1024) (q : Fin 5632), y = ix3 (0 : Fin 1) d q :=
        ⟨y 1, y 2, (eq_ix3 y).trans (congrArg (ix3 · (y 1) (y 2)) (Subsingleton.elim (α := Fin 1) _ _))⟩
      exact (Reference2Ideal.FfnRef.out1_at m' c hA d q).trans ((congrArg (·.gUp d q) hi).trans
        (Kernel2Ideal.FfnResults.res_up m c d q).symm)
    · funext y
      obtain ⟨j, q, rfl⟩ : ∃ (j : Fin 3) (q : Fin 5632), y = ix3 (0 : Fin 1) j q :=
        ⟨y 1, y 2, (eq_ix3 y).trans (congrArg (ix3 · (y 1) (y 2)) (Subsingleton.elim (α := Fin 1) _ _))⟩
      exact (Reference2Ideal.FfnRef.out2_at m' c hA j q).trans ((congrArg (·.gCw j q) hi).trans
        (Kernel2Ideal.FfnResults.res_cw m c j q).symm)
    · funext y
      obtain ⟨q, rfl⟩ : ∃ q : Fin 5632, y = ix2 (0 : Fin 1) q :=
        ⟨y 1, (eq_ix2 y).trans (congrArg (ix2 · (y 1)) (Subsingleton.elim (α := Fin 1) _ _))⟩
      exact (Reference2Ideal.FfnRef.out3_at m' c hA q).trans ((congrArg (·.gCb q) hi).trans
        (Kernel2Ideal.FfnResults.res_cb m c q).symm)
    · funext y
      obtain ⟨k, d, rfl⟩ : ∃ (k : Fin 2816) (d : Fin 1024), y = ix3 (0 : Fin 1) k d :=
        ⟨y 1, y 2, (eq_ix3 y).trans (congrArg (ix3 · (y 1) (y 2)) (Subsingleton.elim (α := Fin 1) _ _))⟩
      exact (Reference2Ideal.FfnRef.out4_at m' c k d).trans ((congrArg (·.gDown k d) hi).trans
        (Kernel2Ideal.FfnResults.res_down m c k d).symm)

/-- The reference ends with every semaphore counter at zero and its arguments unchanged. -/
theorem frame_reference : Cert.quiescent_Reference2Ideal := fun m ρ _ =>
  (θ_run _ _ _).mono (fun r h => ⟨fun c => (h c).2.2.2.2.2, sem_eq_zero_of_no_sems (by decide) r.2⟩)
    (Cert.Reference2Ideal.Value.run (F := Ideal) m ρ)

end Cert.Ffn

end
-- ==== Proof.LossMath.lean ====
/- The loss at the end of the network and its gradient, entry by entry over the extended reals: the root-mean-square norm of
   the rows of `x`, scaled by a gain, and half the mean square of its distance from a target, summed over the rows. -/
module

public import proofs.«01_k».proof.Proof.FfnReal
public import Mathlib.Tactic.FieldSimp
public import Mathlib.Tactic.Positivity

@[expose] public section

set_option maxRecDepth 16384

noncomputable section

open Idealize.ShloMosaic

namespace Cert.Loss

/-- the norm's small summand -/
def eps : EReal := Ideal.ofBits FTy.f32 0x358637BD#32
/-- the number of columns -/
def cD : EReal := Ideal.ofBits FTy.f32 0x44800000#32
/-- one over the number of columns -/
def cInv : EReal := Ideal.ofBits FTy.f32 0x3A800000#32
/-- half of that -/
def cHalfInv : EReal := Ideal.ofBits FTy.f32 0x3A000000#32
/-- one half -/
def cHalf : EReal := Ideal.ofBits FTy.f32 0x3F000000#32
/-- minus one half -/
def cNegHalf : EReal := Ideal.ofBits FTy.f32 0xBF000000#32
/-- two -/
def cTwo : EReal := Ideal.ofBits FTy.f32 0x40000000#32
/-- one -/
def cOne : EReal := Ideal.ofBits FTy.f32 0x3F800000#32

/-- The rows, the gain and the target. -/
structure Head where
  x : Fin 8192 → Fin 1024 → EReal
  gf : Fin 1024 → EReal
  tg : Fin 8192 → Fin 1024 → EReal

namespace Head

variable (H : Head)

/-- a row's mean square, and the small summand -/
def ms (n : Fin 8192) : EReal := Ideal.div (∑ d, H.x n d * H.x n d) cD + eps
/-- one over the root of it -/
def rs (n : Fin 8192) : EReal := Ideal.rsqrt (H.ms n)
/-- the normed rows -/
def xn (n : Fin 8192) (d : Fin 1024) : EReal := H.x n d * H.rs n
/-- the distance from the target -/
def diff (n : Fin 8192) (d : Fin 1024) : EReal := H.xn n d * H.gf d - H.tg n d
/-- the loss -/
def loss : EReal := cHalf * ∑ n, Ideal.div (∑ d, H.diff n d * H.diff n d) cD
/-- the gradient of the scaled rows -/
def dout (n : Fin 8192) (d : Fin 1024) : EReal := H.diff n d * cInv
/-- the gradient of the normed rows -/
def dxn (n : Fin 8192) (d : Fin 1024) : EReal := H.dout n d * H.gf d
/-- the gradient of the rows -/
def gX (n : Fin 8192) (d : Fin 1024) : EReal :=
  H.rs n * (H.dxn n d - H.xn n d * Ideal.div (∑ e, H.dxn n e * H.xn n e) cD)
/-- the gradient of the gain -/
def gGf (d : Fin 1024) : EReal := ∑ n, H.dout n d * H.xn n d

end Head

/-- The last feed-forward layer, and the loss after it. -/
structure In where
  /-- the layer -/
  A : Ffn.In
  /-- what its result is added to -/
  x2 : Fin 8192 → Fin 1024 → EReal
  /-- the final norm's gain -/
  gf : Fin 1024 → EReal
  /-- the target -/
  tg : Fin 8192 → Fin 1024 → EReal

namespace In

variable (I : In)

/-- the layer's second product -/
def o2 (n : Fin 8192) (d : Fin 1024) : EReal := ∑ k : Fin 2816, I.A.sl n k * I.A.val n k * I.A.wd k d
/-- the rows that reach the final norm -/
def x3 (n : Fin 8192) (d : Fin 1024) : EReal := I.x2 n d + I.A.gt d * I.o2 n d
/-- the loss of these rows -/
def head : Head := ⟨I.x3, I.gf, I.tg⟩
/-- the gradient of the factor of the layer's result -/
def gGt (d : Fin 1024) : EReal := ∑ n, I.head.gX n d * I.o2 n d

end In

end Cert.Loss

end
-- ==== Proof.LossReal.lean ====
/- The gradient of the root-mean-square norm for finite arguments, in two ways of writing it down, and the loss summed in
   two orders. -/
module

public import proofs.«01_k».proof.Proof.LossMath
public import Idealize.ShloMosaic.Lib.Pipeline.ValueKit.Acc

@[expose] public section

set_option maxRecDepth 16384

noncomputable section

open Idealize.ShloMosaic

namespace Cert.Loss

theorem cD_eq : cD = ((1024 : ℝ) : EReal) := by
  simp [cD, Ideal.ofBits, Ideal.ieee, -EReal.coe_mul]
  norm_num
theorem cInv_eq : cInv = ((1 / 1024 : ℝ) : EReal) := by
  simp [cInv, Ideal.ofBits, Ideal.ieee, -EReal.coe_mul]
  norm_num
theorem cHalfInv_eq : cHalfInv = ((1 / 2048 : ℝ) : EReal) := by
  simp [cHalfInv, Ideal.ofBits, Ideal.ieee, -EReal.coe_mul]
  norm_num
theorem cHalf_eq : cHalf = ((1 / 2 : ℝ) : EReal) := by
  simp [cHalf, Ideal.ofBits, Ideal.ieee, -EReal.coe_mul]
  norm_num
theorem cNegHalf_eq : cNegHalf = ((-(1 / 2) : ℝ) : EReal) := by
  simp [cNegHalf, Ideal.ofBits, Ideal.ieee, -EReal.coe_mul]
  norm_num
theorem cTwo_eq : cTwo = ((2 : ℝ) : EReal) := by
  simp [cTwo, Ideal.ofBits, Ideal.ieee, -EReal.coe_mul]
  norm_num
theorem cOne_eq : cOne = ((1 : ℝ) : EReal) := by
  simp [cOne, Ideal.ofBits, Ideal.ieee, -EReal.coe_mul]
  norm_num

/-- The norm's small summand is a positive real number. -/
theorem eps_eq : ∃ e : ℝ, 0 < e ∧ eps = (e : EReal) := by
  refine ⟨8796093 * (2 : ℝ) ^ (-43 : ℤ), by positivity, ?_⟩
  simp [eps, Ideal.ofBits, Ideal.ieee, -EReal.coe_mul]

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The norm's gradient over the reals. -/
theorem back_row (x g : Fin 1024 → ℝ) (e : ℝ) (he : 0 < e) (v r : ℝ) (hv : v = (∑ i, x i * x i) * (1 / 1024) + e)
    (hr : r = (Real.sqrt v)⁻¹) (d : Fin 1024) :
    g d * r + x d * ((∑ i, x i * g i) * (-(1 / 2) * (r * (1 / v))) * (1 / 1024))
        + (∑ i, x i * g i) * (-(1 / 2) * (r * (1 / v))) * (1 / 1024) * x d
      = r * (g d - x d * r * ((∑ i, g i * (x i * r)) * (1 / 1024))) := by
  have hv0 : 0 < v := by
    have : 0 ≤ ∑ i, x i * x i := Finset.sum_nonneg fun i _ => mul_self_nonneg _
    rw [hv]
    positivity
  have e1 : ∑ i, g i * (x i * r) = (∑ i, x i * g i) * r := by
    rw [Finset.sum_mul]
    exact Finset.sum_congr rfl fun i _ => by ring
  have e2 : 1 / v = r * r := by
    rw [hr, ← mul_inv, Real.mul_self_sqrt hv0.le, one_div]
  rw [e1, e2]
  ring

namespace Head

variable {H : Head}

/-- Every argument is a real number. -/
structure Real (H : Head) : Prop where
  x : ∀ n d, IsReal (H.x n d)
  gf : ∀ d, IsReal (H.gf d)
  tg : ∀ n d, IsReal (H.tg n d)

/-- The real numbers that the values are. -/
theorem Real.lift (hH : H.Real) (n : Fin 8192) : ∃ (x : Fin 1024 → ℝ) (e v r : ℝ), (∀ d, H.x n d = x d) ∧ 0 < e ∧ eps = (e : EReal)
    ∧ v = (∑ i, x i * x i) * (1 / 1024) + e ∧ 0 < v ∧ r = (Real.sqrt v)⁻¹ ∧ H.ms n = v ∧ H.rs n = r := by
  choose x hx using hH.x n
  obtain ⟨e, he, ee⟩ := eps_eq
  have hv0 : 0 < (∑ i, x i * x i) * (1 / 1024) + e := by
    have : 0 ≤ ∑ i, x i * x i := Finset.sum_nonneg fun i _ => mul_self_nonneg _
    positivity
  have hm : H.ms n = (((∑ i, x i * x i) * (1 / 1024) + e : ℝ) : EReal) := by
    rw [ms, cD_eq, Ideal.div_coe (by norm_num), ee]
    simp only [hx, ← EReal.coe_mul]
    rw [coe_sum, ← EReal.coe_mul, ← EReal.coe_add]
  refine ⟨x, e, _, _, hx, he, ee, rfl, hv0, rfl, hm, ?_⟩
  rw [rs, hm, Ideal.rsqrt_coe, if_neg (not_lt.2 hv0.le), if_neg hv0.ne']

theorem Real.rs (hH : H.Real) (n : Fin 8192) : IsReal (H.rs n) := by
  obtain ⟨_, _, _, r, _, _, _, _, _, _, _, h⟩ := hH.lift n
  exact ⟨r, h⟩

theorem Real.diff (hH : H.Real) (n : Fin 8192) (d : Fin 1024) : IsReal (H.diff n d) :=
  (((hH.x n d).mul (hH.rs n)).mul (hH.gf d)).sub (hH.tg n d)

theorem Real.dxn (hH : H.Real) (n : Fin 8192) (d : Fin 1024) : IsReal (H.dxn n d) :=
  ((hH.diff n d).mul ⟨_, cInv_eq⟩).mul (hH.gf d)

/-- The gradient of the scaled rows, as the chain rule gives it. -/
theorem dout_eq (n : Fin 8192) (d : Fin 1024) : Ideal.div (cHalf * cOne) cD * (cTwo * H.diff n d) = H.dout n d := by
  rw [dout, cHalf_eq, cOne_eq, cD_eq, cTwo_eq, cInv_eq, Ideal.div_coe (by norm_num), ← mul_assoc, mul_comm]
  simp only [← EReal.coe_mul]
  congr 2
  norm_num

/-- The gradient of the rows, as the chain rule gives it. -/
theorem Real.gX (hH : H.Real) (n : Fin 8192) (d : Fin 1024) :
    H.dxn n d * H.rs n + H.x n d * Ideal.div ((∑ e, H.x n e * H.dxn n e) * (cNegHalf * Ideal.div (H.rs n) (H.ms n))) cD
        + Ideal.div ((∑ e, H.x n e * H.dxn n e) * (cNegHalf * Ideal.div (H.rs n) (H.ms n))) cD * H.x n d
      = H.gX n d := by
  choose g hg using hH.dxn n
  obtain ⟨x, e, v, r, hx, he, _, hv, hv0, hr, hm, hs⟩ := hH.lift n
  rw [Head.gX, cD_eq, cNegHalf_eq]
  simp only [xn, hx, hg, hm, hs, Ideal.div_coe (show (1024 : ℝ) ≠ 0 by norm_num), Ideal.div_coe hv0.ne', ← EReal.coe_mul, coe_sum,
    ← EReal.coe_add, ← EReal.coe_sub]
  exact congrArg _ (back_row x g e he v r hv hr d)

/-- The loss, summed tile by tile and then over the columns. -/
theorem Real.loss (hH : H.Real) (row : Fin 32 → Fin 256 → Fin 8192) (hrow : ∀ t x, (row t x).val = t.val * 256 + x.val) :
    ∑ d : Fin 1024, ∑ t : Fin 32, (∑ x : Fin 256, H.diff (row t x) d * H.diff (row t x) d) * cHalfInv = H.loss := by
  choose f hf using hH.diff
  rw [Head.loss, cHalf_eq, cHalfInv_eq, cD_eq]
  simp only [hf, ← EReal.coe_mul, coe_sum, Ideal.div_coe (show (1024 : ℝ) ≠ 0 by norm_num)]
  congr 1
  rw [Finset.mul_sum]
  simp only [← Finset.sum_mul]
  have e1 : ∀ d : Fin 1024, ∑ t : Fin 32, ∑ x : Fin 256, f (row t x) d * f (row t x) d = ∑ n : Fin 8192, f n d * f n d := fun d =>
    Fin.sum_mul_add_congr (S := 32) (n := 256) fun t x hl => by
      rw [show row t x = ⟨t.val * 256 + x.val, hl⟩ from Fin.ext (hrow t x)]
  simp only [e1]
  rw [Finset.sum_comm, Finset.sum_mul]
  exact Finset.sum_congr rfl fun n _ => by ring

end Head

end Cert.Loss

end
-- ==== Proof.LossRef.lean ====
/- The reference's values of `fwd_ffn`: each array that the loss and its gradient pass through, and what it holds at an
   index. -/
module

public import proofs.«01_k».proof.Proof.LossReal
public import proofs.«01_k».proof.Proof.FfnRefEq
public import proofs.«01_k».proof.Proof.Gen.Reference4Ideal.Run

@[expose] public section

set_option maxRecDepth 16384

noncomputable section

open Idealize.ShloMosaic Idealize.ShloMosaic.TcCoe Idealize.SL.Sem

namespace Cert.Reference4Ideal.LossRef

open Cert.Reference4Ideal Cert.Reference4Ideal.Gen Cert.Reference2Ideal.FfnRef

variable (U : Valuation τ sig (Elt Ideal))

def aH : FVec Ideal S8192x1024 .f32 := U (Proc.devRef .tc main_arg0)
def aX : FVec Ideal S8192x1024 .f32 := U (Proc.devRef .tc main_arg1)
def aWu : FVec Ideal S1x1024x5632 .f32 := U (Proc.devRef .tc main_arg2)
def aCw : FVec Ideal S1x3x5632 .f32 := U (Proc.devRef .tc main_arg3)
def aCb : FVec Ideal S1x5632 .f32 := U (Proc.devRef .tc main_arg4)
def aWd : FVec Ideal S1x2816x1024 .f32 := U (Proc.devRef .tc main_arg5)
def aGt : FVec Ideal S1x1024 .f32 := U (Proc.devRef .tc main_arg6)
def aGf : FVec Ideal S1024 .f32 := U (Proc.devRef .tc main_arg7)
def aTg : FVec Ideal S8192x1024 .f32 := U (Proc.devRef .tc main_arg8)

/-- The layer's arguments and those of the loss. -/
def inp : Loss.In where
  A := {
    h := fun n d => aH U (ix2 n d)
    wu := fun d q => aWu U (ix3 0 d q)
    cw := fun r q => aCw U (ix3 0 r q)
    cb := fun q => aCb U (ix2 0 q)
    wd := fun k d => aWd U (ix3 0 k d)
    gt := fun d => aGt U (ix2 0 d)
    dx := fun _ _ => 0 }
  x2 n d := aX U (ix2 n d)
  gf d := aGf U (ix1 d)
  tg n d := aTg U (ix2 n d)

theorem conv_eq : (Value.res_main_v30 (F := Ideal) U : FVec Ideal S8192x5632 .f32) = rConv (rPre (aH U) (aWu U)) (aCw U) (aCb U) := rfl

theorem gate_eq : (Value.res_main_v32 (F := Ideal) U : FVec Ideal S8192x2816 .f32) = rGate (Value.res_main_v30 (F := Ideal) U) := rfl

/-- the second product of the layer -/
def rOut (g v : FVec Ideal S8192x2816 .f32) (wd : FVec Ideal S1x2816x1024 .f32) : FVec Ideal S8192x1024 .f32 :=
  Host.dotGeneral dot_S8192x2816_S2816x1024_S8192x1024_1_0_0_1_n_n none (mulf (mulf g (rSig g)) v)
    (shapeCast _ wd shapeCasts_S1x2816x1024_S2816x1024)

theorem out_eq : (Value.res_main_v36 (F := Ideal) U : FVec Ideal S8192x1024 .f32)
    = rOut (Value.res_main_v32 (F := Ideal) U) (rVal (Value.res_main_v30 (F := Ideal) U)) (aWd U) := rfl

theorem rOut_at (g v : FVec Ideal S8192x2816 .f32) (wd : FVec Ideal S1x2816x1024 .f32) (n : Fin 8192) (d : Fin 1024) :
    (rOut g v wd (ix2 n d) : EReal) = ∑ k : Fin 2816, (g (ix2 n k) : EReal) * rSig g (ix2 n k) * v (ix2 n k) * wd (ix3 0 k d) := by
  pointwise [rOut]

theorem conv_at (n : Fin 8192) (q : Fin 5632) : ((Value.res_main_v30 (F := Ideal) U : FVec Ideal S8192x5632 .f32) (ix2 n q) : EReal) = (inp U).A.conv n q := by
  rw [conv_eq]
  refine (rConv_at _ _ _ n q).trans ?_
  have e : (fun r => (rPre (aH U) (aWu U) (ix2 r q) : EReal)) = fun r => (inp U).A.pre r q := funext fun r => rPre_at _ _ r q
  rw [rBack0_at, rBack1_at, rBack2_at, e, rPre_at, zero_add]
  show (inp U).A.cw 0 q * _ + (inp U).A.cw 1 q * _ + (inp U).A.cw 2 q * (inp U).A.pre n q + (inp U).A.cb q = _
  rw [Ffn.In.conv, add_comm _ ((inp U).A.cb q), ← add_assoc, ← add_assoc]

theorem gate_at (n : Fin 8192) (k : Fin 2816) : ((Value.res_main_v32 (F := Ideal) U : FVec Ideal S8192x2816 .f32) (ix2 n k) : EReal) = (inp U).A.gate n k := by
  rw [gate_eq]
  exact (rGate_at _ n k).trans (conv_at U n _)

theorem out_at (n : Fin 8192) (d : Fin 1024) : ((Value.res_main_v36 (F := Ideal) U : FVec Ideal S8192x1024 .f32) (ix2 n d) : EReal) = (inp U).o2 n d := by
  rw [out_eq]
  refine (rOut_at _ _ _ n d).trans (Finset.sum_congr rfl fun k _ => ?_)
  refine congrArg (fun a : EReal => a * aWd U (ix3 0 k d)) ?_
  refine congrArg₂ (fun a b : EReal => a * b) (congrArg₂ (fun a b : EReal => a * b) (gate_at U n k) ?_) ?_
  · exact (rSig_at _ n k).trans (congrArg Ideal.logistic (gate_at U n k))
  · exact (rVal_at _ n k).trans (conv_at U n _)

section stages

variable (x r1 r2 g : FVec Ideal S8192x1024 .f32) (s v : FVec Ideal S8192x1 .f32) (gt : FVec Ideal S1x1024 .f32) (gf : FVec Ideal S1024 .f32)

def rRes (o : FVec Ideal S8192x1024 .f32) : FVec Ideal S8192x1024 .f32 :=
  addf x (mulf (broadcastInDim S8192x1024 ![0, 1] bcast_S1x1024_S8192x1024_0_1 gt) o)

theorem rRes_at (o : FVec Ideal S8192x1024 .f32) (n : Fin 8192) (d : Fin 1024) :
    (rRes x gt o (ix2 n d) : EReal) = (x (ix2 n d) : EReal) + gt (ix2 0 d) * o (ix2 n d) := by
  pointwise [rRes]

/-- the mean square of a row -/
def rMs : FVec Ideal S8192x1 .f32 :=
  addf (Host.divf (broadcastInDim S8192x1 ![0] bcast_S8192_S8192x1_0 (Host.reduceAdd (mulf x x) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x358637BD#32))

theorem rMs_at (n : Fin 8192) : (rMs x (ix2 n 0) : EReal) = Ideal.div (∑ d : Fin 1024, (x (ix2 n d) : EReal) * x (ix2 n d)) Loss.cD + Loss.eps := by
  pointwise [rMs, Loss.cD, Loss.eps]

/-- a column, times each row -/
def rScale : FVec Ideal S8192x1024 .f32 := mulf x (broadcastInDim S8192x1024 ![0, 1] bcast_S8192x1_S8192x1024_0_1 s)

theorem rScale_at (n : Fin 8192) (d : Fin 1024) : (rScale x s (ix2 n d) : EReal) = (x (ix2 n d) : EReal) * s (ix2 n 0) := by
  pointwise [rScale]

/-- the gain, times each column -/
def rGain : FVec Ideal S8192x1024 .f32 :=
  mulf x (broadcastInDim S8192x1024 ![0, 1] bcast_S1x1024_S8192x1024_0_1 (broadcastInDim S1x1024 ![1] bcast_S1024_S1x1024_1 gf))

theorem rGain_at (n : Fin 8192) (d : Fin 1024) : (rGain x gf (ix2 n d) : EReal) = (x (ix2 n d) : EReal) * gf (ix1 d) := by
  pointwise [rGain]

def rDout : FVec Ideal S8192x1024 .f32 :=
  mulf (broadcastInDim S8192x1024 ![0] bcast_S8192_S8192x1024_0 (Host.divf (broadcastInDim S8192 ![] bcast_S_S8192
    (mulf (constant S_ .f32 0x3F000000#32) (constant S_ .f32 0x3F800000#32))) (broadcastInDim S8192 ![] bcast_S_S8192
    (constant S_ .f32 0x44800000#32)))) (mulf (broadcastInDim S8192x1024 ![] bcast_S_S8192x1024 (constant S_ .f32 0x40000000#32)) x)

theorem rDout_at (n : Fin 8192) (d : Fin 1024) :
    (rDout x (ix2 n d) : EReal) = Ideal.div (Loss.cHalf * Loss.cOne) Loss.cD * (Loss.cTwo * x (ix2 n d)) := by
  pointwise [rDout, Loss.cHalf, Loss.cOne, Loss.cD, Loss.cTwo]

def rB : FVec Ideal S8192x1024 .f32 :=
  broadcastInDim S8192x1024 ![0] bcast_S8192_S8192x1024_0 (Host.reduceAdd (Host.divf (mulf (shapeCast _ (Host.reduceAdd (mulf x g)
    (constant S_ .f32 0x00000000#32) reducesTo_S8192x1024_S8192_d1 h_S_) shapeCasts_S8192_S8192x1) (mulf (broadcastInDim S8192x1 ![]
    bcast_S_S8192x1 (constant S_ .f32 0xBF000000#32)) (Host.divf s v))) (broadcastInDim S8192x1 ![] bcast_S_S8192x1
    (constant S_ .f32 0x44800000#32))) (constant S_ .f32 0x00000000#32) reducesTo_S8192x1_S8192_d1 h_S_)

theorem rB_at (n : Fin 8192) (d : Fin 1024) : (rB x g s v (ix2 n d) : EReal)
    = Ideal.div ((∑ e : Fin 1024, (x (ix2 n e) : EReal) * g (ix2 n e)) * (Loss.cNegHalf * Ideal.div (s (ix2 n 0)) (v (ix2 n 0)))) Loss.cD := by
  pointwise [rB, Loss.cNegHalf, Loss.cD]
  exact Fin.sum_univ_one _

/-- the loss of the distances -/
def rLoss : FVec Ideal S_ .f32 :=
  mulf (constant S_ .f32 0x3F000000#32) (Host.reduceAdd (Host.divf (Host.reduceAdd (mulf x x) (constant S_ .f32 0x00000000#32)
    reducesTo_S8192x1024_S8192_d1 h_S_) (broadcastInDim S8192 ![] bcast_S_S8192 (constant S_ .f32 0x44800000#32)))
    (constant S_ .f32 0x00000000#32) reducesTo_S8192_S_d0 h_S_)

theorem rLoss_at : (rLoss x ix0 : EReal) = Loss.cHalf * ∑ n : Fin 8192, Ideal.div (∑ d : Fin 1024, (x (ix2 n d) : EReal) * x (ix2 n d)) Loss.cD := by
  pointwise [rLoss, Loss.cHalf, Loss.cD]

def rGf : FVec Ideal S1024 .f32 :=
  Host.reduceAdd (shapeCast _ (Host.reduceAdd (mulf x g) (constant S_ .f32 0x00000000#32) reducesTo_S8192x1024_S1024_d0 h_S_)
    shapeCasts_S1024_S1x1024) (constant S_ .f32 0x00000000#32) reducesTo_S1x1024_S1024_d0 h_S_

theorem rGf_at (d : Fin 1024) : (rGf x g (ix1 d) : EReal) = ∑ n : Fin 8192, (x (ix2 n d) : EReal) * g (ix2 n d) := by
  pointwise [rGf]
  exact Fin.sum_univ_one _

def rGt : FVec Ideal S1x1024 .f32 :=
  shapeCast _ (Host.reduceAdd (mulf x g) (constant S_ .f32 0x00000000#32) reducesTo_S8192x1024_S1024_d0 h_S_) shapeCasts_S1024_S1x1024

theorem rGt_at (d : Fin 1024) : (rGt x g (ix2 0 d) : EReal) = ∑ n : Fin 8192, (x (ix2 n d) : EReal) * g (ix2 n d) := by
  pointwise [rGt]

def rDx (b : FVec Ideal S8192x1024 .f32) : FVec Ideal S8192x1024 .f32 := addf (addf (rScale g s) (mulf x b)) (mulf b x)

theorem rDx_at (b : FVec Ideal S8192x1024 .f32) (n : Fin 8192) (d : Fin 1024) : (rDx x g s b (ix2 n d) : EReal)
    = (g (ix2 n d) : EReal) * s (ix2 n 0) + x (ix2 n d) * b (ix2 n d) + b (ix2 n d) * x (ix2 n d) := by
  pointwise [rDx, rScale]

end stages

def xX : FVec Ideal S8192x1024 .f32 := Value.res_main_v39 (F := Ideal) U
def xMs : FVec Ideal S8192x1 .f32 := Value.res_main_v46 (F := Ideal) U
def xRs : FVec Ideal S8192x1 .f32 := Value.res_main_v47 (F := Ideal) U
def xXn : FVec Ideal S8192x1024 .f32 := Value.res_main_v52 (F := Ideal) U
def xDiff : FVec Ideal S8192x1024 .f32 := Value.res_main_v56 (F := Ideal) U
def xDout : FVec Ideal S8192x1024 .f32 := Value.res_main_v70 (F := Ideal) U
def xDxn : FVec Ideal S8192x1024 .f32 := Value.res_main_v75 (F := Ideal) U
def xB : FVec Ideal S8192x1024 .f32 := Value.res_main_v86 (F := Ideal) U
def xDx : FVec Ideal S8192x1024 .f32 := rDx (xX U) (xDxn U) (xRs U) (xB U)

theorem xX_at (n : Fin 8192) (d : Fin 1024) : (xX U (ix2 n d) : EReal) = (inp U).head.x n d := by
  refine (rRes_at (aX U) (aGt U) (Value.res_main_v36 (F := Ideal) U) n d).trans ?_
  rw [out_at]
  rfl

theorem xMs_at (n : Fin 8192) : (xMs U (ix2 n 0) : EReal) = (inp U).head.ms n := by
  refine (rMs_at (xX U) n).trans ?_
  simp only [xX_at]
  rfl

theorem xRs_at (n : Fin 8192) : (xRs U (ix2 n 0) : EReal) = (inp U).head.rs n :=
  congrArg Ideal.rsqrt (xMs_at U n)

theorem xXn_at (n : Fin 8192) (d : Fin 1024) : (xXn U (ix2 n d) : EReal) = (inp U).head.xn n d :=
  (rScale_at (xX U) (xRs U) n d).trans (congrArg₂ (fun a b : EReal => a * b) (xX_at U n d) (xRs_at U n))

theorem xDiff_at (n : Fin 8192) (d : Fin 1024) : (xDiff U (ix2 n d) : EReal) = (inp U).head.diff n d :=
  congrArg (fun a : EReal => a - aTg U (ix2 n d)) ((rGain_at (xXn U) (aGf U) n d).trans
    (congrArg (fun a : EReal => a * aGf U (ix1 d)) (xXn_at U n d)))

theorem xDout_at (n : Fin 8192) (d : Fin 1024) : (xDout U (ix2 n d) : EReal) = (inp U).head.dout n d := by
  refine (rDout_at (xDiff U) n d).trans ?_
  rw [xDiff_at]
  exact Loss.Head.dout_eq n d

theorem xDxn_at (n : Fin 8192) (d : Fin 1024) : (xDxn U (ix2 n d) : EReal) = (inp U).head.dxn n d :=
  (rGain_at (xDout U) (aGf U) n d).trans (congrArg (fun a : EReal => a * aGf U (ix1 d)) (xDout_at U n d))

theorem xDx_at (hH : (inp U).head.Real) (n : Fin 8192) (d : Fin 1024) : (xDx U (ix2 n d) : EReal) = (inp U).head.gX n d := by
  have eb : (xB U (ix2 n d) : EReal) = _ := rB_at (xX U) (xDxn U) (xRs U) (xMs U) n d
  refine (rDx_at _ _ _ _ n d).trans ?_
  rw [eb]
  simp only [xX_at, xDxn_at, xRs_at, xMs_at]
  exact hH.gX n d

theorem loss_at : (rLoss (xDiff U) ix0 : EReal) = (inp U).head.loss := by
  refine (rLoss_at _).trans ?_
  simp only [xDiff_at]
  rfl

theorem gf_at (d : Fin 1024) : (rGf (xXn U) (xDout U) (ix1 d) : EReal) = (inp U).head.gGf d :=
  (rGf_at _ _ d).trans (Finset.sum_congr rfl fun n _ =>
    (congrArg₂ (fun a b : EReal => a * b) (xXn_at U n d) (xDout_at U n d)).trans (mul_comm _ _))

theorem gt_at (hH : (inp U).head.Real) (d : Fin 1024) :
    (rGt (xDx U) (Value.res_main_v36 (F := Ideal) U) (ix2 0 d) : EReal) = (inp U).gGt d :=
  (rGt_at _ _ d).trans (Finset.sum_congr rfl fun n _ =>
    congrArg₂ (fun a b : EReal => a * b) (xDx_at U hH n d) (out_at U n d))

end Cert.Reference4Ideal.LossRef

end
-- ==== Proof.LossOps.lean ====
/- What the host lines of the call `fwd_ffn` hand to it: each array that the kernel reads, at an index, in the arguments,
   and the blocks of these arrays that a grid point reads. -/
module

public import proofs.«01_k».proof.Proof.Gen.Kernel4Ideal.Frame.Runs
public import proofs.«01_k».proof.Proof.FfnBlk
public import proofs.«01_k».proof.Proof.LossMath

@[expose] public section

set_option maxRecDepth 16384

noncomputable section

open Idealize.ShloMosaic Idealize.ShloMosaic.TcCoe Idealize.SL.Sem
open Idealize.ShloMosaic.Pipeline (Dat)

namespace Cert.Kernel4Ideal.LossOps

open Cert.Kernel4Ideal Cert.Kernel4Ideal.Gen
open Cert.Kernel2Ideal.FfnOps (col pcol wide pcol_div pcol_mod pad_zero)
open Cert.Kernel2Ideal.FfnBlk (hcol)

variable (m : (ℓ : Loc nD τ sig) → Buf (Elt Ideal) ℓ)

/-- What the buffers hold before the last host lines. -/
def σ (c : Dev nD) : Valuation τ sig (Elt Ideal) :=
  StableHlo.after (hostOps0 ++ hostOps0_1 ++ hostOps0_2 ++ hostOps0_3 ++ hostOps0_4 ++ hostOps0_5 ++ hostOps0_6 ++ hostOps0_7) (fun b => m (c, b))

theorem V_eq (c : Dev nD) (b : Ref sig .tc) : V m c b = StableHlo.after hostOps0_8 (σ m c) (Proc.devRef .tc b) := by
  rfl

/-- The arguments, read from the memory. -/
def inp (c : Dev nD) : Loss.In where
  A := {
    h := fun n d => (m ((c : Thread nD τ).loc main_arg0) : FVec Ideal S8192x1024 .f32) (ix2 n d)
    wu := fun d q => (m ((c : Thread nD τ).loc main_arg2) : FVec Ideal S1x1024x5632 .f32) (ix3 0 d q)
    cw := fun r q => (m ((c : Thread nD τ).loc main_arg3) : FVec Ideal S1x3x5632 .f32) (ix3 0 r q)
    cb := fun q => (m ((c : Thread nD τ).loc main_arg4) : FVec Ideal S1x5632 .f32) (ix2 0 q)
    wd := fun k d => (m ((c : Thread nD τ).loc main_arg5) : FVec Ideal S1x2816x1024 .f32) (ix3 0 k d)
    gt := fun d => (m ((c : Thread nD τ).loc main_arg6) : FVec Ideal S1x1024 .f32) (ix2 0 d)
    dx := fun _ _ => 0 }
  x2 n d := (m ((c : Thread nD τ).loc main_arg1) : FVec Ideal S8192x1024 .f32) (ix2 n d)
  gf d := (m ((c : Thread nD τ).loc main_arg7) : FVec Ideal S1024 .f32) (ix1 d)
  tg n d := (m ((c : Thread nD τ).loc main_arg8) : FVec Ideal S8192x1024 .f32) (ix2 n d)

/-- The padded `w_down`: zero in the padding. -/
theorem σ_v19 (c : Dev nD) (j : Fin 4) (k : Fin 768) (d : Fin 1024) :
    (σ m c (Proc.devRef .tc main_v19) : FVec Ideal S4x768x1024 .bf16) (ix3 j k d)
      = if h : k.val < 704 then (inp m c).A.wd (hcol j ⟨k.val, h⟩) d else 0 := by
  unfold σ
  simp only [hostOps0, hostOps0_1, hostOps0_2, hostOps0_3, hostOps0_4, hostOps0_5, hostOps0_6, hostOps0_7, List.cons_append, List.nil_append]
  after_reads_at
  split
  · rfl
  · exact pad_zero

/-- The transpose of `w_up`, at a column of the layer. -/
theorem σ_v15 (c : Dev nD) (p : Fin 8) (k : Fin 704) (d : Fin 1024) :
    (σ m c (Proc.devRef .tc main_v15) : FVec Ideal S8x768x1024 .bf16) (ix3 p (wide k) d) = (inp m c).A.wu d (col p k) := by
  unfold σ
  simp only [hostOps0, hostOps0_1, hostOps0_2, hostOps0_3, hostOps0_4, hostOps0_5, hostOps0_6, hostOps0_7, List.cons_append, List.nil_append]
  after_reads_at
  exact dif_pos k.isLt

/-- The taps, at a column of the layer. -/
theorem σ_v10 (c : Dev nD) (r : Fin 3) (p : Fin 8) (k : Fin 704) :
    (σ m c (Proc.devRef .tc main_v10) : FVec Ideal S8x6144 .f32) (ix2 ⟨r.val, by omega⟩ (pcol p (wide k)))
      = (inp m c).A.cw r (col p k) := by
  unfold σ
  simp only [hostOps0, hostOps0_1, hostOps0_2, hostOps0_3, hostOps0_4, hostOps0_5, hostOps0_6, hostOps0_7, List.cons_append, List.nil_append]
  after_reads_at
  simp only [StableHlo.upto, List.take_succ_cons, List.take_zero]
  after_reads_at
  rw [dif_pos (by rw [pcol_div, pcol_mod]; exact ⟨p.isLt, k.isLt⟩)]
  exact congrArg (m (c, Proc.tc.devRef main_arg3)) (congrArg (ix3 0 r) (Fin.ext (by
    show _ / 768 * 704 + _ % 768 = _
    rw [pcol_div, pcol_mod]; rfl)))

/-- The bias, at a column of the layer. -/
theorem σ_v10_3 (c : Dev nD) (p : Fin 8) (k : Fin 704) :
    (σ m c (Proc.devRef .tc main_v10) : FVec Ideal S8x6144 .f32) (ix2 3 (pcol p (wide k)))
      = (inp m c).A.cb (col p k) := by
  unfold σ
  simp only [hostOps0, hostOps0_1, hostOps0_2, hostOps0_3, hostOps0_4, hostOps0_5, hostOps0_6, hostOps0_7, List.cons_append, List.nil_append]
  after_reads_at
  simp only [StableHlo.upto, List.take_succ_cons, List.take_zero]
  after_reads_at
  rw [dif_pos (by rw [pcol_div, pcol_mod]; exact ⟨p.isLt, k.isLt⟩)]
  exact congrArg (m (c, Proc.tc.devRef main_arg4)) (congrArg (ix2 0) (Fin.ext (by
    show _ / 768 * 704 + _ % 768 = _
    rw [pcol_div, pcol_mod]; rfl)))

theorem σ_arg0 (c : Dev nD) (n : Fin 8192) (d : Fin 1024) :
    (σ m c (Proc.devRef .tc main_arg0) : FVec Ideal S8192x1024 .f32) (ix2 n d) = (inp m c).A.h n d := by
  unfold σ
  simp only [hostOps0, hostOps0_1, hostOps0_2, hostOps0_3, hostOps0_4, hostOps0_5, hostOps0_6, hostOps0_7, List.cons_append, List.nil_append]
  after_reads_at
  rfl

theorem σ_arg6 (c : Dev nD) (d : Fin 1024) :
    (σ m c (Proc.devRef .tc main_arg6) : FVec Ideal S1x1024 .f32) (ix2 0 d) = (inp m c).A.gt d := by
  unfold σ
  simp only [hostOps0, hostOps0_1, hostOps0_2, hostOps0_3, hostOps0_4, hostOps0_5, hostOps0_6, hostOps0_7, List.cons_append, List.nil_append]
  after_reads_at
  rfl

theorem σ_arg7 (c : Dev nD) (d : Fin 1024) :
    (σ m c (Proc.devRef .tc main_arg7) : FVec Ideal S1024 .f32) (ix1 d) = (inp m c).gf d := by
  unfold σ
  simp only [hostOps0, hostOps0_1, hostOps0_2, hostOps0_3, hostOps0_4, hostOps0_5, hostOps0_6, hostOps0_7, List.cons_append, List.nil_append]
  after_reads_at
  rfl

/-- `w_down` as the kernel reads it. -/
theorem V_v19 (c : Dev nD) (j : Fin 4) (k : Fin 768) (d : Fin 1024) :
    (V m c main_v19 : FVec Ideal S4x768x1024 .bf16) (ix3 j k d)
      = if h : k.val < 704 then (inp m c).A.wd (hcol j ⟨k.val, h⟩) d else 0 := by
  rw [V_eq]
  after_reads_simp
  exact σ_v19 m c j k d

/-- `w_up` as the kernel reads it. -/
theorem V_v15 (c : Dev nD) (p : Fin 8) (k : Fin 704) (d : Fin 1024) :
    (V m c main_v15 : FVec Ideal S8x768x1024 .bf16) (ix3 p (wide k) d) = (inp m c).A.wu d (col p k) := by
  rw [V_eq]
  after_reads_simp
  exact σ_v15 m c p k d

/-- The taps as the kernel reads them. -/
theorem V_v10 (c : Dev nD) (r : Fin 3) (p : Fin 8) (k : Fin 704) :
    (V m c main_v10 : FVec Ideal S8x6144 .f32) (ix2 ⟨r.val, by omega⟩ (pcol p (wide k))) = (inp m c).A.cw r (col p k) := by
  rw [V_eq]
  after_reads_simp
  exact σ_v10 m c r p k

/-- The bias as the kernel reads it. -/
theorem V_v10_3 (c : Dev nD) (p : Fin 8) (k : Fin 704) :
    (V m c main_v10 : FVec Ideal S8x6144 .f32) (ix2 3 (pcol p (wide k))) = (inp m c).A.cb (col p k) := by
  rw [V_eq]
  after_reads_simp
  exact σ_v10_3 m c p k

/-- The factor of the layer's result. -/
theorem V_v24_7 (c : Dev nD) (d : Fin 1024) : (V m c main_v24 : FVec Ideal S16x1024 .f32) (ix2 7 d) = (inp m c).A.gt d := by
  rw [V_eq]
  after_reads_at
  exact σ_arg6 m c d

/-- The final norm's gain. -/
theorem V_v24_9 (c : Dev nD) (d : Fin 1024) : (V m c main_v24 : FVec Ideal S16x1024 .f32) (ix2 9 d) = (inp m c).gf d := by
  rw [V_eq]
  after_reads_at
  rw [StableHlo.reshape_result]
  simp only [StableHlo.upto, hostOps0_8, List.take_succ_cons, List.take_zero]
  after_reads_simp
  refine Eq.trans ?_ (σ_arg7 m c d)
  pointwise []

/-- The layer's input as the kernel reads it. -/
theorem V_v25 (c : Dev nD) (n : Fin 8192) (d : Fin 1024) : (V m c main_v25 : FVec Ideal S8192x1024 .bf16) (ix2 n d) = (inp m c).A.h n d := by
  rw [V_eq]
  after_reads_at
  exact σ_arg0 m c n d

theorem V_arg1 (c : Dev nD) (n : Fin 8192) (d : Fin 1024) : (V m c main_arg1 : FVec Ideal S8192x1024 .f32) (ix2 n d) = (inp m c).x2 n d := by
  rw [V_main_arg1]
  rfl

theorem V_arg8 (c : Dev nD) (n : Fin 8192) (d : Fin 1024) : (V m c main_arg8 : FVec Ideal S8192x1024 .f32) (ix2 n d) = (inp m c).tg n d := by
  rw [V_main_arg8]
  rfl

/-- The block index of each window at a grid point. -/
theorem idx_val : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![0, 0] :=
  (by decide +kernel : ∀ t : Fin grid0.N, _)

/-- The row of the arrays that row `x` of a point's tile is. -/
def row (t : Fin cfg0.N) (x : Fin 256) : Fin 8192 := ⟨256 * t.val + x.val, by have : t.val < 32 := t.isLt; omega⟩

variable (c : Dev nD) (t : Fin cfg0.N)

theorem b0 (x : Fin 256) (d : Fin 1024) : (iblk m c 0 t : S256x1024.Idx → EReal) (ix2 x d) = (inp m c).A.h (row t x) d := by
  rw [← V_v25]
  blk_simp [iblk]
  blk_ext [idx_val t]
  all_goals simp only [row]
  all_goals omega

theorem b1 (x : Fin 256) (d : Fin 1024) : (iblk m c 1 t : S256x1024.Idx → EReal) (ix2 x d) = (inp m c).x2 (row t x) d := by
  rw [← V_arg1]
  blk_simp [iblk]
  blk_ext [idx_val t]
  all_goals simp only [row]
  all_goals omega

theorem b2 (x : Fin 256) (d : Fin 1024) : (iblk m c 2 t : S256x1024.Idx → EReal) (ix2 x d) = (inp m c).tg (row t x) d := by
  rw [← V_arg8]
  blk_simp [iblk]
  blk_ext [idx_val t]
  all_goals simp only [row]
  all_goals omega

theorem b3_7 (d : Fin 1024) : (iblk m c 3 t : S16x1024.Idx → EReal) (ix2 7 d) = (inp m c).A.gt d := by
  rw [← V_v24_7]
  blk_simp [iblk]
  blk_ext [idx_val t]

theorem b3_9 (d : Fin 1024) : (iblk m c 3 t : S16x1024.Idx → EReal) (ix2 9 d) = (inp m c).gf d := by
  rw [← V_v24_9]
  blk_simp [iblk]
  blk_ext [idx_val t]

theorem b4 (r : Fin 3) (p : Fin 8) (k : Fin 704) :
    (iblk m c 4 t : S8x6144.Idx → EReal) (ix2 ⟨r.val, by omega⟩ (pcol p (wide k))) = (inp m c).A.cw r (col p k) := by
  rw [← V_v10]
  blk_simp [iblk]
  blk_ext [idx_val t]

theorem b4_3 (p : Fin 8) (k : Fin 704) :
    (iblk m c 4 t : S8x6144.Idx → EReal) (ix2 3 (pcol p (wide k))) = (inp m c).A.cb (col p k) := by
  rw [← V_v10_3]
  blk_simp [iblk]
  blk_ext [idx_val t]

end Cert.Kernel4Ideal.LossOps

end
-- ==== Proof.LossPay.lean ====
/- What the stored values of the call `fwd_ffn` are at an index, of any operands. -/
module

public import proofs.«01_k».proof.Proof.LossOps
public import proofs.«01_k».proof.Proof.Gates

@[expose] public section

set_option maxRecDepth 16384

noncomputable section

open Idealize.ShloMosaic Idealize.ShloMosaic.TcCoe Idealize.SL.Sem

namespace Cert.Kernel4Ideal.LossPay

open Cert.Kernel4Ideal Cert.Kernel4Ideal.Gen

variable (h : FVec Ideal S256x1024 .bf16) (w : FVec Ideal S1x1024x768 .bf16) (p u v g : FVec Ideal S256x768 .f32)
  (e : FVec Ideal S8x768 .f32) (b t0 t1 t2 : FVec Ideal S1x768 .f32) (d : FVec Ideal S1x768x1024 .bf16)
  (o x y : FVec Ideal S256x1024 .f32) (s : FVec Ideal S256x1 .f32) (a r : FVec Ideal S1x1024 .f32)

/-- one shard of the first product -/
theorem pay16_at (i : Fin 256) (k : Fin 768) :
    (k0_pay16 (F := Ideal) h w (ix2 i k) : EReal) = ∑ c : Fin 1024, (h (ix2 i c) : EReal) * w (ix3 0 c k) := by
  pointwise [k0_pay16, k0_pay14]

/-- the rows that the next tile needs -/
theorem pay19_at (i : Fin 8) (k : Fin 768) :
    (k0_pay19 (F := Ideal) h w (ix2 i k) : EReal) = k0_pay16 (F := Ideal) h w (ix2 ⟨248 + i.val, by omega⟩ k) := by
  pointwise [k0_pay19]

/-- A row of the carried rows with the product below them. -/
theorem sel (N s : ℕ) (hs : s ≤ 2) (i : Fin 256) (k : Fin 768) (hN : N = 8 - s + i.val) :
    (if q : N < 8 then (e (ix2 ⟨N, q⟩ k) : EReal) else p (ix2 ⟨N - 8, by omega⟩ k))
      = if q : i.val < s then (e (ix2 ⟨8 - s + i.val, by omega⟩ k) : EReal) else p (ix2 ⟨i.val - s, by omega⟩ k) := by
  subst hN
  by_cases q : i.val < s
  · rw [dif_pos q, dif_pos (show 8 - s + i.val < 8 by omega)]
  · rw [dif_neg q, dif_neg (show ¬ 8 - s + i.val < 8 by omega)]
    exact congrArg (fun r => (p (ix2 r k) : EReal)) (Fin.ext (by show 8 - s + i.val - 8 = i.val - s; omega))

/-- The convolution of one shard, of its product and the rows of the tile before. -/
theorem pay56_at (i : Fin 256) (k : Fin 768) : (k0_pay56 (F := Ideal) p e b t0 t1 t2 (ix2 i k) : EReal)
    = (b (ix2 0 k) : EReal) + t0 (ix2 0 k) * (if q : i.val < 2 then (e (ix2 ⟨6 + i.val, by omega⟩ k) : EReal) else p (ix2 ⟨i.val - 2, by omega⟩ k))
      + t1 (ix2 0 k) * (if q : i.val < 1 then (e (ix2 ⟨7 + i.val, by omega⟩ k) : EReal) else p (ix2 ⟨i.val - 1, by omega⟩ k))
      + t2 (ix2 0 k) * p (ix2 i k) := by
  pointwise [k0_pay56]
  exact congrArg₂ (fun a b' : EReal => (b (ix2 0 k) : EReal) + t0 (ix2 0 k) * a + t1 (ix2 0 k) * b' + t2 (ix2 0 k) * p (ix2 i k))
    (sel p e ((8 + i.val + 264 - 2) % 264) 2 (by omega) i k (by omega)) (sel p e ((8 + i.val + 264 - 1) % 264) 1 (by omega) i k (by omega))

/-- The second product's shard, added to the shards before. -/
def OO : FVec Ideal S256x1024 .f32 :=
  addf o (matmul dot_S256x768_S768x1024_S256x1024_1_0_0_1_n_n none (truncf .bf16 (mulf (mulf g (addf (mulf (broadcast S256x768
    (Scalar.ofBits (F := Ideal) .f32 0x3F000000#32)) (tanh (mulf (broadcast S256x768 (Scalar.ofBits (F := Ideal) .f32 0x3F000000#32)) g)))
    (broadcast S256x768 (Scalar.ofBits (F := Ideal) .f32 0x3F000000#32)))) v) bitsLt_bf16_f32) (shapeCast S768x1024 d shapeCasts_S1x768x1024_S768x1024)
    (constant S256x1024 .f32 0x00000000#32))

theorem OO_at (i : Fin 256) (c : Fin 1024) : (OO v g d o (ix2 i c) : EReal)
    = (o (ix2 i c) : EReal) + ∑ k : Fin 768, (g (ix2 i k) : EReal) * Ideal.logistic (g (ix2 i k)) * v (ix2 i k) * d (ix3 0 k c) := by
  pointwise [OO]
  simp only [Gates.half_tanh]

/-- The rows that reach the norm. -/
def X3 : FVec Ideal S256x1024 .f32 := addf x (mulf (broadcastTo S256x1024 (shapeCast S1x1024 a shapeCasts_S1x1024_S1x1024) broadcasts_S1x1024_S256x1024) o)

theorem X3_at (i : Fin 256) (c : Fin 1024) : (X3 o x a (ix2 i c) : EReal) = (x (ix2 i c) : EReal) + a (ix2 0 c) * o (ix2 i c) := by
  pointwise [X3]

/-- One over the root of the mean square. -/
def RS : FVec Ideal S256x1 .f32 :=
  rsqrt (addf (divf (shapeCast S256x1 (multiReduction .add [1] S256 (mulf x x) 0x00000000#32 reduces_S256x1024_S256 (.inl rfl) rfl)
    shapeCasts_S256_S256x1) (broadcast S256x1 (Scalar.ofBits (F := Ideal) .f32 0x44800000#32))) (broadcast S256x1 (Scalar.ofBits (F := Ideal) .f32 0x358637BD#32)))

theorem RS_at (i : Fin 256) : (RS x (ix2 i 0) : EReal) = Ideal.rsqrt (Ideal.div (∑ c : Fin 1024, (x (ix2 i c) : EReal) * x (ix2 i c)) Loss.cD + Loss.eps) := by
  pointwise [RS, Loss.cD, Loss.eps]

/-- The normed rows. -/
def XN : FVec Ideal S256x1024 .f32 := mulf x (broadcastTo S256x1024 s broadcasts_S256x1_S256x1024)

theorem XN_at (i : Fin 256) (c : Fin 1024) : (XN x s (ix2 i c) : EReal) = (x (ix2 i c) : EReal) * s (ix2 i 0) := by
  pointwise [XN]

theorem pay80_at (i : Fin 256) (c : Fin 1024) : (k0_pay80 (F := Ideal) x a y (ix2 i c) : EReal) = (x (ix2 i c) : EReal) * a (ix2 0 c) - y (ix2 i c) := by
  pointwise [k0_pay80, k0_pay79]

theorem pay81_at (c : Fin 1024) : (k0_pay81 (F := Ideal) x a y r (ix2 0 c) : EReal) = (r (ix2 0 c) : EReal)
    + (∑ i : Fin 256, (k0_pay80 (F := Ideal) x a y (ix2 i c) : EReal) * k0_pay80 (F := Ideal) x a y (ix2 i c)) * Loss.cHalfInv := by
  pointwise [k0_pay81, Loss.cHalfInv]

theorem pay82_at (i : Fin 256) (c : Fin 1024) : (k0_pay82 (F := Ideal) x a y (ix2 i c) : EReal) = (k0_pay80 (F := Ideal) x a y (ix2 i c) : EReal) * Loss.cInv := by
  pointwise [k0_pay82, Loss.cInv]

theorem pay83_at (c : Fin 1024) : (k0_pay83 (F := Ideal) x a y r (ix2 0 c) : EReal) = (r (ix2 0 c) : EReal)
    + ∑ i : Fin 256, (k0_pay82 (F := Ideal) x a y (ix2 i c) : EReal) * x (ix2 i c) := by
  pointwise [k0_pay83]

theorem pay84_at (i : Fin 256) (c : Fin 1024) : (k0_pay84 (F := Ideal) s x a y (ix2 i c) : EReal)
    = (s (ix2 i 0) : EReal) * ((k0_pay82 (F := Ideal) x a y (ix2 i c) : EReal) * a (ix2 0 c)
      - x (ix2 i c) * Ideal.div (∑ q : Fin 1024, (k0_pay82 (F := Ideal) x a y (ix2 i q) : EReal) * a (ix2 0 q) * x (ix2 i q)) Loss.cD) := by
  pointwise [k0_pay84, k0_pay79, Loss.cD]

theorem pay1_at (c : Fin 1024) : (k0_pay1 (F := Ideal) o x r (ix2 0 c) : EReal) = (r (ix2 0 c) : EReal)
    + ∑ i : Fin 256, (x (ix2 i c) : EReal) * o (ix2 i c) := by
  pointwise [k0_pay1]

end Cert.Kernel4Ideal.LossPay

end
-- ==== Proof.LossPoint.lean ====
/- What a grid point of the call `fwd_ffn` computes, of the values that it loads. -/
module

public import proofs.«01_k».proof.Proof.LossPay
public import proofs.«01_k».proof.Proof.FfnVal

@[expose] public section

set_option maxRecDepth 16384

noncomputable section

open Idealize.ShloMosaic Idealize.ShloMosaic.TcCoe Idealize.SL.Sem

namespace Cert.Kernel4Ideal.LossPoint

open Cert.Kernel4Ideal Cert.Kernel4Ideal.Gen Cert.Kernel4Ideal.LossOps Cert.Kernel4Ideal.LossPay
open Cert.Kernel2Ideal.FfnOps (col pcol wide)
open Cert.Kernel2Ideal.FfnBlk (hcol pl ph col_pl col_ph)
open Cert.Kernel2Ideal.FfnVal (pad_sum)

/-- What a point loads. -/
structure Loads where
  /-- the tile of `h` -/
  h : FVec Ideal S256x1024 .bf16
  /-- the shards of the first weight -/
  W : Fin 8 → FVec Ideal S1x1024x768 .bf16
  /-- the rows carried from the tile before -/
  E : Fin 8 → FVec Ideal S8x768 .f32
  /-- the taps and the bias -/
  B : Fin 4 → Fin 8 → FVec Ideal S1x768 .f32
  /-- the shards of the second weight -/
  D : Fin 4 → FVec Ideal S1x768x1024 .bf16
  /-- the tile of what the layer's result is added to -/
  x2 : FVec Ideal S256x1024 .f32
  /-- the factor of the result -/
  gt : FVec Ideal S1x1024 .f32
  /-- the gain of the final norm -/
  gf : FVec Ideal S1x1024 .f32
  /-- the tile of the target -/
  tg : FVec Ideal S256x1024 .f32

namespace Loads

variable (L : Loads)

/-- a shard of the first product -/
def pr (p : Fin 8) : FVec Ideal S256x768 .f32 := k0_pay16 L.h (L.W p)
/-- a shard of the convolution -/
def cv (p : Fin 8) : FVec Ideal S256x768 .f32 := k0_pay56 (L.pr p) (L.E p) (L.B 3 p) (L.B 0 p) (L.B 1 p) (L.B 2 p)
/-- the second product -/
def o2 : FVec Ideal S256x1024 .f32 :=
  OO (L.cv 3) (L.cv 7) (L.D 3) (OO (L.cv 2) (L.cv 6) (L.D 2) (OO (L.cv 1) (L.cv 5) (L.D 1) (OO (L.cv 0) (L.cv 4) (L.D 0) k0_pay15)))
/-- the rows that reach the norm -/
def x3 : FVec Ideal S256x1024 .f32 := X3 L.o2 L.x2 L.gt
/-- one over the root of their mean square -/
def rs : FVec Ideal S256x1 .f32 := RS L.x3
/-- the normed rows -/
def xn : FVec Ideal S256x1024 .f32 := XN L.x3 L.rs
/-- the gradient of the rows -/
def dx3 : FVec Ideal S256x1024 .f32 := k0_pay84 L.rs L.xn L.gf L.tg

/-- the second product's first block, in the kernel's own order of operations -/
def g1 : FVec Ideal S256x1024 .f32 :=
  k0_pay31 k0_pay15 (k0_pay22 (k0_pay16 L.h (L.W 0)) (k0_pay20 L.h (L.W 0) (L.E 0) (L.B 3 0) (L.B 0 0)) (k0_pay21 L.h (L.W 0) (L.E 0) (L.B 1 0)) (L.B 2 0))
    (k0_pay23 (k0_pay14 L.h) (L.W 4)) (k0_pay26 (k0_pay14 L.h) (L.W 4) (L.E 4) (L.B 3 4) (L.B 0 4) (L.B 1 4)) (k0_pay27 (L.B 2 4)) (L.D 0)
/-- the second -/
def g2 : FVec Ideal S256x1024 .f32 :=
  k0_pay47 L.g1 (k0_pay37 (k0_pay32 (k0_pay14 L.h) (L.W 1)) (k0_pay34 (k0_pay14 L.h) (L.W 1) (L.E 1)) (k0_pay36 (k0_pay14 L.h) (L.W 1) (L.E 1))
      (L.B 3 1) (L.B 0 1) (L.B 1 1) (L.B 2 1))
    (k0_pay38 (k0_pay14 L.h) (L.W 5)) (k0_pay42 (k0_pay14 L.h) (L.W 5) (L.E 5)) (k0_pay43 (k0_pay14 L.h) (L.W 5) (L.E 5))
    (L.B 3 5) (L.B 0 5) (L.B 1 5) (L.B 2 5) (L.D 1)
/-- the third -/
def g3 : FVec Ideal S256x1024 .f32 :=
  k0_pay60 L.g2 (k0_pay52 (k0_pay14 L.h) (k0_pay48 (L.W 2)) (L.E 2) (L.B 3 2) (L.B 0 2) (L.B 1 2) (L.B 2 2))
    (k0_pay56 (k0_pay53 (k0_pay14 L.h) (L.W 6)) (L.E 6) (L.B 3 6) (L.B 0 6) (L.B 1 6) (L.B 2 6))
    (k0_pay59 (k0_pay53 (k0_pay14 L.h) (L.W 6)) (L.E 6) (L.B 3 6) (L.B 0 6) (L.B 1 6) (L.B 2 6)) (FloatOps.ofBits FTy.f32 1056964608#32) (L.D 2)
/-- what the last block is made of -/
def v3 : FVec Ideal S256x768 .f32 :=
  k0_pay67 (k0_pay61 (k0_pay14 L.h) (L.W 3)) (k0_pay65 (k0_pay14 L.h) (L.W 3) (L.E 3)) (k0_pay66 (k0_pay14 L.h) (L.W 3) (L.E 3) (L.B 3 3) (L.B 0 3))
    (L.B 1 3) (L.B 2 3)
/-- the last block's gate: its product -/
def v7 : FVec Ideal S256x768 .f32 := k0_pay68 (k0_pay14 L.h) (L.W 7)
/-- and the taps' sum without the last -/
def u7 : FVec Ideal S256x768 .f32 := k0_pay71 (k0_pay14 L.h) (L.W 7) (L.E 7) (L.B 3 7) (L.B 0 7) (L.B 1 7)

theorem g1_eq : L.g1 = OO (L.cv 0) (L.cv 4) (L.D 0) k0_pay15 := rfl
theorem g2_eq : L.g2 = OO (L.cv 1) (L.cv 5) (L.D 1) L.g1 := rfl
theorem g3_eq : L.g3 = OO (L.cv 2) (L.cv 6) (L.D 2) L.g2 := rfl
theorem o2_eq : k0_pay75 L.g3 L.v3 L.v7 L.u7 (L.B 2 7) (L.D 3) = L.o2 := by
  refine Eq.trans (b := OO (L.cv 3) (L.cv 7) (L.D 3) L.g3) rfl ?_
  rw [g3_eq, g2_eq, g1_eq]
  rfl
theorem rs_eq : k0_pay77 L.g3 L.v3 L.v7 L.u7 (L.B 2 7) (L.D 3) L.x2 L.gt = L.rs := by
  refine Eq.trans (b := RS (X3 (k0_pay75 L.g3 L.v3 L.v7 L.u7 (L.B 2 7) (L.D 3)) L.x2 L.gt)) rfl ?_
  rw [o2_eq]
  rfl
theorem xn_eq : k0_pay78 L.g3 L.v3 L.v7 L.u7 (L.B 2 7) (L.D 3) L.x2 L.gt = L.xn := by
  refine Eq.trans (b := XN (X3 (k0_pay75 L.g3 L.v3 L.v7 L.u7 (L.B 2 7) (L.D 3)) L.x2 L.gt)
    (RS (X3 (k0_pay75 L.g3 L.v3 L.v7 L.u7 (L.B 2 7) (L.D 3)) L.x2 L.gt))) rfl ?_
  rw [o2_eq]
  rfl
theorem dx3_eq : k0_pay84 (k0_pay77 L.g3 L.v3 L.v7 L.u7 (L.B 2 7) (L.D 3) L.x2 L.gt) (k0_pay78 L.g3 L.v3 L.v7 L.u7 (L.B 2 7) (L.D 3) L.x2 L.gt) L.gf L.tg
    = L.dx3 := by
  rw [rs_eq, xn_eq]
  rfl

end Loads

/-- The last rows of the tile before, or zero in front of all rows. -/
def above (t : Fin cfg0.N) (g : Fin 8192 → EReal) (r : Fin 8) : EReal :=
  if h : t.val = 0 then 0 else g ⟨256 * t.val - 8 + r.val, by have : t.val < 32 := t.isLt; omega⟩

/-- The loaded values are those of the point `t`. -/
structure Loads.At (L : Loads) (I : Loss.In) (t : Fin cfg0.N) : Prop where
  h : ∀ x d, (L.h (ix2 x d) : EReal) = I.A.h (row t x) d
  W : ∀ p k d, (L.W p (ix3 0 d (wide k)) : EReal) = I.A.wu d (col p k)
  E : ∀ p k r, (L.E p (ix2 r (wide k)) : EReal) = above t (fun n => I.A.pre n (col p k)) r
  B : ∀ (r : Fin 3) p k, (L.B ⟨r.val, by omega⟩ p (ix2 0 (wide k)) : EReal) = I.A.cw r (col p k)
  B3 : ∀ p k, (L.B 3 p (ix2 0 (wide k)) : EReal) = I.A.cb (col p k)
  D : ∀ j k d, (L.D j (ix3 0 k d) : EReal) = if h : k.val < 704 then I.A.wd (hcol j ⟨k.val, h⟩) d else 0
  x2 : ∀ x d, (L.x2 (ix2 x d) : EReal) = I.x2 (row t x) d
  gt : ∀ d, (L.gt (ix2 0 d) : EReal) = I.A.gt d
  gf : ∀ d, (L.gf (ix2 0 d) : EReal) = I.gf d
  tg : ∀ x d, (L.tg (ix2 x d) : EReal) = I.tg (row t x) d

/-- A row of the tile `s` rows up, where the rows above the tile are the carried ones. -/
theorem up_eq (t : Fin cfg0.N) (g : Fin 8192 → EReal) (s : ℕ) (hs : s ≤ 2) (x : Fin 256) :
    (if q : x.val < s then above t g ⟨8 - s + x.val, by omega⟩ else g (row t ⟨x.val - s, by omega⟩)) = Ffn.back s g (row t x) := by
  have ht : t.val < 32 := t.isLt
  unfold Ffn.back above
  by_cases q : x.val < s
  · rw [dif_pos q]
    by_cases h0 : t.val = 0
    · rw [dif_pos h0, dif_pos (show (row t x).val < s from (by omega : 256 * t.val + x.val < s))]
    · rw [dif_neg h0, dif_neg (show ¬ (row t x).val < s from (by omega : ¬ 256 * t.val + x.val < s))]
      exact congrArg g (Fin.ext (by show 256 * t.val - 8 + (8 - s + x.val) = 256 * t.val + x.val - s; omega))
  · rw [dif_neg q, dif_neg (show ¬ (row t x).val < s from (by omega : ¬ 256 * t.val + x.val < s))]
    exact congrArg g (Fin.ext (by show 256 * t.val + (x.val - s) = 256 * t.val + x.val - s; omega))

/-- A sum over all columns of a half, block by block. -/
theorem hcol_sum (f : Fin 2816 → EReal) : ∑ q, f q = ∑ j : Fin 4, ∑ k : Fin 704, f (hcol j k) := by
  exact (Fin.sum_mul_add_congr (S := 4) (n := 704) fun j k hl => rfl).symm

section

variable {L : Loads} {I : Loss.In} {t : Fin cfg0.N} (hL : L.At I t)

include hL

theorem pr_at (p : Fin 8) (x : Fin 256) (k : Fin 704) : (L.pr p (ix2 x (wide k)) : EReal) = I.A.pre (row t x) (col p k) := by
  unfold Loads.pr
  rw [pay16_at]
  exact Finset.sum_congr rfl fun d _ => congrArg₂ (· * ·) (hL.h x d) (hL.W p k d)

theorem cv_at (p : Fin 8) (x : Fin 256) (k : Fin 704) : (L.cv p (ix2 x (wide k)) : EReal) = I.A.conv (row t x) (col p k) := by
  unfold Loads.cv
  rw [pay56_at]
  refine congrArg₂ (· + ·) (congrArg₂ (· + ·) (congrArg₂ (· + ·) (hL.B3 p k) (congrArg₂ (· * ·) (hL.B 0 p k) ?_))
    (congrArg₂ (· * ·) (hL.B 1 p k) ?_)) (congrArg₂ (· * ·) (hL.B 2 p k) (pr_at hL p x k))
  · refine Eq.trans ?_ (up_eq t (fun n => I.A.pre n (col p k)) 2 (by omega) x)
    by_cases q : x.val < 2
    · rw [dif_pos q, dif_pos q]; exact hL.E p k _
    · rw [dif_neg q, dif_neg q]; exact pr_at hL p _ k
  · refine Eq.trans ?_ (up_eq t (fun n => I.A.pre n (col p k)) 1 (by omega) x)
    by_cases q : x.val < 1
    · rw [dif_pos q, dif_pos q]; exact hL.E p k _
    · rw [dif_neg q, dif_neg q]; exact pr_at hL p _ k

/-- A block of the second product. -/
theorem blk_at (j : Fin 4) (x : Fin 256) (d : Fin 1024) :
    (∑ k : Fin 768, (L.cv (ph j) (ix2 x k) : EReal) * Ideal.logistic (L.cv (ph j) (ix2 x k)) * L.cv (pl j) (ix2 x k) * L.D j (ix3 0 k d))
      = ∑ k : Fin 704, I.A.sl (row t x) (hcol j k) * I.A.val (row t x) (hcol j k) * I.A.wd (hcol j k) d := by
  refine Eq.trans (Finset.sum_congr rfl fun k _ => congrArg₂ (· * ·) rfl (hL.D j k d)) ?_
  refine (pad_sum (fun k => (L.cv (ph j) (ix2 x k) : EReal) * Ideal.logistic (L.cv (ph j) (ix2 x k)) * L.cv (pl j) (ix2 x k))
    (fun k => I.A.wd (hcol j k) d)).trans ?_
  refine Finset.sum_congr rfl fun k _ => congrArg₂ (· * ·) ?_ rfl
  have h1 := cv_at hL (ph j) x k
  rw [col_ph] at h1
  exact congrArg₂ (· * ·) (congrArg₂ (· * ·) h1 (congrArg Ideal.logistic h1)) (cv_at hL (pl j) x k)

theorem o2_at (x : Fin 256) (d : Fin 1024) : (L.o2 (ix2 x d) : EReal) = I.o2 (row t x) d := by
  unfold Loads.o2 Loss.In.o2
  rw [OO_at, OO_at, OO_at, OO_at, hcol_sum, Fin.sum_univ_four]
  refine congrArg₂ (· + ·) (congrArg₂ (· + ·) (congrArg₂ (· + ·) ?_ (blk_at hL 1 x d)) (blk_at hL 2 x d)) (blk_at hL 3 x d)
  refine Eq.trans (congrArg₂ (· + ·) ?_ (blk_at hL 0 x d)) (zero_add _)
  pointwise [k0_pay15]

theorem x3_at (x : Fin 256) (d : Fin 1024) : (L.x3 (ix2 x d) : EReal) = I.head.x (row t x) d := by
  unfold Loads.x3
  rw [X3_at]
  exact congrArg₂ (· + ·) (hL.x2 x d) (congrArg₂ (· * ·) (hL.gt d) (o2_at hL x d))

theorem rs_at (x : Fin 256) : (L.rs (ix2 x 0) : EReal) = I.head.rs (row t x) := by
  unfold Loads.rs
  rw [RS_at]
  exact congrArg (fun s => Ideal.rsqrt (Ideal.div s Loss.cD + Loss.eps)) (Finset.sum_congr rfl fun d _ => congrArg₂ (· * ·) (x3_at hL x d) (x3_at hL x d))

theorem xn_at (x : Fin 256) (d : Fin 1024) : (L.xn (ix2 x d) : EReal) = I.head.xn (row t x) d := by
  unfold Loads.xn
  rw [XN_at]
  exact congrArg₂ (· * ·) (x3_at hL x d) (rs_at hL x)

theorem diff_at (x : Fin 256) (d : Fin 1024) : (k0_pay80 L.xn L.gf L.tg (ix2 x d) : EReal) = I.head.diff (row t x) d := by
  rw [pay80_at]
  exact congrArg₂ (· - ·) (congrArg₂ (· * ·) (xn_at hL x d) (hL.gf d)) (hL.tg x d)

theorem dout_at (x : Fin 256) (d : Fin 1024) : (k0_pay82 L.xn L.gf L.tg (ix2 x d) : EReal) = I.head.dout (row t x) d := by
  rw [pay82_at]
  exact congrArg₂ (· * ·) (diff_at hL x d) rfl

theorem dx3_at (x : Fin 256) (d : Fin 1024) : (L.dx3 (ix2 x d) : EReal) = I.head.gX (row t x) d := by
  unfold Loads.dx3
  rw [pay84_at]
  refine congrArg₂ (· * ·) (rs_at hL x) (congrArg₂ (· - ·) (congrArg₂ (· * ·) (dout_at hL x d) (hL.gf d)) (congrArg₂ (· * ·) (xn_at hL x d) ?_))
  exact congrArg (fun s => Ideal.div s Loss.cD) (Finset.sum_congr rfl fun q _ =>
    congrArg₂ (· * ·) (congrArg₂ (· * ·) (dout_at hL x q) (hL.gf q)) (xn_at hL x q))

variable (r : FVec Ideal S1x1024 .f32) (d : Fin 1024)

theorem loss_row : (k0_pay81 L.xn L.gf L.tg r (ix2 0 d) : EReal)
    = (r (ix2 0 d) : EReal) + (∑ x : Fin 256, I.head.diff (row t x) d * I.head.diff (row t x) d) * Loss.cHalfInv := by
  rw [pay81_at]
  exact congrArg (fun s => (r (ix2 0 d) : EReal) + s * Loss.cHalfInv) (Finset.sum_congr rfl fun x _ =>
    congrArg₂ (· * ·) (diff_at hL x d) (diff_at hL x d))

theorem gf_row : (k0_pay83 L.xn L.gf L.tg r (ix2 0 d) : EReal)
    = (r (ix2 0 d) : EReal) + ∑ x : Fin 256, I.head.dout (row t x) d * I.head.xn (row t x) d := by
  rw [pay83_at]
  exact congrArg ((r (ix2 0 d) : EReal) + ·) (Finset.sum_congr rfl fun x _ => congrArg₂ (· * ·) (dout_at hL x d) (xn_at hL x d))

theorem gt_row : (k0_pay1 L.o2 L.dx3 r (ix2 0 d) : EReal)
    = (r (ix2 0 d) : EReal) + ∑ x : Fin 256, I.head.gX (row t x) d * I.o2 (row t x) d := by
  rw [pay1_at]
  exact congrArg ((r (ix2 0 d) : EReal) + ·) (Finset.sum_congr rfl fun x _ => congrArg₂ (· * ·) (dx3_at hL x d) (o2_at hL x d))

end

end Cert.Kernel4Ideal.LossPoint

end
-- ==== Proof.LossOut.lean ====
/- What the results and the carried arrays hold after a grid point of the call `fwd_ffn`. -/
module

public import proofs.«01_k».proof.Proof.LossPoint
public import proofs.«01_k».proof.Proof.FfnPoint
public import proofs.«01_k».proof.Proof.Gen.Kernel4Ideal.Frame
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel4Ideal.LossOut

open Cert.Kernel4Ideal Cert.Kernel4Ideal.Gen Cert.Kernel4Ideal.LossOps Cert.Kernel4Ideal.LossPay Cert.Kernel4Ideal.LossPoint
open Cert.Kernel2Ideal.FfnOps (col pcol wide)
open Cert.Kernel2Ideal.FfnBlk (hcol pl ph col_pl col_ph)
open Cert.Kernel2Ideal.FfnPoint (canon_hit canon_miss readCov_at read_hit read_miss)

variable (m : (ℓ : Loc nD τ sig) → Buf (Elt Ideal) ℓ) (c : Dev nD)

theorem inW (p : Fin 8) : ∀ a : Fin S8x1024x768.rank, (![p.val, 0, 0] : Fin 3 → ℕ) a + (![1, 1024, 768] : Fin 3 → ℕ) a ≤ S8x1024x768.size a := by
  revert p; decide
theorem inE (p : Fin 8) : ∀ a : Fin S8x6144.rank, (![0, p.val * 768] : Fin 2 → ℕ) a + (![8, 768] : Fin 2 → ℕ) a ≤ S8x6144.size a := by
  revert p; decide
theorem inB (r : Fin 4) (p : Fin 8) : ∀ a : Fin S8x6144.rank, (![r.val, p.val * 768] : Fin 2 → ℕ) a + (![1, 768] : Fin 2 → ℕ) a ≤ S8x6144.size a := by
  revert r p; decide
theorem inD (j : Fin 4) : ∀ a : Fin S4x768x1024.rank, (![j.val, 0, 0] : Fin 3 → ℕ) a + (![1, 768, 1024] : Fin 3 → ℕ) a ≤ S4x768x1024.size a := by
  revert j; decide

/-- A shard of the first weight, of the copy in on-chip memory. -/
def ldW (S : FVec Ideal S8x1024x768 .bf16) (p : Fin 8) : FVec Ideal S1x1024x768 .bf16 :=
  fun i => View.ld (Val := Elt Ideal) (e' := .bf16) S (Rect.unit (s := S8x1024x768) ![p.val, 0, 0] ![1, 1024, 768] (inW p)) i
/-- A shard of the carried rows. -/
def ldE (S : FVec Ideal S8x6144 .f32) (p : Fin 8) : FVec Ideal S8x768 .f32 :=
  fun i => View.ld (Val := Elt Ideal) (e' := .f32) S (Rect.unit (s := S8x6144) ![0, p.val * 768] ![8, 768] (inE p)) i
/-- A row of the taps or the bias. -/
def ldB (S : FVec Ideal S8x6144 .f32) (r : Fin 4) (p : Fin 8) : FVec Ideal S1x768 .f32 :=
  fun i => View.ld (Val := Elt Ideal) (e' := .f32) S (Rect.unit (s := S8x6144) ![r.val, p.val * 768] ![1, 768] (inB r p)) i
/-- A shard of the second weight. -/
def ldD (S : FVec Ideal S4x768x1024 .bf16) (j : Fin 4) : FVec Ideal S1x768x1024 .bf16 :=
  fun i => View.ld (Val := Elt Ideal) (e' := .bf16) S (Rect.unit (s := S4x768x1024) ![j.val, 0, 0] ![1, 768, 1024] (inD j)) i
/-- A row of the layer's vectors. -/
def vecRow (S : FVec Ideal S16x1024 .f32) (r : Fin 16)
    (inb : ∀ a : Fin S16x1024.rank, (![r.val, 0] : Fin 2 → ℕ) a + (![1, 1024] : Fin 2 → ℕ) a ≤ S16x1024.size a) : FVec Ideal S1x1024 .f32 :=
  fun i => View.ld (Val := Elt Ideal) (e' := .f32) S (Rect.unit (s := S16x1024) ![r.val, 0] ![1, 1024] inb) i

/-- What a later point loads. -/
def next (t : Fin cfg0.N) (S0 : FVec Ideal S8x1024x768 .bf16) (S1 : FVec Ideal S4x768x1024 .bf16) (S2 : FVec Ideal S8x6144 .f32) : Loads where
  h := iblk m c 0 t
  W := ldW S0
  E := ldE S2
  B := ldB (iblk m c 4 t)
  D := ldD S1
  x2 := iblk m c 1 t
  gt := vecRow (iblk m c 3 t) 7 inb_S16x1024_S1x1024_7_0
  gf := vecRow (iblk m c 3 t) 9 inb_S16x1024_S1x1024_9_0
  tg := iblk m c 2 t

/-- A row of the sums over the tiles. -/
def accRow (S : FVec Ideal S8x1024 .f32) (r : Fin 8)
    (inb : ∀ a : Fin S8x1024.rank, (![r.val, 0] : Fin 2 → ℕ) a + (![1, 1024] : Fin 2 → ℕ) a ≤ S8x1024.size a) : FVec Ideal S1x1024 .f32 :=
  fun i => View.ld (Val := Elt Ideal) (e' := .f32) S (Rect.unit (s := S8x1024) ![r.val, 0] ![1, 1024] inb) i

/-- The store of a shard's last rows. -/
def cpc (f : Fin 8 → FVec Ideal S8x768 .f32) (p : Fin 8) : View.Piece (Elt Ideal) S8x6144 .f32 :=
  ⟨Rect.unit (s := S8x6144) ![0, p.val * 768] ![8, 768] (inE p), f p⟩

/-- What a store of a shard's last rows leaves. -/
theorem cpc_at (f : Fin 8 → FVec Ideal S8x768 .f32) (q : Fin 8) (L : List (View.Piece (Elt Ideal) S8x6144 .f32)) (p : Fin 8) (r : Fin 8) (k : Fin 768) :
    View.canon (cpc f q :: L) (ix2 r (pcol p k)) = if p = q then f p (ix2 r k) else View.canon L (ix2 r (pcol p k)) := by
  by_cases h : p = q
  · subst h
    rw [if_pos rfl]
    refine canon_hit (Val := Elt Ideal) (S := S8x6144) (e := .f32) (off := ![0, p.val * 768]) (size := ![8, 768]) (inE p) (f p) L (ix2 r (pcol p k)) (ix2 r k) ?_
    intro a; fin_cases a <;> simp [pcol]
  · rw [if_neg h]
    refine canon_miss (Val := Elt Ideal) (S := S8x6144) (e := .f32) (off := ![0, q.val * 768]) (size := ![8, 768]) (inE q) (f q) L (ix2 r (pcol p k)) (1 : Fin 2) ?_
    show p.val * 768 + k.val < q.val * 768 ∨ q.val * 768 + 768 ≤ p.val * 768 + k.val
    have : p.val ≠ q.val := fun e => h (Fin.ext e)
    omega

/-- The stores of the last rows, the last one first. -/
def cpcs (f : Fin 8 → FVec Ideal S8x768 .f32) (L : List (View.Piece (Elt Ideal) S8x6144 .f32)) : List (View.Piece (Elt Ideal) S8x6144 .f32) :=
  cpc f 7 :: cpc f 3 :: cpc f 6 :: cpc f 2 :: cpc f 5 :: cpc f 1 :: cpc f 4 :: cpc f 0 :: L

theorem cpcs_at (f : Fin 8 → FVec Ideal S8x768 .f32) (L) (p : Fin 8) (r : Fin 8) (k : Fin 768) :
    View.canon (cpcs f L) (ix2 r (pcol p k)) = f p (ix2 r k) := by
  unfold cpcs
  simp only [cpc_at]
  fin_cases p <;> rfl

end Cert.Kernel4Ideal.LossOut

end
-- ==== Proof.LossOutA.lean ====
/- What the results and the carried arrays hold after the first grid point of the call `fwd_ffn`. -/
module

public import proofs.«01_k».proof.Proof.LossOut

@[expose] public section

set_option maxRecDepth 16384

noncomputable section

open Idealize.ShloMosaic Idealize.ShloMosaic.TcCoe Idealize.SL.Sem
open Idealize.ShloMosaic.Pipeline (Dat)

namespace Cert.Kernel4Ideal.LossOut

open Cert.Kernel4Ideal Cert.Kernel4Ideal.Gen Cert.Kernel4Ideal.LossOps Cert.Kernel4Ideal.LossPay Cert.Kernel4Ideal.LossPoint
open Cert.Kernel2Ideal.FfnOps (col pcol wide)
open Cert.Kernel2Ideal.FfnBlk (hcol pl ph col_pl col_ph)
open Cert.Kernel2Ideal.FfnPoint (canon_hit canon_miss readCov_at read_hit read_miss)

variable (m : (ℓ : Loc nD τ sig) → Buf (Elt Ideal) ℓ) (c : Dev nD)

theorem inM (p : Fin 8) : ∀ a : Fin S8x768x1024.rank, (![p.val, 0, 0] : Fin 3 → ℕ) a + (![1, 768, 1024] : Fin 3 → ℕ) a ≤ S8x768x1024.size a := by
  revert p; decide

/-- A shard of the first weight, as it lies in the operand. -/
def shard (p : Fin 8) : FVec Ideal S768x1024 .bf16 :=
  View.read (Elt Ideal) (((View.whole main_v15).slice (Rect.unit (s := S8x768x1024) ![p.val, 0, 0] ![1, 768, 1024] (inM p))).reshape S768x1024
    (Shape.Squeezes.numel_eq squeezes_S1x768x1024_S768x1024))
    (V m c main_v15)

theorem shard_at (p : Fin 8) (k : Fin 768) (d : Fin 1024) :
    shard m c p (ix2 k d) = (V m c main_v15 : FVec Ideal S8x768x1024 .bf16) (ix3 p k d) := by
  have : shard m c p = shapeCast S768x1024 (fun i : S1x768x1024.Idx => (V m c main_v15 : FVec Ideal S8x768x1024 .bf16)
    ((Rect.unit (s := S8x768x1024) ![p.val, 0, 0] ![1, 768, 1024] (inM p)).emb i)) shapeCasts_S1x768x1024_S768x1024 := rfl
  rw [this]
  pointwise []
  refine congrArg (V m c main_v15 : FVec Ideal S8x768x1024 .bf16) (funext fun a => Fin.ext ?_)
  fin_cases a <;> simp

/-- A shard's arrival in the staging buffer. -/
def arrive (p : Fin 8) : View.Piece (Elt Ideal) S768x1024 .bf16 := ⟨Rect.whole S768x1024, ReadAs.same.apply (shard m c p)⟩

/-- The arrivals before a shard's, the last one first. -/
def earlier : Fin 8 → List (View.Piece (Elt Ideal) S768x1024 .bf16) := ![[], [arrive m c 0], [arrive m c 1, arrive m c 0],
  [arrive m c 2, arrive m c 1, arrive m c 0], [arrive m c 3, arrive m c 2, arrive m c 1, arrive m c 0],
  [arrive m c 4, arrive m c 3, arrive m c 2, arrive m c 1, arrive m c 0],
  [arrive m c 5, arrive m c 4, arrive m c 3, arrive m c 2, arrive m c 1, arrive m c 0],
  [arrive m c 6, arrive m c 5, arrive m c 4, arrive m c 3, arrive m c 2, arrive m c 1, arrive m c 0]]

/-- A shard turned. -/
def turned (p : Fin 8) : FVec Ideal S1x1024x768 .bf16 :=
  k0_pay2 (fun i => (View.whole cc0_scratch3).readCov (Val := Elt Ideal) (arrive m c p :: earlier m c p)
    (Rect.unit (s := S768x1024) ![0, 0] S768x1024.size inb_S768x1024_S768x1024_0_0).toLoadRect i)

theorem turned_at (p : Fin 8) (d : Fin 1024) (k : Fin 704) : (turned m c p (ix3 0 d (wide k)) : EReal) = (inp m c).A.wu d (col p k) := by
  unfold turned
  pointwise [k0_pay2]
  refine (readCov_at _ _ (ix2 (wide k) d : S768x1024.Idx) _ (ix2 (wide k) d) ?_).trans ?_
  · intro a; fin_cases a <;> simp
  refine Eq.trans ?_ ((shard_at m c p (wide k) d).trans (V_v15 m c p k d))
  have e : (ix2 (wide k) d : S768x1024.Idx) = (Rect.whole S768x1024).emb (ix2 (wide k) d) := by
    funext a; fin_cases a <;> exact Fin.ext (by simp [Rect.whole, Rect.emb])
  exact (congrArg _ e).trans (View.canon_cons_emb _ _ _ _)

/-- The store of a turned shard. -/
def wpc (p : Fin 8) : View.Piece (Elt Ideal) S8x1024x768 .bf16 :=
  ⟨Rect.unit (s := S8x1024x768) ![p.val, 0, 0] ![1, 1024, 768] (inW p), turned m c p⟩

theorem wpc_at (q : Fin 8) (L : List (View.Piece (Elt Ideal) S8x1024x768 .bf16)) (p : Fin 8) (d : Fin 1024) (k : Fin 768) :
    View.canon (wpc m c q :: L) (ix3 p d k) = if p = q then turned m c p (ix3 0 d k) else View.canon L (ix3 p d k) := by
  by_cases h : p = q
  · subst h
    rw [if_pos rfl]
    refine canon_hit (Val := Elt Ideal) (S := S8x1024x768) (e := .bf16) (off := ![p.val, 0, 0]) (size := ![1, 1024, 768]) (inW p) (turned m c p) L
      (ix3 p d k) (ix3 0 d k) ?_
    intro a; fin_cases a <;> simp
  · rw [if_neg h]
    refine canon_miss (Val := Elt Ideal) (S := S8x1024x768) (e := .bf16) (off := ![q.val, 0, 0]) (size := ![1, 1024, 768]) (inW q) (turned m c q) L
      (ix3 p d k) (0 : Fin 3) ?_
    show p.val < q.val ∨ q.val + 1 ≤ p.val
    have : p.val ≠ q.val := fun e => h (Fin.ext e)
    omega

/-- The stores of the turned shards. -/
def wpcs : List (View.Piece (Elt Ideal) S8x1024x768 .bf16) :=
  [wpc m c 7, wpc m c 6, wpc m c 5, wpc m c 4, wpc m c 3, wpc m c 2, wpc m c 1, wpc m c 0]

theorem wpcs_at (p : Fin 8) (d : Fin 1024) (k : Fin 768) : View.canon (wpcs m c) (ix3 p d k) = turned m c p (ix3 0 d k) := by
  unfold wpcs
  simp only [wpc_at]
  fin_cases p <;> rfl

/-- The second weight's arrival. -/
def down : List (View.Piece (Elt Ideal) S4x768x1024 .bf16) :=
  [⟨Rect.whole S4x768x1024, ReadAs.same.apply (View.read (Elt Ideal) (View.whole main_v19) (V m c main_v19))⟩]

theorem down_at (j : Fin 4) (k : Fin 768) (d : Fin 1024) :
    (View.canon (down m c) (ix3 j k d) : EReal) = if h : k.val < 704 then (inp m c).A.wd (hcol j ⟨k.val, h⟩) d else 0 := by
  refine Eq.trans ?_ (V_v19 m c j k d)
  have e : (ix3 j k d : S4x768x1024.Idx) = (Rect.whole S4x768x1024).emb (ix3 j k d) := by
    funext a; fin_cases a <;> exact Fin.ext (by simp [Rect.whole, Rect.emb])
  exact (congrArg _ e).trans (View.canon_cons_emb _ _ _ _)

/-- The shards of the first weight, loaded at the first point. -/
def rcW (p : Fin 8) : FVec Ideal S1x1024x768 .bf16 :=
  fun i => (View.whole cc0_scratch0).readCov (Val := Elt Ideal) (wpcs m c) (Rect.unit (s := S8x1024x768) ![p.val, 0, 0] ![1, 1024, 768] (inW p)).toLoadRect i

theorem rcW_at (p : Fin 8) (d : Fin 1024) (k : Fin 704) : (rcW m c p (ix3 0 d (wide k)) : EReal) = (inp m c).A.wu d (col p k) := by
  refine (readCov_at _ _ (ix3 p d (wide k) : S8x1024x768.Idx) _ (ix3 0 d (wide k)) ?_).trans ((wpcs_at m c p d (wide k)).trans (turned_at m c p d k))
  intro a; fin_cases a <;> simp

/-- The shards of the second weight, loaded at the first point. -/
def rcD (j : Fin 4) : FVec Ideal S1x768x1024 .bf16 :=
  fun i => (View.whole cc0_scratch1).readCov (Val := Elt Ideal) (down m c) (Rect.unit (s := S4x768x1024) ![j.val, 0, 0] ![1, 768, 1024] (inD j)).toLoadRect i

theorem rcD_at (j : Fin 4) (k : Fin 768) (d : Fin 1024) :
    (rcD m c j (ix3 0 k d) : EReal) = if h : k.val < 704 then (inp m c).A.wd (hcol j ⟨k.val, h⟩) d else 0 := by
  refine (readCov_at _ _ (ix3 j k d : S4x768x1024.Idx) _ (ix3 0 k d) ?_).trans (down_at m c j k d)
  intro a; fin_cases a <;> simp

variable (t : Fin cfg0.N)

/-- The last rows of the first point's tile, that the next point finds. -/
def rows0 (p : Fin 8) : FVec Ideal S8x768 .f32 := k0_pay19 (iblk m c 0 t) (rcW m c p)

/-- The zeros that stand in front of the first tile. -/
def zeros : List (View.Piece (Elt Ideal) S8x6144 .f32) :=
  [⟨Rect.unit (s := S8x6144) ![0, 0] S8x6144.size inb_S8x6144_S8x6144_0_0, k0_pay12 (F := Ideal) k0_pay11⟩]

/-- The stores that a shard of the carried rows is loaded after. -/
def before : Fin 8 → List (View.Piece (Elt Ideal) S8x6144 .f32) :=
  let f := rows0 m c t
  ![zeros, cpc f 4 :: cpc f 0 :: zeros, cpc f 5 :: cpc f 1 :: cpc f 4 :: cpc f 0 :: zeros,
    cpc f 6 :: cpc f 2 :: cpc f 5 :: cpc f 1 :: cpc f 4 :: cpc f 0 :: zeros,
    cpc f 0 :: zeros, cpc f 1 :: cpc f 4 :: cpc f 0 :: zeros, cpc f 2 :: cpc f 5 :: cpc f 1 :: cpc f 4 :: cpc f 0 :: zeros,
    cpc f 3 :: cpc f 6 :: cpc f 2 :: cpc f 5 :: cpc f 1 :: cpc f 4 :: cpc f 0 :: zeros]

theorem zeros_at (r : Fin 8) (k : Fin 6144) : (View.canon zeros (ix2 r k) : EReal) = 0 := by
  refine (canon_hit (Val := Elt Ideal) (S := S8x6144) (e := .f32) (off := ![0, 0]) (size := S8x6144.size) inb_S8x6144_S8x6144_0_0
    (k0_pay12 (F := Ideal) k0_pay11) [] (ix2 r k) (ix2 r k) ?_).trans ?_
  · intro a; fin_cases a <;> simp
  pointwise [k0_pay12, k0_pay11]

theorem before_at (p : Fin 8) (r : Fin 8) (k : Fin 768) : (View.canon (before m c t p) (ix2 r (pcol p k)) : EReal) = 0 := by
  refine Eq.trans ?_ (zeros_at r (pcol p k))
  have e : ∀ p q L, p ≠ q → View.canon (cpc (rows0 m c t) q :: L) (ix2 r (pcol p k)) = View.canon L (ix2 r (pcol p k)) :=
    fun p q L h => (cpc_at _ q L p r k).trans (if_neg h)
  exact match p with
  | 0 => rfl
  | 1 => ((e 1 4 _ (by decide)).trans (e 1 0 _ (by decide)))
  | 2 => ((e 2 5 _ (by decide)).trans ((e 2 1 _ (by decide)).trans ((e 2 4 _ (by decide)).trans (e 2 0 _ (by decide)))))
  | 3 => ((e 3 6 _ (by decide)).trans ((e 3 2 _ (by decide)).trans ((e 3 5 _ (by decide)).trans ((e 3 1 _ (by decide)).trans
      ((e 3 4 _ (by decide)).trans (e 3 0 _ (by decide)))))))
  | 4 => e 4 0 _ (by decide)
  | 5 => ((e 5 1 _ (by decide)).trans ((e 5 4 _ (by decide)).trans (e 5 0 _ (by decide))))
  | 6 => ((e 6 2 _ (by decide)).trans ((e 6 5 _ (by decide)).trans ((e 6 1 _ (by decide)).trans ((e 6 4 _ (by decide)).trans (e 6 0 _ (by decide))))))
  | 7 => ((e 7 3 _ (by decide)).trans ((e 7 6 _ (by decide)).trans ((e 7 2 _ (by decide)).trans ((e 7 5 _ (by decide)).trans ((e 7 1 _ (by decide)).trans
      ((e 7 4 _ (by decide)).trans (e 7 0 _ (by decide))))))))

/-- The carried rows, loaded at the first point. -/
def rcE (p : Fin 8) : FVec Ideal S8x768 .f32 :=
  fun i => (View.whole cc0_scratch2).readCov (Val := Elt Ideal) (before m c t p) (Rect.unit (s := S8x6144) ![0, p.val * 768] ![8, 768] (inE p)).toLoadRect i

theorem rcE_at (p : Fin 8) (r : Fin 8) (k : Fin 768) : (rcE m c t p (ix2 r k) : EReal) = 0 := by
  refine (readCov_at _ _ (ix2 r (pcol p k) : S8x6144.Idx) _ (ix2 r k) ?_).trans (before_at m c t p r k)
  intro a; fin_cases a <;> simp [pcol]

/-- What the first point loads. -/
def ldsA : Loads where
  h := iblk m c 0 t
  W := rcW m c
  E := rcE m c t
  B := ldB (iblk m c 4 t)
  D := rcD m c
  x2 := iblk m c 1 t
  gt := vecRow (iblk m c 3 t) 7 inb_S16x1024_S1x1024_7_0
  gf := vecRow (iblk m c 3 t) 9 inb_S16x1024_S1x1024_9_0
  tg := iblk m c 2 t

variable (h : t.val % 32 = 0)

include h

theorem wu_first : (outsAt0 m c t.val t.isLt).2.2.2.2.1 = View.canon (wpcs m c) := by
  rw [outsAt0_A m c t h]
  frame_out
  rfl

theorem wd_first : (outsAt0 m c t.val t.isLt).2.2.2.2.2.1 = View.canon (down m c) := by
  rw [outsAt0_A m c t h]
  frame_out
  rfl

end Cert.Kernel4Ideal.LossOut

end
-- ==== Proof.LossOutA2.lean ====
/- The results after the first grid point of the call `fwd_ffn`. -/
module

public import proofs.«01_k».proof.Proof.LossOutA

@[expose] public section

set_option maxRecDepth 16384

noncomputable section

open Idealize.ShloMosaic Idealize.ShloMosaic.TcCoe Idealize.SL.Sem
open Idealize.ShloMosaic.Pipeline (Dat)

namespace Cert.Kernel4Ideal.LossOut

open Cert.Kernel4Ideal Cert.Kernel4Ideal.Gen Cert.Kernel4Ideal.LossOps Cert.Kernel4Ideal.LossPay Cert.Kernel4Ideal.LossPoint
open Cert.Kernel2Ideal.FfnOps (col pcol wide)
open Cert.Kernel2Ideal.FfnBlk (hcol pl ph col_pl col_ph)
open Cert.Kernel2Ideal.FfnPoint (canon_hit canon_miss readCov_at read_hit read_miss)

variable (m : (ℓ : Loc nD τ sig) → Buf (Elt Ideal) ℓ) (c : Dev nD)

variable (t : Fin cfg0.N)

/-- The sums before the first tile: zero. -/
def sumsZ : List (View.Piece (Elt Ideal) S8x1024 .f32) :=
  [⟨Rect.unit (s := S8x1024) ![0, 0] S8x1024.size inb_S8x1024_S8x1024_0_0, k0_pay13 (F := Ideal)⟩]

/-- A row of the sums, read back. -/
def rowOf (L : List (View.Piece (Elt Ideal) S8x1024 .f32)) (r : Fin 8)
    (inb : ∀ a : Fin S8x1024.rank, (![r.val, 0] : Fin 2 → ℕ) a + (![1, 1024] : Fin 2 → ℕ) a ≤ S8x1024.size a) : FVec Ideal S1x1024 .f32 :=
  fun i => (ms0_8 t).view.readCov (Val := Elt Ideal) L (Rect.unit (s := S8x1024) ![r.val, 0] ![1, 1024] inb).toLoadRect i

theorem rowOf_at (L : List (View.Piece (Elt Ideal) S8x1024 .f32)) (r : Fin 8) (inb) (d : Fin 1024) :
    rowOf t L r inb (ix2 0 d) = View.canon L (ix2 r d) := by
  unfold rowOf
  refine readCov_at _ _ (ix2 r d : S8x1024.Idx) _ (ix2 0 d) ?_
  intro a; fin_cases a <;> simp

variable (G X O : FVec Ideal S256x1024 .f32) (gf : FVec Ideal S1x1024 .f32) (tg : FVec Ideal S256x1024 .f32)

/-- The sums with the first tile's part of the loss. -/
def sums1 : List (View.Piece (Elt Ideal) S8x1024 .f32) :=
  ⟨Rect.unit (s := S8x1024) ![1, 0] ![1, 1024] inb_S8x1024_S1x1024_1_0, k0_pay81 X gf tg (rowOf t sumsZ 1 inb_S8x1024_S1x1024_1_0)⟩ :: sumsZ
/-- With its part of the gain's gradient, too. -/
def sums2 : List (View.Piece (Elt Ideal) S8x1024 .f32) :=
  ⟨Rect.unit (s := S8x1024) ![0, 0] ![1, 1024] inb_S8x1024_S1x1024_0_0, k0_pay83 X gf tg (rowOf t (sums1 t X gf tg) 0 inb_S8x1024_S1x1024_0_0)⟩ :: sums1 t X gf tg
/-- And with its part of the factor's gradient. -/
def sums3 : List (View.Piece (Elt Ideal) S8x1024 .f32) :=
  ⟨Rect.unit (s := S8x1024) ![2, 0] ![1, 1024] inb_S8x1024_S1x1024_2_0, k0_pay1 O G (rowOf t (sums2 t X gf tg) 2 inb_S8x1024_S1x1024_2_0)⟩ :: sums2 t X gf tg

theorem sumsZ_at (r : Fin 8) (d : Fin 1024) : (View.canon sumsZ (ix2 r d) : EReal) = 0 := by
  refine (canon_hit (Val := Elt Ideal) (S := S8x1024) (e := .f32) (off := ![0, 0]) (size := S8x1024.size) inb_S8x1024_S8x1024_0_0
    (k0_pay13 (F := Ideal)) [] (ix2 r d) (ix2 r d) ?_).trans ?_
  · intro a; fin_cases a <;> simp
  pointwise [k0_pay13]

theorem sums1_at (d : Fin 1024) : View.canon (sums1 t X gf tg) (ix2 1 d) = k0_pay81 X gf tg (rowOf t sumsZ 1 inb_S8x1024_S1x1024_1_0) (ix2 0 d) := by
  refine canon_hit (Val := Elt Ideal) (S := S8x1024) (e := .f32) (off := ![1, 0]) (size := ![1, 1024]) inb_S8x1024_S1x1024_1_0 (k0_pay81 X gf tg (rowOf t sumsZ 1 inb_S8x1024_S1x1024_1_0)) sumsZ (ix2 1 d) (ix2 0 d) ?_
  intro a; fin_cases a <;> simp

theorem sums1_miss (r : Fin 8) (hr : r ≠ 1) (d : Fin 1024) : View.canon (sums1 t X gf tg) (ix2 r d) = View.canon sumsZ (ix2 r d) := by
  refine canon_miss (Val := Elt Ideal) (S := S8x1024) (e := .f32) (off := ![1, 0]) (size := ![1, 1024]) inb_S8x1024_S1x1024_1_0 (k0_pay81 X gf tg (rowOf t sumsZ 1 inb_S8x1024_S1x1024_1_0)) sumsZ (ix2 r d) (0 : Fin 2) ?_
  show r.val < 1 ∨ 1 + 1 ≤ r.val
  have : r.val ≠ 1 := fun e => hr (Fin.ext e)
  omega

theorem sums2_at (d : Fin 1024) : View.canon (sums2 t X gf tg) (ix2 0 d)
    = k0_pay83 X gf tg (rowOf t (sums1 t X gf tg) 0 inb_S8x1024_S1x1024_0_0) (ix2 0 d) := by
  refine canon_hit (Val := Elt Ideal) (S := S8x1024) (e := .f32) (off := ![0, 0]) (size := ![1, 1024]) inb_S8x1024_S1x1024_0_0 (k0_pay83 X gf tg (rowOf t (sums1 t X gf tg) 0 inb_S8x1024_S1x1024_0_0)) (sums1 t X gf tg) (ix2 0 d) (ix2 0 d) ?_
  intro a; fin_cases a <;> simp

theorem sums2_miss (r : Fin 8) (hr : r ≠ 0) (d : Fin 1024) : View.canon (sums2 t X gf tg) (ix2 r d) = View.canon (sums1 t X gf tg) (ix2 r d) := by
  refine canon_miss (Val := Elt Ideal) (S := S8x1024) (e := .f32) (off := ![0, 0]) (size := ![1, 1024]) inb_S8x1024_S1x1024_0_0 (k0_pay83 X gf tg (rowOf t (sums1 t X gf tg) 0 inb_S8x1024_S1x1024_0_0)) (sums1 t X gf tg) (ix2 r d) (0 : Fin 2) ?_
  show r.val < 0 ∨ 0 + 1 ≤ r.val
  have : r.val ≠ 0 := fun e => hr (Fin.ext e)
  omega

theorem sums3_at (d : Fin 1024) : View.canon (sums3 t G X O gf tg) (ix2 2 d)
    = k0_pay1 O G (rowOf t (sums2 t X gf tg) 2 inb_S8x1024_S1x1024_2_0) (ix2 0 d) := by
  refine canon_hit (Val := Elt Ideal) (S := S8x1024) (e := .f32) (off := ![2, 0]) (size := ![1, 1024]) inb_S8x1024_S1x1024_2_0 (k0_pay1 O G (rowOf t (sums2 t X gf tg) 2 inb_S8x1024_S1x1024_2_0)) (sums2 t X gf tg) (ix2 2 d) (ix2 0 d) ?_
  intro a; fin_cases a <;> simp

theorem sums3_miss (r : Fin 8) (hr : r ≠ 2) (d : Fin 1024) : View.canon (sums3 t G X O gf tg) (ix2 r d) = View.canon (sums2 t X gf tg) (ix2 r d) := by
  refine canon_miss (Val := Elt Ideal) (S := S8x1024) (e := .f32) (off := ![2, 0]) (size := ![1, 1024]) inb_S8x1024_S1x1024_2_0 (k0_pay1 O G (rowOf t (sums2 t X gf tg) 2 inb_S8x1024_S1x1024_2_0)) (sums2 t X gf tg) (ix2 r d) (0 : Fin 2) ?_
  show r.val < 2 ∨ 2 + 1 ≤ r.val
  have : r.val ≠ 2 := fun e => hr (Fin.ext e)
  omega

/-- The three rows of the sums after the first point, each begun with zero. -/
theorem row1_first (d : Fin 1024) : ∃ r : FVec Ideal S1x1024 .f32, (r (ix2 0 d) : EReal) = 0
    ∧ View.canon (sums3 t G X O gf tg) (ix2 1 d) = k0_pay81 X gf tg r (ix2 0 d) :=
  ⟨rowOf t sumsZ 1 inb_S8x1024_S1x1024_1_0, (rowOf_at t sumsZ 1 _ d).trans (sumsZ_at 1 d),
    (sums3_miss t G X O gf tg 1 (by decide) d).trans ((sums2_miss t X gf tg 1 (by decide) d).trans (sums1_at t X gf tg d))⟩

theorem row0_first (d : Fin 1024) : ∃ r : FVec Ideal S1x1024 .f32, (r (ix2 0 d) : EReal) = 0
    ∧ View.canon (sums3 t G X O gf tg) (ix2 0 d) = k0_pay83 X gf tg r (ix2 0 d) :=
  ⟨rowOf t (sums1 t X gf tg) 0 inb_S8x1024_S1x1024_0_0, (rowOf_at t _ 0 _ d).trans ((sums1_miss t X gf tg 0 (by decide) d).trans (sumsZ_at 0 d)),
    (sums3_miss t G X O gf tg 0 (by decide) d).trans (sums2_at t X gf tg d)⟩

theorem row2_first (d : Fin 1024) : ∃ r : FVec Ideal S1x1024 .f32, (r (ix2 0 d) : EReal) = 0
    ∧ View.canon (sums3 t G X O gf tg) (ix2 2 d) = k0_pay1 O G r (ix2 0 d) :=
  ⟨rowOf t (sums2 t X gf tg) 2 inb_S8x1024_S1x1024_2_0,
    (rowOf_at t _ 2 _ d).trans ((sums2_miss t X gf tg 2 (by decide) d).trans ((sums1_miss t X gf tg 2 (by decide) d).trans (sumsZ_at 2 d))),
    sums3_at t G X O gf tg d⟩

set_option maxHeartbeats 4000000 in
/-- The results of the first point: the gradient of its rows, and the sums begun with zero. -/
theorem results_first (h : t.val % 32 = 0) :
    (outsAt0 m c t.val t.isLt).2.2.1 = (ldsA m c t).dx3
    ∧ (outsAt0 m c t.val t.isLt).2.2.2.1
      = View.canon (sums3 t (ldsA m c t).dx3 (ldsA m c t).xn (ldsA m c t).o2 (ldsA m c t).gf (ldsA m c t).tg) := by
  have ko := (ldsA m c t).o2_eq
  have kx := (ldsA m c t).xn_eq
  have kd := (ldsA m c t).dx3_eq
  generalize Loads.o2 (ldsA m c t) = O at ko ⊢
  generalize Loads.xn (ldsA m c t) = X at kx ⊢
  generalize Loads.dx3 (ldsA m c t) = G at kd ⊢
  dsimp only [Loads.g3, Loads.g2, Loads.g1, Loads.v3, Loads.v7, Loads.u7, ldsA, ldB, vecRow] at ko kx kd
  dsimp only [ldsA, vecRow]
  rw [outsAt0_A m c t h]
  frame_out
  generalize e : View.readCov (Val := Elt Ideal) (View.whole cc0_scratch0) _ (Rect.unit (s := S8x1024x768) ![0, 0, 0] ![1, 1024, 768] inb_S8x1024x768_S1x1024x768_0_0_0).toLoadRect = w
  obtain rfl : rcW m c 0 = w := e
  generalize e : View.readCov (Val := Elt Ideal) (View.whole cc0_scratch0) _ (Rect.unit (s := S8x1024x768) ![1, 0, 0] ![1, 1024, 768] inb_S8x1024x768_S1x1024x768_1_0_0).toLoadRect = w
  obtain rfl : rcW m c 1 = w := e
  generalize e : View.readCov (Val := Elt Ideal) (View.whole cc0_scratch0) _ (Rect.unit (s := S8x1024x768) ![2, 0, 0] ![1, 1024, 768] inb_S8x1024x768_S1x1024x768_2_0_0).toLoadRect = w
  obtain rfl : rcW m c 2 = w := e
  generalize e : View.readCov (Val := Elt Ideal) (View.whole cc0_scratch0) _ (Rect.unit (s := S8x1024x768) ![3, 0, 0] ![1, 1024, 768] inb_S8x1024x768_S1x1024x768_3_0_0).toLoadRect = w
  obtain rfl : rcW m c 3 = w := e
  generalize e : View.readCov (Val := Elt Ideal) (View.whole cc0_scratch0) _ (Rect.unit (s := S8x1024x768) ![4, 0, 0] ![1, 1024, 768] inb_S8x1024x768_S1x1024x768_4_0_0).toLoadRect = w
  obtain rfl : rcW m c 4 = w := e
  generalize e : View.readCov (Val := Elt Ideal) (View.whole cc0_scratch0) _ (Rect.unit (s := S8x1024x768) ![5, 0, 0] ![1, 1024, 768] inb_S8x1024x768_S1x1024x768_5_0_0).toLoadRect = w
  obtain rfl : rcW m c 5 = w := e
  generalize e : View.readCov (Val := Elt Ideal) (View.whole cc0_scratch0) _ (Rect.unit (s := S8x1024x768) ![6, 0, 0] ![1, 1024, 768] inb_S8x1024x768_S1x1024x768_6_0_0).toLoadRect = w
  obtain rfl : rcW m c 6 = w := e
  generalize e : View.readCov (Val := Elt Ideal) (View.whole cc0_scratch0) _ (Rect.unit (s := S8x1024x768) ![7, 0, 0] ![1, 1024, 768] inb_S8x1024x768_S1x1024x768_7_0_0).toLoadRect = w
  obtain rfl : rcW m c 7 = w := e
  generalize e : View.readCov (Val := Elt Ideal) (View.whole cc0_scratch2) _ (Rect.unit (s := S8x6144) ![0, 0] ![8, 768] inb_S8x6144_S8x768_0_0).toLoadRect = w
  obtain rfl : rcE m c t 0 = w := e
  generalize e : View.readCov (Val := Elt Ideal) (View.whole cc0_scratch2) _ (Rect.unit (s := S8x6144) ![0, 768] ![8, 768] inb_S8x6144_S8x768_0_768).toLoadRect = w
  obtain rfl : rcE m c t 1 = w := e
  generalize e : View.readCov (Val := Elt Ideal) (View.whole cc0_scratch2) _ (Rect.unit (s := S8x6144) ![0, 1536] ![8, 768] inb_S8x6144_S8x768_0_1536).toLoadRect = w
  obtain rfl : rcE m c t 2 = w := e
  generalize e : View.readCov (Val := Elt Ideal) (View.whole cc0_scratch2) _ (Rect.unit (s := S8x6144) ![0, 2304] ![8, 768] inb_S8x6144_S8x768_0_2304).toLoadRect = w
  obtain rfl : rcE m c t 3 = w := e
  generalize e : View.readCov (Val := Elt Ideal) (View.whole cc0_scratch2) _ (Rect.unit (s := S8x6144) ![0, 3072] ![8, 768] inb_S8x6144_S8x768_0_3072).toLoadRect = w
  obtain rfl : rcE m c t 4 = w := e
  generalize e : View.readCov (Val := Elt Ideal) (View.whole cc0_scratch2) _ (Rect.unit (s := S8x6144) ![0, 3840] ![8, 768] inb_S8x6144_S8x768_0_3840).toLoadRect = w
  obtain rfl : rcE m c t 5 = w := e
  generalize e : View.readCov (Val := Elt Ideal) (View.whole cc0_scratch2) _ (Rect.unit (s := S8x6144) ![0, 4608] ![8, 768] inb_S8x6144_S8x768_0_4608).toLoadRect = w
  obtain rfl : rcE m c t 6 = w := e
  generalize e : View.readCov (Val := Elt Ideal) (View.whole cc0_scratch2) _ (Rect.unit (s := S8x6144) ![0, 5376] ![8, 768] inb_S8x6144_S8x768_0_5376).toLoadRect = w
  obtain rfl : rcE m c t 7 = w := e
  generalize e : View.readCov (Val := Elt Ideal) (View.whole cc0_scratch1) _ (Rect.unit (s := S4x768x1024) ![0, 0, 0] ![1, 768, 1024] inb_S4x768x1024_S1x768x1024_0_0_0).toLoadRect = w
  obtain rfl : rcD m c 0 = w := e
  generalize e : View.readCov (Val := Elt Ideal) (View.whole cc0_scratch1) _ (Rect.unit (s := S4x768x1024) ![1, 0, 0] ![1, 768, 1024] inb_S4x768x1024_S1x768x1024_1_0_0).toLoadRect = w
  obtain rfl : rcD m c 1 = w := e
  generalize e : View.readCov (Val := Elt Ideal) (View.whole cc0_scratch1) _ (Rect.unit (s := S4x768x1024) ![2, 0, 0] ![1, 768, 1024] inb_S4x768x1024_S1x768x1024_2_0_0).toLoadRect = w
  obtain rfl : rcD m c 2 = w := e
  generalize e : View.readCov (Val := Elt Ideal) (View.whole cc0_scratch1) _ (Rect.unit (s := S4x768x1024) ![3, 0, 0] ![1, 768, 1024] inb_S4x768x1024_S1x768x1024_3_0_0).toLoadRect = w
  obtain rfl : rcD m c 3 = w := e
  generalize e : k0_pay84 (F := Ideal) _ _ _ _ = w
  obtain rfl : G = w := kd.symm.trans e
  clear e kd
  refine ⟨rfl, ?_⟩
  generalize e : k0_pay78 (F := Ideal) _ _ _ _ _ _ _ _ = w
  obtain rfl : X = w := kx.symm.trans e
  clear e kx
  generalize e : k0_pay75 (F := Ideal) _ _ _ _ _ _ = w
  obtain rfl : O = w := ko.symm.trans e
  clear e ko
  rfl

set_option maxHeartbeats 1000000 in
theorem carry_first (h : t.val % 32 = 0) (p : Fin 8) (r : Fin 8) (k : Fin 768) :
    ((outsAt0 m c t.val t.isLt).2.2.2.2.2.2 (ix2 r (pcol p k)) : EReal) = rows0 m c t p (ix2 r k) := by
  rw [outsAt0_A m c t h]
  frame_out
  generalize e : View.readCov (Val := Elt Ideal) (View.whole cc0_scratch0) _ (Rect.unit (s := S8x1024x768) ![0, 0, 0] ![1, 1024, 768] inb_S8x1024x768_S1x1024x768_0_0_0).toLoadRect = w
  obtain rfl : rcW m c 0 = w := e
  generalize e : View.readCov (Val := Elt Ideal) (View.whole cc0_scratch0) _ (Rect.unit (s := S8x1024x768) ![1, 0, 0] ![1, 1024, 768] inb_S8x1024x768_S1x1024x768_1_0_0).toLoadRect = w
  obtain rfl : rcW m c 1 = w := e
  generalize e : View.readCov (Val := Elt Ideal) (View.whole cc0_scratch0) _ (Rect.unit (s := S8x1024x768) ![2, 0, 0] ![1, 1024, 768] inb_S8x1024x768_S1x1024x768_2_0_0).toLoadRect = w
  obtain rfl : rcW m c 2 = w := e
  generalize e : View.readCov (Val := Elt Ideal) (View.whole cc0_scratch0) _ (Rect.unit (s := S8x1024x768) ![3, 0, 0] ![1, 1024, 768] inb_S8x1024x768_S1x1024x768_3_0_0).toLoadRect = w
  obtain rfl : rcW m c 3 = w := e
  generalize e : View.readCov (Val := Elt Ideal) (View.whole cc0_scratch0) _ (Rect.unit (s := S8x1024x768) ![4, 0, 0] ![1, 1024, 768] inb_S8x1024x768_S1x1024x768_4_0_0).toLoadRect = w
  obtain rfl : rcW m c 4 = w := e
  generalize e : View.readCov (Val := Elt Ideal) (View.whole cc0_scratch0) _ (Rect.unit (s := S8x1024x768) ![5, 0, 0] ![1, 1024, 768] inb_S8x1024x768_S1x1024x768_5_0_0).toLoadRect = w
  obtain rfl : rcW m c 5 = w := e
  generalize e : View.readCov (Val := Elt Ideal) (View.whole cc0_scratch0) _ (Rect.unit (s := S8x1024x768) ![6, 0, 0] ![1, 1024, 768] inb_S8x1024x768_S1x1024x768_6_0_0).toLoadRect = w
  obtain rfl : rcW m c 6 = w := e
  generalize e : View.readCov (Val := Elt Ideal) (View.whole cc0_scratch0) _ (Rect.unit (s := S8x1024x768) ![7, 0, 0] ![1, 1024, 768] inb_S8x1024x768_S1x1024x768_7_0_0).toLoadRect = w
  obtain rfl : rcW m c 7 = w := e
  refine Eq.trans (b := View.canon (cpcs (rows0 m c t) zeros) (ix2 r (pcol p k))) ?_ (cpcs_at _ _ p r k)
  rfl

end Cert.Kernel4Ideal.LossOut

end
-- ==== Proof.LossOutB.lean ====
/- What the results and the carried arrays hold after a later grid point of the call `fwd_ffn`. -/
module

public import proofs.«01_k».proof.Proof.LossOut

@[expose] public section

set_option maxRecDepth 16384

noncomputable section

open Idealize.ShloMosaic Idealize.ShloMosaic.TcCoe Idealize.SL.Sem
open Idealize.ShloMosaic.Pipeline (Dat)

namespace Cert.Kernel4Ideal.LossOut

open Cert.Kernel4Ideal Cert.Kernel4Ideal.Gen Cert.Kernel4Ideal.LossOps Cert.Kernel4Ideal.LossPay Cert.Kernel4Ideal.LossPoint
open Cert.Kernel2Ideal.FfnOps (col pcol wide)
open Cert.Kernel2Ideal.FfnBlk (hcol pl ph col_pl col_ph)
open Cert.Kernel2Ideal.FfnPoint (canon_hit canon_miss readCov_at read_hit read_miss)

variable (m : (ℓ : Loc nD τ sig) → Buf (Elt Ideal) ℓ) (c : Dev nD)

/-- What point `t`, not the first, loads. -/
def ldsB (t : Fin cfg0.N) : Loads :=
  next m c t (outsAt0 m c (t.val - 1) (by omega)).2.2.2.2.1 (outsAt0 m c (t.val - 1) (by omega)).2.2.2.2.2.1
    (outsAt0 m c (t.val - 1) (by omega)).2.2.2.2.2.2
/-- The sums that it finds. -/
def oldB (t : Fin cfg0.N) : FVec Ideal S8x1024 .f32 := (outsAt0 m c (t.val - 1) (by omega)).2.2.2.1

/-- The last rows of a tile. -/
def rowsB (t : Fin cfg0.N) (p : Fin 8) : FVec Ideal S8x768 .f32 := k0_pay19 (ldsB m c t).h ((ldsB m c t).W p)

variable (t : Fin cfg0.N) (h : ¬ t.val % 32 = 0)

include h

theorem wu_next : (outsAt0 m c t.val t.isLt).2.2.2.2.1 = (outsAt0 m c (t.val - 1) (by omega)).2.2.2.2.1 := by
  rw [outsAt0_B m c t h]
  rfl

theorem wd_next : (outsAt0 m c t.val t.isLt).2.2.2.2.2.1 = (outsAt0 m c (t.val - 1) (by omega)).2.2.2.2.2.1 := by
  rw [outsAt0_B m c t h]
  rfl

set_option maxHeartbeats 2000000 in
theorem dx3_next (x : Fin 256) (d : Fin 1024) : ((outsAt0 m c t.val t.isLt).2.2.1 (ix2 x d) : EReal) = (ldsB m c t).dx3 (ix2 x d) := by
  rw [outsAt0_B m c t h]
  frame_out
  simp only [read_unread_whole]
  have key := (ldsB m c t).dx3_eq
  generalize Loads.dx3 (ldsB m c t) = X at key ⊢
  dsimp only [Loads.g3, Loads.g2, Loads.g1, Loads.v3, Loads.v7, Loads.u7, ldsB, next, ldW, ldE, ldB, ldD, vecRow] at key
  exact congrFun key (ix2 x d)

set_option maxHeartbeats 2000000 in
theorem loss_next (d : Fin 1024) : ((outsAt0 m c t.val t.isLt).2.2.2.1 (ix2 1 d) : EReal)
    = k0_pay81 (ldsB m c t).xn (ldsB m c t).gf (ldsB m c t).tg (accRow (oldB m c t) 1 inb_S8x1024_S1x1024_1_0) (ix2 0 d) := by
  rw [outsAt0_B m c t h]
  frame_out
  refine (read_miss _ _ _ _ _ _ (0 : Fin 2) (.inl ?_)).trans ?_
  · show 1 < 2; omega
  refine (read_miss _ _ _ _ _ _ (0 : Fin 2) (.inr ?_)).trans ?_
  · show 0 + 1 ≤ 1; omega
  refine (read_hit _ _ _ _ _ _ (ix2 0 d) ?_).trans ?_
  · intro a; fin_cases a <;> simp
  simp only [read_unread_whole]
  have key := (ldsB m c t).xn_eq
  generalize Loads.xn (ldsB m c t) = X at key ⊢
  dsimp only [Loads.g3, Loads.g2, Loads.g1, Loads.v3, Loads.v7, Loads.u7, ldsB, next, ldW, ldE, ldB, ldD, vecRow] at key
  exact congrFun (congrArg (k0_pay81 · (ldsB m c t).gf (ldsB m c t).tg (accRow (oldB m c t) 1 inb_S8x1024_S1x1024_1_0)) key) (ix2 0 d)

set_option maxHeartbeats 2000000 in
theorem gf_next (d : Fin 1024) : ((outsAt0 m c t.val t.isLt).2.2.2.1 (ix2 0 d) : EReal)
    = k0_pay83 (ldsB m c t).xn (ldsB m c t).gf (ldsB m c t).tg (accRow (oldB m c t) 0 inb_S8x1024_S1x1024_0_0) (ix2 0 d) := by
  rw [outsAt0_B m c t h]
  frame_out
  refine (read_miss _ _ _ _ _ _ (0 : Fin 2) (.inl ?_)).trans ?_
  · show 0 < 2; omega
  refine (read_hit _ _ _ _ _ _ (ix2 0 d) ?_).trans ?_
  · intro a; fin_cases a <;> simp
  simp only [read_unread_whole]
  have key := (ldsB m c t).xn_eq
  generalize Loads.xn (ldsB m c t) = X at key ⊢
  dsimp only [Loads.g3, Loads.g2, Loads.g1, Loads.v3, Loads.v7, Loads.u7, ldsB, next, ldW, ldE, ldB, ldD, vecRow] at key
  exact congrFun (congrArg (k0_pay83 · (ldsB m c t).gf (ldsB m c t).tg (accRow (oldB m c t) 0 inb_S8x1024_S1x1024_0_0)) key) (ix2 0 d)

set_option maxHeartbeats 2000000 in
theorem gt_next (d : Fin 1024) : ((outsAt0 m c t.val t.isLt).2.2.2.1 (ix2 2 d) : EReal)
    = k0_pay1 (ldsB m c t).o2 (ldsB m c t).dx3 (accRow (oldB m c t) 2 inb_S8x1024_S1x1024_2_0) (ix2 0 d) := by
  rw [outsAt0_B m c t h]
  frame_out
  refine (read_hit _ _ _ _ _ _ (ix2 0 d) ?_).trans ?_
  · intro a; fin_cases a <;> simp
  simp only [read_unread_whole]
  have key := (ldsB m c t).o2_eq
  have key' := (ldsB m c t).dx3_eq
  generalize Loads.o2 (ldsB m c t) = X at key ⊢
  generalize Loads.dx3 (ldsB m c t) = Y at key' ⊢
  dsimp only [Loads.g3, Loads.g2, Loads.g1, Loads.v3, Loads.v7, Loads.u7, ldsB, next, ldW, ldE, ldB, ldD, vecRow] at key key'
  exact congrFun (congrArg₂ (k0_pay1 · · (accRow (oldB m c t) 2 inb_S8x1024_S1x1024_2_0)) key key') (ix2 0 d)

theorem carry_next (p : Fin 8) (r : Fin 8) (k : Fin 768) : ((outsAt0 m c t.val t.isLt).2.2.2.2.2.2 (ix2 r (pcol p k)) : EReal)
    = rowsB m c t p (ix2 r k) := by
  rw [outsAt0_B m c t h]
  frame_out
  simp only [read_unread_whole]
  refine Eq.trans (b := View.canon (cpcs (rowsB m c t) []) (ix2 r (pcol p k))) ?_ (cpcs_at _ _ p r k)
  rfl

end Cert.Kernel4Ideal.LossOut

end
-- ==== Proof.LossAcc.lean ====
/- What the call `fwd_ffn` holds after each grid point: the copies of the weights, the last rows of the tile, the gradient of
   the tile's rows and the sums over the tiles. -/
module

public import proofs.«01_k».proof.Proof.LossOutA2
public import proofs.«01_k».proof.Proof.LossOutB

@[expose] public section

set_option maxRecDepth 16384

noncomputable section

open Idealize.ShloMosaic Idealize.ShloMosaic.TcCoe Idealize.SL.Sem
open Idealize.ShloMosaic.Pipeline (Dat)

namespace Cert.Kernel4Ideal.LossAcc

open Cert.Kernel4Ideal Cert.Kernel4Ideal.Gen Cert.Kernel4Ideal.LossOps Cert.Kernel4Ideal.LossPay Cert.Kernel4Ideal.LossPoint
open Cert.Kernel4Ideal.LossOut
open Cert.Kernel2Ideal.FfnOps (col pcol wide)
open Cert.Kernel2Ideal.FfnBlk (hcol pl ph col_pl col_ph)

variable (m : (ℓ : Loc nD τ sig) → Buf (Elt Ideal) ℓ) (c : Dev nD)

theorem ldB_at (t : Fin cfg0.N) (r : Fin 4) (p : Fin 8) (k : Fin 768) :
    ldB (iblk m c 4 t) r p (ix2 0 k) = (iblk m c 4 t : S8x6144.Idx → EReal) (ix2 ⟨r.val, by omega⟩ (pcol p k)) := by
  unfold ldB
  refine View.ld_unit_apply_of _ _ _ _ _ _ ?_
  intro a; fin_cases a <;> simp [pcol]

theorem ldW_at (S : FVec Ideal S8x1024x768 .bf16) (p : Fin 8) (d : Fin 1024) (k : Fin 768) : ldW S p (ix3 0 d k) = S (ix3 p d k) := by
  unfold ldW
  refine View.ld_unit_apply_of _ _ _ _ _ _ ?_
  intro a; fin_cases a <;> simp

theorem ldE_at (S : FVec Ideal S8x6144 .f32) (p : Fin 8) (r : Fin 8) (k : Fin 768) : ldE S p (ix2 r k) = S (ix2 r (pcol p k)) := by
  unfold ldE
  refine View.ld_unit_apply_of _ _ _ _ _ _ ?_
  intro a; fin_cases a <;> simp [pcol]

theorem ldD_at (S : FVec Ideal S4x768x1024 .bf16) (j : Fin 4) (k : Fin 768) (d : Fin 1024) : ldD S j (ix3 0 k d) = S (ix3 j k d) := by
  unfold ldD
  refine View.ld_unit_apply_of _ _ _ _ _ _ ?_
  intro a; fin_cases a <;> simp

theorem vecRow_at (S : FVec Ideal S16x1024 .f32) (r : Fin 16) (inb) (d : Fin 1024) : vecRow S r inb (ix2 0 d) = S (ix2 r d) := by
  unfold vecRow
  refine View.ld_unit_apply_of _ _ _ _ _ _ ?_
  intro a; fin_cases a <;> simp

theorem accRow_at (S : FVec Ideal S8x1024 .f32) (r : Fin 8) (inb) (d : Fin 1024) : accRow S r inb (ix2 0 d) = S (ix2 r d) := by
  unfold accRow
  refine View.ld_unit_apply_of _ _ _ _ _ _ ?_
  intro a; fin_cases a <;> simp

theorem vec7 (t : Fin cfg0.N) (d : Fin 1024) :
    (vecRow (iblk m c 3 t) 7 inb_S16x1024_S1x1024_7_0 (ix2 0 d) : EReal) = (inp m c).A.gt d :=
  (vecRow_at (iblk m c 3 t) 7 inb_S16x1024_S1x1024_7_0 d).trans (b3_7 m c t d)

theorem vec9 (t : Fin cfg0.N) (d : Fin 1024) :
    (vecRow (iblk m c 3 t) 9 inb_S16x1024_S1x1024_9_0 (ix2 0 d) : EReal) = (inp m c).gf d :=
  (vecRow_at (iblk m c 3 t) 9 inb_S16x1024_S1x1024_9_0 d).trans (b3_9 m c t d)

/-- A later point loads what it should where the carried arrays hold what they should. -/
theorem next_At (t : Fin cfg0.N) (S0 : FVec Ideal S8x1024x768 .bf16) (S1 : FVec Ideal S4x768x1024 .bf16) (S2 : FVec Ideal S8x6144 .f32)
    (h0 : ∀ p d k, (S0 (ix3 p d (wide k)) : EReal) = (inp m c).A.wu d (col p k))
    (h1 : ∀ j k d, (S1 (ix3 j k d) : EReal) = if h : k.val < 704 then (inp m c).A.wd (hcol j ⟨k.val, h⟩) d else 0)
    (h2 : ∀ p k r, (S2 (ix2 r (pcol p (wide k))) : EReal) = above t (fun n => (inp m c).A.pre n (col p k)) r) :
    (next m c t S0 S1 S2).At (inp m c) t := by
  unfold next
  constructor
  all_goals dsimp only
  · exact b0 m c t
  · exact fun p k d => (ldW_at S0 p d (wide k)).trans (h0 p d k)
  · exact fun p k r => (ldE_at S2 p r (wide k)).trans (h2 p k r)
  · exact fun r p k => (ldB_at m c t ⟨r.val, by omega⟩ p (wide k)).trans (b4 m c t r p k)
  · exact fun p k => (ldB_at m c t 3 p (wide k)).trans (b4_3 m c t p k)
  · exact fun j k d => (ldD_at S1 j k d).trans (h1 j k d)
  · exact b1 m c t
  · exact vec7 m c t
  · exact vec9 m c t
  · exact b2 m c t

/-- The first point loads what it should. -/
theorem first_At (t : Fin cfg0.N) (ht : t.val = 0) : (ldsA m c t).At (inp m c) t := by
  unfold ldsA
  constructor
  all_goals dsimp only
  · exact b0 m c t
  · exact fun p k d => rcW_at m c p d k
  · exact fun p k r => (rcE_at m c t p r (wide k)).trans (by unfold above; rw [dif_pos ht])
  · exact fun r p k => (ldB_at m c t ⟨r.val, by omega⟩ p (wide k)).trans (b4 m c t r p k)
  · exact fun p k => (ldB_at m c t 3 p (wide k)).trans (b4_3 m c t p k)
  · exact rcD_at m c
  · exact b1 m c t
  · exact vec7 m c t
  · exact vec9 m c t
  · exact b2 m c t

/-- What the carried arrays hold after the point `n`. -/
structure Inv (n : ℕ) (hn : n < cfg0.N) : Prop where
  wu : ∀ p d k, ((outsAt0 m c n hn).2.2.2.2.1 (ix3 p d (wide k)) : EReal) = (inp m c).A.wu d (col p k)
  wd : ∀ j k d, ((outsAt0 m c n hn).2.2.2.2.2.1 (ix3 j k d) : EReal) = if h : k.val < 704 then (inp m c).A.wd (hcol j ⟨k.val, h⟩) d else 0
  up : ∀ p r k, ((outsAt0 m c n hn).2.2.2.2.2.2 (ix2 r (pcol p (wide k))) : EReal)
    = (inp m c).A.pre (row ⟨n, hn⟩ ⟨248 + r.val, by omega⟩) (col p k)

/-- The rows that a point keeps. -/
theorem rows_at {L : Loads} {t : Fin cfg0.N} (hL : L.At (inp m c) t) (p r : Fin 8) (k : Fin 704) :
    (k0_pay19 (F := Ideal) L.h (L.W p) (ix2 r (wide k)) : EReal) = (inp m c).A.pre (row t ⟨248 + r.val, by omega⟩) (col p k) :=
  (pay19_at _ _ r (wide k)).trans (pr_at hL p _ k)

theorem inv_first (t : Fin cfg0.N) (ht : t.val = 0) : Inv m c t.val t.isLt := by
  have h : t.val % 32 = 0 := by rw [ht]
  refine ⟨fun p d k => ?_, fun j k d => ?_, fun p r k => ?_⟩
  · exact (congrFun (wu_first m c t h) (ix3 p d (wide k))).trans ((wpcs_at m c p d (wide k)).trans (turned_at m c p d k))
  · exact (congrFun (wd_first m c t h) (ix3 j k d)).trans (down_at m c j k d)
  · have e := rows_at m c (first_At m c t ht) p r k
    unfold ldsA at e
    dsimp only at e
    refine (carry_first m c t h p r (wide k)).trans ?_
    unfold rows0
    exact e

/-- What a point after the first loads. -/
theorem later_At (t : Fin cfg0.N) (h : ¬ t.val % 32 = 0) (I : Inv m c (t.val - 1) (by omega)) : (ldsB m c t).At (inp m c) t := by
  have ht : t.val < 32 := t.isLt
  refine next_At m c t _ _ _ I.wu I.wd fun p k r => (I.up p r k).trans ?_
  unfold above
  rw [dif_neg (by omega)]
  exact congrArg ((inp m c).A.pre · (col p k)) (Fin.ext (by show 256 * (t.val - 1) + (248 + r.val) = 256 * t.val - 8 + r.val; omega))

theorem inv_next (t : Fin cfg0.N) (h : ¬ t.val % 32 = 0) (I : Inv m c (t.val - 1) (by omega)) : Inv m c t.val t.isLt where
  wu p d k := by
    rw [wu_next m c t h]
    exact I.wu p d k
  wd j k d := by
    rw [wd_next m c t h]
    exact I.wd j k d
  up p r k := (carry_next m c t h p r (wide k)).trans (rows_at m c (later_At m c t h I) p r k)

/-- The carried arrays hold what they should after every point. -/
theorem inv : ∀ (n : ℕ) (hn : n < cfg0.N), Inv m c n hn
  | 0, hn => inv_first m c ⟨0, hn⟩ rfl
  | n + 1, hn => inv_next m c ⟨n + 1, hn⟩ (by have : n + 1 < 32 := hn; show ¬ (n + 1) % 32 = 0; omega) (inv n (by omega))

theorem ldsB_At (t : Fin cfg0.N) (h : ¬ t.val % 32 = 0) : (ldsB m c t).At (inp m c) t := later_At m c t h (inv m c _ _)

theorem ldsA_At (t : Fin cfg0.N) (h : t.val % 32 = 0) : (ldsA m c t).At (inp m c) t :=
  first_At m c t (by have : t.val < 32 := t.isLt; omega)

/-- The gradient of the tile's rows. -/
theorem dx3_all (t : Fin cfg0.N) (x : Fin 256) (d : Fin 1024) :
    ((outsAt0 m c t.val t.isLt).2.2.1 (ix2 x d) : EReal) = (inp m c).head.gX (row t x) d := by
  by_cases h : t.val % 32 = 0
  · exact (congrFun (results_first m c t h).1 (ix2 x d)).trans (dx3_at (ldsA_At m c t h) x d)
  · exact (dx3_next m c t h x d).trans (dx3_at (ldsB_At m c t h) x d)

/-- What a tile adds to the three sums: to the gain's gradient, to the loss, to the factor's gradient. -/
def term (t : Fin cfg0.N) (r : Fin 3) (d : Fin 1024) : EReal :=
  match r with
  | 0 => ∑ x : Fin 256, (inp m c).head.dout (row t x) d * (inp m c).head.xn (row t x) d
  | 1 => (∑ x : Fin 256, (inp m c).head.diff (row t x) d * (inp m c).head.diff (row t x) d) * Loss.cHalfInv
  | 2 => ∑ x : Fin 256, (inp m c).head.gX (row t x) d * (inp m c).o2 (row t x) d

theorem acc_first (t : Fin cfg0.N) (h : t.val % 32 = 0) (r : Fin 3) (d : Fin 1024) :
    ((outsAt0 m c t.val t.isLt).2.2.2.1 (ix2 ⟨r.val, by omega⟩ d) : EReal) = 0 + term m c t r d := by
  have hL := ldsA_At m c t h
  rw [(results_first m c t h).2]
  generalize ldsA m c t = L at hL ⊢
  match r with
  | 0 =>
    obtain ⟨r, z, e⟩ := row0_first t L.dx3 L.xn L.o2 L.gf L.tg d
    exact e.trans ((gf_row hL r d).trans (congrArg (· + _) z))
  | 1 =>
    obtain ⟨r, z, e⟩ := row1_first t L.dx3 L.xn L.o2 L.gf L.tg d
    exact e.trans ((loss_row hL r d).trans (congrArg (· + _) z))
  | 2 =>
    obtain ⟨r, z, e⟩ := row2_first t L.dx3 L.xn L.o2 L.gf L.tg d
    exact e.trans ((gt_row hL r d).trans (congrArg (· + _) z))

theorem acc_next (t : Fin cfg0.N) (h : ¬ t.val % 32 = 0) (r : Fin 3) (d : Fin 1024) :
    ((outsAt0 m c t.val t.isLt).2.2.2.1 (ix2 ⟨r.val, by omega⟩ d) : EReal)
      = ((outsAt0 m c (t.val - 1) (by omega)).2.2.2.1 (ix2 ⟨r.val, by omega⟩ d) : EReal) + term m c t r d := by
  match r with
  | 0 => exact (gf_next m c t h d).trans ((gf_row (ldsB_At m c t h) _ d).trans (congrArg (· + _) (accRow_at _ 0 _ d)))
  | 1 => exact (loss_next m c t h d).trans ((loss_row (ldsB_At m c t h) _ d).trans (congrArg (· + _) (accRow_at _ 1 _ d)))
  | 2 => exact (gt_next m c t h d).trans ((gt_row (ldsB_At m c t h) _ d).trans (congrArg (· + _) (accRow_at _ 2 _ d)))

/-- A tile of the rows, by its number. -/
def tile (s : Fin 32) (x : Fin 256) : Fin 8192 := ⟨256 * s.val + x.val, by omega⟩

/-- The sums after the last point. -/
theorem acc_last (t : Fin cfg0.N) (ht : t.val % 32 = 32 - 1) (r : Fin 3) (d : Fin 1024) :
    ((outsAt0 m c t.val t.isLt).2.2.2.1 (ix2 ⟨r.val, by omega⟩ d) : EReal) = ∑ s : Fin 32, term m c s r d := by
  refine (Pipeline.eq_sum_fin_of_reset_step_apply_of_flush (N := cfg0.N)
    (fun n hn (i : Fin 3 × Fin 1024) => ((outsAt0 m c n hn).2.2.2.1 (ix2 ⟨i.1.val, by omega⟩ i.2) : EReal)) 32 (fun _ => 0)
    (fun t i => term m c t i.1 i.2)
    (fun t h i => acc_first m c t h i.1 i.2)
    (fun t h i => acc_next m c t h i.1 i.2) t ht (r, d)).trans ?_
  rw [zero_add]
  refine Finset.sum_congr rfl fun s _ => congrArg (term m c · r d) (Fin.ext ?_)
  have : t.val < 32 := t.isLt
  show 32 * (t.val / 32) + s.val = s.val
  omega

end Cert.Kernel4Ideal.LossAcc

end
-- ==== Proof.LossFinal.lean ====
/- The arrays that the call `fwd_ffn` leaves, and the host lines after it. -/
module

public import proofs.«01_k».proof.Proof.LossAcc
public import proofs.«01_k».proof.Proof.LossReal

@[expose] public section

set_option maxRecDepth 16384

noncomputable section

open Idealize.ShloMosaic Idealize.ShloMosaic.TcCoe Idealize.SL.Sem
open Idealize.ShloMosaic.Pipeline (Dat)

namespace Cert.Kernel4Ideal.LossFinal

open Cert.Kernel4Ideal Cert.Kernel4Ideal.Gen Cert.Kernel4Ideal.LossOps Cert.Kernel4Ideal.LossAcc

variable (m : (ℓ : Loc nD τ sig) → Buf (Elt Ideal) ℓ) (c : Dev nD)

/-- The last grid point. -/
def lastPt : Fin cfg0.N := ⟨31, by decide⟩

/-- The gradient of the rows after the run. -/
theorem final7 : (dats m 0 c).arrAt 7 (cfgs 0).N = fun y : S8192x1024.Idx => (inp m c).head.gX (y 0) (y 1) := by
  refine (dats m 0 c).arrAt_eq_of_covers 7 _ (by decide +kernel) fun t hf y => ?_
  blk_simp
  rw [after0_7]
  obtain ⟨x, d, rfl⟩ : ∃ (x : Fin 256) (d : Fin 1024), y = ix2 x d := ⟨y 0, y 1, eq_ix2 y⟩
  refine (dx3_all m c t x d).trans ?_
  congr 1
  all_goals refine Fin.ext ?_
  all_goals blk_simp [idx_val t]
  all_goals simp only [row]
  all_goals omega

/-- The sums over the tiles after the run: what the last point left. -/
theorem final8 : (dats m 0 c).arrAt 8 (cfgs 0).N
    = fun y : S8x1024.Idx => (outsAt0 m c lastPt.val lastPt.isLt).2.2.2.1 (ix2 (y 0) (y 1)) := by
  refine (dats m 0 c).arrAt_eq_of_covers 8 _ (by decide +kernel) fun t hf y => ?_
  blk_simp
  rw [after0_8]
  obtain ⟨r, d, rfl⟩ : ∃ (r : Fin 8) (d : Fin 1024), y = ix2 r d := ⟨y 0, y 1, eq_ix2 y⟩
  have e : (win0_8.blk t).view.emb (ix2 r d) = (ix2 r d : S8x1024.Idx) := by
    refine (eq_ix2 _).trans ?_
    congr 1
    all_goals refine Fin.ext ?_
    all_goals blk_simp [idx_val t]
  erw [e]
  have l : lastPt = t := Fin.ext (by
    have := (flush0_8 t).mp hf
    have h : t.val < 32 := t.isLt
    show 31 = t.val
    omega)
  show _ = (outsAt0 m c lastPt.val lastPt.isLt).2.2.2.1 (ix2 r d)
  rw [l]

/-- A sum over the tiles and their rows is the sum over the rows. -/
theorem tile_sum (f : Fin 8192 → EReal) : ∑ s : Fin cfg0.N, ∑ x : Fin 256, f (row s x) = ∑ n, f n :=
  Fin.sum_mul_add_congr (S := 32) (n := 256) fun s x hl => congrArg f (Fin.ext (by
    show 256 * s.val + x.val = s.val * 256 + x.val
    omega))

/-- The sums over the tiles, row by row. -/
theorem acc_gf (d : Fin 1024) : ((outsAt0 m c lastPt.val lastPt.isLt).2.2.2.1 (ix2 0 d) : EReal) = (inp m c).head.gGf d :=
  (acc_last m c lastPt rfl 0 d).trans (tile_sum fun n => (inp m c).head.dout n d * (inp m c).head.xn n d)

theorem acc_gt (d : Fin 1024) : ((outsAt0 m c lastPt.val lastPt.isLt).2.2.2.1 (ix2 2 d) : EReal) = (inp m c).gGt d :=
  (acc_last m c lastPt rfl 2 d).trans (tile_sum fun n => (inp m c).head.gX n d * (inp m c).o2 n d)

theorem acc_loss (hH : (inp m c).head.Real) :
    ∑ d : Fin 1024, ((outsAt0 m c lastPt.val lastPt.isLt).2.2.2.1 (ix2 1 d) : EReal) = (inp m c).head.loss :=
  (Finset.sum_congr rfl fun d _ => acc_last m c lastPt rfl 1 d).trans
    (hH.loss (fun s x => row s x) fun s x => by show 256 * s.val + x.val = s.val * 256 + x.val; omega)

section tail

variable (T : Valuation τ sig (Elt Ideal))

/-- The loss: the sum of a row of the sums. -/
theorem tail_loss : (StableHlo.after hostOps1 T (Proc.devRef .tc main_v28) : FVec Ideal S_ .f32) ix0
      = (fun A : FVec Ideal S8x1024 .f32 => (∑ d : Fin 1024, A (ix2 1 d) : EReal)) (T (Proc.devRef .tc main_v26_3)) := by
  simp only [hostOps1]
  after_reads_at
  exact Fin.sum_univ_one _

theorem tail_gt (d : Fin 1024) : (StableHlo.after hostOps1 T (Proc.devRef .tc main_v29) : FVec Ideal S1x1024 .f32) (ix2 0 d)
      = (T (Proc.devRef .tc main_v26_3) : FVec Ideal S8x1024 .f32) (ix2 2 d) := by
  simp only [hostOps1]
  after_reads_at

theorem tail_gf (d : Fin 1024) : (StableHlo.after hostOps1 T (Proc.devRef .tc main_v31) : FVec Ideal S1024 .f32) (ix1 d)
      = (T (Proc.devRef .tc main_v26_3) : FVec Ideal S8x1024 .f32) (ix2 0 d) := by
  simp only [hostOps1]
  after_reads_at

end tail

end Cert.Kernel4Ideal.LossFinal

end
-- ==== Proof.Loss.lean ====
/- The pair of the call `fwd_ffn`: the loss, the gradient of the rows that reach it, the gradient of the factor of the last
   layer's result and the gradient of the final norm's gain are the reference's. -/
module

public import proofs.«01_k».proof.Defs
public import proofs.«01_k».proof.Proof.LossRef
public import proofs.«01_k».proof.Proof.LossFinal
public import Idealize.ShloMosaic.Lib.Claim

@[expose] public section

set_option maxRecDepth 16384

noncomputable section

open Idealize.ShloMosaic Idealize.ShloMosaic.TcCoe Idealize.SL.Sem

namespace Cert.Kernel4Ideal.LossResults

open Cert.Kernel4Ideal Cert.Kernel4Ideal.Gen Cert.Kernel4Ideal.LossOps Cert.Kernel4Ideal.LossFinal

variable (m : (ℓ : Loc nD τ sig) → Buf (Elt Ideal) ℓ) (c : Dev nD)

/-- The buffers after the call and the host lines. -/
abbrev W (b : Ref sig .tc) : Buf (Elt Ideal) ((c.tc : Thread nD τ).loc b) :=
  Pipeline.afterTail₀ cfgs (dats m) 0 (V0 m) [hostOps1] c b

/-- The buffers right after the call. -/
def T : Valuation τ sig (Elt Ideal) :=
  Pipeline.withArrays (cfgs 0).spec c (V0 m c) fun w => (dats m 0 c).arrAt w (cfgs 0).N

/-- The array of a window that shares it with no other. -/
theorem T_at (w : Fin 9) (hw : ∀ w', Pipeline.arrRef (cfgs 0).spec w' = Pipeline.arrRef (cfgs 0).spec w → w' = w) :
    T m c (Proc.devRef .tc (Pipeline.arrRef (cfgs 0).spec w)) = (dats m 0 c).arrAt w (cfgs 0).N := by
  unfold T Pipeline.withArrays
  rw [dif_pos ⟨w, rfl⟩]
  suffices ∀ (w' : Fin 9) (e : Proc.devRef .tc (Pipeline.arrRef (cfgs 0).spec w') = Proc.devRef (τ := τ) .tc (Pipeline.arrRef (cfgs 0).spec w)),
      cast (congrArg (fun b' : DevRef τ sig => b'.ty.Contents (Elt Ideal)) e) ((dats m 0 c).arrAt w' (cfgs 0).N) = (dats m 0 c).arrAt w (cfgs 0).N
    from this _ (Exists.choose_spec (p := fun w' => Proc.devRef .tc (Pipeline.arrRef (cfgs 0).spec w') = Proc.devRef (τ := τ) .tc (Pipeline.arrRef (cfgs 0).spec w)) ⟨w, rfl⟩)
  intro w' e
  obtain rfl := hw w' (Proc.devRef_injective _ e)
  rfl

theorem T_8 : T m c (Proc.devRef .tc main_v26_3) = (dats m 0 c).arrAt 8 (cfgs 0).N :=
  T_at m c 8 (by decide)

theorem res_loss (hH : (inp m c).head.Real) : ((W m c main_v28 : FVec Ideal S_ .f32) ix0 : EReal) = (inp m c).head.loss := by
  refine (tail_loss (T m c)).trans ?_
  rw [T_8, final8]
  exact acc_loss m c hH

theorem res_gt (d : Fin 1024) : ((W m c main_v29 : FVec Ideal S1x1024 .f32) (ix2 0 d) : EReal) = (inp m c).gGt d := by
  refine (tail_gt (T m c) d).trans ?_
  rw [T_8, final8]
  exact acc_gt m c d

theorem res_gf (d : Fin 1024) : ((W m c main_v31 : FVec Ideal S1024 .f32) (ix1 d) : EReal) = (inp m c).head.gGf d := by
  refine (tail_gf (T m c) d).trans ?_
  rw [T_8, final8]
  exact acc_gf m c d

end Cert.Kernel4Ideal.LossResults

namespace Cert.Loss

/-- The precondition: every argument is a real number. -/
theorem real_of_pre [Cert.Pre_finite_loss.Facts] (m : (ℓ : Loc Kernel4Ideal.nD Kernel4Ideal.τ Kernel4Ideal.sig) → Buf (Elt Ideal) ℓ)
    (hpre : Pre_Kernel4Ideal_finite_loss m) (c : Dev Kernel4Ideal.nD) : (Kernel4Ideal.LossOps.inp m c).head.Real := by
  have e := congrFun (hpre c) ix0
  unfold Cert.Pre_finite_loss.fn Cert.Pre_finite_loss.fn_part1 Cert.Pre_finite_loss.fn_part2 at e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  haveI : Subsingleton Cert.Pre_finite_loss.S_.Idx := ⟨fun a b => funext fun i => i.elim0⟩
  have hA : (Kernel4Ideal.LossOps.inp m c).A.Real := ⟨fun n d => IsReal.of_all _ _ _ _ _ _ h0 (ix2 n d), fun d q => IsReal.of_all _ _ _ _ _ _ h2 (ix3 0 d q),
    fun j q => IsReal.of_all _ _ _ _ _ _ h3 (ix3 0 j q), fun q => IsReal.of_all _ _ _ _ _ _ h4 (ix2 0 q),
    fun k d => IsReal.of_all _ _ _ _ _ _ h5 (ix3 0 k d), fun d => IsReal.of_all _ _ _ _ _ _ h6 (ix2 0 d), fun _ _ => IsReal.zero⟩
  refine ⟨fun n d => ?_, fun d => IsReal.of_all _ _ _ _ _ _ h7 (ix1 d), fun n d => IsReal.of_all _ _ _ _ _ _ h8 (ix2 n d)⟩
  refine IsReal.add (IsReal.of_all _ _ _ _ _ _ h1 (ix2 n d)) ((hA.gt d).mul (IsReal.sum _ fun k => ?_))
  have hg := hA.conv n (Ffn.hi k)
  exact (((hg.mul hg.logistic)).mul (hA.conv n (Ffn.lo k))).mul (hA.wd k d)

/-- The two memories hold the same arguments. -/
theorem inp_eq (m : (ℓ : Loc Kernel4Ideal.nD Kernel4Ideal.τ Kernel4Ideal.sig) → Buf (Elt Ideal) ℓ)
    (m' : (ℓ : Loc Reference4Ideal.nD Reference4Ideal.τ Reference4Ideal.sig) → Buf (Elt Ideal) ℓ) (c : Dev Kernel4Ideal.nD)
    (a0 : m' (c.tc.loc Reference4Ideal.main_arg0) = m (c.tc.loc Kernel4Ideal.main_arg0))
    (a1 : m' (c.tc.loc Reference4Ideal.main_arg1) = m (c.tc.loc Kernel4Ideal.main_arg1))
    (a2 : m' (c.tc.loc Reference4Ideal.main_arg2) = m (c.tc.loc Kernel4Ideal.main_arg2))
    (a3 : m' (c.tc.loc Reference4Ideal.main_arg3) = m (c.tc.loc Kernel4Ideal.main_arg3))
    (a4 : m' (c.tc.loc Reference4Ideal.main_arg4) = m (c.tc.loc Kernel4Ideal.main_arg4))
    (a5 : m' (c.tc.loc Reference4Ideal.main_arg5) = m (c.tc.loc Kernel4Ideal.main_arg5))
    (a6 : m' (c.tc.loc Reference4Ideal.main_arg6) = m (c.tc.loc Kernel4Ideal.main_arg6))
    (a7 : m' (c.tc.loc Reference4Ideal.main_arg7) = m (c.tc.loc Kernel4Ideal.main_arg7))
    (a8 : m' (c.tc.loc Reference4Ideal.main_arg8) = m (c.tc.loc Kernel4Ideal.main_arg8)) :
    Reference4Ideal.LossRef.inp (StableHlo.launchContents m' c) = Kernel4Ideal.LossOps.inp m c := by
  unfold Kernel4Ideal.LossOps.inp
  rw [← a0, ← a1, ← a2, ← a3, ← a4, ← a5, ← a6, ← a7, ← a8]
  rfl

/-- The loss and the three gradients are the reference's. -/
theorem algebraic [Cert.Pre_finite_loss.Facts] : Cert.algebraic_Kernel4Ideal_Reference4Ideal_pre_finite_loss := by
  pair_intro
  · run_from Cert.Kernel4Ideal.Gen.run_main m g
    · exact Cert.Kernel4Ideal.Gen.W_main_arg0 m _ c
    · exact Cert.Kernel4Ideal.Gen.W_main_arg2 m _ c
    · exact Cert.Kernel4Ideal.Gen.W_main_arg3 m _ c
    · exact Cert.Kernel4Ideal.Gen.W_main_arg4 m _ c
    · exact Cert.Kernel4Ideal.Gen.W_main_arg5 m _ c
    · exact Cert.Kernel4Ideal.Gen.W_main_arg6 m _ c
    · exact Cert.Kernel4Ideal.Gen.W_main_arg7 m _ c
  · refine (θ_run _ _ _).mono (fun r h c => ?_) (Cert.Reference4Ideal.Value.run (F := Ideal) m' g')
    obtain ⟨a0, a1, a2, a3, a4, a5, a6, a7, a8⟩ := hagree c
    have hi := inp_eq m m' c a0 a1 a2 a3 a4 a5 a6 a7 a8
    have hK := real_of_pre m hpre c
    have hR : (Reference4Ideal.LossRef.inp (StableHlo.launchContents m' c)).head.Real := hi ▸ hK
    obtain ⟨h0, h1, h2, h3, hr⟩ := h c
    refine ⟨h0.trans ?_, h1.trans ?_, h2.trans ?_, h3.trans ?_, hr⟩
    · funext y
      obtain rfl : y = ix0 := funext fun i => i.elim0
      exact (Reference4Ideal.LossRef.loss_at _).trans ((congrArg (·.head.loss) hi).trans
        (Kernel4Ideal.LossResults.res_loss m c hK).symm)
    · funext y
      obtain ⟨n, d, rfl⟩ : ∃ (n : Fin 8192) (d : Fin 1024), y = ix2 n d := ⟨y 0, y 1, eq_ix2 y⟩
      exact (Reference4Ideal.LossRef.xDx_at _ hR n d).trans ((congrArg (·.head.gX n d) hi).trans
        (congrFun (Kernel4Ideal.LossFinal.final7 m c) (ix2 n d)).symm)
    · funext y
      obtain ⟨d, rfl⟩ : ∃ d : Fin 1024, y = ix2 (0 : Fin 1) d :=
        ⟨y 1, (eq_ix2 y).trans (congrArg (ix2 · (y 1)) (Subsingleton.elim (α := Fin 1) _ _))⟩
      exact (Reference4Ideal.LossRef.gt_at _ hR d).trans ((congrArg (·.gGt d) hi).trans
        (Kernel4Ideal.LossResults.res_gt m c d).symm)
    · funext y
      obtain ⟨d, rfl⟩ : ∃ d : Fin 1024, y = ix1 d := ⟨y 0, eq_ix1 y⟩
      exact (Reference4Ideal.LossRef.gf_at _ d).trans ((congrArg (·.head.gGf d) hi).trans
        (Kernel4Ideal.LossResults.res_gf m c d).symm)

/-- The reference ends with every semaphore counter at zero and its arguments unchanged. -/
theorem frame_reference : Cert.quiescent_Reference4Ideal := fun m ρ _ =>
  (θ_run _ _ _).mono (fun r h => ⟨fun c => (h c).2.2.2.2, sem_eq_zero_of_no_sems (by decide) r.2⟩)
    (Cert.Reference4Ideal.Value.run (F := Ideal) m ρ)

end Cert.Loss

end
-- ==== Proof.MidMath.lean ====
/- What the call `fwd_mid` computes, over the extended reals: a causal convolution and its layer norm, the causal mixing of
   the rows of a chunk, the product that joins the two, and the norm that follows it. -/
module

public import proofs.«01_k».proof.Proof.FfnReal
public import Mathlib.Tactic.FieldSimp
public import Mathlib.Tactic.Positivity

@[expose] public section

noncomputable section

open Idealize.ShloMosaic

namespace Cert.Mid

/-- the layer norms' small summand -/
def eps5 : EReal := Ideal.ofBits FTy.f32 0x3727C5AC#32
/-- the other norms' small summand -/
def eps6 : EReal := Ideal.ofBits FTy.f32 0x358637BD#32
/-- the number of columns of a half -/
def cH : EReal := Ideal.ofBits FTy.f32 0x44000000#32
/-- the number of columns -/
def cD : EReal := Ideal.ofBits FTy.f32 0x44800000#32
/-- one half -/
def cHalf : EReal := Ideal.ofBits FTy.f32 0x3F000000#32
/-- one -/
def cOne : EReal := Ideal.ofBits FTy.f32 0x3F800000#32
/-- the factor of the third power in the gate -/
def cCube : EReal := Ideal.ofBits FTy.f32 0x3D372713#32
/-- the gate's factor -/
def cRoot : EReal := Ideal.ofBits FTy.f32 0x3F4C422A#32

/-- A row less its mean. -/
def cent (f : Fin 512 → EReal) (q : Fin 512) : EReal := f q - Ideal.div (∑ k, f k) cH
/-- One over the root of the mean square of what is left. -/
def rstd (f : Fin 512 → EReal) : EReal := Ideal.rsqrt (Ideal.div (∑ k, cent f k * cent f k) cH + eps5)
/-- The layer norm without gain and bias. -/
def ln (f : Fin 512 → EReal) (q : Fin 512) : EReal := cent f q * rstd f
/-- One over the root of a half row's mean square. -/
def rs (f : Fin 512 → EReal) : EReal := Ideal.rsqrt (Ideal.div (∑ k, f k * f k) cH + eps6)
/-- The gate `gelu`, by the hyperbolic tangent. -/
def gelu (y : EReal) : EReal := cHalf * y * (cOne + Ideal.tanh (cRoot * (y + cCube * y * y * y)))

/-- The arguments. -/
structure In where
  z : Fin 8192 → Fin 2048 → EReal
  x : Fin 8192 → Fin 1024 → EReal
  cw : Fin 31 → Fin 512 → EReal
  cb : Fin 512 → EReal
  clg : Fin 512 → EReal
  clb : Fin 512 → EReal
  glg : Fin 512 → EReal
  glb : Fin 512 → EReal
  ws : Fin 8 → Fin 128 → Fin 128 → EReal
  bs : Fin 8 → Fin 128 → EReal
  mog : Fin 1024 → EReal
  wo : Fin 1024 → Fin 1024 → EReal
  gt : Fin 1024 → EReal
  g2 : Fin 1024 → EReal
  sh : Fin 1024 → EReal
  sc : Fin 1024 → EReal

/-- The row of a chunk. -/
def chunkRow (n : Fin 8192) (s : Fin 128) : Fin 8192 := ⟨n.val / 128 * 128 + s.val, by omega⟩
/-- The row within its chunk. -/
def inChunk (n : Fin 8192) : Fin 128 := ⟨n.val % 128, by omega⟩
/-- The head of a column. -/
def headOf (q : Fin 512) : Fin 8 := ⟨q.val / 64, by omega⟩

namespace In

variable (I : In)

/-- the gated columns that the convolution reads -/
def a0 (n : Fin 8192) (q : Fin 512) : EReal :=
  I.z n ⟨q.val, by omega⟩ * Ideal.logistic (I.z n ⟨512 + q.val, by omega⟩)
/-- these, `30 - k` rows above, zero above the first row -/
def tap (n : Fin 8192) (k : Fin 31) (q : Fin 512) : EReal :=
  if h : n.val + k.val < 30 then 0 else I.a0 ⟨n.val + k.val - 30, by omega⟩ q
/-- the causal convolution of each column -/
def conv (n : Fin 8192) (q : Fin 512) : EReal := I.cb q + ∑ k : Fin 31, I.cw k q * I.tap n k q
/-- its layer norm -/
def xh (n : Fin 8192) (q : Fin 512) : EReal := ln (I.conv n) q
/-- with gain and bias -/
def xs (n : Fin 8192) (q : Fin 512) : EReal := I.xh n q * I.clg q + I.clb q
/-- the first half of the joined columns -/
def a (n : Fin 8192) (q : Fin 512) : EReal := I.xs n q * Ideal.logistic (I.xs n q)
/-- the gate of the second half -/
def gu (n : Fin 8192) (q : Fin 512) : EReal := gelu (I.z n ⟨1024 + q.val, by omega⟩)
/-- the gate of what is mixed -/
def gv (n : Fin 8192) (q : Fin 512) : EReal := gelu (I.z n ⟨1536 + q.val, by omega⟩)
/-- its layer norm -/
def vh (n : Fin 8192) (q : Fin 512) : EReal := ln (I.gv n) q
/-- with gain and bias -/
def vn (n : Fin 8192) (q : Fin 512) : EReal := I.vh n q * I.glg q + I.glb q
/-- a head's mixing matrix, zero above the diagonal -/
def mix (h : Fin 8) (t s : Fin 128) : EReal := if s.val ≤ t.val then I.ws h t s else 0
/-- the rows of a chunk, mixed -/
def sp (n : Fin 8192) (q : Fin 512) : EReal :=
  (∑ s : Fin 128, I.mix (headOf q) (inChunk n) s * I.vn (chunkRow n s) q) + I.bs (headOf q) (inChunk n)
/-- the second half of the joined columns -/
def g (n : Fin 8192) (q : Fin 512) : EReal := I.gu n q * I.sp n q
/-- the joined columns, each half normed -/
def y (n : Fin 8192) (j : Fin 1024) : EReal :=
  if h : j.val < 512 then I.a n ⟨j.val, h⟩ * rs (I.a n) * I.mog j
  else I.g n ⟨j.val - 512, by omega⟩ * rs (I.g n) * I.mog j
/-- their product with the weight -/
def o1 (n : Fin 8192) (d : Fin 1024) : EReal := ∑ j, I.y n j * I.wo j d
/-- the rows after the layer -/
def x2 (n : Fin 8192) (d : Fin 1024) : EReal := I.x n d + I.gt d * I.o1 n d
/-- one over the root of their mean square -/
def r2 (n : Fin 8192) : EReal := Ideal.rsqrt (Ideal.div (∑ d, I.x2 n d * I.x2 n d) cD + eps6)
/-- the input of the layer that follows -/
def h2 (n : Fin 8192) (d : Fin 1024) : EReal := I.x2 n d * I.r2 n * I.g2 d * (cOne + I.sc d) + I.sh d

end In

end Cert.Mid

end
-- ==== Proof.MidRef.lean ====
/- The reference's values of `fwd_mid`: each array that the results pass through, and what it holds at an index. -/
module

public import proofs.«01_k».proof.Proof.MidMath
public import proofs.«01_k».proof.Proof.Gates
public import proofs.«01_k».proof.Proof.FfnRefEq
public import proofs.«01_k».proof.Proof.Gen.Reference3Ideal.Run

@[expose] public section

set_option maxRecDepth 16384

noncomputable section

open Idealize.ShloMosaic Idealize.ShloMosaic.TcCoe Idealize.SL.Sem

namespace Cert.Reference3Ideal.MidRef

open Cert.Reference3Ideal Cert.Reference3Ideal.Gen

/-! ## The stages, of any arrays -/

section stages

variable (z : FVec Ideal S8192x2048 .f32) (x o : FVec Ideal S8192x1024 .f32) (K : FVec Ideal S31x512 .f32) (Z : FVec Ideal S8222x512 .f32)
  (A B : FVec Ideal S8192x512 .f32) (b u v : FVec Ideal S1x512 .f32) (ws : FVec Ideal S1x8x128x128 .f32) (bs : FVec Ideal S1x8x128 .f32)
  (g r1 r2 r3 : FVec Ideal S1x1024 .f32) (wo : FVec Ideal S1x1024x1024 .f32)

theorem slK (k : ℕ) (h : k < 31) : S31x512.Slices ![k, 0] S1x512 := by
  interval_cases k <;> decide

theorem slZ (k : ℕ) (h : k < 31) : S8222x512.Slices ![k, 0] S8192x512 := by
  interval_cases k <;> decide

/-- The first `k` taps' products. -/
def rAcc : (k : ℕ) → k ≤ 31 → FVec Ideal S8192x512 .f32
  | 0, _ => broadcastInDim S8192x512 ![] bcast_S_S8192x512 (constant S_ .f32 0x00000000#32)
  | k + 1, h => addf (rAcc k (by omega)) (mulf (broadcastInDim S8192x512 ![0, 1] bcast_S1x512_S8192x512_0_1 (broadcastInDim S1x512 ![1] bcast_S512_S1x512_1
      (shapeCast _ (extractStridedSlice S1x512 ![k, 0] K (slK k h)) shapeCasts_S1x512_S512))) (extractStridedSlice S8192x512 ![k, 0] Z (slZ k h)))

/-- All of them, and the bias. -/
def rConv : FVec Ideal S8192x512 .f32 :=
  addf (rAcc K Z 31 le_rfl) (broadcastInDim S8192x512 ![0, 1] bcast_S1x512_S8192x512_0_1 (broadcastInDim S1x512 ![1] bcast_S512_S1x512_1 (shapeCast _ b shapeCasts_S1x512_S512)))

theorem rAcc_at (k : ℕ) (hk : k ≤ 31) (n : Fin 8192) (q : Fin 512) :
    (rAcc K Z k hk (ix2 n q) : EReal) = ∑ i : Fin k, (K (ix2 ⟨i.val, by omega⟩ q) : EReal) * Z (ix2 ⟨n.val + i.val, by omega⟩ q) := by
  induction k with
  | zero =>
    simp only [Finset.univ_eq_empty, Finset.sum_empty]
    pointwise [rAcc]
  | succ k ih =>
    rw [Fin.sum_univ_castSucc]
    have ih' := ih (by omega)
    have hK : (extractStridedSlice S1x512 ![k, 0] K (slK k hk) (ix2 0 q) : EReal) = K (ix2 ⟨k, hk⟩ q) :=
      extractStridedSlice_apply _ _ _ _ _ (by intro a; fin_cases a <;> simp)
    have hZ : (extractStridedSlice S8192x512 ![k, 0] Z (slZ k hk) (ix2 n q) : EReal) = Z (ix2 ⟨n.val + k, by omega⟩ q) :=
      extractStridedSlice_apply _ _ _ _ _ (by intro a; fin_cases a <;> simp [add_comm])
    refine Eq.trans ?_ ((congrArg₂ (fun s t : EReal => rAcc K Z k (by omega) (ix2 n q) + s * t) hK hZ).trans
      (congrArg (fun s : EReal => s + K (ix2 ⟨k, hk⟩ q) * Z (ix2 ⟨n.val + k, by omega⟩ q)) ih'))
    rw [show rAcc K Z (k + 1) hk = addf (rAcc K Z k (by omega)) (mulf (broadcastInDim S8192x512 ![0, 1] bcast_S1x512_S8192x512_0_1
      (broadcastInDim S1x512 ![1] bcast_S512_S1x512_1 (shapeCast _ (extractStridedSlice S1x512 ![k, 0] K (slK k hk)) shapeCasts_S1x512_S512)))
      (extractStridedSlice S8192x512 ![k, 0] Z (slZ k hk))) from rfl]
    generalize extractStridedSlice S1x512 ![k, 0] K (slK k hk) = P
    generalize extractStridedSlice S8192x512 ![k, 0] Z (slZ k hk) = Q
    generalize rAcc K Z k _ = C
    pointwise []

theorem rConv_at (n : Fin 8192) (q : Fin 512) :
    (rConv K Z b (ix2 n q) : EReal) = b (ix2 0 q) + ∑ i : Fin 31, (K (ix2 i q) : EReal) * Z (ix2 ⟨n.val + i.val, by omega⟩ q) := by
  rw [add_comm]
  refine Eq.trans ?_ (congrArg (· + (b (ix2 0 q) : EReal)) (rAcc_at K Z 31 le_rfl n q))
  unfold rConv
  generalize rAcc K Z 31 le_rfl = C
  pointwise []

/-- The gated columns, below thirty rows of zeros. -/
def rTop : FVec Ideal S8222x512 .f32 :=
  concatenate S8222x512 0 [⟨S30x512, (broadcastInDim S30x512 ![] bcast_S_S30x512 (constant S_ .f32 0x00000000#32))⟩,
    ⟨S8192x512, (mulf (extractStridedSlice S8192x512 ![0, 0] z slices_S8192x2048_S8192x512_0_0) (Host.divf (broadcastInDim S8192x512 ![] bcast_S_S8192x512
      (constant S_ .f32 0x3F800000#32)) (addf (broadcastInDim S8192x512 ![] bcast_S_S8192x512 (constant S_ .f32 0x3F800000#32))
      (Host.exp (Host.negf (extractStridedSlice S8192x512 ![0, 512] z slices_S8192x2048_S8192x512_0_512))))))⟩] concatenates_S30x512_S8192x512_S8222x512_d0

theorem rTop_at (r : Fin 8222) (q : Fin 512) : (rTop z (ix2 r q) : EReal) = if h : r.val < 30 then 0
      else z (ix2 ⟨r.val - 30, by omega⟩ ⟨q.val, by omega⟩) * Ideal.logistic (z (ix2 ⟨r.val - 30, by omega⟩ ⟨512 + q.val, by omega⟩)) := by
  pointwise [rTop]
  simp only [Gates.div_one_add_exp]

/-- The rows less their means. -/
def rCent : FVec Ideal S8192x512 .f32 :=
  subf A (broadcastInDim S8192x512 ![0, 1] bcast_S8192x1_S8192x512_0_1 (Host.divf (broadcastInDim S8192x1 ![0] bcast_S8192_S8192x1_0
    (Host.reduceAdd A (constant S_ .f32 0x00000000#32) reducesTo_S8192x512_S8192_d1 h_S_)) (broadcastInDim S8192x1 ![] bcast_S_S8192x1 (constant S_ .f32 0x44000000#32))))

theorem rCent_at (n : Fin 8192) (q : Fin 512) : (rCent A (ix2 n q) : EReal) = Mid.cent (fun k => A (ix2 n k)) q := by
  pointwise [rCent, Mid.cent, Mid.cH]

/-- The rows, each by the root of its mean square. -/
def rHat : FVec Ideal S8192x512 .f32 :=
  mulf A (broadcastInDim S8192x512 ![0, 1] bcast_S8192x1_S8192x512_0_1 (Host.rsqrt (addf (Host.divf (broadcastInDim S8192x1 ![0] bcast_S8192_S8192x1_0
    (Host.reduceAdd (mulf A A) (constant S_ .f32 0x00000000#32) reducesTo_S8192x512_S8192_d1 h_S_)) (broadcastInDim S8192x1 ![] bcast_S_S8192x1
    (constant S_ .f32 0x44000000#32))) (broadcastInDim S8192x1 ![] bcast_S_S8192x1 (constant S_ .f32 0x3727C5AC#32)))))

theorem rHat_at (n : Fin 8192) (q : Fin 512) : (rHat A (ix2 n q) : EReal)
    = A (ix2 n q) * Ideal.rsqrt (Ideal.div (∑ k : Fin 512, (A (ix2 n k) : EReal) * A (ix2 n k)) Mid.cH + Mid.eps5) := by
  pointwise [rHat, Mid.cH, Mid.eps5]

theorem rLn_at (n : Fin 8192) (q : Fin 512) : (rHat (rCent A) (ix2 n q) : EReal) = Mid.ln (fun k => A (ix2 n k)) q := by
  rw [rHat_at]
  simp only [rCent_at]
  rfl

/-- A gain and a bias. -/
def rAff : FVec Ideal S8192x512 .f32 :=
  addf (mulf A (broadcastInDim S8192x512 ![0, 1] bcast_S1x512_S8192x512_0_1 u)) (broadcastInDim S8192x512 ![0, 1] bcast_S1x512_S8192x512_0_1 v)

theorem rAff_at (n : Fin 8192) (q : Fin 512) : (rAff A u v (ix2 n q) : EReal) = A (ix2 n q) * u (ix2 0 q) + v (ix2 0 q) := by
  pointwise [rAff]

/-- The gate `silu`. -/
def rSilu : FVec Ideal S8192x512 .f32 :=
  mulf A (Host.divf (broadcastInDim S8192x512 ![] bcast_S_S8192x512 (constant S_ .f32 0x3F800000#32)) (addf (broadcastInDim S8192x512 ![] bcast_S_S8192x512
    (constant S_ .f32 0x3F800000#32)) (Host.exp (Host.negf A))))

theorem rSilu_at (n : Fin 8192) (q : Fin 512) : (rSilu A (ix2 n q) : EReal) = A (ix2 n q) * Ideal.logistic (A (ix2 n q)) := by
  pointwise [rSilu]
  rw [Gates.div_one_add_exp]

/-- The gate `gelu`. -/
def rGelu : FVec Ideal S8192x512 .f32 :=
  mulf A (mulf (broadcastInDim S8192x512 ![] bcast_S_S8192x512 (constant S_ .f32 0x3F000000#32)) (addf (broadcastInDim S8192x512 ![] bcast_S_S8192x512
    (constant S_ .f32 0x3F800000#32)) (Host.tanh (mulf (broadcastInDim S8192x512 ![] bcast_S_S8192x512 (constant S_ .f32 0x3F4C422A#32)) (addf A
    (mulf (broadcastInDim S8192x512 ![] bcast_S_S8192x512 (constant S_ .f32 0x3D372713#32)) (mulf (mulf A A) A)))))))

theorem rGelu_at (n : Fin 8192) (q : Fin 512) : (rGelu A (ix2 n q) : EReal) = Mid.gelu (A (ix2 n q)) := by
  have e : ∀ y : EReal, Mid.gelu y = y * (Mid.cHalf * (Mid.cOne + Ideal.tanh (Mid.cRoot * (y + Mid.cCube * (y * y * y))))) := fun y => by
    unfold Mid.gelu
    rw [mul_assoc (Mid.cCube * y) y y, mul_assoc Mid.cCube y (y * y), ← mul_assoc y y y, mul_comm Mid.cHalf y, mul_assoc y Mid.cHalf]
  rw [e]
  pointwise [rGelu, Mid.cHalf, Mid.cOne, Mid.cCube, Mid.cRoot]

/-- Ones on and below the diagonal. -/
def rTri : FVec Ideal S128x128 .f32 :=
  select (cmpi .sge (addi (iotaInDim S128x128 32 0) (broadcastInDim S128x128 ![] bcast_S_S128x128 (constantI S_ 32 0#32))) (iotaInDim S128x128 32 1))
    (broadcastInDim S128x128 ![] bcast_S_S128x128 (constant S_ .f32 0x3F800000#32)) (broadcastInDim S128x128 ![] bcast_S_S128x128 (constant S_ .f32 0x00000000#32))

theorem tri_word : ∀ t s : Fin 128, IntOp.cmpi CmpIPredicate.sge (BitVec.ofNat 32 t.val) (BitVec.ofNat 32 s.val) = if s.val ≤ t.val then 1#1 else 0#1 := by
  decide +kernel

theorem rTri_at (t s : Fin 128) : (rTri (ix2 t s) : EReal) = if s.val ≤ t.val then 1 else 0 := by
  pointwise [rTri]
  rw [show IntOp.addi (BitVec.ofNat 32 t.val) 0#32 = BitVec.ofNat 32 t.val from BitVec.add_zero _, tri_word]
  by_cases h : s.val ≤ t.val
  · rw [if_pos h, if_pos h]; rfl
  · rw [if_neg h, if_neg h]; rfl

/-- The mixed rows. -/
def rSp (D : FVec Ideal S128x128 .f32) : FVec Ideal S8192x512 .f32 :=
  shapeCast _ (addf (transpose S64x128x8x64 [1, 3, 0, 2] (Host.dotGeneral dot_S64x128x8x64_S8x128x128_S8x64x64x128_1_2_03_1_2_0 none
    (shapeCast _ A shapeCasts_S8192x512_S64x128x8x64) (mulf (shapeCast _ ws shapeCasts_S1x8x128x128_S8x128x128) (broadcastInDim S8x128x128 ![0, 1, 2]
    bcast_S1x128x128_S8x128x128_0_1_2 (broadcastInDim S1x128x128 ![1, 2] bcast_S128x128_S1x128x128_1_2 D)))) transposes_S8x64x64x128_S64x128x8x64_1_3_0_2)
    (broadcastInDim S64x128x8x64 ![0, 1, 2, 3] bcast_S1x128x8x1_S64x128x8x64_0_1_2_3 (broadcastInDim S1x128x8x1 ![1, 2] bcast_S128x8_S1x128x8x1_1_2
    (transpose S128x8 [1, 0] (shapeCast _ bs shapeCasts_S1x8x128_S8x128) transposes_S8x128_S128x8_1_0)))) shapeCasts_S64x128x8x64_S8192x512

theorem rSp_at (D : FVec Ideal S128x128 .f32) (n : Fin 8192) (q : Fin 512) : (rSp A ws bs D (ix2 n q) : EReal)
    = (∑ s : Fin 128, (A (ix2 (Mid.chunkRow n s) q) : EReal) * (ws (ix4 0 (Mid.headOf q) (Mid.inChunk n) s) * D (ix2 (Mid.inChunk n) s)))
      + bs (ix3 0 (Mid.headOf q) (Mid.inChunk n)) := by
  pointwise [rSp]
  rfl

/-- A half of the joined columns, by the root of its mean square, with its gains. -/
def rHalf (G : FVec Ideal S1x512 .f32) : FVec Ideal S8192x512 .f32 :=
  mulf (mulf A (broadcastInDim S8192x512 ![0, 1] bcast_S8192x1_S8192x512_0_1 (Host.rsqrt (addf (Host.divf (broadcastInDim S8192x1 ![0] bcast_S8192_S8192x1_0
    (Host.reduceAdd (mulf A A) (constant S_ .f32 0x00000000#32) reducesTo_S8192x512_S8192_d1 h_S_)) (broadcastInDim S8192x1 ![] bcast_S_S8192x1
    (constant S_ .f32 0x44000000#32))) (broadcastInDim S8192x1 ![] bcast_S_S8192x1 (constant S_ .f32 0x358637BD#32))))))
    (broadcastInDim S8192x512 ![0, 1] bcast_S1x512_S8192x512_0_1 G)

theorem rHalf_at (G : FVec Ideal S1x512 .f32) (n : Fin 8192) (q : Fin 512) :
    (rHalf A G (ix2 n q) : EReal) = A (ix2 n q) * Mid.rs (fun k => A (ix2 n k)) * G (ix2 0 q) := by
  pointwise [rHalf, Mid.rs, Mid.cH, Mid.eps6]

/-- The joined columns. -/
def rY : FVec Ideal S8192x1024 .f32 :=
  concatenate S8192x1024 1 [⟨S8192x512, rHalf A (extractStridedSlice S1x512 ![0, 0] g slices_S1x1024_S1x512_0_0)⟩,
    ⟨S8192x512, rHalf B (extractStridedSlice S1x512 ![0, 512] g slices_S1x1024_S1x512_0_512)⟩] concatenates_S8192x512_S8192x512_S8192x1024_d1

theorem rY_at (n : Fin 8192) (j : Fin 1024) : (rY A B g (ix2 n j) : EReal)
    = if h : j.val < 512 then A (ix2 n ⟨j.val, h⟩) * Mid.rs (fun k => A (ix2 n k)) * g (ix2 0 j)
      else B (ix2 n ⟨j.val - 512, by omega⟩) * Mid.rs (fun k => B (ix2 n k)) * g (ix2 0 j) := by
  have h0 : ∀ q : Fin 512, (extractStridedSlice S1x512 ![0, 0] g slices_S1x1024_S1x512_0_0 (ix2 0 q) : EReal) = g (ix2 0 ⟨q.val, by omega⟩) := fun q => by
    pointwise []
  have h1 : ∀ q : Fin 512, (extractStridedSlice S1x512 ![0, 512] g slices_S1x1024_S1x512_0_512 (ix2 0 q) : EReal) = g (ix2 0 ⟨512 + q.val, by omega⟩) := fun q => by
    pointwise []
  have hA := rHalf_at A (extractStridedSlice S1x512 ![0, 0] g slices_S1x1024_S1x512_0_0) n
  have hB := rHalf_at B (extractStridedSlice S1x512 ![0, 512] g slices_S1x1024_S1x512_0_512) n
  simp only [h0] at hA
  simp only [h1] at hB
  unfold rY
  generalize rHalf A (extractStridedSlice S1x512 ![0, 0] g slices_S1x1024_S1x512_0_0) = P at hA ⊢
  generalize rHalf B (extractStridedSlice S1x512 ![0, 512] g slices_S1x1024_S1x512_0_512) = Q at hB ⊢
  pointwise []
  by_cases h : j.val < 512
  · simp only [dif_pos h]
    exact hA ⟨j.val, h⟩
  · simp only [dif_neg h]
    refine (hB ⟨j.val - 512, by omega⟩).trans ?_
    rw [show (⟨512 + (j.val - 512), by omega⟩ : Fin 1024) = j from Fin.ext (by show 512 + (j.val - 512) = j.val; omega)]

/-- Their product with the weight. -/
def rO (Y : FVec Ideal S8192x1024 .f32) : FVec Ideal S8192x1024 .f32 :=
  Host.dotGeneral dot_S8192x1024_S1024x1024_S8192x1024_1_0_0_1_n_n none Y (shapeCast _ wo shapeCasts_S1x1024x1024_S1024x1024)

theorem rO_at (Y : FVec Ideal S8192x1024 .f32) (n : Fin 8192) (d : Fin 1024) :
    (rO wo Y (ix2 n d) : EReal) = ∑ j : Fin 1024, (Y (ix2 n j) : EReal) * wo (ix3 0 j d) := by
  pointwise [rO]

/-- The rows after the layer. -/
def rX : FVec Ideal S8192x1024 .f32 := addf x (mulf (broadcastInDim S8192x1024 ![0, 1] bcast_S1x1024_S8192x1024_0_1 g) o)

theorem rX_at (n : Fin 8192) (d : Fin 1024) : (rX x o g (ix2 n d) : EReal) = x (ix2 n d) + g (ix2 0 d) * o (ix2 n d) := by
  pointwise [rX]

/-- The input of the layer that follows. -/
def rH : FVec Ideal S8192x1024 .bf16 :=
  truncf .bf16 (addf (mulf (mulf (mulf x (broadcastInDim S8192x1024 ![0, 1] bcast_S8192x1_S8192x1024_0_1 (Host.rsqrt (addf (Host.divf (broadcastInDim S8192x1 ![0]
    bcast_S8192_S8192x1_0 (Host.reduceAdd (mulf x x) (constant S_ .f32 0x00000000#32) reducesTo_S8192x1024_S8192_d1 h_S_)) (broadcastInDim S8192x1 ![]
    bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 r1)) (broadcastInDim S8192x1024 ![0, 1] bcast_S1x1024_S8192x1024_0_1
    (addf (broadcastInDim S1x1024 ![] bcast_S_S1x1024 (constant S_ .f32 0x3F800000#32)) r2))) (broadcastInDim S8192x1024 ![0, 1] bcast_S1x1024_S8192x1024_0_1 r3)) bitsLt_bf16_f32

theorem rH_at (n : Fin 8192) (d : Fin 1024) : (rH x r1 r2 r3 (ix2 n d) : EReal)
    = x (ix2 n d) * Ideal.rsqrt (Ideal.div (∑ j : Fin 1024, (x (ix2 n j) : EReal) * x (ix2 n j)) Mid.cD + Mid.eps6) * r1 (ix2 0 d) * (Mid.cOne + r2 (ix2 0 d))
      + r3 (ix2 0 d) := by
  pointwise [rH, Mid.cD, Mid.eps6, Mid.cOne]

end stages

end Cert.Reference3Ideal.MidRef

end
-- ==== Proof.MidRefAt.lean ====
/- What the reference's results of `fwd_mid` hold, by the plain mathematics of the arguments. -/
module

public import proofs.«01_k».proof.Proof.MidRef

@[expose] public section

set_option maxRecDepth 16384

noncomputable section

open Idealize.ShloMosaic Idealize.ShloMosaic.TcCoe Idealize.SL.Sem

namespace Cert.Reference3Ideal.MidRef

open Cert.Reference3Ideal Cert.Reference3Ideal.Gen

variable (U : Valuation τ sig (Elt Ideal))

/-- The arguments, of which the results are functions. -/
def inp : Mid.In where
  z n j := (U (Proc.devRef .tc main_arg0) : FVec Ideal S8192x2048 .f32) (ix2 n j)
  x n d := (U (Proc.devRef .tc main_arg1) : FVec Ideal S8192x1024 .f32) (ix2 n d)
  cw k q := (U (Proc.devRef .tc main_arg2) : FVec Ideal S1x31x512 .f32) (ix3 0 k q)
  cb q := (U (Proc.devRef .tc main_arg3) : FVec Ideal S1x512 .f32) (ix2 0 q)
  clg q := (U (Proc.devRef .tc main_arg4) : FVec Ideal S1x512 .f32) (ix2 0 q)
  clb q := (U (Proc.devRef .tc main_arg5) : FVec Ideal S1x512 .f32) (ix2 0 q)
  glg q := (U (Proc.devRef .tc main_arg6) : FVec Ideal S1x512 .f32) (ix2 0 q)
  glb q := (U (Proc.devRef .tc main_arg7) : FVec Ideal S1x512 .f32) (ix2 0 q)
  ws h t s := (U (Proc.devRef .tc main_arg8) : FVec Ideal S1x8x128x128 .f32) (ix4 0 h t s)
  bs h t := (U (Proc.devRef .tc main_arg9) : FVec Ideal S1x8x128 .f32) (ix3 0 h t)
  mog d := (U (Proc.devRef .tc main_arg10) : FVec Ideal S1x1024 .f32) (ix2 0 d)
  wo j d := (U (Proc.devRef .tc main_arg11) : FVec Ideal S1x1024x1024 .f32) (ix3 0 j d)
  gt d := (U (Proc.devRef .tc main_arg12) : FVec Ideal S1x1024 .f32) (ix2 0 d)
  g2 d := (U (Proc.devRef .tc main_arg13) : FVec Ideal S1x1024 .f32) (ix2 0 d)
  sh d := (U (Proc.devRef .tc main_arg14) : FVec Ideal S1x1024 .f32) (ix2 0 d)
  sc d := (U (Proc.devRef .tc main_arg15) : FVec Ideal S1x1024 .f32) (ix2 0 d)

/-- The taps of the convolution. -/
def dK : FVec Ideal S31x512 .f32 := shapeCast _ (U (Proc.devRef .tc main_arg2) : FVec Ideal S1x31x512 .f32) shapeCasts_S1x31x512_S31x512
/-- The convolution. -/
def dConv : FVec Ideal S8192x512 .f32 := rConv (dK U) (rTop (U (Proc.devRef .tc main_arg0))) (U (Proc.devRef .tc main_arg3))
/-- Its layer norm. -/
def dXh : FVec Ideal S8192x512 .f32 := rHat (rCent (dConv U))
/-- The first half of the joined columns. -/
def dA : FVec Ideal S8192x512 .f32 := rSilu (rAff (dXh U) (U (Proc.devRef .tc main_arg4)) (U (Proc.devRef .tc main_arg5)))
/-- The gate of the second half. -/
def dGu : FVec Ideal S8192x512 .f32 :=
  rGelu (extractStridedSlice S8192x512 ![0, 1024] (U (Proc.devRef .tc main_arg0) : FVec Ideal S8192x2048 .f32) slices_S8192x2048_S8192x512_0_1024)
/-- The gate of what is mixed. -/
def dGv : FVec Ideal S8192x512 .f32 :=
  rGelu (extractStridedSlice S8192x512 ![0, 1536] (U (Proc.devRef .tc main_arg0) : FVec Ideal S8192x2048 .f32) slices_S8192x2048_S8192x512_0_1536)
/-- Its layer norm. -/
def dVh : FVec Ideal S8192x512 .f32 := rHat (rCent (dGv U))
/-- The mixed rows. -/
def dSp : FVec Ideal S8192x512 .f32 :=
  rSp (rAff (dVh U) (U (Proc.devRef .tc main_arg6)) (U (Proc.devRef .tc main_arg7))) (U (Proc.devRef .tc main_arg8)) (U (Proc.devRef .tc main_arg9)) rTri
/-- The second half of the joined columns. -/
def dG : FVec Ideal S8192x512 .f32 := mulf (dGu U) (dSp U)
/-- The product of the joined columns. -/
def dO : FVec Ideal S8192x1024 .f32 := rO (U (Proc.devRef .tc main_arg11)) (rY (dA U) (dG U) (U (Proc.devRef .tc main_arg10)))
/-- The rows after the layer. -/
def dX : FVec Ideal S8192x1024 .f32 := rX (U (Proc.devRef .tc main_arg1)) (dO U) (U (Proc.devRef .tc main_arg12))
/-- The input of the layer that follows. -/
def dH : FVec Ideal S8192x1024 .bf16 := rH (dX U) (U (Proc.devRef .tc main_arg13)) (U (Proc.devRef .tc main_arg15)) (U (Proc.devRef .tc main_arg14))

/-! ## The printed values are these -/

theorem v235_eq : Value.res_main_v235 (F := Ideal) U = dConv U := rfl
theorem v241_eq : Value.res_main_v241 (F := Ideal) U = rCent (dConv U) := by rw [← v235_eq]; rfl
theorem xh_eq : rHat (Value.res_main_v241 (F := Ideal) U) = dXh U := by rw [v241_eq]; rfl
theorem v256_eq : Value.res_main_v256 (F := Ideal) U = dA U := by unfold dA; rw [← xh_eq]; rfl
theorem gu_eq : rGelu (Value.res_main_v2 (F := Ideal) U) = dGu U := rfl
theorem v282_eq : Value.res_main_v282 (F := Ideal) U = dGv U := rfl
theorem v288_eq : Value.res_main_v288 (F := Ideal) U = rCent (dGv U) := by rw [← v282_eq]; rfl
theorem vh_eq : rHat (Value.res_main_v288 (F := Ideal) U) = dVh U := by rw [v288_eq]; rfl
theorem sp_eq : rSp (rAff (rHat (Value.res_main_v288 (F := Ideal) U)) (U (Proc.devRef .tc main_arg6)) (U (Proc.devRef .tc main_arg7))) (U (Proc.devRef .tc main_arg8)) (U (Proc.devRef .tc main_arg9)) rTri = dSp U := by
  rw [vh_eq]; rfl
theorem v318_eq : Value.res_main_v318 (F := Ideal) U = dG U := by unfold dG; rw [← sp_eq, ← gu_eq]; rfl
theorem o1_eq : rO (U (Proc.devRef .tc main_arg11)) (rY (Value.res_main_v256 (F := Ideal) U) (Value.res_main_v318 (F := Ideal) U) (U (Proc.devRef .tc main_arg10))) = dO U := by
  rw [v256_eq, v318_eq]; rfl
theorem x2_eq : Value.res_main_v350 (F := Ideal) U = dX U := by unfold dX; rw [← o1_eq]; rfl
theorem h2_eq : rH (Value.res_main_v350 (F := Ideal) U) (U (Proc.devRef .tc main_arg13)) (U (Proc.devRef .tc main_arg15)) (U (Proc.devRef .tc main_arg14)) = dH U := by
  rw [x2_eq]; rfl

/-! ## What they hold -/

theorem dK_at (k : Fin 31) (q : Fin 512) : (dK U (ix2 k q) : EReal) = (inp U).cw k q := by
  pointwise [dK, inp]

theorem dConv_at (n : Fin 8192) (q : Fin 512) : (dConv U (ix2 n q) : EReal) = (inp U).conv n q := by
  unfold dConv
  rw [rConv_at]
  refine congrArg₂ (fun s t : EReal => s + t) rfl (Finset.sum_congr rfl fun i _ => ?_)
  rw [dK_at, rTop_at]
  rfl

theorem dXh_at (n : Fin 8192) (q : Fin 512) : (dXh U (ix2 n q) : EReal) = (inp U).xh n q := by
  unfold dXh
  rw [rLn_at]
  simp only [dConv_at]
  rfl

theorem dA_at (n : Fin 8192) (q : Fin 512) : (dA U (ix2 n q) : EReal) = (inp U).a n q := by
  unfold dA
  rw [rSilu_at, rAff_at, dXh_at]
  rfl

theorem dGu_at (n : Fin 8192) (q : Fin 512) : (dGu U (ix2 n q) : EReal) = (inp U).gu n q := by
  unfold dGu
  rw [rGelu_at]
  refine congrArg Mid.gelu ?_
  pointwise [inp]

theorem dGv_at (n : Fin 8192) (q : Fin 512) : (dGv U (ix2 n q) : EReal) = (inp U).gv n q := by
  unfold dGv
  rw [rGelu_at]
  refine congrArg Mid.gelu ?_
  pointwise [inp]

theorem dVh_at (n : Fin 8192) (q : Fin 512) : (dVh U (ix2 n q) : EReal) = (inp U).vh n q := by
  unfold dVh
  rw [rLn_at]
  simp only [dGv_at]
  rfl

theorem dSp_at (n : Fin 8192) (q : Fin 512) : (dSp U (ix2 n q) : EReal) = (inp U).sp n q := by
  unfold dSp
  rw [rSp_at]
  refine congrArg₂ (fun s t : EReal => s + t) (Finset.sum_congr rfl fun s _ => ?_) rfl
  rw [rAff_at, dVh_at, rTri_at, mul_comm, mul_ite, mul_one, mul_zero]
  rfl

theorem dG_at (n : Fin 8192) (q : Fin 512) : (dG U (ix2 n q) : EReal) = (inp U).g n q :=
  congrArg₂ (fun s t : EReal => s * t) (dGu_at U n q) (dSp_at U n q)

theorem dO_at (n : Fin 8192) (d : Fin 1024) : (dO U (ix2 n d) : EReal) = (inp U).o1 n d := by
  unfold dO
  rw [rO_at]
  refine Finset.sum_congr rfl fun j _ => ?_
  rw [rY_at]
  simp only [dA_at, dG_at]
  rfl

theorem dX_at (n : Fin 8192) (d : Fin 1024) : (dX U (ix2 n d) : EReal) = (inp U).x2 n d := by
  unfold dX
  rw [rX_at, dO_at]
  rfl

theorem dH_at (n : Fin 8192) (d : Fin 1024) : (dH U (ix2 n d) : EReal) = (inp U).h2 n d := by
  unfold dH
  rw [rH_at]
  simp only [dX_at]
  rfl

end Cert.Reference3Ideal.MidRef

end
-- ==== Proof.MidOps.lean ====
/- What the host lines of the call `fwd_mid` hand to it: each array that the kernel reads, at an index, in the arguments,
   and the blocks of these arrays that a grid point reads. -/
module

public import proofs.«01_k».proof.Proof.Gen.Kernel3Ideal.Frame.Runs
public import proofs.«01_k».proof.Proof.FfnBlk
public import proofs.«01_k».proof.Proof.Gates
public import proofs.«01_k».proof.Proof.MidMath

@[expose] public section

set_option maxRecDepth 16384

noncomputable section

open Idealize.ShloMosaic Idealize.ShloMosaic.TcCoe Idealize.SL.Sem
open Idealize.ShloMosaic.Pipeline (Dat)

namespace Cert.Kernel3Ideal.MidOps

open Cert.Kernel3Ideal Cert.Kernel3Ideal.Gen

variable (m : (ℓ : Loc nD τ sig) → Buf (Elt Ideal) ℓ)

/-- The arguments, read from the memory. -/
def inp (c : Dev nD) : Mid.In where
  z n j := (m ((c : Thread nD τ).loc main_arg0) : FVec Ideal S8192x2048 .f32) (ix2 n j)
  x n d := (m ((c : Thread nD τ).loc main_arg1) : FVec Ideal S8192x1024 .f32) (ix2 n d)
  cw k q := (m ((c : Thread nD τ).loc main_arg2) : FVec Ideal S1x31x512 .f32) (ix3 0 k q)
  cb q := (m ((c : Thread nD τ).loc main_arg3) : FVec Ideal S1x512 .f32) (ix2 0 q)
  clg q := (m ((c : Thread nD τ).loc main_arg4) : FVec Ideal S1x512 .f32) (ix2 0 q)
  clb q := (m ((c : Thread nD τ).loc main_arg5) : FVec Ideal S1x512 .f32) (ix2 0 q)
  glg q := (m ((c : Thread nD τ).loc main_arg6) : FVec Ideal S1x512 .f32) (ix2 0 q)
  glb q := (m ((c : Thread nD τ).loc main_arg7) : FVec Ideal S1x512 .f32) (ix2 0 q)
  ws h t s := (m ((c : Thread nD τ).loc main_arg8) : FVec Ideal S1x8x128x128 .f32) (ix4 0 h t s)
  bs h t := (m ((c : Thread nD τ).loc main_arg9) : FVec Ideal S1x8x128 .f32) (ix3 0 h t)
  mog d := (m ((c : Thread nD τ).loc main_arg10) : FVec Ideal S1x1024 .f32) (ix2 0 d)
  wo j d := (m ((c : Thread nD τ).loc main_arg11) : FVec Ideal S1x1024x1024 .f32) (ix3 0 j d)
  gt d := (m ((c : Thread nD τ).loc main_arg12) : FVec Ideal S1x1024 .f32) (ix2 0 d)
  g2 d := (m ((c : Thread nD τ).loc main_arg13) : FVec Ideal S1x1024 .f32) (ix2 0 d)
  sh d := (m ((c : Thread nD τ).loc main_arg14) : FVec Ideal S1x1024 .f32) (ix2 0 d)
  sc d := (m ((c : Thread nD τ).loc main_arg15) : FVec Ideal S1x1024 .f32) (ix2 0 d)

/-- What the buffers hold before the last host lines. -/
def σ (c : Dev nD) : Valuation τ sig (Elt Ideal) := StableHlo.after (hostOps0 ++ hostOps0_1) (fun b => m (c, b))

theorem V_eq (c : Dev nD) (b : Ref sig .tc) : V m c b = StableHlo.after hostOps0_2 (σ m c) (Proc.devRef .tc b) := by
  rfl

/-- The gated columns. -/
theorem V_v21 (c : Dev nD) (n : Fin 8192) (q : Fin 512) :
    (V m c main_v21 : FVec Ideal S8192x512 .f32) (ix2 n q) = (inp m c).a0 n q := by
  rw [V_eq]
  simp only [hostOps0_2]
  after_reads_at
  unfold σ
  simp only [hostOps0, hostOps0_1, List.cons_append, List.nil_append]
  after_reads_at
  simp only [Gates.half_tanh, Mid.In.a0, inp]

/-- The taps. -/
theorem V_v1 (c : Dev nD) (k : Fin 31) (q : Fin 512) :
    (V m c main_v1 : FVec Ideal S32x512 .f32) (ix2 ⟨k.val, by omega⟩ q) = (inp m c).cw k q := by
  rw [V_eq]
  after_reads_simp
  unfold σ
  simp only [hostOps0, hostOps0_1, List.cons_append, List.nil_append]
  after_reads_at
  rfl

theorem σ_arg3 (c : Dev nD) (q : Fin 512) :
    (σ m c (Proc.devRef .tc main_arg3) : FVec Ideal S1x512 .f32) (ix2 0 q) = (inp m c).cb q := by
  unfold σ
  simp only [hostOps0, hostOps0_1, List.cons_append, List.nil_append]
  after_reads_at
  rfl

theorem σ_arg4 (c : Dev nD) (q : Fin 512) :
    (σ m c (Proc.devRef .tc main_arg4) : FVec Ideal S1x512 .f32) (ix2 0 q) = (inp m c).clg q := by
  unfold σ
  simp only [hostOps0, hostOps0_1, List.cons_append, List.nil_append]
  after_reads_at
  rfl

theorem σ_arg5 (c : Dev nD) (q : Fin 512) :
    (σ m c (Proc.devRef .tc main_arg5) : FVec Ideal S1x512 .f32) (ix2 0 q) = (inp m c).clb q := by
  unfold σ
  simp only [hostOps0, hostOps0_1, List.cons_append, List.nil_append]
  after_reads_at
  rfl

theorem σ_arg6 (c : Dev nD) (q : Fin 512) :
    (σ m c (Proc.devRef .tc main_arg6) : FVec Ideal S1x512 .f32) (ix2 0 q) = (inp m c).glg q := by
  unfold σ
  simp only [hostOps0, hostOps0_1, List.cons_append, List.nil_append]
  after_reads_at
  rfl

theorem σ_arg7 (c : Dev nD) (q : Fin 512) :
    (σ m c (Proc.devRef .tc main_arg7) : FVec Ideal S1x512 .f32) (ix2 0 q) = (inp m c).glb q := by
  unfold σ
  simp only [hostOps0, hostOps0_1, List.cons_append, List.nil_append]
  after_reads_at
  rfl

theorem σ_arg10 (c : Dev nD) (d : Fin 1024) :
    (σ m c (Proc.devRef .tc main_arg10) : FVec Ideal S1x1024 .f32) (ix2 0 d) = (inp m c).mog d := by
  unfold σ
  simp only [hostOps0, hostOps0_1, List.cons_append, List.nil_append]
  after_reads_at
  rfl

theorem σ_arg12 (c : Dev nD) (d : Fin 1024) :
    (σ m c (Proc.devRef .tc main_arg12) : FVec Ideal S1x1024 .f32) (ix2 0 d) = (inp m c).gt d := by
  unfold σ
  simp only [hostOps0, hostOps0_1, List.cons_append, List.nil_append]
  after_reads_at
  rfl

theorem σ_arg13 (c : Dev nD) (d : Fin 1024) :
    (σ m c (Proc.devRef .tc main_arg13) : FVec Ideal S1x1024 .f32) (ix2 0 d) = (inp m c).g2 d := by
  unfold σ
  simp only [hostOps0, hostOps0_1, List.cons_append, List.nil_append]
  after_reads_at
  rfl

theorem σ_arg14 (c : Dev nD) (d : Fin 1024) :
    (σ m c (Proc.devRef .tc main_arg14) : FVec Ideal S1x1024 .f32) (ix2 0 d) = (inp m c).sh d := by
  unfold σ
  simp only [hostOps0, hostOps0_1, List.cons_append, List.nil_append]
  after_reads_at
  rfl

theorem σ_arg15 (c : Dev nD) (d : Fin 1024) :
    (σ m c (Proc.devRef .tc main_arg15) : FVec Ideal S1x1024 .f32) (ix2 0 d) = (inp m c).sc d := by
  unfold σ
  simp only [hostOps0, hostOps0_1, List.cons_append, List.nil_append]
  after_reads_at
  rfl

theorem σ_arg9 (c : Dev nD) (h : Fin 8) (t : Fin 128) :
    (σ m c (Proc.devRef .tc main_arg9) : FVec Ideal S1x8x128 .f32) (ix3 0 h t) = (inp m c).bs h t := by
  unfold σ
  simp only [hostOps0, hostOps0_1, List.cons_append, List.nil_append]
  after_reads_at
  rfl

theorem σ_arg11 (c : Dev nD) (j d : Fin 1024) :
    (σ m c (Proc.devRef .tc main_arg11) : FVec Ideal S1x1024x1024 .f32) (ix3 0 j d) = (inp m c).wo j d := by
  unfold σ
  simp only [hostOps0, hostOps0_1, List.cons_append, List.nil_append]
  after_reads_at
  rfl

theorem V_v5_3 (c : Dev nD) (d : Fin 1024) : (V m c main_v5 : FVec Ideal S16x1024 .f32) (ix2 3 d) = (inp m c).gt d := by
  rw [V_eq]
  after_reads_at
  exact σ_arg12 m c d

theorem V_v5_4 (c : Dev nD) (d : Fin 1024) : (V m c main_v5 : FVec Ideal S16x1024 .f32) (ix2 4 d) = (inp m c).g2 d := by
  rw [V_eq]
  after_reads_at
  exact σ_arg13 m c d

theorem V_v5_5 (c : Dev nD) (d : Fin 1024) : (V m c main_v5 : FVec Ideal S16x1024 .f32) (ix2 5 d) = (inp m c).sh d := by
  rw [V_eq]
  after_reads_at
  exact σ_arg14 m c d

theorem V_v5_6 (c : Dev nD) (d : Fin 1024) : (V m c main_v5 : FVec Ideal S16x1024 .f32) (ix2 6 d) = (inp m c).sc d := by
  rw [V_eq]
  after_reads_at
  exact σ_arg15 m c d

theorem V_v5_8 (c : Dev nD) (d : Fin 1024) : (V m c main_v5 : FVec Ideal S16x1024 .f32) (ix2 8 d) = (inp m c).mog d := by
  rw [V_eq]
  after_reads_at
  exact σ_arg10 m c d

theorem V_v7_0 (c : Dev nD) (q : Fin 512) : (V m c main_v7 : FVec Ideal S8x512 .f32) (ix2 0 q) = (inp m c).cb q := by
  rw [V_eq]
  after_reads_at
  exact σ_arg3 m c q

theorem V_v7_1 (c : Dev nD) (q : Fin 512) : (V m c main_v7 : FVec Ideal S8x512 .f32) (ix2 1 q) = (inp m c).clg q := by
  rw [V_eq]
  after_reads_at
  exact σ_arg4 m c q

theorem V_v7_2 (c : Dev nD) (q : Fin 512) : (V m c main_v7 : FVec Ideal S8x512 .f32) (ix2 2 q) = (inp m c).clb q := by
  rw [V_eq]
  after_reads_at
  exact σ_arg5 m c q

theorem V_v7_3 (c : Dev nD) (q : Fin 512) : (V m c main_v7 : FVec Ideal S8x512 .f32) (ix2 3 q) = (inp m c).glg q := by
  rw [V_eq]
  after_reads_at
  exact σ_arg6 m c q

theorem V_v7_4 (c : Dev nD) (q : Fin 512) : (V m c main_v7 : FVec Ideal S8x512 .f32) (ix2 4 q) = (inp m c).glb q := by
  rw [V_eq]
  after_reads_at
  exact σ_arg7 m c q

/-- The biases of the heads, each repeated over its columns. -/
theorem V_v11 (c : Dev nD) (t : Fin 128) (q : Fin 512) :
    (V m c main_v11 : FVec Ideal S128x512 .f32) (ix2 t q) = (inp m c).bs (Mid.headOf q) t := by
  rw [V_eq]
  simp only [hostOps0_2]
  after_reads_at
  exact σ_arg9 m c (Mid.headOf q) t

/-- The weight of the product. -/
theorem V_v23 (c : Dev nD) (j d : Fin 1024) :
    (V m c main_v23 : FVec Ideal S1024x1024 .bf16) (ix2 j d) = (inp m c).wo j d := by
  rw [V_eq]
  simp only [hostOps0_2]
  after_reads_at
  exact σ_arg11 m c j d

theorem V_arg0 (c : Dev nD) (n : Fin 8192) (j : Fin 2048) : (V m c main_arg0 : FVec Ideal S8192x2048 .f32) (ix2 n j) = (inp m c).z n j := by
  rw [V_main_arg0]
  rfl

theorem V_arg1 (c : Dev nD) (n : Fin 8192) (d : Fin 1024) : (V m c main_arg1 : FVec Ideal S8192x1024 .f32) (ix2 n d) = (inp m c).x n d := by
  rw [V_main_arg1]
  rfl

theorem V_arg8 (c : Dev nD) (h : Fin 8) (t s : Fin 128) : (V m c main_arg8 : FVec Ideal S1x8x128x128 .f32) (ix4 0 h t s) = (inp m c).ws h t s := by
  rw [V_main_arg8]
  rfl

/-- The block index of each window at a grid point. -/
theorem idx_val : ∀ t : Fin cfg0.N, win0_0.index t = ![t.val, 0] ∧ win0_1.index t = ![t.val * 16 - 1, 0] ∧ win0_2.index t = ![t.val, 1]
    ∧ win0_3.index t = ![t.val, 0] ∧ win0_4.index t = ![0, 0] ∧ win0_5.index t = ![0, 0] ∧ win0_6.index t = ![0, 0]
    ∧ win0_7.index t = ![0, 0, 0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_17.index t = ![t.val, 0] :=
  (by decide +kernel : ∀ t : Fin grid0.N, _)

/-- The row of the arrays that row `x` of a point's tile is. -/
def row (t : Fin cfg0.N) (x : Fin 512) : Fin 8192 := ⟨512 * t.val + x.val, by have : t.val < 16 := t.isLt; omega⟩

variable (c : Dev nD) (t : Fin cfg0.N)

theorem b0 (x q : Fin 512) : (iblk m c 0 t : S512x512.Idx → EReal) (ix2 x q) = (inp m c).a0 (row t x) q := by
  rw [← V_v21]
  blk_simp [iblk]
  blk_ext [idx_val t]
  all_goals simp only [row]
  all_goals omega

theorem b1 (h : 0 < t.val) (x : Fin 32) (q : Fin 512) : (iblk m c 1 t : S32x512.Idx → EReal) (ix2 x q)
    = (inp m c).a0 ⟨512 * t.val - 32 + x.val, by have : t.val < 16 := t.isLt; omega⟩ q := by
  rw [← V_v21]
  blk_simp [iblk]
  blk_ext [idx_val t]
  all_goals omega

theorem b2 (x : Fin 512) (j : Fin 1024) : (iblk m c 2 t : S512x1024.Idx → EReal) (ix2 x j)
    = (inp m c).z (row t x) ⟨1024 + j.val, by omega⟩ := by
  rw [← V_arg0]
  blk_simp [iblk]
  blk_ext [idx_val t]
  all_goals simp only [row]
  all_goals omega

theorem b3 (x : Fin 512) (d : Fin 1024) : (iblk m c 3 t : S512x1024.Idx → EReal) (ix2 x d) = (inp m c).x (row t x) d := by
  rw [← V_arg1]
  blk_simp [iblk]
  blk_ext [idx_val t]
  all_goals simp only [row]
  all_goals omega

theorem b4 (r : Fin 16) (d : Fin 1024) : (iblk m c 4 t : S16x1024.Idx → EReal) (ix2 r d) = (V m c main_v5 : FVec Ideal S16x1024 .f32) (ix2 r d) := by
  blk_simp [iblk]
  blk_ext [idx_val t]

theorem b5 (r : Fin 8) (q : Fin 512) : (iblk m c 5 t : S8x512.Idx → EReal) (ix2 r q) = (V m c main_v7 : FVec Ideal S8x512 .f32) (ix2 r q) := by
  blk_simp [iblk]
  blk_ext [idx_val t]

theorem b6 (k : Fin 31) (q : Fin 512) : (iblk m c 6 t : S32x512.Idx → EReal) (ix2 ⟨k.val, by omega⟩ q) = (inp m c).cw k q := by
  rw [← V_v1]
  blk_simp [iblk]
  blk_ext [idx_val t]

theorem b7 (h : Fin 8) (x s : Fin 128) : (iblk m c 7 t : S1x8x128x128.Idx → EReal) (ix4 0 h x s) = (inp m c).ws h x s := by
  rw [← V_arg8]
  blk_simp [iblk]
  blk_ext [idx_val t]

theorem b8 (x : Fin 128) (q : Fin 512) : (iblk m c 8 t : S128x512.Idx → EReal) (ix2 x q) = (inp m c).bs (Mid.headOf q) x := by
  rw [← V_v11]
  blk_simp [iblk]
  blk_ext [idx_val t]

theorem b9 (j d : Fin 1024) : (iblk m c 9 t : S1024x1024.Idx → EReal) (ix2 j d) = (inp m c).wo j d := by
  rw [← V_v23]
  blk_simp [iblk]
  blk_ext [idx_val t]

end Cert.Kernel3Ideal.MidOps

end
-- ==== Proof.MidPay.lean ====
/- What the stored values of the call `fwd_mid` are at an index, of any operands. -/
module

public import proofs.«01_k».proof.Proof.MidOps
public import Idealize.ShloMosaic.Lib.KernelVsHost

@[expose] public section

set_option maxRecDepth 16384

noncomputable section

open Idealize.ShloMosaic Idealize.ShloMosaic.TcCoe Idealize.SL.Sem

namespace Cert.Kernel3Ideal.MidPay

open Cert.Kernel3Ideal Cert.Kernel3Ideal.Gen

/-! ## The convolution of 128 columns -/

section Conv

variable (E : FVec Ideal S544x128 .f32) (b : FVec Ideal S1x128 .f32) (w : Fin 31 → FVec Ideal S1x128 .f32)

/-- The rows that a tap meets. -/
def rot (k : ℕ) : FVec Ideal S512x128 .f32 :=
  extractStridedSlice S512x128 ![0, 0] (dynamicRotate 0 (BitVec.ofNat 32 (542 - k)) none E rotates_S544x128_d0) slices_S544x128_o0_0_S512x128

/-- The bias and the first `k` taps' products. -/
def cacc : (k : ℕ) → k ≤ 31 → FVec Ideal S512x128 .f32
  | 0, _ => broadcastTo S512x128 (shapeCast S1x128 (shapeCast S1x128 b shapeCasts_S1x128_S1x128) shapeCasts_S1x128_S1x128) broadcasts_S1x128_S512x128
  | k + 1, h => addf (cacc k (by omega)) (mulf (rot E k)
      (broadcastTo S512x128 (shapeCast S1x128 (w ⟨k, h⟩) shapeCasts_S1x128_S1x128) broadcasts_S1x128_S512x128))

/-- All of them, as stored. -/
def cblk : FVec Ideal S512x128 .f32 := shapeCast S512x128 (cacc E b w 31 le_rfl) shapeCasts_S512x128_S512x128

theorem rot_at (k : ℕ) (hk : k < 31) (x : Fin 512) (q : Fin 128) :
    (rot E k (ix2 x q) : EReal) = E (ix2 ⟨x.val + 2 + k, by omega⟩ q) := by
  unfold rot
  refine (extractStridedSlice_apply _ _ _ (ix2 x q) (ix2 (⟨x.val, by omega⟩ : Fin 544) q) ?_).trans ?_
  · intro a; fin_cases a <;> simp
  · refine dynamicRotate_apply (s := S544x128) (0 : Fin 2) _ _ _ _ _ ?_
    intro a
    fin_cases a
    · simp only [BitVec.toNat_ofNat]
      show x.val + 2 + k = (x.val + 544 - (542 - k) % 2 ^ 32 % 544) % 544
      omega
    · simp

theorem cacc_at (k : ℕ) (hk : k ≤ 31) (x : Fin 512) (q : Fin 128) :
    (cacc E b w k hk (ix2 x q) : EReal) = b (ix2 0 q) + ∑ i : Fin k, (E (ix2 ⟨x.val + 2 + i.val, by omega⟩ q) : EReal) * w ⟨i.val, by omega⟩ (ix2 0 q) := by
  induction k with
  | zero =>
    simp only [Finset.univ_eq_empty, Finset.sum_empty, add_zero]
    pointwise [cacc]
  | succ k ih =>
    rw [Fin.sum_univ_castSucc, ← add_assoc]
    refine (show (cacc E b w (k + 1) hk (ix2 x q) : EReal) = cacc E b w k (by omega) (ix2 x q) + rot E k (ix2 x q) * w ⟨k, hk⟩ (ix2 0 q) from ?_).trans ?_
    · rw [show cacc E b w (k + 1) hk = addf (cacc E b w k (by omega)) (mulf (rot E k)
        (broadcastTo S512x128 (shapeCast S1x128 (w ⟨k, hk⟩) shapeCasts_S1x128_S1x128) broadcasts_S1x128_S512x128)) from rfl]
      generalize rot E k = R
      generalize cacc E b w k _ = C
      pointwise []
    · rw [ih, rot_at E k hk]
      rfl

theorem cblk_at (x : Fin 512) (q : Fin 128) :
    (cblk E b w (ix2 x q) : EReal) = b (ix2 0 q) + ∑ i : Fin 31, (E (ix2 ⟨x.val + 2 + i.val, by omega⟩ q) : EReal) * w i (ix2 0 q) := by
  refine Eq.trans ?_ (cacc_at E b w 31 le_rfl x q)
  unfold cblk
  generalize cacc E b w 31 le_rfl = C
  pointwise []

theorem gt_word : ∀ i : Fin 16, Scalar.cmpi CmpIPredicate.sgt (BitVec.ofNat 32 i.val) 0#32 = if 0 < i.val then 1#1 else 0#1 := by
  decide

/-- The rows that the taps meet: the tile's, below the last rows of the tile before, or zeros. -/
theorem pay2_at (i : grid0.Coords) (H : FVec Ideal S32x128 .f32) (T : FVec Ideal S512x128 .f32) (r : Fin 544) (q : Fin 128) :
    (k0_pay2 (F := Ideal) i H T (ix2 r q) : EReal) = if h : r.val < 32 then (if 0 < (i 0).val then (H (ix2 ⟨r.val, h⟩ q) : EReal) else 0)
      else T (ix2 ⟨r.val - 32, by omega⟩ q) := by
  pointwise [k0_pay2]
  rw [show Scalar.cmpi CmpIPredicate.sgt (BitVec.ofNat 32 (i 0).val) 0#32 = if 0 < (i 0).val then 1#1 else 0#1 from gt_word _]
  by_cases h : 0 < (i 0).val
  · simp only [if_pos h]
    rfl
  · simp only [if_neg h]
    rfl

end Conv

variable (A B C : FVec Ideal S512x512 .f32) (u v : FVec Ideal S1x512 .f32)

theorem pay55_at (x q : Fin 512) : (k0_pay55 (F := Ideal) A (ix2 x q) : EReal) = Mid.ln (fun k => A (ix2 x k)) q := by
  pointwise [k0_pay55, k0_pay54, k0_pay53, Mid.ln, Mid.cent, Mid.rstd, Mid.cH, Mid.eps5]

theorem pay70_at (x q : Fin 512) : (k0_pay70 (F := Ideal) A (ix2 x q) : EReal) = Mid.ln (fun k => A (ix2 x k)) q := by
  pointwise [k0_pay70, k0_pay69, k0_pay68, Mid.ln, Mid.cent, Mid.rstd, Mid.cH, Mid.eps5]

theorem pay57_at (x q : Fin 512) : (k0_pay57 (F := Ideal) (k0_pay56 A u) v (ix2 x q) : EReal)
    = (k0_pay55 (F := Ideal) A (ix2 x q) * u (ix2 0 q) + v (ix2 0 q)) * Ideal.logistic (k0_pay55 (F := Ideal) A (ix2 x q) * u (ix2 0 q) + v (ix2 0 q)) := by
  unfold k0_pay56
  generalize k0_pay55 (F := Ideal) A = D
  pointwise [k0_pay57]
  simp only [Gates.half_tanh]

theorem pay59_at (x q : Fin 512) : (k0_pay59 (F := Ideal) A (ix2 x q) : EReal) = Mid.gelu (A (ix2 x q)) := by
  pointwise [k0_pay59, k0_pay58, Mid.gelu, Mid.cHalf, Mid.cOne, Mid.cCube, Mid.cRoot]

theorem pay66_at (x q : Fin 512) : (k0_pay66 (F := Ideal) A (ix2 x q) : EReal) = Mid.gelu (A (ix2 x q)) := by
  pointwise [k0_pay66, k0_pay65, Mid.gelu, Mid.cHalf, Mid.cOne, Mid.cCube, Mid.cRoot]

theorem pay72_at (x q : Fin 512) : (k0_pay72 (F := Ideal) A u v (ix2 x q) : EReal) = k0_pay70 (F := Ideal) A (ix2 x q) * u (ix2 0 q) + v (ix2 0 q) := by
  unfold k0_pay72
  generalize k0_pay70 (F := Ideal) A = D
  pointwise []

/-! ## The mixing of 128 rows and columns -/

/-- A head's matrix, zero above the diagonal. -/
def M (W : FVec Ideal S1x1x128x128 .f32) : FVec Ideal S128x128 .bf16 := k0_pay77 k0_pay73 W

theorem ge_word : ∀ t s : Fin 128, IntOp.cmpi CmpIPredicate.sge (BitVec.ofNat 32 t.val) (BitVec.ofNat 32 s.val) = if s.val ≤ t.val then 1#1 else 0#1 := by
  decide +kernel

theorem lt_word : ∀ q : Fin 128, IntOp.cmpi CmpIPredicate.slt (BitVec.ofNat 32 q.val) 64#32 = if q.val < 64 then 1#1 else 0#1 := by
  decide +kernel

theorem M_at (W : FVec Ideal S1x1x128x128 .f32) (t s : Fin 128) : (M W (ix2 t s) : EReal) = if s.val ≤ t.val then (W (ix4 0 0 t s) : EReal) else 0 := by
  pointwise [M, k0_pay77, k0_pay73]
  rw [ge_word t s]
  by_cases h : s.val ≤ t.val
  · simp only [if_pos h]
    rfl
  · simp only [if_neg h]
    rfl

theorem inS (a j : Fin 4) : S512x512.Slices ![128 * a.val, 128 * j.val] S128x128 := by
  revert a j; decide

/-- A block of the mixed rows, of two heads' matrices. -/
def blk (G : FVec Ideal S512x512 .bf16) (M0 M1 : FVec Ideal S128x128 .bf16) (D : FVec Ideal S128x128 .f32) (a j : Fin 4) : FVec Ideal S128x128 .f32 :=
  addf (select k0_pay74
    (matmul dot_S128x128_S128x128_S128x128_1_0_0_1_n_n none M0 (extractStridedSlice S128x128 ![128 * a.val, 128 * j.val] G (inS a j)) (constant S128x128 .f32 0x00000000#32))
    (matmul dot_S128x128_S128x128_S128x128_1_0_0_1_n_n none M1 (extractStridedSlice S128x128 ![128 * a.val, 128 * j.val] G (inS a j)) (constant S128x128 .f32 0x00000000#32)))
    (shapeCast S128x128 D shapeCasts_S128x128_S128x128)

theorem blk_at (G : FVec Ideal S512x512 .bf16) (M0 M1 : FVec Ideal S128x128 .bf16) (D : FVec Ideal S128x128 .f32) (a j : Fin 4) (x q : Fin 128) :
    (blk G M0 M1 D a j (ix2 x q) : EReal) = (∑ s : Fin 128, (if q.val < 64 then (M0 (ix2 x s) : EReal) else M1 (ix2 x s))
      * G (ix2 ⟨128 * a.val + s.val, by omega⟩ ⟨128 * j.val + q.val, by omega⟩)) + D (ix2 x q) := by
  unfold blk
  have hs : ∀ s : Fin 128, (extractStridedSlice S128x128 ![128 * a.val, 128 * j.val] G (inS a j) (ix2 s q) : EReal)
      = G (ix2 ⟨128 * a.val + s.val, by omega⟩ ⟨128 * j.val + q.val, by omega⟩) := fun s =>
    extractStridedSlice_apply _ _ _ _ _ (by intro a; fin_cases a <;> simp)
  simp only [← hs]
  generalize extractStridedSlice S128x128 ![128 * a.val, 128 * j.val] G (inS a j) = R
  pointwise [k0_pay74]
  rw [lt_word q]
  by_cases h : q.val < 64
  · simp only [if_pos h]
    rfl
  · simp only [if_neg h]
    rfl

/-! ## The joined columns, the product and the norm after it -/

variable (g : FVec Ideal S1x1024 .f32) (W : FVec Ideal S1024x1024 .bf16) (X : FVec Ideal S512x1024 .f32) (Y : FVec Ideal S512x1024 .bf16)
  (gt g2 sc sh : FVec Ideal S1x1024 .f32)

theorem pay105_at (x : Fin 512) (j : Fin 1024) : (k0_pay105 (F := Ideal) A B C g (ix2 x j) : EReal)
    = if h : j.val < 512 then A (ix2 x ⟨j.val, h⟩) * Mid.rs (fun k => A (ix2 x k)) * g (ix2 0 j)
      else (B (ix2 x ⟨j.val - 512, by omega⟩) * C (ix2 x ⟨j.val - 512, by omega⟩)) * Mid.rs (fun k => B (ix2 x k) * C (ix2 x k)) * g (ix2 0 j) := by
  pointwise [k0_pay105, Mid.rs, Mid.cH, Mid.eps6]
  by_cases h : j.val < 512
  · simp only [dif_pos h]
  · simp only [dif_neg h]
    rw [show (⟨512 + (j.val - 512), by omega⟩ : Fin 1024) = j from Fin.ext (by show 512 + (j.val - 512) = j.val; omega)]

theorem pay106_at (x : Fin 512) (d : Fin 1024) : (k0_pay106 (F := Ideal) Y W (ix2 x d) : EReal) = ∑ j : Fin 1024, (Y (ix2 x j) : EReal) * W (ix2 j d) := by
  pointwise [k0_pay106]

theorem pay107_at (x : Fin 512) (d : Fin 1024) : (k0_pay107 (F := Ideal) Y W X gt (ix2 x d) : EReal)
    = (X (ix2 x d) : EReal) + gt (ix2 0 d) * k0_pay106 (F := Ideal) Y W (ix2 x d) := by
  unfold k0_pay107
  generalize k0_pay106 (F := Ideal) Y W = D
  pointwise []

theorem pay108_at (x : Fin 512) (d : Fin 1024) : (k0_pay108 (F := Ideal) Y W X gt g2 sc sh (ix2 x d) : EReal)
    = k0_pay107 (F := Ideal) Y W X gt (ix2 x d) * Ideal.rsqrt (Ideal.div (∑ j : Fin 1024, (k0_pay107 (F := Ideal) Y W X gt (ix2 x j) : EReal)
        * k0_pay107 (F := Ideal) Y W X gt (ix2 x j)) Mid.cD + Mid.eps6) * g2 (ix2 0 d) * (Mid.cOne + sc (ix2 0 d)) + sh (ix2 0 d) := by
  unfold k0_pay108
  generalize k0_pay107 (F := Ideal) Y W X gt = D
  pointwise [Mid.cD, Mid.eps6, Mid.cOne]

end Cert.Kernel3Ideal.MidPay

end
-- ==== Proof.MidOut.lean ====
/- What the results hold after a grid point of the call `fwd_mid`: own names for what a point loads and computes. -/
module

public import proofs.«01_k».proof.Proof.MidPay
public import proofs.«01_k».proof.Proof.FfnPoint
public import proofs.«01_k».proof.Proof.Gen.Kernel3Ideal.Frame
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel3Ideal.MidOut

open Cert.Kernel3Ideal Cert.Kernel3Ideal.Gen Cert.Kernel3Ideal.MidOps Cert.Kernel3Ideal.MidPay
open Cert.Kernel2Ideal.FfnPoint (canon_hit canon_miss readCov_at)

variable (m : (ℓ : Loc nD τ sig) → Buf (Elt Ideal) ℓ) (c : Dev nD) (t : Fin cfg0.N)

theorem inH (p : Fin 4) : ∀ a : Fin S32x512.rank, (![0, 128 * p.val] : Fin 2 → ℕ) a + (![32, 128] : Fin 2 → ℕ) a ≤ S32x512.size a := by
  revert p; decide
theorem inT (p : Fin 4) : ∀ a : Fin S512x512.rank, (![0, 128 * p.val] : Fin 2 → ℕ) a + (![512, 128] : Fin 2 → ℕ) a ≤ S512x512.size a := by
  revert p; decide
theorem inB (p : Fin 4) : ∀ a : Fin S8x512.rank, (![0, 128 * p.val] : Fin 2 → ℕ) a + (![1, 128] : Fin 2 → ℕ) a ≤ S8x512.size a := by
  revert p; decide
theorem inK (p : Fin 4) (k : Fin 31) : ∀ a : Fin S32x512.rank, (![k.val, 128 * p.val] : Fin 2 → ℕ) a + (![1, 128] : Fin 2 → ℕ) a ≤ S32x512.size a := by
  revert p k; decide
theorem inV (r : Fin 8) : ∀ a : Fin S8x512.rank, (![r.val, 0] : Fin 2 → ℕ) a + (![1, 512] : Fin 2 → ℕ) a ≤ S8x512.size a := by
  revert r; decide
theorem inR (r : Fin 16) : ∀ a : Fin S16x1024.rank, (![r.val, 0] : Fin 2 → ℕ) a + (![1, 1024] : Fin 2 → ℕ) a ≤ S16x1024.size a := by
  revert r; decide
theorem inZ (p : Fin 2) : ∀ a : Fin S512x1024.rank, (![0, 512 * p.val] : Fin 2 → ℕ) a + (![512, 512] : Fin 2 → ℕ) a ≤ S512x1024.size a := by
  revert p; decide
theorem inW (h : Fin 8) : ∀ a : Fin S1x8x128x128.rank, (![0, h.val, 0, 0] : Fin 4 → ℕ) a + (![1, 1, 128, 128] : Fin 4 → ℕ) a ≤ S1x8x128x128.size a := by
  revert h; decide
theorem inD (j : Fin 4) : ∀ a : Fin S128x512.rank, (![0, 128 * j.val] : Fin 2 → ℕ) a + (![128, 128] : Fin 2 → ℕ) a ≤ S128x512.size a := by
  revert j; decide
theorem inP (a j : Fin 4) : ∀ b : Fin S512x512.rank, (![128 * a.val, 128 * j.val] : Fin 2 → ℕ) b + (![128, 128] : Fin 2 → ℕ) b ≤ S512x512.size b := by
  revert a j; decide

/-- The last rows of the tile before, 128 columns. -/
def ldH (p : Fin 4) : FVec Ideal S32x128 .f32 := fun i => View.ld (Val := Elt Ideal) (e' := .f32) (iblk m c 1 t) (Rect.unit (s := S32x512) ![0, 128 * p.val] ![32, 128] (inH p)) i
/-- The tile, 128 columns. -/
def ldT (p : Fin 4) : FVec Ideal S512x128 .f32 := fun i => View.ld (Val := Elt Ideal) (e' := .f32) (iblk m c 0 t) (Rect.unit (s := S512x512) ![0, 128 * p.val] ![512, 128] (inT p)) i
/-- The convolution's bias, 128 columns. -/
def ldB (p : Fin 4) : FVec Ideal S1x128 .f32 := fun i => View.ld (Val := Elt Ideal) (e' := .f32) (iblk m c 5 t) (Rect.unit (s := S8x512) ![0, 128 * p.val] ![1, 128] (inB p)) i
/-- A tap, 128 columns. -/
def ldK (p : Fin 4) (k : Fin 31) : FVec Ideal S1x128 .f32 := fun i => View.ld (Val := Elt Ideal) (e' := .f32) (iblk m c 6 t) (Rect.unit (s := S32x512) ![k.val, 128 * p.val] ![1, 128] (inK p k)) i
/-- A row of the norms' vectors. -/
def ldV (r : Fin 8) : FVec Ideal S1x512 .f32 := fun i => View.ld (Val := Elt Ideal) (e' := .f32) (iblk m c 5 t) (Rect.unit (s := S8x512) ![r.val, 0] ![1, 512] (inV r)) i
/-- A row of the layer's vectors. -/
def ldR (r : Fin 16) : FVec Ideal S1x1024 .f32 := fun i => View.ld (Val := Elt Ideal) (e' := .f32) (iblk m c 4 t) (Rect.unit (s := S16x1024) ![r.val, 0] ![1, 1024] (inR r)) i
/-- A half of the mixed columns' arguments. -/
def ldZ (p : Fin 2) : FVec Ideal S512x512 .f32 := fun i => View.ld (Val := Elt Ideal) (e' := .f32) (iblk m c 2 t) (Rect.unit (s := S512x1024) ![0, 512 * p.val] ![512, 512] (inZ p)) i
/-- A head's matrix. -/
def ldW (h : Fin 8) : FVec Ideal S1x1x128x128 .f32 := fun i => View.ld (Val := Elt Ideal) (e' := .f32) (iblk m c 7 t) (Rect.unit (s := S1x8x128x128) ![0, h.val, 0, 0] ![1, 1, 128, 128] (inW h)) i
/-- The biases of two heads. -/
def ldD (j : Fin 4) : FVec Ideal S128x128 .f32 := fun i => View.ld (Val := Elt Ideal) (e' := .f32) (iblk m c 8 t) (Rect.unit (s := S128x512) ![0, 128 * j.val] ![128, 128] (inD j)) i

/-- The store of 128 columns of the convolution. -/
def cpc (p : Fin 4) : View.Piece (Elt Ideal) S512x512 .f32 :=
  ⟨Rect.unit (s := S512x512) ![0, 128 * p.val] ![512, 128] (inT p), cblk (k0_pay2 (F := Ideal) (grid0.coords t) (ldH m c t p) (ldT m c t p)) (ldB m c t p) (ldK m c t p)⟩

/-- The convolution, read back. -/
def CV : FVec Ideal S512x512 .f32 := fun i => View.readCov (Val := Elt Ideal) (View.whole cc0_scratch0) [cpc m c t 3, cpc m c t 2, cpc m c t 1, cpc m c t 0]
  (Rect.unit (s := S512x512) ![0, 0] ![512, 512] inb_S512x512_S512x512_0_0).toLoadRect i

theorem out_xh : (outsAt0 m c t).1 = k0_pay55 (F := Ideal) (CV m c t) := by
  unfold outsAt0
  frame_out
  rfl

/-- The gate of the second half. -/
def GU : FVec Ideal S512x512 .f32 := k0_pay59 (F := Ideal) (ldZ m c t 0)
/-- The gate of what is mixed. -/
def GV : FVec Ideal S512x512 .f32 := k0_pay66 (F := Ideal) (ldZ m c t 1)
/-- Its layer norm. -/
def GN : FVec Ideal S512x512 .bf16 := k0_pay72 (F := Ideal) (GV m c t) (ldV m c t 3) (ldV m c t 4)

/-- The store of 128 rows and columns of the mixed rows. -/
def spc (a j : Fin 4) : View.Piece (Elt Ideal) S512x512 .f32 :=
  ⟨Rect.unit (s := S512x512) ![128 * a.val, 128 * j.val] ![128, 128] (inP a j),
    blk (GN m c t) (M (ldW m c t ⟨2 * j.val, by omega⟩)) (M (ldW m c t ⟨2 * j.val + 1, by omega⟩)) (ldD m c t j) a j⟩

/-- The stores of 128 rows, the last one first. -/
def rowpcs (a : Fin 4) (L : List (View.Piece (Elt Ideal) S512x512 .f32)) : List (View.Piece (Elt Ideal) S512x512 .f32) :=
  spc m c t a 3 :: spc m c t a 2 :: spc m c t a 1 :: spc m c t a 0 :: L

/-- All stores of the mixed rows. -/
def spcs : List (View.Piece (Elt Ideal) S512x512 .f32) := rowpcs m c t 3 (rowpcs m c t 2 (rowpcs m c t 1 (rowpcs m c t 0 [])))

/-- The mixed rows, read back. -/
def SP : FVec Ideal S512x512 .f32 := fun i => View.readCov (Val := Elt Ideal) (ms0_11 t).view (spcs m c t)
  (Rect.unit (s := S512x512) ![0, 0] ![512, 512] inb_S512x512_S512x512_0_0).toLoadRect i

/-- The first half of the joined columns. -/
def AA : FVec Ideal S512x512 .f32 := k0_pay57 (F := Ideal) (k0_pay56 (F := Ideal) (CV m c t) (ldV m c t 1)) (ldV m c t 2)
/-- The joined columns. -/
def YY : FVec Ideal S512x1024 .bf16 := k0_pay105 (F := Ideal) (AA m c t) (GU m c t) (SP m c t) (ldR m c t 8)

theorem out_gu : (outsAt0 m c t).2.2.2.2.2.1 = GU m c t := by
  unfold outsAt0
  frame_out
  rfl

theorem out_vh : (outsAt0 m c t).2.2.2.2.2.2.2.1 = k0_pay70 (F := Ideal) (GV m c t) := by
  unfold outsAt0
  frame_out
  rfl

theorem out_sp : (outsAt0 m c t).2.1 = fun i => View.canon (spcs m c t) i := by
  unfold outsAt0
  frame_out
  rfl

theorem out_o1 : (outsAt0 m c t).2.2.2.1 = k0_pay106 (F := Ideal) (YY m c t) (iblk m c 9 t) := by
  unfold outsAt0
  frame_out
  rfl

theorem out_x2 : (outsAt0 m c t).2.2.1 = k0_pay107 (F := Ideal) (YY m c t) (iblk m c 9 t) (iblk m c 3 t) (ldR m c t 3) := by
  unfold outsAt0
  frame_out
  rfl

theorem out_h2 : (outsAt0 m c t).2.2.2.2.1
    = k0_pay108 (F := Ideal) (YY m c t) (iblk m c 9 t) (iblk m c 3 t) (ldR m c t 3) (ldR m c t 4) (ldR m c t 6) (ldR m c t 5) := by
  unfold outsAt0
  frame_out
  rfl

end Cert.Kernel3Ideal.MidOut

end
-- ==== Proof.MidPoint.lean ====
/- What the results of the call `fwd_mid` are after a grid point, and after the run, in the arguments. -/
module

public import proofs.«01_k».proof.Proof.MidOut

@[expose] public section

set_option maxRecDepth 16384

noncomputable section

open Idealize.ShloMosaic Idealize.ShloMosaic.TcCoe Idealize.SL.Sem
open Idealize.ShloMosaic.Pipeline (Dat)

namespace Cert.Kernel3Ideal.MidPoint

open Cert.Kernel3Ideal Cert.Kernel3Ideal.Gen Cert.Kernel3Ideal.MidOps Cert.Kernel3Ideal.MidPay Cert.Kernel3Ideal.MidOut
open Cert.Kernel2Ideal.FfnPoint (canon_hit canon_miss readCov_at)

variable (m : (ℓ : Loc nD τ sig) → Buf (Elt Ideal) ℓ) (c : Dev nD) (t : Fin cfg0.N)

/-- A column of a block of 128 columns. -/
def pc (p : Fin 4) (k : Fin 128) : Fin 512 := ⟨128 * p.val + k.val, by omega⟩

theorem pc_surj (q : Fin 512) : ∃ p k, q = pc p k :=
  ⟨⟨q.val / 128, by omega⟩, ⟨q.val % 128, by omega⟩, Fin.ext (by show q.val = 128 * (q.val / 128) + q.val % 128; omega)⟩

theorem coord_val : ∀ t : Fin cfg0.N, (grid0.coords t 0).val = t.val :=
  (by decide +kernel : ∀ t : Fin grid0.N, _)

/-! ## The loads -/

theorem ldH_at (p : Fin 4) (x : Fin 32) (k : Fin 128) : (ldH m c t p (ix2 x k) : EReal) = (iblk m c 1 t : S32x512.Idx → EReal) (ix2 x (pc p k)) :=
  View.ld_unit_apply_of _ _ _ _ _ (ix2 x (pc p k)) (by intro a; fin_cases a <;> simp [pc])
theorem ldT_at (p : Fin 4) (x : Fin 512) (k : Fin 128) : (ldT m c t p (ix2 x k) : EReal) = (inp m c).a0 (row t x) (pc p k) :=
  (View.ld_unit_apply_of _ _ _ _ _ (ix2 x (pc p k)) (by intro a; fin_cases a <;> simp [pc])).trans (b0 m c t x (pc p k))
theorem ldB_at (p : Fin 4) (k : Fin 128) : (ldB m c t p (ix2 0 k) : EReal) = (inp m c).cb (pc p k) :=
  (View.ld_unit_apply_of _ _ _ _ _ (ix2 0 (pc p k)) (by intro a; fin_cases a <;> simp [pc])).trans ((b5 m c t 0 (pc p k)).trans (V_v7_0 m c _))
theorem ldK_at (p : Fin 4) (i : Fin 31) (k : Fin 128) : (ldK m c t p i (ix2 0 k) : EReal) = (inp m c).cw i (pc p k) :=
  (View.ld_unit_apply_of _ _ _ _ _ (ix2 (⟨i.val, by omega⟩ : Fin 32) (pc p k)) (by intro a; fin_cases a <;> simp [pc])).trans (b6 m c t i (pc p k))
theorem ldV_at (r : Fin 8) (q : Fin 512) : (ldV m c t r (ix2 0 q) : EReal) = (V m c main_v7 : FVec Ideal S8x512 .f32) (ix2 r q) :=
  (View.ld_unit_apply_of _ _ _ _ _ (ix2 r q) (by intro a; fin_cases a <;> simp)).trans (b5 m c t r q)
theorem ldR_at (r : Fin 16) (d : Fin 1024) : (ldR m c t r (ix2 0 d) : EReal) = (V m c main_v5 : FVec Ideal S16x1024 .f32) (ix2 r d) :=
  (View.ld_unit_apply_of _ _ _ _ _ (ix2 r d) (by intro a; fin_cases a <;> simp)).trans (b4 m c t r d)
theorem ldZ_at (p : Fin 2) (x q : Fin 512) : (ldZ m c t p (ix2 x q) : EReal) = (inp m c).z (row t x) ⟨1024 + (512 * p.val + q.val), by omega⟩ :=
  (View.ld_unit_apply_of _ _ _ _ _ (ix2 x (⟨512 * p.val + q.val, by omega⟩ : Fin 1024)) (by intro a; fin_cases a <;> simp)).trans (b2 m c t x _)
theorem ldW_at (h : Fin 8) (x s : Fin 128) : (ldW m c t h (ix4 0 0 x s) : EReal) = (inp m c).ws h x s :=
  (View.ld_unit_apply_of _ _ _ _ _ (ix4 0 h x s) (by intro a; fin_cases a <;> simp)).trans (b7 m c t h x s)
theorem ldD_at (j : Fin 4) (x k : Fin 128) : (ldD m c t j (ix2 x k) : EReal) = (inp m c).bs (Mid.headOf (pc j k)) x :=
  (View.ld_unit_apply_of _ _ _ _ _ (ix2 x (pc j k)) (by intro a; fin_cases a <;> simp [pc])).trans (b8 m c t x (pc j k))

/-! ## The convolution -/

/-- The rows that the taps meet are the rows above, or zeros. -/
theorem rows_at (p : Fin 4) (x : Fin 512) (i : Fin 31) (k : Fin 128) :
    (k0_pay2 (F := Ideal) (grid0.coords t) (ldH m c t p) (ldT m c t p) (ix2 ⟨x.val + 2 + i.val, by omega⟩ k) : EReal)
      = (inp m c).tap (row t x) i (pc p k) := by
  have ht : t.val < 16 := t.isLt
  have hr : (row t x).val = 512 * t.val + x.val := rfl
  rw [pay2_at, coord_val]
  unfold Mid.In.tap
  by_cases h : x.val + 2 + i.val < 32
  · rw [dif_pos h]
    by_cases h0 : 0 < t.val
    · rw [if_pos h0, dif_neg (show ¬ (row t x).val + i.val < 30 by rw [hr]; omega), ldH_at, b1 m c t h0]
      refine congrArg (fun n => (inp m c).a0 n (pc p k)) (Fin.ext ?_)
      show 512 * t.val - 32 + (x.val + 2 + i.val) = 512 * t.val + x.val + i.val - 30
      omega
    · rw [if_neg h0, dif_pos (show (row t x).val + i.val < 30 by rw [hr]; omega)]
  · rw [dif_neg h, dif_neg (show ¬ (row t x).val + i.val < 30 by rw [hr]; omega), ldT_at]
    refine congrArg (fun n => (inp m c).a0 n (pc p k)) (Fin.ext ?_)
    show 512 * t.val + (x.val + 2 + i.val - 32) = 512 * t.val + x.val + i.val - 30
    omega

/-- What a store of the convolution leaves. -/
theorem cpc_at (p0 p : Fin 4) (L : List (View.Piece (Elt Ideal) S512x512 .f32)) (x : Fin 512) (k : Fin 128) :
    (View.canon (cpc m c t p0 :: L) (ix2 x (pc p k)) : EReal) = if p = p0 then (inp m c).conv (row t x) (pc p k) else View.canon L (ix2 x (pc p k)) := by
  by_cases h : p = p0
  · subst h
    rw [if_pos rfl]
    refine (canon_hit (Val := Elt Ideal) (S := S512x512) (e := .f32) (off := ![0, 128 * p.val]) (size := ![512, 128]) (inT p)
      (cblk (k0_pay2 (F := Ideal) (grid0.coords t) (ldH m c t p) (ldT m c t p)) (ldB m c t p) (ldK m c t p)) L (ix2 x (pc p k)) (ix2 x k) ?_).trans ?_
    · intro a; fin_cases a <;> simp [pc]
    · refine (cblk_at _ _ _ x k).trans ?_
      rw [ldB_at]
      refine congrArg ((inp m c).cb (pc p k) + ·) (Finset.sum_congr rfl fun i _ => ?_)
      rw [rows_at, ldK_at, mul_comm]
  · rw [if_neg h]
    refine canon_miss (Val := Elt Ideal) (S := S512x512) (e := .f32) (off := ![0, 128 * p0.val]) (size := ![512, 128]) (inT p0)
      (cblk (k0_pay2 (F := Ideal) (grid0.coords t) (ldH m c t p0) (ldT m c t p0)) (ldB m c t p0) (ldK m c t p0)) L (ix2 x (pc p k)) (1 : Fin 2) ?_
    show 128 * p.val + k.val < 128 * p0.val ∨ 128 * p0.val + 128 ≤ 128 * p.val + k.val
    have : p.val ≠ p0.val := fun e => h (Fin.ext e)
    omega

theorem CV_at (x q : Fin 512) : (CV m c t (ix2 x q) : EReal) = (inp m c).conv (row t x) q := by
  obtain ⟨p, k, rfl⟩ := pc_surj q
  refine (readCov_at _ _ (ix2 x (pc p k) : S512x512.Idx) _ (ix2 x (pc p k)) (by intro a; fin_cases a <;> simp)).trans ?_
  rw [cpc_at, cpc_at, cpc_at, cpc_at]
  fin_cases p <;> rfl

theorem xh_at (x q : Fin 512) : (k0_pay55 (F := Ideal) (CV m c t) (ix2 x q) : EReal) = (inp m c).xh (row t x) q := by
  rw [pay55_at]
  simp only [CV_at]
  rfl

theorem AA_at (x q : Fin 512) : (AA m c t (ix2 x q) : EReal) = (inp m c).a (row t x) q := by
  refine (pay57_at _ _ _ x q).trans ?_
  rw [xh_at, ldV_at, ldV_at, V_v7_1, V_v7_2]
  rfl

/-! ## The gates and the mixing -/

theorem GU_at (x q : Fin 512) : (GU m c t (ix2 x q) : EReal) = (inp m c).gu (row t x) q := by
  refine (pay59_at _ x q).trans ?_
  rw [ldZ_at]
  refine congrArg (fun j => Mid.gelu ((inp m c).z (row t x) j)) (Fin.ext ?_)
  show 1024 + (512 * 0 + q.val) = 1024 + q.val
  omega

theorem GV_at (x q : Fin 512) : (GV m c t (ix2 x q) : EReal) = (inp m c).gv (row t x) q := by
  refine (pay66_at _ x q).trans ?_
  rw [ldZ_at]
  refine congrArg (fun j => Mid.gelu ((inp m c).z (row t x) j)) (Fin.ext ?_)
  show 1024 + (512 * 1 + q.val) = 1536 + q.val
  omega

theorem vh_at (x q : Fin 512) : (k0_pay70 (F := Ideal) (GV m c t) (ix2 x q) : EReal) = (inp m c).vh (row t x) q := by
  rw [pay70_at]
  simp only [GV_at]
  rfl

theorem GN_at (x q : Fin 512) : (GN m c t (ix2 x q) : EReal) = (inp m c).vn (row t x) q := by
  refine (pay72_at _ _ _ x q).trans ?_
  rw [vh_at, ldV_at, ldV_at, V_v7_3, V_v7_4]
  rfl

theorem blk_sp (a j : Fin 4) (x k : Fin 128) :
    (blk (GN m c t) (M (ldW m c t ⟨2 * j.val, by omega⟩)) (M (ldW m c t ⟨2 * j.val + 1, by omega⟩)) (ldD m c t j) a j (ix2 x k) : EReal)
      = (inp m c).sp (row t (pc a x)) (pc j k) := by
  have ht : t.val < 16 := t.isLt
  have hc : Mid.inChunk (row t (pc a x)) = x := Fin.ext (by
    show (512 * t.val + (128 * a.val + x.val)) % 128 = x.val
    omega)
  refine (blk_at _ _ _ _ a j x k).trans ?_
  unfold Mid.In.sp
  rw [hc, ldD_at]
  refine congrArg (· + (inp m c).bs (Mid.headOf (pc j k)) x) (Finset.sum_congr rfl fun s _ => congrArg₂ (· * ·) ?_ ?_)
  · rw [M_at, M_at, ldW_at, ldW_at]
    unfold Mid.In.mix
    by_cases h : k.val < 64
    · rw [if_pos h, show Mid.headOf (pc j k) = ⟨2 * j.val, by omega⟩ from Fin.ext (by show (128 * j.val + k.val) / 64 = 2 * j.val; omega)]
    · rw [if_neg h, show Mid.headOf (pc j k) = ⟨2 * j.val + 1, by omega⟩ from Fin.ext (by show (128 * j.val + k.val) / 64 = 2 * j.val + 1; omega)]
  · refine (GN_at m c t (pc a s) (pc j k)).trans (congrArg (fun n => (inp m c).vn n (pc j k)) (Fin.ext ?_))
    show 512 * t.val + (128 * a.val + s.val) = (512 * t.val + (128 * a.val + x.val)) / 128 * 128 + s.val
    omega

/-- What a store of the mixed rows leaves. -/
theorem spc_at (a0 j0 a j : Fin 4) (L : List (View.Piece (Elt Ideal) S512x512 .f32)) (x k : Fin 128) :
    (View.canon (spc m c t a0 j0 :: L) (ix2 (pc a x) (pc j k)) : EReal)
      = if a = a0 ∧ j = j0 then (inp m c).sp (row t (pc a x)) (pc j k) else View.canon L (ix2 (pc a x) (pc j k)) := by
  by_cases h : a = a0 ∧ j = j0
  · rw [if_pos h]
    obtain ⟨rfl, rfl⟩ := h
    refine (canon_hit (Val := Elt Ideal) (S := S512x512) (e := .f32) (off := ![128 * a.val, 128 * j.val]) (size := ![128, 128]) (inP a j)
      (blk (GN m c t) (M (ldW m c t ⟨2 * j.val, by omega⟩)) (M (ldW m c t ⟨2 * j.val + 1, by omega⟩)) (ldD m c t j) a j) L
      (ix2 (pc a x) (pc j k)) (ix2 x k) ?_).trans (blk_sp m c t a j x k)
    intro b; fin_cases b <;> simp [pc]
  · rw [if_neg h]
    by_cases ha : a = a0
    · refine canon_miss (Val := Elt Ideal) (S := S512x512) (e := .f32) (off := ![128 * a0.val, 128 * j0.val]) (size := ![128, 128]) (inP a0 j0)
        (blk (GN m c t) (M (ldW m c t ⟨2 * j0.val, by omega⟩)) (M (ldW m c t ⟨2 * j0.val + 1, by omega⟩)) (ldD m c t j0) a0 j0) L
        (ix2 (pc a x) (pc j k)) (1 : Fin 2) ?_
      show 128 * j.val + k.val < 128 * j0.val ∨ 128 * j0.val + 128 ≤ 128 * j.val + k.val
      have : j.val ≠ j0.val := fun e => h ⟨ha, Fin.ext e⟩
      omega
    · refine canon_miss (Val := Elt Ideal) (S := S512x512) (e := .f32) (off := ![128 * a0.val, 128 * j0.val]) (size := ![128, 128]) (inP a0 j0)
        (blk (GN m c t) (M (ldW m c t ⟨2 * j0.val, by omega⟩)) (M (ldW m c t ⟨2 * j0.val + 1, by omega⟩)) (ldD m c t j0) a0 j0) L
        (ix2 (pc a x) (pc j k)) (0 : Fin 2) ?_
      show 128 * a.val + x.val < 128 * a0.val ∨ 128 * a0.val + 128 ≤ 128 * a.val + x.val
      have : a.val ≠ a0.val := fun e => ha (Fin.ext e)
      omega

theorem sp_at (x q : Fin 512) : (View.canon (spcs m c t) (ix2 x q) : EReal) = (inp m c).sp (row t x) q := by
  obtain ⟨a, x, rfl⟩ := pc_surj x
  obtain ⟨j, k, rfl⟩ := pc_surj q
  unfold spcs rowpcs
  simp only [spc_at]
  fin_cases a <;> fin_cases j <;> rfl

theorem SP_at (x q : Fin 512) : (SP m c t (ix2 x q) : EReal) = (inp m c).sp (row t x) q :=
  (readCov_at _ _ (ix2 x q : S512x512.Idx) _ (ix2 x q) (by intro a; fin_cases a <;> simp)).trans (sp_at m c t x q)

/-! ## The joined columns, the product and the norm after it -/

theorem YY_at (x : Fin 512) (j : Fin 1024) : (YY m c t (ix2 x j) : EReal) = (inp m c).y (row t x) j := by
  refine (pay105_at _ _ _ _ x j).trans ?_
  simp only [AA_at, GU_at, SP_at, (ldR_at m c t 8 j).trans (V_v5_8 m c j)]
  rfl

theorem o1_at (x : Fin 512) (d : Fin 1024) : (k0_pay106 (F := Ideal) (YY m c t) (iblk m c 9 t) (ix2 x d) : EReal) = (inp m c).o1 (row t x) d := by
  refine (pay106_at _ _ x d).trans ?_
  exact Finset.sum_congr rfl fun j _ => congrArg₂ (· * ·) (YY_at m c t x j) (b9 m c t j d)

theorem x2_at (x : Fin 512) (d : Fin 1024) :
    (k0_pay107 (F := Ideal) (YY m c t) (iblk m c 9 t) (iblk m c 3 t) (ldR m c t 3) (ix2 x d) : EReal) = (inp m c).x2 (row t x) d := by
  refine (pay107_at _ _ _ _ x d).trans ?_
  rw [o1_at, ldR_at, V_v5_3]
  exact congrArg (· + (inp m c).gt d * (inp m c).o1 (row t x) d) (b3 m c t x d)

theorem h2_at (x : Fin 512) (d : Fin 1024) :
    (k0_pay108 (F := Ideal) (YY m c t) (iblk m c 9 t) (iblk m c 3 t) (ldR m c t 3) (ldR m c t 4) (ldR m c t 6) (ldR m c t 5) (ix2 x d) : EReal)
      = (inp m c).h2 (row t x) d := by
  refine (pay108_at _ _ _ _ _ _ _ x d).trans ?_
  simp only [x2_at, (ldR_at m c t 4 d).trans (V_v5_4 m c d), (ldR_at m c t 5 d).trans (V_v5_5 m c d), (ldR_at m c t 6 d).trans (V_v5_6 m c d)]
  rfl

/-! ## The arrays after the run -/

theorem final10 : (dats m 0 c).arrAt 10 (cfgs 0).N = fun y : S8192x512.Idx => (inp m c).xh (y 0) (y 1) := by
  refine (dats m 0 c).arrAt_eq_of_covers 10 _ (by decide +kernel) fun t hf y => ?_
  blk_simp
  rw [after0_10, out_xh]
  obtain ⟨x, d, rfl⟩ : ∃ (x : Fin 512) (d : Fin 512), y = ix2 x d := ⟨y 0, y 1, eq_ix2 y⟩
  refine (xh_at m c t x d).trans ?_
  congr 1
  all_goals refine Fin.ext ?_
  all_goals blk_simp [idx_val t]
  all_goals simp only [row]
  all_goals omega

theorem final11 : (dats m 0 c).arrAt 11 (cfgs 0).N = fun y : S8192x512.Idx => (inp m c).sp (y 0) (y 1) := by
  refine (dats m 0 c).arrAt_eq_of_covers 11 _ (by decide +kernel) fun t hf y => ?_
  blk_simp
  rw [after0_11, out_sp]
  obtain ⟨x, d, rfl⟩ : ∃ (x : Fin 512) (d : Fin 512), y = ix2 x d := ⟨y 0, y 1, eq_ix2 y⟩
  refine (sp_at m c t x d).trans ?_
  congr 1
  all_goals refine Fin.ext ?_
  all_goals blk_simp [idx_val t]
  all_goals simp only [row]
  all_goals omega

theorem final12 : (dats m 0 c).arrAt 12 (cfgs 0).N = fun y : S8192x1024.Idx => (inp m c).x2 (y 0) (y 1) := by
  refine (dats m 0 c).arrAt_eq_of_covers 12 _ (by decide +kernel) fun t hf y => ?_
  blk_simp
  rw [after0_12, out_x2]
  obtain ⟨x, d, rfl⟩ : ∃ (x : Fin 512) (d : Fin 1024), y = ix2 x d := ⟨y 0, y 1, eq_ix2 y⟩
  refine (x2_at m c t x d).trans ?_
  congr 1
  all_goals refine Fin.ext ?_
  all_goals blk_simp [idx_val t]
  all_goals simp only [row]
  all_goals omega

theorem final13 : (dats m 0 c).arrAt 13 (cfgs 0).N = fun y : S8192x1024.Idx => (inp m c).o1 (y 0) (y 1) := by
  refine (dats m 0 c).arrAt_eq_of_covers 13 _ (by decide +kernel) fun t hf y => ?_
  blk_simp
  rw [after0_13, out_o1]
  obtain ⟨x, d, rfl⟩ : ∃ (x : Fin 512) (d : Fin 1024), y = ix2 x d := ⟨y 0, y 1, eq_ix2 y⟩
  refine (o1_at m c t x d).trans ?_
  congr 1
  all_goals refine Fin.ext ?_
  all_goals blk_simp [idx_val t]
  all_goals simp only [row]
  all_goals omega

theorem final14 : (dats m 0 c).arrAt 14 (cfgs 0).N = fun y : S8192x1024.Idx => (inp m c).h2 (y 0) (y 1) := by
  refine (dats m 0 c).arrAt_eq_of_covers 14 _ (by decide +kernel) fun t hf y => ?_
  blk_simp
  rw [after0_14, out_h2]
  obtain ⟨x, d, rfl⟩ : ∃ (x : Fin 512) (d : Fin 1024), y = ix2 x d := ⟨y 0, y 1, eq_ix2 y⟩
  refine (h2_at m c t x d).trans ?_
  congr 1
  all_goals refine Fin.ext ?_
  all_goals blk_simp [idx_val t]
  all_goals simp only [row]
  all_goals omega

theorem final15 : (dats m 0 c).arrAt 15 (cfgs 0).N = fun y : S8192x512.Idx => (inp m c).gu (y 0) (y 1) := by
  refine (dats m 0 c).arrAt_eq_of_covers 15 _ (by decide +kernel) fun t hf y => ?_
  blk_simp
  rw [after0_15, out_gu]
  obtain ⟨x, d, rfl⟩ : ∃ (x : Fin 512) (d : Fin 512), y = ix2 x d := ⟨y 0, y 1, eq_ix2 y⟩
  refine (GU_at m c t x d).trans ?_
  congr 1
  all_goals refine Fin.ext ?_
  all_goals blk_simp [idx_val t]
  all_goals simp only [row]
  all_goals omega

theorem final17 : (dats m 0 c).arrAt 17 (cfgs 0).N = fun y : S8192x512.Idx => (inp m c).vh (y 0) (y 1) := by
  refine (dats m 0 c).arrAt_eq_of_covers 17 _ (by decide +kernel) fun t hf y => ?_
  blk_simp
  rw [after0_17, out_vh]
  obtain ⟨x, d, rfl⟩ : ∃ (x : Fin 512) (d : Fin 512), y = ix2 x d := ⟨y 0, y 1, eq_ix2 y⟩
  refine (vh_at m c t x d).trans ?_
  congr 1
  all_goals refine Fin.ext ?_
  all_goals blk_simp [idx_val t]
  all_goals simp only [row]
  all_goals omega

end Cert.Kernel3Ideal.MidPoint

end
-- ==== Proof.Mid.lean ====
/- The pair of the call `fwd_mid`: the convolution's layer norm, the mixed rows and their gates, the layer's product, the rows
   after the layer and the input of the layer that follows are the reference's. -/
module

public import proofs.«01_k».proof.Defs
public import proofs.«01_k».proof.Proof.MidRefAt
public import proofs.«01_k».proof.Proof.MidPoint
public import proofs.«01_k».proof.Proof.Gen.Kernel3Ideal.Value
public import Idealize.ShloMosaic.Lib.Claim

@[expose] public section

set_option maxRecDepth 16384

noncomputable section

open Idealize.ShloMosaic Idealize.ShloMosaic.TcCoe Idealize.SL.Sem

namespace Cert.Mid

/-- The two memories hold the same arguments. -/
theorem inp_eq (m : (ℓ : Loc Kernel3Ideal.nD Kernel3Ideal.τ Kernel3Ideal.sig) → Buf (Elt Ideal) ℓ)
    (m' : (ℓ : Loc Reference3Ideal.nD Reference3Ideal.τ Reference3Ideal.sig) → Buf (Elt Ideal) ℓ) (c : Dev Kernel3Ideal.nD)
    (a0 : m' (c.tc.loc Reference3Ideal.main_arg0) = m (c.tc.loc Kernel3Ideal.main_arg0))
    (a1 : m' (c.tc.loc Reference3Ideal.main_arg1) = m (c.tc.loc Kernel3Ideal.main_arg1))
    (a2 : m' (c.tc.loc Reference3Ideal.main_arg2) = m (c.tc.loc Kernel3Ideal.main_arg2))
    (a3 : m' (c.tc.loc Reference3Ideal.main_arg3) = m (c.tc.loc Kernel3Ideal.main_arg3))
    (a4 : m' (c.tc.loc Reference3Ideal.main_arg4) = m (c.tc.loc Kernel3Ideal.main_arg4))
    (a5 : m' (c.tc.loc Reference3Ideal.main_arg5) = m (c.tc.loc Kernel3Ideal.main_arg5))
    (a6 : m' (c.tc.loc Reference3Ideal.main_arg6) = m (c.tc.loc Kernel3Ideal.main_arg6))
    (a7 : m' (c.tc.loc Reference3Ideal.main_arg7) = m (c.tc.loc Kernel3Ideal.main_arg7))
    (a8 : m' (c.tc.loc Reference3Ideal.main_arg8) = m (c.tc.loc Kernel3Ideal.main_arg8))
    (a9 : m' (c.tc.loc Reference3Ideal.main_arg9) = m (c.tc.loc Kernel3Ideal.main_arg9))
    (a10 : m' (c.tc.loc Reference3Ideal.main_arg10) = m (c.tc.loc Kernel3Ideal.main_arg10))
    (a11 : m' (c.tc.loc Reference3Ideal.main_arg11) = m (c.tc.loc Kernel3Ideal.main_arg11))
    (a12 : m' (c.tc.loc Reference3Ideal.main_arg12) = m (c.tc.loc Kernel3Ideal.main_arg12))
    (a13 : m' (c.tc.loc Reference3Ideal.main_arg13) = m (c.tc.loc Kernel3Ideal.main_arg13))
    (a14 : m' (c.tc.loc Reference3Ideal.main_arg14) = m (c.tc.loc Kernel3Ideal.main_arg14))
    (a15 : m' (c.tc.loc Reference3Ideal.main_arg15) = m (c.tc.loc Kernel3Ideal.main_arg15)) :
    Reference3Ideal.MidRef.inp (StableHlo.launchContents m' c) = Kernel3Ideal.MidOps.inp m c := by
  unfold Kernel3Ideal.MidOps.inp
  rw [← a0, ← a1, ← a2, ← a3, ← a4, ← a5, ← a6, ← a7, ← a8, ← a9, ← a10, ← a11, ← a12, ← a13, ← a14, ← a15]
  rfl

/-- Two arrays that hold equal functions of row and column are equal. -/
theorem at_all {p q : ℕ} (A B : (⟨2, ![p, q]⟩ : Shape).Idx → EReal) {f g : Fin p → Fin q → EReal} (hA : ∀ n d, A (ix2 n d) = f n d)
    (hB : B = fun y => g (y 0) (y 1)) (h : f = g) : A = B := by
  subst hB h
  funext y
  exact (congrArg A (eq_ix2 y)).trans (hA _ _)

set_option maxHeartbeats 1000000 in
/-- The seven results are the reference's. -/
theorem algebraic : Cert.algebraic_Kernel3Ideal_Reference3Ideal := by
  intro m g m' g' hpre hagree
  refine ⟨fun c => (Kernel3Ideal.Gen.dats m 0 c).arrAt 10 (Kernel3Ideal.cfgs 0).N,
    fun c => (Kernel3Ideal.Gen.dats m 0 c).arrAt 11 (Kernel3Ideal.cfgs 0).N,
    fun c => (Kernel3Ideal.Gen.dats m 0 c).arrAt 12 (Kernel3Ideal.cfgs 0).N,
    fun c => (Kernel3Ideal.Gen.dats m 0 c).arrAt 13 (Kernel3Ideal.cfgs 0).N,
    fun c => (Kernel3Ideal.Gen.dats m 0 c).arrAt 14 (Kernel3Ideal.cfgs 0).N,
    fun c => (Kernel3Ideal.Gen.dats m 0 c).arrAt 15 (Kernel3Ideal.cfgs 0).N,
    fun c => (Kernel3Ideal.Gen.dats m 0 c).arrAt 17 (Kernel3Ideal.cfgs 0).N, ?_, ?_⟩
  · refine (θ_run _ _ _).mono (fun r h c => ?_) (Cert.Kernel3Ideal.Value.run_blocks (F := Ideal) m g)
    obtain ⟨h10, h11, h12, h13, h14, h15, -, h17, -, -, -, hr⟩ := h c
    exact ⟨h10, h11, h12, h13, h14, h15, h17, hr⟩
  · refine (θ_run _ _ _).mono (fun r h c => ?_) (Cert.Reference3Ideal.Value.run (F := Ideal) m' g')
    obtain ⟨a0, a1, a2, a3, a4, a5, a6, a7, a8, a9, a10, a11, a12, a13, a14, a15⟩ := hagree c
    have hi := inp_eq m m' c a0 a1 a2 a3 a4 a5 a6 a7 a8 a9 a10 a11 a12 a13 a14 a15
    obtain ⟨h0, h1, h2, h3, h4, h5, h6, hr⟩ := h c
    refine ⟨h0.trans ?_, h1.trans ?_, h2.trans ?_, h3.trans ?_, h4.trans ?_, h5.trans ?_, h6.trans ?_, hr⟩
    · exact (Reference3Ideal.MidRef.xh_eq _).trans (at_all _ _ (Reference3Ideal.MidRef.dXh_at _) (Kernel3Ideal.MidPoint.final10 m c) (congrArg (·.xh) hi))
    · exact (Reference3Ideal.MidRef.sp_eq _).trans (at_all _ _ (Reference3Ideal.MidRef.dSp_at _) (Kernel3Ideal.MidPoint.final11 m c) (congrArg (·.sp) hi))
    · exact (Reference3Ideal.MidRef.x2_eq _).trans (at_all _ _ (Reference3Ideal.MidRef.dX_at _) (Kernel3Ideal.MidPoint.final12 m c) (congrArg (·.x2) hi))
    · exact (Reference3Ideal.MidRef.o1_eq _).trans (at_all _ _ (Reference3Ideal.MidRef.dO_at _) (Kernel3Ideal.MidPoint.final13 m c) (congrArg (·.o1) hi))
    · exact (Reference3Ideal.MidRef.h2_eq _).trans (at_all _ _ (Reference3Ideal.MidRef.dH_at _) (Kernel3Ideal.MidPoint.final14 m c) (congrArg (·.h2) hi))
    · exact (Reference3Ideal.MidRef.gu_eq _).trans (at_all _ _ (Reference3Ideal.MidRef.dGu_at _) (Kernel3Ideal.MidPoint.final15 m c) (congrArg (·.gu) hi))
    · exact (Reference3Ideal.MidRef.vh_eq _).trans (at_all _ _ (Reference3Ideal.MidRef.dVh_at _) (Kernel3Ideal.MidPoint.final17 m c) (congrArg (·.vh) hi))

/-- The reference terminates, with every argument and every counter as they were. -/
theorem frame_reference : Cert.quiescent_Reference3Ideal := fun m ρ _ =>
  (θ_run _ _ _).mono (fun r h => ⟨fun c => (h c).2.2.2.2.2.2.2, sem_eq_zero_of_no_sems (by decide) r.2⟩)
    (Cert.Reference3Ideal.Value.run (F := Ideal) m ρ)

end Cert.Mid

end
-- ==== Proof.BwdMath.lean ====
/- What the call `bwd_mid` starts with, over the extended reals: the rows after the layer from the rows before it, which are
   real numbers when the arguments are, and the gradient through the norm that follows them. -/
module

public import proofs.«01_k».proof.Proof.MidMath
public import proofs.«01_k».proof.Proof.LossReal

@[expose] public section

noncomputable section

open Idealize.ShloMosaic

namespace Cert.IsReal

theorem tanh {x : EReal} (hx : IsReal x) : IsReal (Ideal.tanh x) := by
  obtain ⟨r, rfl⟩ := hx
  exact ⟨_, Ideal.tanh_coe r⟩

theorem div {x : EReal} (hx : IsReal x) {c : ℝ} (hc : c ≠ 0) : IsReal (Ideal.div x (c : EReal)) := by
  rw [Ideal.div_coe hc]
  exact hx.mul ⟨_, rfl⟩

/-- One over the root of a mean square and a small summand. -/
theorem rsqrt_mean {N : ℕ} {f : Fin N → EReal} (hf : ∀ k, IsReal (f k)) {c e : ℝ} (hc : 0 < c) (he : 0 < e) :
    IsReal (Ideal.rsqrt (Ideal.div (∑ k, f k * f k) (c : EReal) + (e : EReal))) := by
  choose x hx using hf
  have hv : 0 < (∑ i, x i * x i) * (1 / c) + e := by
    have : 0 ≤ ∑ i, x i * x i := Finset.sum_nonneg fun i _ => mul_self_nonneg _
    positivity
  simp only [hx, ← EReal.coe_mul, Loss.coe_sum, Ideal.div_coe hc.ne', ← EReal.coe_add]
  rw [Ideal.rsqrt_coe, if_neg (not_lt.2 hv.le), if_neg hv.ne']
  exact ⟨_, rfl⟩

end Cert.IsReal

namespace Cert.Mid

theorem cH_eq : cH = ((512 : ℝ) : EReal) := by
  simp [cH, Ideal.ofBits, Ideal.ieee, -EReal.coe_mul]
  norm_num
theorem cHalf_real : IsReal cHalf := ⟨_, Loss.cHalf_eq⟩
theorem cOne_real : IsReal cOne := ⟨_, Loss.cOne_eq⟩
theorem cCube_real : IsReal cCube := by
  simp only [cCube, Ideal.ofBits, Ideal.ieee]
  simp [-EReal.coe_mul]
  exact ⟨_, rfl⟩
theorem cRoot_real : IsReal cRoot := by
  simp only [cRoot, Ideal.ofBits, Ideal.ieee]
  simp [-EReal.coe_mul]
  exact ⟨_, rfl⟩
theorem eps6_eq : ∃ e : ℝ, 0 < e ∧ eps6 = (e : EReal) := Loss.eps_eq
theorem eps5_eq : ∃ e : ℝ, 0 < e ∧ eps5 = (e : EReal) := by
  refine ⟨10995116 * (2 : ℝ) ^ (-40 : ℤ), by positivity, ?_⟩
  simp [eps5, Ideal.ofBits, Ideal.ieee, -EReal.coe_mul]

theorem real_cent {f : Fin 512 → EReal} (hf : ∀ k, IsReal (f k)) (q : Fin 512) : IsReal (cent f q) := by
  unfold cent
  rw [cH_eq]
  exact (hf q).sub ((IsReal.sum _ hf).div (by norm_num))

theorem real_ln {f : Fin 512 → EReal} (hf : ∀ k, IsReal (f k)) (q : Fin 512) : IsReal (ln f q) := by
  obtain ⟨e, he, ee⟩ := eps5_eq
  refine (real_cent hf q).mul ?_
  unfold rstd
  rw [cH_eq, ee]
  exact IsReal.rsqrt_mean (real_cent hf) (by norm_num) he

theorem real_rs {f : Fin 512 → EReal} (hf : ∀ k, IsReal (f k)) : IsReal (rs f) := by
  obtain ⟨e, he, ee⟩ := eps6_eq
  unfold rs
  rw [cH_eq, ee]
  exact IsReal.rsqrt_mean hf (by norm_num) he

theorem real_gelu {y : EReal} (hy : IsReal y) : IsReal (gelu y) :=
  (cHalf_real.mul hy).mul (cOne_real.add (cRoot_real.mul (hy.add (((cCube_real.mul hy).mul hy).mul hy))).tanh)

/-- The norm, the modulation and the product that come before the layer. -/
def pre (x : Fin 8192 → Fin 1024 → EReal) (g sh sc : Fin 1024 → EReal) (wi : Fin 1024 → Fin 2048 → EReal) (n : Fin 8192) (j : Fin 2048) : EReal :=
  ∑ d, (x n d * Ideal.rsqrt (Ideal.div (∑ e, x n e * x n e) cD + eps6) * g d * (cOne + sc d) + sh d) * wi d j

theorem real_pre {x : Fin 8192 → Fin 1024 → EReal} {g sh sc : Fin 1024 → EReal} {wi : Fin 1024 → Fin 2048 → EReal} (hx : ∀ n d, IsReal (x n d))
    (hg : ∀ d, IsReal (g d)) (hsh : ∀ d, IsReal (sh d)) (hsc : ∀ d, IsReal (sc d)) (hw : ∀ d j, IsReal (wi d j)) (n : Fin 8192) (j : Fin 2048) :
    IsReal (pre x g sh sc wi n j) := by
  obtain ⟨e, he, ee⟩ := eps6_eq
  refine IsReal.sum _ fun d => IsReal.mul (((((hx n d).mul ?_).mul (hg d)).mul (cOne_real.add (hsc d))).add (hsh d)) (hw d j)
  rw [ee, show cD = ((1024 : ℝ) : EReal) from Loss.cD_eq]
  exact IsReal.rsqrt_mean (hx n) (by norm_num) he

namespace In

variable {I : In}

/-- Every argument that the rows after the layer depend on is a real number. -/
structure Real (I : In) : Prop where
  z : ∀ n j, IsReal (I.z n j)
  x : ∀ n d, IsReal (I.x n d)
  cw : ∀ k q, IsReal (I.cw k q)
  cb : ∀ q, IsReal (I.cb q)
  clg : ∀ q, IsReal (I.clg q)
  clb : ∀ q, IsReal (I.clb q)
  glg : ∀ q, IsReal (I.glg q)
  glb : ∀ q, IsReal (I.glb q)
  ws : ∀ h t s, IsReal (I.ws h t s)
  bs : ∀ h t, IsReal (I.bs h t)
  mog : ∀ d, IsReal (I.mog d)
  wo : ∀ j d, IsReal (I.wo j d)
  gt : ∀ d, IsReal (I.gt d)

theorem Real.conv (h : I.Real) (n : Fin 8192) (q : Fin 512) : IsReal (I.conv n q) := by
  refine (h.cb q).add (IsReal.sum _ fun k => (h.cw k q).mul ?_)
  unfold tap
  split
  · exact IsReal.zero
  · exact (h.z _ _).mul (h.z _ _).logistic

theorem Real.a (h : I.Real) (n : Fin 8192) (q : Fin 512) : IsReal (I.a n q) := by
  have hs : IsReal (I.xs n q) := ((real_ln (h.conv n) q).mul (h.clg q)).add (h.clb q)
  exact hs.mul hs.logistic

theorem Real.sp (h : I.Real) (n : Fin 8192) (q : Fin 512) : IsReal (I.sp n q) := by
  refine (IsReal.sum _ fun s => IsReal.mul ?_ (((real_ln (fun k => real_gelu (h.z _ _)) q).mul (h.glg q)).add (h.glb q))).add (h.bs _ _)
  unfold mix
  split
  · exact h.ws _ _ _
  · exact IsReal.zero

theorem Real.g (h : I.Real) (n : Fin 8192) (q : Fin 512) : IsReal (I.g n q) := (real_gelu (h.z _ _)).mul (h.sp n q)

theorem Real.x2 (h : I.Real) (n : Fin 8192) (d : Fin 1024) : IsReal (I.x2 n d) := by
  refine (h.x n d).add ((h.gt d).mul (IsReal.sum _ fun j => IsReal.mul ?_ (h.wo j d)))
  unfold y
  split
  · exact ((h.a n _).mul (real_rs (h.a n))).mul (h.mog j)
  · exact ((h.g n _).mul (real_rs (h.g n))).mul (h.mog j)

end In

end Cert.Mid

namespace Cert.Bwd

/-- One over the root of a row's mean square. -/
def ms (x : Fin 1024 → EReal) : EReal := Ideal.div (∑ d, x d * x d) Loss.cD + Loss.eps

/-- The gradient through the norm of a row `x`, of the gradient `g` of the normed row. -/
def back (x g : Fin 1024 → EReal) (d : Fin 1024) : EReal :=
  Ideal.rsqrt (ms x) * (g d - x d * Ideal.rsqrt (ms x) * Ideal.div (∑ e, g e * (x e * Ideal.rsqrt (ms x))) Loss.cD)

/-- It is what the chain rule gives. -/
theorem chain {x g : Fin 1024 → EReal} (hx : ∀ d, IsReal (x d)) (hg : ∀ d, IsReal (g d)) (d : Fin 1024) :
    g d * Ideal.rsqrt (ms x) + x d * Ideal.div ((∑ e, x e * g e) * (Loss.cNegHalf * Ideal.div (Ideal.rsqrt (ms x)) (ms x))) Loss.cD
        + Ideal.div ((∑ e, x e * g e) * (Loss.cNegHalf * Ideal.div (Ideal.rsqrt (ms x)) (ms x))) Loss.cD * x d
      = back x g d := by
  choose g hg using hg
  obtain ⟨y, e, v, r, hy, he, _, hv, hv0, hr, hm, hs⟩ := Loss.Head.Real.lift (H := ⟨fun _ => x, fun _ => 0, fun _ _ => 0⟩)
    ⟨fun _ => hx, fun _ => IsReal.zero, fun _ _ => IsReal.zero⟩ 0
  have hm' : ms x = v := hm
  have hs' : Ideal.rsqrt (ms x) = r := hs
  have hy' : ∀ d, x d = y d := hy
  rw [back, hs', hm', Loss.cD_eq, Loss.cNegHalf_eq]
  simp only [hy', hg, Ideal.div_coe (show (1024 : ℝ) ≠ 0 by norm_num), Ideal.div_coe hv0.ne', ← EReal.coe_mul, Loss.coe_sum,
    ← EReal.coe_add, ← EReal.coe_sub]
  exact congrArg _ (Loss.back_row y g e he v r hv hr d)

/-- What is added to it comes first. -/
theorem chain_add {x g : Fin 1024 → EReal} (hx : ∀ d, IsReal (x d)) (hg : ∀ d, IsReal (g d)) (t : EReal) (d : Fin 1024) :
    t + g d * Ideal.rsqrt (ms x) + x d * Ideal.div ((∑ e, x e * g e) * (Loss.cNegHalf * Ideal.div (Ideal.rsqrt (ms x)) (ms x))) Loss.cD
        + Ideal.div ((∑ e, x e * g e) * (Loss.cNegHalf * Ideal.div (Ideal.rsqrt (ms x)) (ms x))) Loss.cD * x d
      = t + back x g d := by
  rw [← chain hx hg d, ← add_assoc, ← add_assoc]

end Cert.Bwd

end
-- ==== Proof.BwdX.lean ====
/- The rows after the layer, of any arrays: the stages that the kernel's host lines and the reference share, and what they hold
   at an index. -/
module

public import proofs.«01_k».proof.Proof.BwdMath
public import proofs.«01_k».proof.Proof.MidRefAt

@[expose] public section

set_option maxRecDepth 16384

noncomputable section

open Idealize.ShloMosaic Idealize.ShloMosaic.TcCoe Idealize.SL.Sem

namespace Cert.Bwd

open Cert.Reference3Ideal Cert.Reference3Ideal.Gen Cert.Reference3Ideal.MidRef

/-- The arrays of the layer; `z` is the product that it reads. -/
structure Arr where
  z : FVec Ideal S8192x2048 .f32
  x : FVec Ideal S8192x1024 .f32
  cw : FVec Ideal S1x31x512 .f32
  cb : FVec Ideal S1x512 .f32
  clg : FVec Ideal S1x512 .f32
  clb : FVec Ideal S1x512 .f32
  glg : FVec Ideal S1x512 .f32
  glb : FVec Ideal S1x512 .f32
  ws : FVec Ideal S1x8x128x128 .f32
  bs : FVec Ideal S1x8x128 .f32
  mog : FVec Ideal S1x1024 .f32
  wo : FVec Ideal S1x1024x1024 .f32
  gt : FVec Ideal S1x1024 .f32

namespace Arr

variable (A : Arr)

/-- Their entries. -/
def inp : Mid.In where
  z n j := A.z (ix2 n j)
  x n d := A.x (ix2 n d)
  cw k q := A.cw (ix3 0 k q)
  cb q := A.cb (ix2 0 q)
  clg q := A.clg (ix2 0 q)
  clb q := A.clb (ix2 0 q)
  glg q := A.glg (ix2 0 q)
  glb q := A.glb (ix2 0 q)
  ws h t s := A.ws (ix4 0 h t s)
  bs h t := A.bs (ix3 0 h t)
  mog d := A.mog (ix2 0 d)
  wo j d := A.wo (ix3 0 j d)
  gt d := A.gt (ix2 0 d)
  g2 _ := 0
  sh _ := 0
  sc _ := 0

/-- The first half of the joined columns, from the convolution. -/
def aA (C : FVec Ideal S8192x512 .f32) : FVec Ideal S8192x512 .f32 := rSilu (rAff (rHat (rCent C)) A.clg A.clb)
/-- The gate of the second half. -/
def aGu : FVec Ideal S8192x512 .f32 := rGelu (extractStridedSlice S8192x512 ![0, 1024] A.z slices_S8192x2048_S8192x512_0_1024)
/-- The gate of what is mixed. -/
def aGv : FVec Ideal S8192x512 .f32 := rGelu (extractStridedSlice S8192x512 ![0, 1536] A.z slices_S8192x2048_S8192x512_0_1536)
/-- What is mixed. -/
def aVn : FVec Ideal S8192x512 .f32 := rAff (rHat (rCent A.aGv)) A.glg A.glb
/-- The rows after the layer, from the convolution `C` and the mixed rows `S`. -/
def aX (C S : FVec Ideal S8192x512 .f32) : FVec Ideal S8192x1024 .f32 := rX A.x (rO A.wo (rY (A.aA C) (mulf A.aGu S) A.mog)) A.gt

theorem aGu_at (n : Fin 8192) (q : Fin 512) : (A.aGu (ix2 n q) : EReal) = A.inp.gu n q := by
  unfold aGu
  rw [rGelu_at]
  refine congrArg Mid.gelu ?_
  pointwise [inp]

theorem aGv_at (n : Fin 8192) (q : Fin 512) : (A.aGv (ix2 n q) : EReal) = A.inp.gv n q := by
  unfold aGv
  rw [rGelu_at]
  refine congrArg Mid.gelu ?_
  pointwise [inp]

theorem aVn_at (n : Fin 8192) (q : Fin 512) : (A.aVn (ix2 n q) : EReal) = A.inp.vn n q := by
  unfold aVn
  rw [rAff_at, rLn_at]
  simp only [aGv_at]
  rfl

theorem aA_at (C : FVec Ideal S8192x512 .f32) (hC : ∀ n q, (C (ix2 n q) : EReal) = A.inp.conv n q) (n : Fin 8192) (q : Fin 512) :
    (A.aA C (ix2 n q) : EReal) = A.inp.a n q := by
  unfold aA
  rw [rSilu_at, rAff_at, rLn_at]
  simp only [hC]
  rfl

theorem aX_at (C S : FVec Ideal S8192x512 .f32) (hC : ∀ n q, (C (ix2 n q) : EReal) = A.inp.conv n q) (hS : ∀ n q, (S (ix2 n q) : EReal) = A.inp.sp n q)
    (n : Fin 8192) (d : Fin 1024) : (A.aX C S (ix2 n d) : EReal) = A.inp.x2 n d := by
  have hG : ∀ n q, (mulf A.aGu S (ix2 n q) : EReal) = A.inp.g n q := fun n q =>
    congrArg₂ (fun s t : EReal => s * t) (A.aGu_at n q) (hS n q)
  unfold aX
  rw [rX_at, rO_at]
  refine congrArg (fun s : EReal => A.x (ix2 n d) + A.gt (ix2 0 d) * s) (Finset.sum_congr rfl fun j _ => ?_)
  rw [rY_at]
  simp only [A.aA_at C hC, hG]
  rfl

/-- The reference's convolution. -/
def rC : FVec Ideal S8192x512 .f32 := rConv (shapeCast _ A.cw shapeCasts_S1x31x512_S31x512) (rTop A.z) A.cb
/-- The reference's mixed rows. -/
def rS : FVec Ideal S8192x512 .f32 := rSp A.aVn A.ws A.bs rTri

theorem cw_at (k : Fin 31) (q : Fin 512) : (shapeCast S31x512 A.cw shapeCasts_S1x31x512_S31x512 (ix2 k q) : EReal) = A.inp.cw k q := by
  pointwise [inp]

theorem rC_at (n : Fin 8192) (q : Fin 512) : (A.rC (ix2 n q) : EReal) = A.inp.conv n q := by
  unfold rC
  rw [rConv_at]
  refine congrArg₂ (fun s t : EReal => s + t) rfl (Finset.sum_congr rfl fun i _ => ?_)
  rw [cw_at, rTop_at]
  rfl

theorem rS_at (n : Fin 8192) (q : Fin 512) : (A.rS (ix2 n q) : EReal) = A.inp.sp n q := by
  unfold rS
  rw [rSp_at]
  refine congrArg₂ (fun s t : EReal => s + t) (Finset.sum_congr rfl fun s _ => ?_) rfl
  rw [aVn_at, rTri_at, mul_comm, mul_ite, mul_one, mul_zero]
  rfl

end Arr

end Cert.Bwd

end
-- ==== Proof.BwdRef.lean ====
/- The reference's result of `bwd_mid`: each array that it passes through, and what it holds at an index. -/
module

public import proofs.«01_k».proof.Proof.BwdX
public import proofs.«01_k».proof.Proof.LossRef
public import proofs.«01_k».proof.Proof.Gen.Reference5Ideal.Run

@[expose] public section

set_option maxRecDepth 16384

noncomputable section

open Idealize.ShloMosaic Idealize.ShloMosaic.TcCoe Idealize.SL.Sem

namespace Cert.Reference5Ideal.BwdRef

open Cert.Reference5Ideal Cert.Reference5Ideal.Gen Cert.Reference3Ideal.MidRef Cert.Reference4Ideal.LossRef Cert.Bwd

section stages

variable (x : FVec Ideal S8192x1024 .f32) (g sh sc gt : FVec Ideal S1x1024 .f32) (wi : FVec Ideal S1x1024x2048 .f32)
  (D : FVec Ideal S4x8192x1024 .f32)

/-- The product that the layer reads. -/
def rZ : FVec Ideal S8192x2048 .f32 :=
  Host.dotGeneral dot_S8192x1024_S1024x2048_S8192x2048_1_0_0_1_n_n none (addf (mulf (mulf (mulf x (broadcastInDim S8192x1024 ![0, 1]
    bcast_S8192x1_S8192x1024_0_1 (Host.rsqrt (addf (Host.divf (broadcastInDim S8192x1 ![0] bcast_S8192_S8192x1_0 (Host.reduceAdd (mulf x x)
    (constant S_ .f32 0x00000000#32) reducesTo_S8192x1024_S8192_d1 h_S_)) (broadcastInDim S8192x1 ![] bcast_S_S8192x1 (constant S_ .f32 0x44800000#32)))
    (broadcastInDim S8192x1 ![] bcast_S_S8192x1 (constant S_ .f32 0x358637BD#32)))))) (broadcastInDim S8192x1024 ![0, 1] bcast_S1x1024_S8192x1024_0_1 g))
    (broadcastInDim S8192x1024 ![0, 1] bcast_S1x1024_S8192x1024_0_1 (addf (broadcastInDim S1x1024 ![] bcast_S_S1x1024 (constant S_ .f32 0x3F800000#32)) sc)))
    (broadcastInDim S8192x1024 ![0, 1] bcast_S1x1024_S8192x1024_0_1 sh)) (shapeCast _ wi shapeCasts_S1x1024x2048_S1024x2048)

theorem rZ_at (n : Fin 8192) (j : Fin 2048) : (rZ x g sh sc wi (ix2 n j) : EReal) = Mid.pre (fun n d => x (ix2 n d)) (fun d => g (ix2 0 d))
    (fun d => sh (ix2 0 d)) (fun d => sc (ix2 0 d)) (fun d j => wi (ix3 0 d j)) n j := by
  pointwise [rZ, Mid.pre, Mid.cD, Mid.eps6, Mid.cOne]

/-- The gradient of the normed rows. -/
def gN (n : Fin 8192) (d : Fin 1024) : EReal :=
  (D (ix3 0 n d) + D (ix3 1 n d) + D (ix3 2 n d) + D (ix3 3 n d)) * (Loss.cOne + sc (ix2 0 d)) * g (ix2 0 d)

/-- The same, of the arrays. -/
def rG : FVec Ideal S8192x1024 .f32 :=
  mulf (mulf (addf (addf (addf (shapeCast _ (extractStridedSlice S1x8192x1024 ![0, 0, 0] D slices_S4x8192x1024_S1x8192x1024_0_0_0) shapeCasts_S1x8192x1024_S8192x1024)
    (shapeCast _ (extractStridedSlice S1x8192x1024 ![1, 0, 0] D slices_S4x8192x1024_S1x8192x1024_1_0_0) shapeCasts_S1x8192x1024_S8192x1024))
    (shapeCast _ (extractStridedSlice S1x8192x1024 ![2, 0, 0] D slices_S4x8192x1024_S1x8192x1024_2_0_0) shapeCasts_S1x8192x1024_S8192x1024))
    (shapeCast _ (extractStridedSlice S1x8192x1024 ![3, 0, 0] D slices_S4x8192x1024_S1x8192x1024_3_0_0) shapeCasts_S1x8192x1024_S8192x1024))
    (broadcastInDim S8192x1024 ![0, 1] bcast_S1x1024_S8192x1024_0_1 (addf (broadcastInDim S1x1024 ![] bcast_S_S1x1024 (constant S_ .f32 0x3F800000#32)) sc)))
    (broadcastInDim S8192x1024 ![0, 1] bcast_S1x1024_S8192x1024_0_1 g)

theorem rG_at (n : Fin 8192) (d : Fin 1024) : (rG g sc D (ix2 n d) : EReal) = gN g sc D n d := by
  pointwise [rG, gN, Loss.cOne]

/-- What the result is, entry by entry: the gradient that comes past the norm and the one through it, times the layer's factor. -/
def outN (X dx : FVec Ideal S8192x1024 .f32) (n : Fin 8192) (d : Fin 1024) : EReal :=
  (dx (ix2 n d) + back (fun e => X (ix2 n e)) (gN g sc D n) d) * gt (ix2 0 d)

/-- The result, of the rows after the layer. -/
def rOutB (X dx : FVec Ideal S8192x1024 .f32) : FVec Ideal S8192x1024 .bf16 :=
  truncf .bf16 (mulf (broadcastInDim S8192x1024 ![0, 1] bcast_S1x1024_S8192x1024_0_1 gt) (addf (addf (addf dx (rScale (rG g sc D) (Host.rsqrt (rMs X))))
    (mulf X (rB X (rG g sc D) (Host.rsqrt (rMs X)) (rMs X)))) (mulf (rB X (rG g sc D) (Host.rsqrt (rMs X)) (rMs X)) X))) bitsLt_bf16_f32

theorem rOutB_at (X dx : FVec Ideal S8192x1024 .f32) (hX : ∀ n d, IsReal (X (ix2 n d))) (hg : ∀ n d, IsReal (gN g sc D n d)) (n : Fin 8192) (d : Fin 1024) :
    (rOutB g sc gt D X dx (ix2 n d) : EReal) = outN g sc gt D X dx n d := by
  have hm : (rMs X (ix2 n 0) : EReal) = ms (fun e => X (ix2 n e)) := rMs_at X n
  have hr : (Host.rsqrt (rMs X) (ix2 n 0) : EReal) = Ideal.rsqrt (ms (fun e => X (ix2 n e))) := congrArg Ideal.rsqrt hm
  have hs := rScale_at (rG g sc D) (Host.rsqrt (rMs X)) n d
  have hb := rB_at X (rG g sc D) (Host.rsqrt (rMs X)) (rMs X) n d
  rw [hm, hr] at hb
  rw [hr] at hs
  simp only [rG_at] at hs hb
  have e : (rOutB g sc gt D X dx (ix2 n d) : EReal) = gt (ix2 0 d) * (dx (ix2 n d) + rScale (rG g sc D) (Host.rsqrt (rMs X)) (ix2 n d)
      + X (ix2 n d) * rB X (rG g sc D) (Host.rsqrt (rMs X)) (rMs X) (ix2 n d) + rB X (rG g sc D) (Host.rsqrt (rMs X)) (rMs X) (ix2 n d) * X (ix2 n d)) := by
    unfold rOutB
    generalize rScale (rG g sc D) (Host.rsqrt (rMs X)) = P
    generalize rB X (rG g sc D) (Host.rsqrt (rMs X)) (rMs X) = Q
    pointwise []
  rw [e, hs, hb, outN, mul_comm]
  exact congrArg (· * (gt (ix2 0 d) : EReal)) (chain_add (x := fun e => X (ix2 n e)) (hX n) (hg n) _ d)

end stages

variable (U : Valuation τ sig (Elt Ideal))

/-- The arrays of the layer. -/
def arr : Arr where
  z := rZ (U (Proc.devRef .tc main_arg2)) (U (Proc.devRef .tc main_arg3)) (U (Proc.devRef .tc main_arg4)) (U (Proc.devRef .tc main_arg5)) (U (Proc.devRef .tc main_arg6))
  x := U (Proc.devRef .tc main_arg2)
  cw := U (Proc.devRef .tc main_arg7)
  cb := U (Proc.devRef .tc main_arg8)
  clg := U (Proc.devRef .tc main_arg9)
  clb := U (Proc.devRef .tc main_arg10)
  glg := U (Proc.devRef .tc main_arg11)
  glb := U (Proc.devRef .tc main_arg12)
  ws := U (Proc.devRef .tc main_arg13)
  bs := U (Proc.devRef .tc main_arg14)
  mog := U (Proc.devRef .tc main_arg15)
  wo := U (Proc.devRef .tc main_arg16)
  gt := U (Proc.devRef .tc main_arg17)

theorem v19_eq : Value.res_main_v19 (F := Ideal) U = (arr U).z := rfl
theorem v31_eq : Value.res_main_v31 (F := Ideal) U = shapeCast _ (arr U).cw Cert.Reference3Ideal.Gen.shapeCasts_S1x31x512_S31x512 := rfl
theorem v34_eq : Value.res_main_v34 (F := Ideal) U = rTop (arr U).z := by rw [← v19_eq]; rfl
theorem v255_eq : Value.res_main_v255 (F := Ideal) U = (arr U).rC := by unfold Arr.rC; rw [← v34_eq, ← v31_eq]; rfl
theorem v261_eq : Value.res_main_v261 (F := Ideal) U = rCent (arr U).rC := by rw [← v255_eq]; rfl
theorem v275_eq : Value.res_main_v275 (F := Ideal) U = rAff (rHat (rCent (arr U).rC)) (arr U).clg (arr U).clb := by rw [← v261_eq]; rfl
theorem v276_eq : Value.res_main_v276 (F := Ideal) U = (arr U).aA (arr U).rC := by unfold Arr.aA; rw [← v275_eq]; rfl
theorem v302_eq : Value.res_main_v302 (F := Ideal) U = (arr U).aGv := by unfold Arr.aGv; rw [← v19_eq]; rfl
theorem v308_eq : Value.res_main_v308 (F := Ideal) U = rCent (arr U).aGv := by rw [← v302_eq]; rfl
theorem gu_eq : rGelu (Value.res_main_v22 (F := Ideal) U) = (arr U).aGu := by unfold Arr.aGu; rw [← v19_eq]; rfl
theorem sp_eq : rSp (rAff (rHat (Value.res_main_v308 (F := Ideal) U)) (U (Proc.devRef .tc main_arg11)) (U (Proc.devRef .tc main_arg12)))
    (U (Proc.devRef .tc main_arg13)) (U (Proc.devRef .tc main_arg14)) rTri = (arr U).rS := by
  rw [v308_eq]; rfl
theorem v338_eq : Value.res_main_v338 (F := Ideal) U = mulf (arr U).aGu (arr U).rS := by rw [← sp_eq, ← gu_eq]; rfl
theorem v367_eq : Value.res_main_v367 (F := Ideal) U = rO (arr U).wo (rY ((arr U).aA (arr U).rC) (mulf (arr U).aGu (arr U).rS) (arr U).mog) := by
  rw [← v276_eq, ← v338_eq]; rfl
theorem v392_eq : Value.res_main_v392 (F := Ideal) U = (arr U).aX (arr U).rC (arr U).rS := by unfold Arr.aX; rw [← v367_eq]; rfl

/-- The printed result is the stages' one. -/
theorem res_eq : truncf .bf16 (mulf (broadcastInDim S8192x1024 ![0, 1] bcast_S1x1024_S8192x1024_0_1 (U (Proc.devRef .tc main_arg17)))
      (addf (addf (addf (U (Proc.devRef .tc main_arg1)) (mulf (Value.res_main_v428 (F := Ideal) U) (broadcastInDim S8192x1024 ![0, 1] bcast_S8192x1_S8192x1024_0_1
        (Value.res_main_v400 (F := Ideal) U)))) (mulf (Value.res_main_v392 (F := Ideal) U) (Value.res_main_v439 (F := Ideal) U)))
        (mulf (Value.res_main_v439 (F := Ideal) U) (Value.res_main_v392 (F := Ideal) U)))) bitsLt_bf16_f32
    = rOutB (U (Proc.devRef .tc main_arg18)) (U (Proc.devRef .tc main_arg20)) (U (Proc.devRef .tc main_arg17)) (U (Proc.devRef .tc main_arg0))
        ((arr U).aX (arr U).rC (arr U).rS) (U (Proc.devRef .tc main_arg1)) := by
  rw [← v392_eq]
  rfl

end Cert.Reference5Ideal.BwdRef

end
-- ==== Proof.BwdOps.lean ====
/- What the host lines of `bwd_mid` hand to the kernel as the rows after the layer: read line list by line list, and at an
   index. -/
module

public import proofs.«01_k».proof.Proof.Gen.Kernel5Ideal.Launch
public import proofs.«01_k».proof.Proof.BwdRef
public import Idealize.ShloMosaic.Lib.StableHlo.ReadAt

@[expose] public section

set_option maxRecDepth 16384

noncomputable section

open Idealize.ShloMosaic Idealize.ShloMosaic.TcCoe Idealize.SL.Sem

namespace Cert.Kernel5Ideal.BwdOps

open Cert.Kernel5Ideal Cert.Kernel5Ideal.Gen Cert.Bwd
open Cert.Reference3Ideal.MidRef (rTop rTop_at rCent rHat rAff rSilu rX rO rY rHalf rTri rTri_at rX_at rO_at rY_at rLn_at rAff_at rSilu_at)
open Cert.Reference5Ideal.BwdRef (rZ)

section stages

variable (z : FVec Ideal S8192x2048 .f32) (T : FVec Ideal S8222x512 .f32) (cw : FVec Ideal S1x31x512 .f32) (b : FVec Ideal S1x512 .f32)
  (A : FVec Ideal S8192x512 .f32) (B : FVec Ideal S8192x1024 .f32) (ws : FVec Ideal S1x8x128x128 .f32) (bs : FVec Ideal S1x8x128 .f32) (D : FVec Ideal S128x128 .f32)

/-- The shifted copies of the padded columns. -/
def kTaps : FVec Ideal S31x8192x512 .f32 :=
  extractStridedSlice S31x8192x512 ![0, 0, 0] (shapeCast _ (extractStridedSlice S254913x512 ![0, 0] (shapeCast _ (broadcastInDim S32x8222x512 ![0, 1, 2]
    bcast_S1x8222x512_S32x8222x512_0_1_2 (broadcastInDim S1x8222x512 ![1, 2] bcast_S8222x512_S1x8222x512_1_2 T)) shapeCasts_S32x8222x512_S263104x512)
    slices_S263104x512_S254913x512_0_0) shapeCasts_S254913x512_S31x8223x512) slices_S31x8223x512_S31x8192x512_0_0_0

theorem kTaps_at (k : Fin 31) (n : Fin 8192) (q : Fin 512) : (kTaps T (ix3 k n q) : EReal) = T (ix2 ⟨n.val + k.val, by omega⟩ q) := by
  pointwise [kTaps]
  exact congrArg (fun a => (T (ix2 a q) : EReal)) (Fin.ext (by show (k.val * 8223 + n.val) % 8222 = n.val + k.val; omega))

/-- The convolution. -/
def kConv : FVec Ideal S8192x512 .f32 :=
  addf (Host.reduceAdd (mulf (broadcastInDim S31x8192x512 ![0, 1, 2] bcast_S31x1x512_S31x8192x512_0_1_2 (broadcastInDim S31x1x512 ![0, 2] bcast_S31x512_S31x1x512_0_2
    (shapeCast _ cw shapeCasts_S1x31x512_S31x512))) (kTaps T)) (constant S_ .f32 0x00000000#32) reducesTo_S31x8192x512_S8192x512_d0 h_S_)
    (broadcastInDim S8192x512 ![0, 1] bcast_S1x512_S8192x512_0_1 b)

theorem kConv_at (n : Fin 8192) (q : Fin 512) : (kConv T cw b (ix2 n q) : EReal)
    = b (ix2 0 q) + ∑ k : Fin 31, (cw (ix3 0 k q) : EReal) * T (ix2 ⟨n.val + k.val, by omega⟩ q) := by
  rw [add_comm]
  simp only [← kTaps_at]
  unfold kConv
  generalize kTaps T = P
  pointwise []

/-- The gates of both halves. -/
def kGelu : FVec Ideal S8192x1024 .f32 :=
  mulf (mulf (broadcastInDim S8192x1024 ![] bcast_S_S8192x1024 (constant S_ .f32 0x3F000000#32)) B) (addf (broadcastInDim S8192x1024 ![] bcast_S_S8192x1024
    (constant S_ .f32 0x3F800000#32)) (Host.tanh (mulf (broadcastInDim S8192x1024 ![] bcast_S_S8192x1024 (constant S_ .f32 0x3F4C422A#32)) (addf B
    (mulf (mulf (mulf (broadcastInDim S8192x1024 ![] bcast_S_S8192x1024 (constant S_ .f32 0x3D372713#32)) B) B) B)))))

/-- The columns that are gated. -/
def kB : FVec Ideal S8192x1024 .f32 := kGelu (extractStridedSlice S8192x1024 ![0, 1024] z slices_S8192x2048_S8192x1024_0_1024)

theorem kB_at (n : Fin 8192) (j : Fin 1024) : (kB z (ix2 n j) : EReal) = Mid.gelu (z (ix2 n ⟨1024 + j.val, by omega⟩)) := by
  pointwise [kB, kGelu, Mid.gelu, Mid.cHalf, Mid.cOne, Mid.cCube, Mid.cRoot]

/-- The left half of the gates. -/
def kGu : FVec Ideal S8192x512 .f32 := extractStridedSlice S8192x512 ![0, 0] (kB z) slices_S8192x1024_S8192x512_0_0
/-- The right half of the gates. -/
def kGv : FVec Ideal S8192x512 .f32 := extractStridedSlice S8192x512 ![0, 512] (kB z) slices_S8192x1024_S8192x512_0_512

theorem kGu_at (n : Fin 8192) (q : Fin 512) : (kGu z (ix2 n q) : EReal) = Mid.gelu (z (ix2 n ⟨1024 + q.val, by omega⟩)) := by
  refine Eq.trans ?_ (kB_at z n ⟨q.val, by omega⟩)
  unfold kGu
  generalize kB z = P
  pointwise []

theorem kGv_at (n : Fin 8192) (q : Fin 512) : (kGv z (ix2 n q) : EReal) = Mid.gelu (z (ix2 n ⟨1536 + q.val, by omega⟩)) := by
  have e : (⟨1536 + q.val, by omega⟩ : Fin 2048) = ⟨1024 + (512 + q.val), by omega⟩ := Fin.ext (by show 1536 + q.val = 1024 + (512 + q.val); omega)
  rw [e]
  refine Eq.trans ?_ (kB_at z n ⟨512 + q.val, by omega⟩)
  unfold kGv
  generalize kB z = P
  pointwise []

/-- The mixed rows. -/
def kSp : FVec Ideal S8192x512 .f32 :=
  shapeCast _ (addf (Host.reduceAdd (mulf (broadcastInDim S64x128x8x64x128 ![0, 1, 2, 3, 4] bcast_S1x128x8x1x128_S64x128x8x64x128_0_1_2_3_4
    (broadcastInDim S1x128x8x1x128 ![1, 2, 4] bcast_S128x8x128_S1x128x8x1x128_1_2_4 (transpose S128x8x128 [1, 0, 2] (mulf (shapeCast _ ws shapeCasts_S1x8x128x128_S8x128x128)
    (broadcastInDim S8x128x128 ![0, 1, 2] bcast_S1x128x128_S8x128x128_0_1_2 (broadcastInDim S1x128x128 ![1, 2] bcast_S128x128_S1x128x128_1_2 D)))
    transposes_S8x128x128_S128x8x128_1_0_2))) (broadcastInDim S64x128x8x64x128 ![0, 1, 2, 3, 4] bcast_S64x1x8x64x128_S64x128x8x64x128_0_1_2_3_4
    (broadcastInDim S64x1x8x64x128 ![0, 2, 3, 4] bcast_S64x8x64x128_S64x1x8x64x128_0_2_3_4 (transpose S64x8x64x128 [0, 2, 3, 1]
    (shapeCast _ A shapeCasts_S8192x512_S64x128x8x64) transposes_S64x128x8x64_S64x8x64x128_0_2_3_1)))) (constant S_ .f32 0x00000000#32)
    reducesTo_S64x128x8x64x128_S64x128x8x64_d4 h_S_)
    (broadcastInDim S64x128x8x64 ![0, 1, 2, 3] bcast_S1x128x8x1_S64x128x8x64_0_1_2_3 (broadcastInDim S1x128x8x1 ![1, 2] bcast_S128x8_S1x128x8x1_1_2
    (transpose S128x8 [1, 0] (shapeCast _ bs shapeCasts_S1x8x128_S8x128) transposes_S8x128_S128x8_1_0)))) shapeCasts_S64x128x8x64_S8192x512

theorem kSp_at (n : Fin 8192) (q : Fin 512) : (kSp A ws bs D (ix2 n q) : EReal)
    = (∑ s : Fin 128, ((ws (ix4 0 (Mid.headOf q) (Mid.inChunk n) s) : EReal) * D (ix2 (Mid.inChunk n) s)) * A (ix2 (Mid.chunkRow n s) q))
      + bs (ix3 0 (Mid.headOf q) (Mid.inChunk n)) := by
  pointwise [kSp]
  rfl

end stages

variable (W : Valuation τ sig (Elt Ideal))

/-! ## The line lists -/

theorem o2_v32 : StableHlo.after hostOps0_2 W (Proc.devRef .tc main_v32)
    = rZ (W (Proc.devRef .tc main_arg2)) (W (Proc.devRef .tc main_arg3)) (W (Proc.devRef .tc main_arg4)) (W (Proc.devRef .tc main_arg5)) (W (Proc.devRef .tc main_arg6)) := by
  after_reads_simp
  rfl

theorem o2_v76 : StableHlo.after hostOps0_2 W (Proc.devRef .tc main_v76)
    = rAff (rHat (rCent (kConv (rTop (rZ (W (Proc.devRef .tc main_arg2)) (W (Proc.devRef .tc main_arg3)) (W (Proc.devRef .tc main_arg4)) (W (Proc.devRef .tc main_arg5))
        (W (Proc.devRef .tc main_arg6)))) (W (Proc.devRef .tc main_arg7)) (W (Proc.devRef .tc main_arg8))))) (W (Proc.devRef .tc main_arg9)) (W (Proc.devRef .tc main_arg10)) := by
  after_reads_simp
  rfl

theorem o3_v77 : StableHlo.after hostOps0_3 W (Proc.devRef .tc main_v77) = rSilu (W (Proc.devRef .tc main_v76)) := by
  after_reads_simp
  rfl

theorem o4_v112 : StableHlo.after hostOps0_4 W (Proc.devRef .tc main_v112) = kGu (W (Proc.devRef .tc main_v32)) := by
  after_reads_simp
  rfl

theorem o4_v136 : StableHlo.after hostOps0_4 W (Proc.devRef .tc main_v136) = shapeCast S64x128x8x64 (rAff (rHat (rCent (kGv (W (Proc.devRef .tc main_v32)))))
    (W (Proc.devRef .tc main_arg11)) (W (Proc.devRef .tc main_arg12))) shapeCasts_S8192x512_S64x128x8x64 := by
  after_reads_simp
  rfl

theorem o4_v137 : StableHlo.after hostOps0_4 W (Proc.devRef .tc main_v137) = shapeCast S8x128x128 (W (Proc.devRef .tc main_arg13) : FVec Ideal S1x8x128x128 .f32) shapeCasts_S1x8x128x128_S8x128x128 := by
  after_reads_simp
  rfl

theorem o4_v138 : StableHlo.after hostOps0_4 W (Proc.devRef .tc main_v138) = broadcastInDim S128x128 ![] bcast_S_S128x128 (constant (F := Ideal) S_ .f32 0x3F800000#32) := by
  after_reads_simp

theorem o5_v139 (h : W (Proc.devRef .tc main_v138) = broadcastInDim S128x128 ![] bcast_S_S128x128 (constant (F := Ideal) S_ .f32 0x3F800000#32)) :
    StableHlo.after hostOps0_5 W (Proc.devRef .tc main_v139) = rTri := by
  after_reads_simp
  rw [h]
  rfl

/-- The first half of the joined columns. -/
theorem o6_v169 : StableHlo.upto hostOps0_6 W 51 (Proc.devRef .tc main_v169)
    = rHalf (W (Proc.devRef .tc main_v77)) (extractStridedSlice S1x512 ![0, 0] (W (Proc.devRef .tc main_arg15) : FVec Ideal S1x1024 .f32) slices_S1x1024_S1x512_0_0) := by
  simp only [StableHlo.upto, hostOps0_6, List.take_succ_cons, List.take_zero]
  after_reads_simp
  rfl

/-- The second half of the joined columns. -/
theorem o6_v183 (A : FVec Ideal S8192x512 .f32) (ws : FVec Ideal S1x8x128x128 .f32)
    (hA : W (Proc.devRef .tc main_v136) = shapeCast S64x128x8x64 A shapeCasts_S8192x512_S64x128x8x64)
    (hw : W (Proc.devRef .tc main_v137) = shapeCast S8x128x128 ws shapeCasts_S1x8x128x128_S8x128x128) :
    StableHlo.upto hostOps0_6 W 51 (Proc.devRef .tc main_v183)
      = rHalf (mulf (W (Proc.devRef .tc main_v112) : FVec Ideal S8192x512 .f32) (kSp A ws (W (Proc.devRef .tc main_arg14)) (W (Proc.devRef .tc main_v139))))
          (extractStridedSlice S1x512 ![0, 512] (W (Proc.devRef .tc main_arg15) : FVec Ideal S1x1024 .f32) slices_S1x1024_S1x512_0_512) := by
  simp only [StableHlo.upto, hostOps0_6, List.take_succ_cons, List.take_zero]
  after_reads_simp
  rw [hA, hw]
  rfl

theorem o6_v189 (A : FVec Ideal S8192x512 .f32) (ws : FVec Ideal S1x8x128x128 .f32)
    (hA : W (Proc.devRef .tc main_v136) = shapeCast S64x128x8x64 A shapeCasts_S8192x512_S64x128x8x64)
    (hw : W (Proc.devRef .tc main_v137) = shapeCast S8x128x128 ws shapeCasts_S1x8x128x128_S8x128x128) :
    StableHlo.after hostOps0_6 W (Proc.devRef .tc main_v189)
      = rX (W (Proc.devRef .tc main_arg2)) (rO (W (Proc.devRef .tc main_arg16)) (rY (W (Proc.devRef .tc main_v77)) (mulf (W (Proc.devRef .tc main_v112) : FVec Ideal S8192x512 .f32)
          (kSp A ws (W (Proc.devRef .tc main_arg14)) (W (Proc.devRef .tc main_v139)))) (W (Proc.devRef .tc main_arg15)))) (W (Proc.devRef .tc main_arg17)) := by
  after_reads_simp
  rw [o6_v169, o6_v183 W A ws hA hw]
  rfl

end Cert.Kernel5Ideal.BwdOps

end
-- ==== Proof.BwdHost.lean ====
/- The host lines of `bwd_mid` composed: what the kernel's windows hold of them, in the arguments. -/
module

public import proofs.«01_k».proof.Proof.BwdOps
public import proofs.«01_k».proof.Proof.Gen.Kernel5Ideal.Frame.Runs
public import proofs.«01_k».proof.Proof.FfnBlk

@[expose] public section

set_option maxRecDepth 16384

noncomputable section

open Idealize.ShloMosaic Idealize.ShloMosaic.TcCoe Idealize.SL.Sem

namespace Cert.Kernel5Ideal.BwdOps

open Cert.Kernel5Ideal Cert.Kernel5Ideal.Gen Cert.Bwd
open Cert.Reference3Ideal.MidRef (rTop rTop_at rCent rHat rAff rSilu rX rO rY rHalf rTri rTri_at rX_at rO_at rY_at rLn_at rAff_at rSilu_at)
open Cert.Reference5Ideal.BwdRef (rZ rZ_at)

variable (U : Valuation τ sig (Elt Ideal))

/-- The buffers after the first two lists, and after each that follows. -/
def s1 : Valuation τ sig (Elt Ideal) := StableHlo.after hostOps0_1 (StableHlo.after hostOps0 U)
/-- After the third. -/
def s2 : Valuation τ sig (Elt Ideal) := StableHlo.after hostOps0_2 (s1 U)
/-- After the fourth. -/
def s3 : Valuation τ sig (Elt Ideal) := StableHlo.after hostOps0_3 (s2 U)
/-- After the fifth. -/
def s4 : Valuation τ sig (Elt Ideal) := StableHlo.after hostOps0_4 (s3 U)
/-- After the sixth. -/
def s5 : Valuation τ sig (Elt Ideal) := StableHlo.after hostOps0_5 (s4 U)

/-- The arrays of the layer. -/
def kArr : Arr where
  z := rZ (U (Proc.devRef .tc main_arg2)) (U (Proc.devRef .tc main_arg3)) (U (Proc.devRef .tc main_arg4)) (U (Proc.devRef .tc main_arg5)) (U (Proc.devRef .tc main_arg6))
  x := U (Proc.devRef .tc main_arg2)
  cw := U (Proc.devRef .tc main_arg7)
  cb := U (Proc.devRef .tc main_arg8)
  clg := U (Proc.devRef .tc main_arg9)
  clb := U (Proc.devRef .tc main_arg10)
  glg := U (Proc.devRef .tc main_arg11)
  glb := U (Proc.devRef .tc main_arg12)
  ws := U (Proc.devRef .tc main_arg13)
  bs := U (Proc.devRef .tc main_arg14)
  mog := U (Proc.devRef .tc main_arg15)
  wo := U (Proc.devRef .tc main_arg16)
  gt := U (Proc.devRef .tc main_arg17)

theorem s1_arg2 : s1 U (Proc.devRef .tc main_arg2) = U (Proc.devRef .tc main_arg2) := by unfold s1; after_reads_simp
theorem s1_arg3 : s1 U (Proc.devRef .tc main_arg3) = U (Proc.devRef .tc main_arg3) := by unfold s1; after_reads_simp
theorem s1_arg4 : s1 U (Proc.devRef .tc main_arg4) = U (Proc.devRef .tc main_arg4) := by unfold s1; after_reads_simp
theorem s1_arg5 : s1 U (Proc.devRef .tc main_arg5) = U (Proc.devRef .tc main_arg5) := by unfold s1; after_reads_simp
theorem s1_arg6 : s1 U (Proc.devRef .tc main_arg6) = U (Proc.devRef .tc main_arg6) := by unfold s1; after_reads_simp
theorem s1_arg7 : s1 U (Proc.devRef .tc main_arg7) = U (Proc.devRef .tc main_arg7) := by unfold s1; after_reads_simp
theorem s1_arg8 : s1 U (Proc.devRef .tc main_arg8) = U (Proc.devRef .tc main_arg8) := by unfold s1; after_reads_simp
theorem s1_arg9 : s1 U (Proc.devRef .tc main_arg9) = U (Proc.devRef .tc main_arg9) := by unfold s1; after_reads_simp
theorem s1_arg10 : s1 U (Proc.devRef .tc main_arg10) = U (Proc.devRef .tc main_arg10) := by unfold s1; after_reads_simp
theorem s3_arg11 : s3 U (Proc.devRef .tc main_arg11) = U (Proc.devRef .tc main_arg11) := by unfold s3 s2 s1; after_reads_simp
theorem s3_arg12 : s3 U (Proc.devRef .tc main_arg12) = U (Proc.devRef .tc main_arg12) := by unfold s3 s2 s1; after_reads_simp
theorem s3_arg13 : s3 U (Proc.devRef .tc main_arg13) = U (Proc.devRef .tc main_arg13) := by unfold s3 s2 s1; after_reads_simp
theorem s5_arg2 : s5 U (Proc.devRef .tc main_arg2) = U (Proc.devRef .tc main_arg2) := by unfold s5 s4 s3 s2 s1; after_reads_simp
theorem s5_arg14 : s5 U (Proc.devRef .tc main_arg14) = U (Proc.devRef .tc main_arg14) := by unfold s5 s4 s3 s2 s1; after_reads_simp
theorem s5_arg15 : s5 U (Proc.devRef .tc main_arg15) = U (Proc.devRef .tc main_arg15) := by unfold s5 s4 s3 s2 s1; after_reads_simp
theorem s5_arg16 : s5 U (Proc.devRef .tc main_arg16) = U (Proc.devRef .tc main_arg16) := by unfold s5 s4 s3 s2 s1; after_reads_simp
theorem s5_arg17 : s5 U (Proc.devRef .tc main_arg17) = U (Proc.devRef .tc main_arg17) := by unfold s5 s4 s3 s2 s1; after_reads_simp

theorem s3_v32 : s3 U (Proc.devRef .tc main_v32) = (kArr U).z := by
  have e : s3 U (Proc.devRef .tc main_v32) = s2 U (Proc.devRef .tc main_v32) := by unfold s3; after_reads_simp
  rw [e, s2, o2_v32, s1_arg2, s1_arg3, s1_arg4, s1_arg5, s1_arg6]
  rfl

/-- The convolution. -/
def kC : FVec Ideal S8192x512 .f32 := kConv (rTop (kArr U).z) (kArr U).cw (kArr U).cb

theorem s5_v77 : s5 U (Proc.devRef .tc main_v77) = (kArr U).aA (kC U) := by
  have e : s5 U (Proc.devRef .tc main_v77) = s3 U (Proc.devRef .tc main_v77) := by unfold s5 s4; after_reads_simp
  rw [e, s3, o3_v77, s2, o2_v76, s1_arg2, s1_arg3, s1_arg4, s1_arg5, s1_arg6, s1_arg7, s1_arg8, s1_arg9, s1_arg10]
  rfl

theorem s5_v112 : s5 U (Proc.devRef .tc main_v112) = kGu (kArr U).z := by
  have e : s5 U (Proc.devRef .tc main_v112) = s4 U (Proc.devRef .tc main_v112) := by unfold s5; after_reads_simp
  rw [e, s4, o4_v112, s3_v32]

/-- What is mixed. -/
def kVn : FVec Ideal S8192x512 .f32 := rAff (rHat (rCent (kGv (kArr U).z))) (kArr U).glg (kArr U).glb

theorem s5_v136 : s5 U (Proc.devRef .tc main_v136) = shapeCast S64x128x8x64 (kVn U) shapeCasts_S8192x512_S64x128x8x64 := by
  have e : s5 U (Proc.devRef .tc main_v136) = s4 U (Proc.devRef .tc main_v136) := by unfold s5; after_reads_simp
  rw [e, s4, o4_v136, s3_v32, s3_arg11, s3_arg12]
  rfl

theorem s5_v137 : s5 U (Proc.devRef .tc main_v137) = shapeCast S8x128x128 (kArr U).ws shapeCasts_S1x8x128x128_S8x128x128 := by
  have e : s5 U (Proc.devRef .tc main_v137) = s4 U (Proc.devRef .tc main_v137) := by unfold s5; after_reads_simp
  rw [e, s4, o4_v137, s3_arg13]
  rfl

theorem s5_v139 : s5 U (Proc.devRef .tc main_v139) = rTri := by
  rw [s5]
  exact o5_v139 _ (by rw [s4]; exact o4_v138 _)

/-- The mixed rows. -/
def kS : FVec Ideal S8192x512 .f32 := kSp (kVn U) (kArr U).ws (kArr U).bs rTri

/-- The rows after the layer. -/
theorem v189_eq : StableHlo.after hostOps0_6 (s5 U) (Proc.devRef .tc main_v189)
    = rX (kArr U).x (rO (kArr U).wo (rY ((kArr U).aA (kC U)) (mulf (kGu (kArr U).z) (kS U)) (kArr U).mog)) (kArr U).gt := by
  rw [o6_v189 (s5 U) (kVn U) (kArr U).ws (s5_v136 U) (s5_v137 U), s5_arg2, s5_arg14, s5_arg15, s5_arg16, s5_arg17, s5_v77, s5_v112, s5_v139]
  rfl

theorem kC_at (n : Fin 8192) (q : Fin 512) : (kC U (ix2 n q) : EReal) = (kArr U).inp.conv n q := by
  unfold kC
  rw [kConv_at]
  refine congrArg₂ (fun s t : EReal => s + t) rfl (Finset.sum_congr rfl fun i _ => ?_)
  rw [rTop_at]
  rfl

theorem kVn_at (n : Fin 8192) (q : Fin 512) : (kVn U (ix2 n q) : EReal) = (kArr U).inp.vn n q := by
  unfold kVn
  rw [rAff_at, rLn_at]
  simp only [kGv_at]
  rfl

theorem kS_at (n : Fin 8192) (q : Fin 512) : (kS U (ix2 n q) : EReal) = (kArr U).inp.sp n q := by
  unfold kS
  rw [kSp_at]
  refine congrArg₂ (fun s t : EReal => s + t) (Finset.sum_congr rfl fun s _ => ?_) rfl
  rw [kVn_at, rTri_at, mul_ite, mul_one, mul_zero]
  rfl

theorem v189_at (n : Fin 8192) (d : Fin 1024) : (StableHlo.after hostOps0_6 (s5 U) (Proc.devRef .tc main_v189) : FVec Ideal S8192x1024 .f32) (ix2 n d)
    = (kArr U).inp.x2 n d := by
  have hG : ∀ n q, (mulf (kGu (kArr U).z) (kS U) (ix2 n q) : EReal) = (kArr U).inp.g n q := fun n q =>
    congrArg₂ (fun s t : EReal => s * t) (kGu_at _ n q) (kS_at U n q)
  rw [v189_eq]
  refine (rX_at _ _ _ n d).trans ?_
  rw [rO_at]
  refine congrArg (fun s : EReal => (kArr U).x (ix2 n d) + (kArr U).gt (ix2 0 d) * s) (Finset.sum_congr rfl fun j _ => ?_)
  rw [rY_at]
  simp only [(kArr U).aA_at (kC U) (kC_at U), hG]
  rfl

variable (m : (ℓ : Loc nD τ sig) → Buf (Elt Ideal) ℓ) (c : Dev nD)

theorem V_eq (b : Ref sig .tc) : V m c b = StableHlo.after hostOps0_6 (s5 (fun b => m (c, b))) (Proc.devRef .tc b) := by
  rfl

/-- The small arrays are joined row by row. -/
theorem v4_eq : StableHlo.after hostOps0_6 (s5 U) (Proc.devRef .tc main_v4) = StableHlo.after hostOps0_2 (s1 U) (Proc.devRef .tc main_v4) := by
  unfold s5 s4 s3 s2; after_reads_simp

theorem s1_arg17 : s1 U (Proc.devRef .tc main_arg17) = U (Proc.devRef .tc main_arg17) := by unfold s1; after_reads_simp
theorem s1_arg18 : s1 U (Proc.devRef .tc main_arg18) = U (Proc.devRef .tc main_arg18) := by unfold s1; after_reads_simp
theorem s1_arg20 : s1 U (Proc.devRef .tc main_arg20) = U (Proc.devRef .tc main_arg20) := by unfold s1; after_reads_simp

theorem v4_3 (d : Fin 1024) : (V m c main_v4 : FVec Ideal S16x1024 .f32) (ix2 3 d) = (m (c.tc.loc main_arg17) : FVec Ideal S1x1024 .f32) (ix2 0 d) := by
  rw [V_eq, v4_eq]
  after_reads_at
  exact congrFun (s1_arg17 _) _

theorem v4_4 (d : Fin 1024) : (V m c main_v4 : FVec Ideal S16x1024 .f32) (ix2 4 d) = (m (c.tc.loc main_arg18) : FVec Ideal S1x1024 .f32) (ix2 0 d) := by
  rw [V_eq, v4_eq]
  after_reads_at
  exact congrFun (s1_arg18 _) _

theorem v4_6 (d : Fin 1024) : (V m c main_v4 : FVec Ideal S16x1024 .f32) (ix2 6 d) = (m (c.tc.loc main_arg20) : FVec Ideal S1x1024 .f32) (ix2 0 d) := by
  rw [V_eq, v4_eq]
  after_reads_at
  exact congrFun (s1_arg20 _) _

end Cert.Kernel5Ideal.BwdOps

end
-- ==== Proof.BwdTile.lean ====
/- The rows of the layer's cotangent that a grid point of `bwd_mid` stores, and what they hold at an index. -/
module

public import proofs.«01_k».proof.Proof.Gen.Kernel5Ideal.Frame.Runs
public import proofs.«01_k».proof.Proof.BwdRef
public import proofs.«01_k».proof.Proof.MidPay

@[expose] public section

set_option maxRecDepth 16384

noncomputable section

open Idealize.ShloMosaic Idealize.ShloMosaic.TcCoe

namespace Cert.BwdMid

open Cert.Kernel5Ideal Cert.Kernel5Ideal.Gen Cert.Bwd

section any

variable {F : FTy → Type} [FloatOps F]

/-- A row of the vectors lies inside them. -/
theorem inR (r : Fin 16) : ∀ a : Fin S16x1024.rank, (![r.val, 0] : Fin 2 → ℕ) a + (![1, 1024] : Fin 2 → ℕ) a ≤ S16x1024.size a := by
  revert r; decide

/-- A row of the layer's vectors. -/
def row17 (Y : Vec F S16x1024 .f32) (r : Fin 16) : Vec F S1x1024 .f32 :=
  fun i => View.ld (Val := Elt F) (e' := .f32) Y (Rect.unit (s := S16x1024) ![r.val, 0] ![1, 1024] (inR r)) i

/-- The rows of the layer's cotangent that a point stores, from the four cotangents, the gradient past the norm, the rows after
    the layer and the vectors. -/
def tile (D0 D1 D2 D3 : Vec F S1x256x1024 .f32) (dx X : Vec F S256x1024 .f32) (W : Vec F S16x1024 .f32) : FVec F S256x1024 .bf16 :=
  k0_pay36 (k0_pay35 (k0_pay26 D0 D1 D2 D3) (k0_pay28 X) (k0_pay29 X) (k0_pay30 (row17 W 4)) (k0_pay31 (row17 W 6)) dx) (row17 W 3)

variable (m : (ℓ : Loc nD τ sig) → Buf (Elt F) ℓ)

/-- The rows of the cotangent that point `t` stores, from the arrays' blocks. -/
def tileAt (c : Dev nD) (t : Fin cfg0.N) : FVec F S256x1024 .bf16 :=
  tile (iblk m c 0 t) (iblk m c 1 t) (iblk m c 2 t) (iblk m c 3 t) (iblk m c 4 t) (iblk m c 5 t) (iblk m c 17 t)

end any

variable (D0 D1 D2 D3 : FVec Ideal S1x256x1024 .f32) (dx X : FVec Ideal S256x1024 .f32) (W : FVec Ideal S16x1024 .f32)

/-- A row of the vectors, at an index. -/
theorem row17_at (r : Fin 16) (d : Fin 1024) : (row17 (F := Ideal) W r (ix2 0 d) : EReal) = W (ix2 r d) :=
  View.ld_unit_apply_of (Val := Elt Ideal) (e := .f32) W ![r.val, 0] ![1, 1024] (inR r) (ix2 0 d) (ix2 r d) (by intro a; fin_cases a <;> simp)

/-- The sum of the four cotangents. -/
theorem pay26_at (x : Fin 256) (d : Fin 1024) : (k0_pay26 (F := Ideal) D0 D1 D2 D3 (ix2 x d) : EReal)
    = (D0 (ix3 0 x d) + D1 (ix3 0 x d)) + (D2 (ix3 0 x d) + D3 (ix3 0 x d)) := by
  pointwise [k0_pay26]

/-- The reciprocal deviation of a row. -/
theorem pay28_at (x : Fin 256) : (k0_pay28 (F := Ideal) X (ix2 x 0) : EReal) = Ideal.rsqrt (ms fun e => X (ix2 x e)) := by
  pointwise [k0_pay28, k0_pay27, ms, Loss.cD, Loss.eps]

/-- The normed row. -/
theorem pay29_at (x : Fin 256) (d : Fin 1024) : (k0_pay29 (F := Ideal) X (ix2 x d) : EReal) = X (ix2 x d) * Ideal.rsqrt (ms fun e => X (ix2 x e)) := by
  rw [← pay28_at]
  unfold k0_pay29
  generalize k0_pay28 (F := Ideal) X = P
  pointwise [k0_pay27]

/-- The gradient through the norm, added to the one past it. -/
theorem pay35_at (v13 v25 v56 : FVec Ideal S256x1024 .f32) (v23 : FVec Ideal S256x1 .f32) (v27 v31 : FVec Ideal S1x1024 .f32) (x : Fin 256) (d : Fin 1024) :
    (k0_pay35 (F := Ideal) v13 v23 v25 v27 v31 v56 (ix2 x d) : EReal)
      = v56 (ix2 x d) + v23 (ix2 x 0) * (v13 (ix2 x d) * v31 (ix2 0 d) * v27 (ix2 0 d) - v25 (ix2 x d)
          * Ideal.div (∑ e : Fin 1024, (v13 (ix2 x e) * v31 (ix2 0 e) * v27 (ix2 0 e) : EReal) * v25 (ix2 x e)) Loss.cD) := by
  pointwise [k0_pay35, Loss.cD]

/-- The scale of the modulation. -/
theorem pay31_at (v : FVec Ideal S1x1024 .f32) (d : Fin 1024) : (k0_pay31 (F := Ideal) v (ix2 0 d) : EReal) = Loss.cOne + v (ix2 0 d) := by
  pointwise [k0_pay31, Loss.cOne]

/-- The gain. -/
theorem pay30_at (v : FVec Ideal S1x1024 .f32) (d : Fin 1024) : (k0_pay30 (F := Ideal) v (ix2 0 d) : EReal) = v (ix2 0 d) := by
  pointwise [k0_pay30]

/-- The product with the factor of the layer. -/
theorem pay36_at (v : FVec Ideal S256x1024 .f32) (w : FVec Ideal S1x1024 .f32) (x : Fin 256) (d : Fin 1024) :
    (k0_pay36 (F := Ideal) v w (ix2 x d) : EReal) = v (ix2 x d) * w (ix2 0 d) := by
  pointwise [k0_pay36]

/-- The rows stored, at an index: the gradient past the norm and the one through it, times the factor of the layer. -/
theorem tile_at (x : Fin 256) (d : Fin 1024) : (tile (F := Ideal) D0 D1 D2 D3 dx X W (ix2 x d) : EReal)
    = (dx (ix2 x d) + back (fun e => X (ix2 x e)) (fun e => ((D0 (ix3 0 x e) + D1 (ix3 0 x e)) + (D2 (ix3 0 x e) + D3 (ix3 0 x e)) : EReal)
        * (Loss.cOne + W (ix2 6 e)) * W (ix2 4 e)) d) * W (ix2 3 d) := by
  unfold tile
  refine (pay36_at _ _ x d).trans ?_
  rw [row17_at]
  refine congrArg (fun s : EReal => s * (W (ix2 3 d) : EReal)) ?_
  refine (pay35_at _ _ _ _ _ _ x d).trans ?_
  simp only [pay26_at, pay28_at, pay29_at, pay30_at, pay31_at, row17_at]
  rfl

end Cert.BwdMid

end
-- ==== Proof.BwdPoint.lean ====
/- The rows of the layer's cotangent that a grid point of `bwd_mid` stores, in the arguments. -/
module

public import proofs.«01_k».proof.Proof.BwdHost
public import proofs.«01_k».proof.Proof.BwdTile

@[expose] public section

set_option maxRecDepth 16384

noncomputable section

open Idealize.ShloMosaic Idealize.ShloMosaic.TcCoe Idealize.SL.Sem

namespace Cert.BwdMid

open Cert.Kernel5Ideal Cert.Kernel5Ideal.Gen Cert.Kernel5Ideal.BwdOps Cert.Bwd
open Cert.Reference5Ideal.BwdRef (gN outN)

/-- The block of each window at a point. -/
theorem idx_val : ∀ t : Fin cfg0.N, win0_0.index t = ![0, 31 - t.val, 0] ∧ win0_1.index t = ![1, 31 - t.val, 0] ∧ win0_2.index t = ![2, 31 - t.val, 0]
    ∧ win0_3.index t = ![3, 31 - t.val, 0] ∧ win0_4.index t = ![31 - t.val, 0] ∧ win0_5.index t = ![31 - t.val, 0] ∧ win0_17.index t = ![0, 0]
    ∧ win0_27.index t = ![31 - t.val, 0] :=
  (by decide +kernel : ∀ t : Fin grid0.N, _)

/-- The row of the arrays that row `x` of a point's tile is: the points go from the last rows to the first. -/
def row (t : Fin cfg0.N) (x : Fin 256) : Fin 8192 := ⟨256 * (31 - t.val) + x.val, by omega⟩

variable (m : (ℓ : Loc nD τ sig) → Buf (Elt Ideal) ℓ) (c : Dev nD) (t : Fin cfg0.N)

/-- A point reads the rows of the first cotangent. -/
theorem b0 (x : Fin 256) (d : Fin 1024) : (iblk m c 0 t : S1x256x1024.Idx → EReal) (ix3 0 x d)
    = (m (c.tc.loc main_arg0) : FVec Ideal S4x8192x1024 .f32) (ix3 0 (row t x) d) := by
  rw [← V_main_arg0 m c]
  blk_simp [iblk]
  blk_ext [idx_val t]
  all_goals simp only [row]
  all_goals omega

/-- A point reads the rows of the second cotangent. -/
theorem b1 (x : Fin 256) (d : Fin 1024) : (iblk m c 1 t : S1x256x1024.Idx → EReal) (ix3 0 x d)
    = (m (c.tc.loc main_arg0) : FVec Ideal S4x8192x1024 .f32) (ix3 1 (row t x) d) := by
  rw [← V_main_arg0 m c]
  blk_simp [iblk]
  blk_ext [idx_val t]
  all_goals simp only [row]
  all_goals omega

/-- A point reads the rows of the third cotangent. -/
theorem b2 (x : Fin 256) (d : Fin 1024) : (iblk m c 2 t : S1x256x1024.Idx → EReal) (ix3 0 x d)
    = (m (c.tc.loc main_arg0) : FVec Ideal S4x8192x1024 .f32) (ix3 2 (row t x) d) := by
  rw [← V_main_arg0 m c]
  blk_simp [iblk]
  blk_ext [idx_val t]
  all_goals simp only [row]
  all_goals omega

/-- A point reads the rows of the fourth cotangent. -/
theorem b3 (x : Fin 256) (d : Fin 1024) : (iblk m c 3 t : S1x256x1024.Idx → EReal) (ix3 0 x d)
    = (m (c.tc.loc main_arg0) : FVec Ideal S4x8192x1024 .f32) (ix3 3 (row t x) d) := by
  rw [← V_main_arg0 m c]
  blk_simp [iblk]
  blk_ext [idx_val t]
  all_goals simp only [row]
  all_goals omega

/-- A point reads the rows of the gradient past the norm. -/
theorem b4 (x : Fin 256) (d : Fin 1024) : (iblk m c 4 t : S256x1024.Idx → EReal) (ix2 x d)
    = (m (c.tc.loc main_arg1) : FVec Ideal S8192x1024 .f32) (ix2 (row t x) d) := by
  rw [← V_main_arg1 m c]
  blk_simp [iblk]
  blk_ext [idx_val t]
  all_goals simp only [row]
  all_goals omega

/-- A point reads the rows after the layer. -/
theorem b5 (x : Fin 256) (d : Fin 1024) : (iblk m c 5 t : S256x1024.Idx → EReal) (ix2 x d)
    = (V m c main_v189 : FVec Ideal S8192x1024 .f32) (ix2 (row t x) d) := by
  blk_simp [iblk]
  blk_ext [idx_val t]
  all_goals simp only [row]
  all_goals omega

/-- A point reads all the vectors. -/
theorem b17 (r : Fin 16) (d : Fin 1024) : (iblk m c 17 t : S16x1024.Idx → EReal) (ix2 r d)
    = (V m c main_v4 : FVec Ideal S16x1024 .f32) (ix2 r d) := by
  blk_simp [iblk]
  blk_ext [idx_val t]

/-- The rows stored are those of the cotangent of the layer's result. -/
theorem tileAt_at (x : Fin 256) (d : Fin 1024) : (tileAt (F := Ideal) m c t (ix2 x d) : EReal)
    = outN (m (c.tc.loc main_arg18)) (m (c.tc.loc main_arg20)) (m (c.tc.loc main_arg17)) (m (c.tc.loc main_arg0))
        (V m c main_v189) (m (c.tc.loc main_arg1)) (row t x) d := by
  unfold tileAt
  refine (tile_at _ _ _ _ _ _ _ x d).trans ?_
  unfold outN
  have e3 := (b17 m c t 3 d).trans (v4_3 m c d)
  have e4 := fun e => (b17 m c t 4 e).trans (v4_4 m c e)
  have e6 := fun e => (b17 m c t 6 e).trans (v4_6 m c e)
  rw [b4, e3]
  refine congrArg (fun s : EReal => (@id EReal ((m (c.tc.loc main_arg1) : FVec Ideal S8192x1024 .f32) (ix2 (row t x) d)) + s)
    * @id EReal ((m (c.tc.loc main_arg17) : FVec Ideal S1x1024 .f32) (ix2 0 d))) ?_
  refine congrArg₂ (fun f g => back f g d) (funext fun e => b5 m c t x e) (funext fun e => ?_)
  unfold gN
  rw [b0, b1, b2, b3, e4, e6, ← add_assoc]

end Cert.BwdMid

end
-- ==== Proof.BwdPre.lean ====
/- The precondition of the pair of `bwd_mid`: what the rows after the layer, and the gradient of the normed rows, are computed
   from are real numbers. -/
module

public import proofs.«01_k».proof.Defs
public import proofs.«01_k».proof.Proof.BwdHost

@[expose] public section

set_option maxRecDepth 16384

noncomputable section

open Idealize.ShloMosaic Idealize.ShloMosaic.TcCoe Idealize.SL.Sem

namespace Cert.BwdMid

open Cert.Kernel5Ideal Cert.Kernel5Ideal.BwdOps Cert.Bwd
open Cert.Reference5Ideal.BwdRef (gN rZ_at)

/-- The buffers of a device at the start. -/
def U (m : (ℓ : Loc nD τ sig) → Buf (Elt Ideal) ℓ) (c : Dev nD) : Valuation τ sig (Elt Ideal) := fun b => m (c, b)

/-- The rows after the layer that the call reads. -/
theorem V189_at (m : (ℓ : Loc nD τ sig) → Buf (Elt Ideal) ℓ) (c : Dev nD) (n : Fin 8192) (d : Fin 1024) :
    (Gen.V m c main_v189 : FVec Ideal S8192x1024 .f32) (ix2 n d) = (kArr (U m c)).inp.x2 n d :=
  (congrFun (V_eq m c main_v189) (ix2 n d)).trans (v189_at (U m c) n d)

/-- Under the precondition the layer's arrays and the gradient of the normed rows are real. -/
theorem real_of_pre [Cert.Pre_finite_mid.Facts] (m : (ℓ : Loc nD τ sig) → Buf (Elt Ideal) ℓ) (hpre : Cert.Pre_Kernel5Ideal_finite_mid m) (c : Dev nD) :
    (kArr (U m c)).inp.Real ∧ ∀ n d, IsReal (gN (m (c.tc.loc main_arg18)) (m (c.tc.loc main_arg20)) (m (c.tc.loc main_arg0)) n d) := by
  have e := congrFun (hpre c) ix0
  unfold Cert.Pre_finite_mid.fn Cert.Pre_finite_mid.fn_part1 Cert.Pre_finite_mid.fn_part2 Cert.Pre_finite_mid.fn_part3 Cert.Pre_finite_mid.fn_part4
    Cert.Pre_finite_mid.fn_part5 at e
  obtain ⟨e, h20⟩ := IntOp.andi_eq_one.1 e
  obtain ⟨e, h18⟩ := IntOp.andi_eq_one.1 e
  obtain ⟨e, h17⟩ := IntOp.andi_eq_one.1 e
  obtain ⟨e, h16⟩ := IntOp.andi_eq_one.1 e
  obtain ⟨e, h15⟩ := IntOp.andi_eq_one.1 e
  obtain ⟨e, h14⟩ := IntOp.andi_eq_one.1 e
  obtain ⟨e, h13⟩ := IntOp.andi_eq_one.1 e
  obtain ⟨e, h12⟩ := IntOp.andi_eq_one.1 e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h0, h2⟩ := IntOp.andi_eq_one.1 e
  haveI : Subsingleton Cert.Pre_finite_mid.S_.Idx := ⟨fun a b => funext fun i => i.elim0⟩
  refine ⟨⟨fun n j => ?_, fun n d => IsReal.of_all _ _ _ _ _ _ h2 (ix2 n d), fun k q => IsReal.of_all _ _ _ _ _ _ h7 (ix3 0 k q),
    fun q => IsReal.of_all _ _ _ _ _ _ h8 (ix2 0 q), fun q => IsReal.of_all _ _ _ _ _ _ h9 (ix2 0 q), fun q => IsReal.of_all _ _ _ _ _ _ h10 (ix2 0 q),
    fun q => IsReal.of_all _ _ _ _ _ _ h11 (ix2 0 q), fun q => IsReal.of_all _ _ _ _ _ _ h12 (ix2 0 q), fun h t s => IsReal.of_all _ _ _ _ _ _ h13 (ix4 0 h t s),
    fun h t => IsReal.of_all _ _ _ _ _ _ h14 (ix3 0 h t), fun d => IsReal.of_all _ _ _ _ _ _ h15 (ix2 0 d), fun j d => IsReal.of_all _ _ _ _ _ _ h16 (ix3 0 j d),
    fun d => IsReal.of_all _ _ _ _ _ _ h17 (ix2 0 d)⟩, fun n d => ?_⟩
  · exact (congrArg IsReal (rZ_at (U m c (Proc.devRef .tc main_arg2)) (U m c (Proc.devRef .tc main_arg3)) (U m c (Proc.devRef .tc main_arg4))
      (U m c (Proc.devRef .tc main_arg5)) (U m c (Proc.devRef .tc main_arg6)) n j)).mpr <| Mid.real_pre (fun n d => IsReal.of_all _ _ _ _ _ _ h2 (ix2 n d)) (fun d => IsReal.of_all _ _ _ _ _ _ h3 (ix2 0 d))
      (fun d => IsReal.of_all _ _ _ _ _ _ h4 (ix2 0 d)) (fun d => IsReal.of_all _ _ _ _ _ _ h5 (ix2 0 d)) (fun d j => IsReal.of_all _ _ _ _ _ _ h6 (ix3 0 d j)) n j
  · have r0 := fun w : Fin 4 => IsReal.of_all _ _ _ _ _ _ h0 (ix3 w n d)
    exact (((((r0 0).add (r0 1)).add (r0 2)).add (r0 3)).mul (Mid.cOne_real.add (IsReal.of_all _ _ _ _ _ _ h20 (ix2 0 d)))).mul
      (IsReal.of_all _ _ _ _ _ _ h18 (ix2 0 d))

end Cert.BwdMid

end
-- ==== Proof.BwdFrame.lean ====
/-
  The run of the token mixer's backward call, by hand: the frame, and what is stored of the layer's cotangent.

  Of most staging buffers and of the scratch buffers nothing has to be known: so the proof data of this module is
  RELATIONAL. What the cotangent is computed from the body leaves as it found it, in the cotangent's buffer it leaves the
  rows computed, for every other window the relation holds of any two contents, and the invariant between points owns
  every scratch buffer at some contents. What is left of the body is then one triple, from the buffers at any contents.
  It is the same in the three cases of the body's two conditionals, of which each has its run.
-/
module

public import proofs.«01_k».proof.Proof.BwdTile
public import proofs.«01_k».proof.Proof.Gen.Kernel5Ideal.Frame.RunA
public import proofs.«01_k».proof.Proof.Gen.Kernel5Ideal.Frame.RunB
public import proofs.«01_k».proof.Proof.Gen.Kernel5Ideal.Frame.RunC
public import Idealize.ShloMosaic.Lib.Claim
public import Idealize.ShloMosaic.Lib.Pipeline.ValueKit.Acc

@[expose] public section

set_option maxRecDepth 16384

noncomputable section

namespace Cert.BwdMid

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A buffer at some contents -/

section Any

variable {c : Dev nD} {sh : Shape} {e : EltTy} {mr : Memref sig .tc .vmem sh e}

/-- A buffer owned at known contents is owned at some contents. -/
theorem any_owns (d : sh.Idx → Elt F e) :
    (owns (c : Thread nD τ) mr fullShare d : sProp 𝕄) ⊢ iprop(∃ d, owns (c : Thread nD τ) mr fullShare d) :=
  exists_intro (Φ := fun d => owns (c : Thread nD τ) mr fullShare d) d

/-- The cells of a buffer, owned, are the buffer at some contents. -/
theorem any_cells (f : mr.view.ty.Contents (Elt F)) :
    (mr.view.loc (c : Thread nD τ) ↦[mr.view.set]{fullShare} f : sProp 𝕄) ⊢ iprop(∃ d, owns (c : Thread nD τ) mr fullShare d) :=
  (owns_intro (c : Thread nD τ) mr fullShare f).trans (any_owns _)

/-- A buffer with pieces written over something is the buffer at some contents. -/
theorem any_writes (L : List (View.Piece (Elt F) sh e)) :
    (iprop(∃ f, mr.view.loc (c : Thread nD τ) ↦[mr.view.set]{fullShare} mr.view.writes (Elt F) f L) : sProp 𝕄)
      ⊢ iprop(∃ d, owns (c : Thread nD τ) mr fullShare d) :=
  exists_elim fun f => any_cells _

/-- A buffer with pieces that cover it written over something is the buffer at what the pieces hold. -/
theorem canon_writes {L : List (View.Piece (Elt F) sh e)} {X : sh.Idx → Elt F e} (hL : ∀ y, ∃ p ∈ L, y ∈ p.1.set) (hX : View.canon L = X) :
    (iprop(∃ f, mr.view.loc (c : Thread nD τ) ↦[mr.view.set]{fullShare} mr.view.writes (Elt F) f L) : sProp 𝕄)
      ⊢ owns (c : Thread nD τ) mr fullShare X :=
  exists_elim fun f => by
    rw [← hX, ← View.read_writes_eq_canon mr.view f L hL]
    exact owns_intro (c : Thread nD τ) mr fullShare _

/-- A buffer at known contents is one at contents that are those. -/
theorem kept {X Y : sh.Idx → Elt F e} (h : X = Y) :
    (owns (c : Thread nD τ) mr fullShare X : sProp 𝕄) ⊢ iprop(∃ Z, ⌜Z = Y⌝ ∗ owns (c : Thread nD τ) mr fullShare Z) := by
  subst h
  iintro H
  iexists X
  isplitr
  · ipureintro; rfl
  iexact H

/-- A buffer at some contents is one at contents of which nothing is said. -/
theorem any_true :
    (iprop(∃ d, owns (c : Thread nD τ) mr fullShare d) : sProp 𝕄) ⊢ iprop(∃ X, ⌜True⌝ ∗ owns (c : Thread nD τ) mr fullShare X) := by
  iintro ⟨%d, H⟩
  iexists d
  isplitr
  · ipureintro; trivial
  iexact H

end Any

/-- Three separate resources, grouped either way. -/
theorem sep_flat (P Q R : sProp 𝕄) : iprop((P ∗ Q) ∗ R) = iprop(P ∗ Q ∗ R) :=
  BI.equiv_iff.mp ⟨BI.sep_assoc, BI.sep_assoc'⟩

/-! ## The body at any point -/

/-- The windows' staging buffers at point `t`, at the contents `Y`. -/
def staged (c : Dev nD) (t : Fin cfg0.N) (Y : (w : Fin cfg0.W) → (cfg0.win w).block.Idx → Elt F (cfg0.win w).elt) : sProp 𝕄 :=
  iprop(owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3)
    ∗ owns (c : Thread nD τ) (ms0_4 t) fullShare (Y 4)
    ∗ owns (c : Thread nD τ) (ms0_5 t) fullShare (Y 5)
    ∗ owns (c : Thread nD τ) (ms0_6 t) fullShare (Y 6)
    ∗ owns (c : Thread nD τ) (ms0_7 t) fullShare (Y 7)
    ∗ owns (c : Thread nD τ) (ms0_8 t) fullShare (Y 8)
    ∗ owns (c : Thread nD τ) (ms0_9 t) fullShare (Y 9)
    ∗ owns (c : Thread nD τ) (ms0_10 t) fullShare (Y 10)
    ∗ owns (c : Thread nD τ) (ms0_11 t) fullShare (Y 11)
    ∗ owns (c : Thread nD τ) (ms0_12 t) fullShare (Y 12)
    ∗ owns (c : Thread nD τ) (ms0_13 t) fullShare (Y 13)
    ∗ owns (c : Thread nD τ) (ms0_14 t) fullShare (Y 14)
    ∗ owns (c : Thread nD τ) (ms0_15 t) fullShare (Y 15)
    ∗ owns (c : Thread nD τ) (ms0_16 t) fullShare (Y 16)
    ∗ owns (c : Thread nD τ) (ms0_17 t) fullShare (Y 17)
    ∗ owns (c : Thread nD τ) (ms0_18 t) fullShare (Y 18)
    ∗ owns (c : Thread nD τ) (ms0_19 t) fullShare (Y 19)
    ∗ owns (c : Thread nD τ) (ms0_20 t) fullShare (Y 20)
    ∗ owns (c : Thread nD τ) (ms0_21 t) fullShare (Y 21)
    ∗ owns (c : Thread nD τ) (ms0_22 t) fullShare (Y 22)
    ∗ owns (c : Thread nD τ) (ms0_23 t) fullShare (Y 23)
    ∗ owns (c : Thread nD τ) (ms0_24 t) fullShare (Y 24)
    ∗ owns (c : Thread nD τ) (ms0_25 t) fullShare (Y 25)
    ∗ owns (c : Thread nD τ) (ms0_26 t) fullShare (Y 26)
    ∗ owns (c : Thread nD τ) (ms0_27 t) fullShare (Y 27)
    ∗ owns (c : Thread nD τ) (ms0_28 t) fullShare (Y 28)
    ∗ owns (c : Thread nD τ) (ms0_29 t) fullShare (Y 29)
    ∗ owns (c : Thread nD τ) (ms0_30 t) fullShare (Y 30)
    ∗ owns (c : Thread nD τ) (ms0_31 t) fullShare (Y 31)
    ∗ owns (c : Thread nD τ) (ms0_32 t) fullShare (Y 32))

/-- The windows' staging buffers at point `t` after the body: what is read as it was found, the cotangent's rows as computed, the
    others at some contents. -/
def stagedOut (c : Dev nD) (t : Fin cfg0.N) (Y : (w : Fin cfg0.W) → (cfg0.win w).block.Idx → Elt F (cfg0.win w).elt) : sProp 𝕄 :=
  iprop(owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3)
    ∗ owns (c : Thread nD τ) (ms0_4 t) fullShare (Y 4)
    ∗ owns (c : Thread nD τ) (ms0_5 t) fullShare (Y 5)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ owns (c : Thread nD τ) (ms0_17 t) fullShare (Y 17)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ owns (c : Thread nD τ) (ms0_27 t) fullShare (tile (Y 0) (Y 1) (Y 2) (Y 3) (Y 4) (Y 5) (Y 17))
    ∗ (∃ d, owns (c : Thread nD τ) (ms0_28 t) fullShare d)
    ∗ (∃ d, owns (c : Thread nD τ) (ms0_29 t) fullShare d)
    ∗ (∃ d, owns (c : Thread nD τ) (ms0_30 t) fullShare d)
    ∗ (∃ d, owns (c : Thread nD τ) (ms0_31 t) fullShare d)
    ∗ (∃ d, owns (c : Thread nD τ) (ms0_32 t) fullShare d))

/-- The scratch buffers at some contents. -/
def scratchAny (c : Dev nD) : sProp 𝕄 :=
  iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d))

set_option maxHeartbeats 4000000 in
/-- THE BODY at any point: from its staging buffers and its scratch at any contents it runs to its end and hands all of
    them back, what it reads as it was and the cotangent's rows as computed. -/
theorem body_any (c : Dev nD) (t : Fin cfg0.N) (Y : (w : Fin cfg0.W) → (cfg0.win w).block.Idx → Elt F (cfg0.win w).elt)
    (s0 : Vec F S128x512 .f32) (s1 : Vec F S32x512 .f32) (K : PUnit → sProp 𝕄) :
    iprop(staged c t Y ∗ owns (c : Thread nD τ) scM0_0 fullShare s0 ∗ owns (c : Thread nD τ) scM0_1 fullShare s1
        ∗ (∃ d, owns (c : Thread nD τ) scM0_2 fullShare d) ∗ (∃ d, owns (c : Thread nD τ) scM0_3 fullShare d)
        ∗ (∃ d, owns (c : Thread nD τ) scM0_4 fullShare d) ∗ (iprop(stagedOut c t Y ∗ scratchAny c) -∗ K ⟨⟩))
      ⊢ wp frame (wpE (defs₀ (F := F)) Variants.none c none) Set.univ (bodyAt0 t) K := by
  have hN : t.val < 32 := lt_of_lt_of_eq t.isLt (show cfg0.N = 32 from N_0)
  unfold staged stagedOut scratchAny
  simp only [sep_flat (F := F)]
  by_cases h0 : t.val % 32 = 0
  · have h1 : ¬ t.val % 32 = 31 := by omega
    refine BIBase.Entails.trans ?_ ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h))
      (Y 0) (Y 1) (Y 2) (Y 3) (Y 4) (Y 5) (Y 6) (Y 7) (Y 8) (Y 9) (Y 10) (Y 11) (Y 12) (Y 13) (Y 14) (Y 15) (Y 16) (Y 17) (Y 18) (Y 19) (Y 20) (Y 21) (Y 22) (Y 23)).2.2.2.2.2.2.2.2.2.2.2.2.2.2 Set.univ K)
    repeat' first
      | with_reducible exact .rfl
      | with_reducible exact any_owns _
      | with_reducible exact any_writes _
      | ((with_reducible refine canon_writes ?_ ?_) <;> [exact View.cover_of_tiledL _ ![256, 1024] (by sl_kernel_rfl); (frame_out; rfl)])
      | with_reducible refine BIClass.sep_mono ?_ ?_
      | with_reducible refine wand_mono ?_ .rfl
  · by_cases h1 : t.val % 32 = 31
    · refine BIBase.Entails.trans ?_ ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1)
      (Y 0) (Y 1) (Y 2) (Y 3) (Y 4) (Y 5) (Y 6) (Y 7) (Y 8) (Y 9) (Y 10) (Y 11) (Y 12) (Y 13) (Y 14) (Y 15) (Y 16) (Y 17) (Y 18) (Y 19) (Y 20) (Y 21) (Y 22) (Y 23) (Y 28) (Y 29) (Y 30) (Y 31) s0 s1).2.2.2.2.2.2.2.2.2.2.2.2.2.2 Set.univ K)
      repeat' first
        | with_reducible exact .rfl
        | with_reducible exact any_owns _
        | with_reducible exact any_writes _
        | ((with_reducible refine canon_writes ?_ ?_) <;> [exact View.cover_of_tiledL _ ![256, 1024] (by sl_kernel_rfl); (frame_out; rfl)])
        | with_reducible exact any_cells _
        | with_reducible refine BIClass.sep_mono ?_ ?_
        | with_reducible refine wand_mono ?_ .rfl
    · refine BIBase.Entails.trans ?_ ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h))
      (Y 0) (Y 1) (Y 2) (Y 3) (Y 4) (Y 5) (Y 6) (Y 7) (Y 8) (Y 9) (Y 10) (Y 11) (Y 12) (Y 13) (Y 14) (Y 15) (Y 16) (Y 17) (Y 18) (Y 19) (Y 20) (Y 21) (Y 22) (Y 23) (Y 28) (Y 29) (Y 30) (Y 31) s0 s1).2.2.2.2.2.2.2.2.2.2.2.2.2.2 (Y 32) Set.univ K)
      repeat' first
        | with_reducible exact .rfl
        | with_reducible exact any_owns _
        | with_reducible exact any_writes _
        | ((with_reducible refine canon_writes ?_ ?_) <;> [exact View.cover_of_tiledL _ ![256, 1024] (by sl_kernel_rfl); (frame_out; rfl)])
        | with_reducible exact any_cells _
        | with_reducible refine BIClass.sep_mono ?_ ?_
        | with_reducible refine wand_mono ?_ .rfl

/-! ## The run -/

/-- The proof data: the arrays as the region finds them; what the body reads it leaves as it found it, in the cotangent's buffer it
    leaves the rows computed, of the other buffers nothing is said; every scratch buffer at some contents between points. -/
def rdat (c : Dev nD) : RDat τ (Elt F) Unit ℕ (UR sig nD τ) ℕ cfg0 c where
  A w := V m c (Pipeline.arrRef spec0 w)
  after w t := match w with
    | 0 => fun Y X => X = Y
    | 1 => fun Y X => X = Y
    | 2 => fun Y X => X = Y
    | 3 => fun Y X => X = Y
    | 4 => fun Y X => X = Y
    | 5 => fun Y X => X = Y
    | 17 => fun Y X => X = Y
    | 27 => fun _ X => X = tileAt m c t
    | _ => fun _ _ => True
  Φ _ := Pipeline.ΦA spec0 c
  q w := Pipeline.shareOf spec0 w
  owed _ := 0

set_option maxHeartbeats 4000000 in
/-- What the body finds in a buffer that it leaves as found is the array's block. -/
theorem finds_blk (c : Dev nD) (t : Fin cfg0.N) (Y : (w : Fin cfg0.W) → (cfg0.win w).block.Idx → Elt F (cfg0.win w).elt)
    (hY : ∀ w, (rdat (F := F) m c).Finds w t (Y w)) : Y 0 = iblk m c 0 t ∧ Y 1 = iblk m c 1 t ∧ Y 2 = iblk m c 2 t ∧ Y 3 = iblk m c 3 t
      ∧ Y 4 = iblk m c 4 t ∧ Y 5 = iblk m c 5 t ∧ Y 17 = iblk m c 17 t := by
  refine ⟨?_, ?_, ?_, ?_, ?_, ?_, ?_⟩
  · obtain ⟨d, h⟩ := RDat.finds_in_eq_fetched (rdat m c) 0 rfl (fun _ _ _ => rfl) (fun _ _ _ h => h) t _ (hY 0); refine h.trans ?_; unfold RDat.fetched RDat.blockOf iblk; rfl
  · obtain ⟨d, h⟩ := RDat.finds_in_eq_fetched (rdat m c) 1 rfl (fun _ _ _ => rfl) (fun _ _ _ h => h) t _ (hY 1); refine h.trans ?_; unfold RDat.fetched RDat.blockOf iblk; rfl
  · obtain ⟨d, h⟩ := RDat.finds_in_eq_fetched (rdat m c) 2 rfl (fun _ _ _ => rfl) (fun _ _ _ h => h) t _ (hY 2); refine h.trans ?_; unfold RDat.fetched RDat.blockOf iblk; rfl
  · obtain ⟨d, h⟩ := RDat.finds_in_eq_fetched (rdat m c) 3 rfl (fun _ _ _ => rfl) (fun _ _ _ h => h) t _ (hY 3); refine h.trans ?_; unfold RDat.fetched RDat.blockOf iblk; rfl
  · obtain ⟨d, h⟩ := RDat.finds_in_eq_fetched (rdat m c) 4 rfl (fun _ _ _ => rfl) (fun _ _ _ h => h) t _ (hY 4); refine h.trans ?_; unfold RDat.fetched RDat.blockOf iblk; rfl
  · obtain ⟨d, h⟩ := RDat.finds_in_eq_fetched (rdat m c) 5 rfl (fun _ _ _ => rfl) (fun _ _ _ h => h) t _ (hY 5); refine h.trans ?_; unfold RDat.fetched RDat.blockOf iblk; rfl
  · obtain ⟨d, h⟩ := RDat.finds_in_eq_fetched (rdat m c) 17 rfl (fun _ _ _ => rfl) (fun _ _ _ h => h) t _ (hY 17); refine h.trans ?_; unfold RDat.fetched RDat.blockOf iblk; rfl

/-- The body's obligation at every point. -/
theorem body_obligation (c : Dev nD) : (rdat (F := F) m c).BodyObligation (defs₀ (F := F)) Variants.none () Set.univ := fun t Y hY => by
  have key : iprop((Pipeline.ΦA spec0 c : sProp 𝕄) ∗ (rdat m c).owesAt () t.castSucc ∗ staged c t Y)
      ⊢ wp frame (wpE (defs₀ (F := F)) Variants.none c none) Set.univ (bodyAt0 t)
          (fun _ => iprop((Pipeline.ΦA spec0 c : sProp 𝕄) ∗ (rdat m c).owesAt () t.castSucc ∗ stagedOut c t Y)) := by
    rw [PhiA0_eq]
    iintro ⟨⟨⟨⟨%s0, HS0⟩, ⟨%s1, HS1⟩, HS2, HS3, HS4⟩, Hg⟩, Ho, HW⟩
    iapply (body_any c t Y s0 s1 _)
    isplitl [HW]; · iexact HW
    isplitl [HS0]; · iexact HS0
    isplitl [HS1]; · iexact HS1
    isplitl [HS2]; · iexact HS2
    isplitl [HS3]; · iexact HS3
    isplitl [HS4]; · iexact HS4
    iintro ⟨HW, HS⟩
    isplitl [HS Hg]
    · isplitl [HS]
      · unfold scratchAny; iexact HS
      iexact Hg
    isplitl [Ho]; · iexact Ho
    iexact HW
  have row : defs₀ (F := F) .tc cfg0.body (cfg0.bodyArgs t (cfg0.slots t)) = bodyAt0 t := by
    unfold defs₀; rw [Defs.onTc_tc]
  rw [bigSep_W0, bigSep_W0, row]
  refine triple_restated key rfl .rfl fun _ => ?_
  refine BIClass.sep_mono .rfl (BIClass.sep_mono .rfl ?_)
  unfold stagedOut
  have e27 : tile (Y 0) (Y 1) (Y 2) (Y 3) (Y 4) (Y 5) (Y 17) = tileAt m c t := by
    obtain ⟨e0, e1, e2, e3, e4, e5, e17⟩ := finds_blk m c t Y hY
    rw [e0, e1, e2, e3, e4, e5, e17]
    rfl
  iterate 6 refine BIClass.sep_mono (kept (F := F) rfl) ?_
  iterate 11 refine BIClass.sep_mono (any_true (F := F)) ?_
  refine BIClass.sep_mono (kept (F := F) rfl) ?_
  iterate 9 refine BIClass.sep_mono (any_true (F := F)) ?_
  refine BIClass.sep_mono (kept (F := F) e27) ?_
  iterate 4 refine BIClass.sep_mono (any_true (F := F)) ?_
  exact any_true

set_option backward.isDefEq.respectTransparency.types false in
/-- The launch: every weakly fair execution terminates with the input arrays and the other buffers as the region found them,
    and every counter at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := body_obligation m) (hq := fun _ _ _ => rfl) (howed := fun _ _ => rfl) (V := V m) (hmain := hmain m Variants.none)
    (hA := fun c w => by dsimp only [rdat]) (hin := fun _ => .rfl) (hout := fun _ => .rfl)

set_option maxHeartbeats 4000000 in
/-- After the run every argument is as it was. -/
theorem args_kept (c : Dev nD) (r : PUnit × MemSt nD τ sig (Elt F)) (h : Pipeline.RDat.FramePost (cfgs 0) (rdat m) (V m) r) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) := by
  have hw := fun w hin => (Pipeline.RDat.FramePost.arr_in h c w hin).trans (show (rdat m c).A w = V m c (Pipeline.arrRef spec0 w) from rfl)
  have hb := (h c).2
  refine ⟨(hw 3 rfl).trans (V_main_arg0 m c), (hw 4 rfl).trans (V_main_arg1 m c), (hw 6 rfl).trans (V_main_arg2 m c),
    (hb main_arg3 (Pipeline.mem_restRefs_of main_arg3 (by decide) (by decide))).trans (V_main_arg3 m c),
    (hb main_arg4 (Pipeline.mem_restRefs_of main_arg4 (by decide) (by decide))).trans (V_main_arg4 m c),
    (hb main_arg5 (Pipeline.mem_restRefs_of main_arg5 (by decide) (by decide))).trans (V_main_arg5 m c),
    (hb main_arg6 (Pipeline.mem_restRefs_of main_arg6 (by decide) (by decide))).trans (V_main_arg6 m c),
    (hb main_arg7 (Pipeline.mem_restRefs_of main_arg7 (by decide) (by decide))).trans (V_main_arg7 m c),
    (hb main_arg8 (Pipeline.mem_restRefs_of main_arg8 (by decide) (by decide))).trans (V_main_arg8 m c),
    (hb main_arg9 (Pipeline.mem_restRefs_of main_arg9 (by decide) (by decide))).trans (V_main_arg9 m c),
    (hb main_arg10 (Pipeline.mem_restRefs_of main_arg10 (by decide) (by decide))).trans (V_main_arg10 m c),
    (hb main_arg11 (Pipeline.mem_restRefs_of main_arg11 (by decide) (by decide))).trans (V_main_arg11 m c),
    (hb main_arg12 (Pipeline.mem_restRefs_of main_arg12 (by decide) (by decide))).trans (V_main_arg12 m c),
    (hb main_arg13 (Pipeline.mem_restRefs_of main_arg13 (by decide) (by decide))).trans (V_main_arg13 m c),
    (hb main_arg14 (Pipeline.mem_restRefs_of main_arg14 (by decide) (by decide))).trans (V_main_arg14 m c),
    (hb main_arg15 (Pipeline.mem_restRefs_of main_arg15 (by decide) (by decide))).trans (V_main_arg15 m c),
    (hb main_arg16 (Pipeline.mem_restRefs_of main_arg16 (by decide) (by decide))).trans (V_main_arg16 m c),
    (hb main_arg17 (Pipeline.mem_restRefs_of main_arg17 (by decide) (by decide))).trans (V_main_arg17 m c),
    (hb main_arg18 (Pipeline.mem_restRefs_of main_arg18 (by decide) (by decide))).trans (V_main_arg18 m c),
    (hb main_arg19 (Pipeline.mem_restRefs_of main_arg19 (by decide) (by decide))).trans (V_main_arg19 m c),
    (hb main_arg20 (Pipeline.mem_restRefs_of main_arg20 (by decide) (by decide))).trans (V_main_arg20 m c)⟩

/-- THE FRAME, over any values: every execution terminates, the arguments end as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  (θ_run defs _ _).mono (fun r h => ⟨fun c => args_kept m c r h.1, h.2⟩) (run_main m ρ)

end Cert.BwdMid

end
-- ==== Proof.Bwd.lean ====
/- The pair of the call `bwd_mid`: the cotangent of the layer's result is the reference's. -/
module

public import proofs.«01_k».proof.Defs
public import proofs.«01_k».proof.Proof.BwdPoint
public import proofs.«01_k».proof.Proof.BwdPre
public import proofs.«01_k».proof.Proof.BwdFrame
public import Idealize.ShloMosaic.Lib.Pipeline.ArrRel

@[expose] public section

set_option maxRecDepth 16384

noncomputable section

open Idealize.ShloMosaic Idealize.ShloMosaic.TcCoe Idealize.SL.Sem
open Idealize.ShloMosaic.Pipeline (RDat)

namespace Cert.BwdMid

open Cert.Bwd Cert.Kernel5Ideal.BwdOps
open Cert.Reference5Ideal.BwdRef (gN outN rOutB rOutB_at arr res_eq)

section kernel

open Cert.Kernel5Ideal Cert.Kernel5Ideal.Gen

variable (m : (ℓ : Loc nD τ sig) → Buf (Elt Ideal) ℓ) (c : Dev nD)

/-- The cotangent of the layer's result, of the arguments. -/
def result : FVec Ideal S8192x1024 .bf16 := fun y => outN (m (c.tc.loc main_arg18)) (m (c.tc.loc main_arg20)) (m (c.tc.loc main_arg17))
  (m (c.tc.loc main_arg0)) (V m c main_v189) (m (c.tc.loc main_arg1)) (y 0) (y 1)

/-- What the body may leave in the cotangent's buffer is the rows computed. -/
theorem leaves27 (t : Fin cfg0.N) (X : (cfg0.win 27).block.Idx → Elt Ideal (cfg0.win 27).elt) (h : (rdat m c).Leaves 27 t X) :
    X = tileAt m c t := by
  obtain ⟨Y, -, h⟩ := h
  exact h

/-- After the run the array of the cotangent holds it. -/
theorem final27 (r : PUnit × MemSt nD τ sig (Elt Ideal)) (h : RDat.FramePost (cfgs 0) (rdat m) (V m) r) :
    r.2.mem ((c.tc : Thread nD τ).loc main_v196_3) = result m c := by
  obtain ⟨after, hL, hA⟩ := RDat.FramePost.exists_exact h c
  refine (hA 27).trans ?_
  refine ((rdat m c).withAfter after).arrAt_eq_of_covers 27 (result m c) (by decide +kernel) fun t hf y => ?_
  have e := leaves27 m c t _ (hL 27 t hf)
  blk_simp
  refine (congrFun e y).trans ?_
  obtain ⟨x, d, rfl⟩ : ∃ (x : Fin 256) (d : Fin 1024), y = ix2 x d := ⟨y 0, y 1, eq_ix2 y⟩
  refine (tileAt_at m c t x d).trans ?_
  unfold result
  congr 1
  all_goals refine Fin.ext ?_
  all_goals blk_simp [idx_val t]
  all_goals simp only [row]
  all_goals omega

end kernel

/-- Equal arguments make equal arrays of the layer. -/
theorem mk_congr {x2 x2' : FVec Ideal Reference5Ideal.S8192x1024 .f32} {x3 x4 x5 x15 x17 x3' x4' x5' x15' x17' : FVec Ideal Reference5Ideal.S1x1024 .f32} {x6 x6' : FVec Ideal Reference5Ideal.S1x1024x2048 .f32} {x7 x7' : FVec Ideal Reference5Ideal.S1x31x512 .f32} {x8 x9 x10 x11 x12 x8' x9' x10' x11' x12' : FVec Ideal Reference5Ideal.S1x512 .f32} {x13 x13' : FVec Ideal Reference5Ideal.S1x8x128x128 .f32} {x14 x14' : FVec Ideal Reference5Ideal.S1x8x128 .f32} {x16 x16' : FVec Ideal Reference5Ideal.S1x1024x1024 .f32}
    (h2 : x2 = x2') (h3 : x3 = x3') (h4 : x4 = x4') (h5 : x5 = x5') (h6 : x6 = x6') (h7 : x7 = x7') (h8 : x8 = x8') (h9 : x9 = x9') (h10 : x10 = x10') (h11 : x11 = x11') (h12 : x12 = x12') (h13 : x13 = x13') (h14 : x14 = x14') (h15 : x15 = x15') (h16 : x16 = x16') (h17 : x17 = x17') :
    (⟨Reference5Ideal.BwdRef.rZ x2 x3 x4 x5 x6, x2, x7, x8, x9, x10, x11, x12, x13, x14, x15, x16, x17⟩ : Arr)
      = (⟨Reference5Ideal.BwdRef.rZ x2' x3' x4' x5' x6', x2', x7', x8', x9', x10', x11', x12', x13', x14', x15', x16', x17'⟩ : Arr) := by
  subst h2 h3 h4 h5 h6 h7 h8 h9 h10 h11 h12 h13 h14 h15 h16 h17
  rfl

/-- The two memories hold the same arrays of the layer. -/
theorem arr_eq (m : (ℓ : Loc Kernel5Ideal.nD Kernel5Ideal.τ Kernel5Ideal.sig) → Buf (Elt Ideal) ℓ)
    (m' : (ℓ : Loc Reference5Ideal.nD Reference5Ideal.τ Reference5Ideal.sig) → Buf (Elt Ideal) ℓ) (c : Dev Kernel5Ideal.nD)
    (a2 : m' (c.tc.loc Reference5Ideal.main_arg2) = m (c.tc.loc Kernel5Ideal.main_arg2))
    (a3 : m' (c.tc.loc Reference5Ideal.main_arg3) = m (c.tc.loc Kernel5Ideal.main_arg3))
    (a4 : m' (c.tc.loc Reference5Ideal.main_arg4) = m (c.tc.loc Kernel5Ideal.main_arg4))
    (a5 : m' (c.tc.loc Reference5Ideal.main_arg5) = m (c.tc.loc Kernel5Ideal.main_arg5))
    (a6 : m' (c.tc.loc Reference5Ideal.main_arg6) = m (c.tc.loc Kernel5Ideal.main_arg6))
    (a7 : m' (c.tc.loc Reference5Ideal.main_arg7) = m (c.tc.loc Kernel5Ideal.main_arg7))
    (a8 : m' (c.tc.loc Reference5Ideal.main_arg8) = m (c.tc.loc Kernel5Ideal.main_arg8))
    (a9 : m' (c.tc.loc Reference5Ideal.main_arg9) = m (c.tc.loc Kernel5Ideal.main_arg9))
    (a10 : m' (c.tc.loc Reference5Ideal.main_arg10) = m (c.tc.loc Kernel5Ideal.main_arg10))
    (a11 : m' (c.tc.loc Reference5Ideal.main_arg11) = m (c.tc.loc Kernel5Ideal.main_arg11))
    (a12 : m' (c.tc.loc Reference5Ideal.main_arg12) = m (c.tc.loc Kernel5Ideal.main_arg12))
    (a13 : m' (c.tc.loc Reference5Ideal.main_arg13) = m (c.tc.loc Kernel5Ideal.main_arg13))
    (a14 : m' (c.tc.loc Reference5Ideal.main_arg14) = m (c.tc.loc Kernel5Ideal.main_arg14))
    (a15 : m' (c.tc.loc Reference5Ideal.main_arg15) = m (c.tc.loc Kernel5Ideal.main_arg15))
    (a16 : m' (c.tc.loc Reference5Ideal.main_arg16) = m (c.tc.loc Kernel5Ideal.main_arg16))
    (a17 : m' (c.tc.loc Reference5Ideal.main_arg17) = m (c.tc.loc Kernel5Ideal.main_arg17)) :
    arr (StableHlo.launchContents m' c) = kArr (U m c) :=
  mk_congr a2 a3 a4 a5 a6 a7 a8 a9 a10 a11 a12 a13 a14 a15 a16 a17

/-- The cotangent of the layer's result is the reference's. -/
theorem algebraic [Cert.Pre_finite_mid.Facts] : Cert.algebraic_Kernel5Ideal_Reference5Ideal_pre_finite_mid := by
  intro m g m' g' hpre hagree
  refine ⟨fun c => result m c, ?_, ?_⟩
  · refine (θ_run _ _ _).mono (fun r h c => ⟨final27 m c r h.1, args_kept m c r h.1⟩) (run_main (F := Ideal) m g)
  · refine (θ_run _ _ _).mono (fun r h c => ?_) (Cert.Reference5Ideal.Value.run (F := Ideal) m' g')
    obtain ⟨a0, a1, a2, a3, a4, a5, a6, a7, a8, a9, a10, a11, a12, a13, a14, a15, a16, a17, a18, a19, a20⟩ := hagree c
    have hi := arr_eq m m' c a2 a3 a4 a5 a6 a7 a8 a9 a10 a11 a12 a13 a14 a15 a16 a17
    obtain ⟨hZ, hG⟩ := real_of_pre m hpre c
    have hX : ∀ n d, ((arr (StableHlo.launchContents m' c)).aX (arr (StableHlo.launchContents m' c)).rC (arr (StableHlo.launchContents m' c)).rS (ix2 n d) : EReal)
        = (kArr (U m c)).inp.x2 n d := fun n d => hi ▸ Arr.aX_at _ _ _ (Arr.rC_at _) (Arr.rS_at _) n d
    have hV : ∀ n d, (Kernel5Ideal.Gen.V m c Kernel5Ideal.main_v189 : FVec Ideal Kernel5Ideal.S8192x1024 .f32) (ix2 n d) = (kArr (U m c)).inp.x2 n d :=
      V189_at m c
    have hXV : (arr (StableHlo.launchContents m' c)).aX (arr (StableHlo.launchContents m' c)).rC (arr (StableHlo.launchContents m' c)).rS
        = Kernel5Ideal.Gen.V m c Kernel5Ideal.main_v189 := by
      funext y
      obtain ⟨n, d, rfl⟩ : ∃ (n : Fin 8192) (d : Fin 1024), y = ix2 n d := ⟨y 0, y 1, eq_ix2 y⟩
      exact (hX n d).trans (hV n d).symm
    refine ⟨(h c).1.trans ?_, (h c).2⟩
    refine (res_eq _).trans ?_
    rw [hXV]
    funext y
    obtain ⟨n, d, rfl⟩ : ∃ (n : Fin 8192) (d : Fin 1024), y = ix2 n d := ⟨y 0, y 1, eq_ix2 y⟩
    have e0 : StableHlo.launchContents m' c (Proc.devRef .tc Reference5Ideal.main_arg0) = m (c.tc.loc Kernel5Ideal.main_arg0) := a0
    have e1 : StableHlo.launchContents m' c (Proc.devRef .tc Reference5Ideal.main_arg1) = m (c.tc.loc Kernel5Ideal.main_arg1) := a1
    have e17 : StableHlo.launchContents m' c (Proc.devRef .tc Reference5Ideal.main_arg17) = m (c.tc.loc Kernel5Ideal.main_arg17) := a17
    have e18 : StableHlo.launchContents m' c (Proc.devRef .tc Reference5Ideal.main_arg18) = m (c.tc.loc Kernel5Ideal.main_arg18) := a18
    have e20 : StableHlo.launchContents m' c (Proc.devRef .tc Reference5Ideal.main_arg20) = m (c.tc.loc Kernel5Ideal.main_arg20) := a20
    rw [e0, e1, e17, e18, e20]
    exact rOutB_at _ _ _ _ _ _ (fun n d => (hV n d).symm ▸ hZ.x2 n d) hG n d

/-- The reference ends with every semaphore counter at zero and its arguments unchanged. -/
theorem frame_reference : Cert.quiescent_Reference5Ideal := fun m ρ _ =>
  (θ_run _ _ _).mono (fun r h => ⟨fun c => (h c).2, sem_eq_zero_of_no_sems (by decide) r.2⟩)
    (Cert.Reference5Ideal.Value.run (F := Ideal) m ρ)

end Cert.BwdMid

end
-- ==== Proof.BwdBits.lean ====
/-
  The frame of the token mixer's backward call as it is: its text is that of the idealization, whose run is stated over
  any reading of the floats.
-/
module

public import proofs.«01_k».proof.Defs
public import proofs.«01_k».proof.Proof.Gen.Kernel5
public import proofs.«01_k».proof.Proof.BwdFrame

@[expose] public section

set_option maxRecDepth 16384

noncomputable section

namespace Cert.BwdMid

open Idealize.ShloMosaic Idealize.ShloMosaic.TcCoe Idealize.ShloMosaic.Tactic
open Cert.Kernel5Ideal Cert.Kernel5Ideal.Gen

/-- THE FRAME of the call as it is, from the run read of bits. -/
theorem frame_kernel : Cert.quiescent_Kernel5 := by
  have h := fun (m : (ℓ : Loc nD τ sig) → Buf (Elt Bits) ℓ) (ρ : Dev nD → PrngReg) (_ : True) => frame (F := Bits) m ρ
  refine cast ?_ h
  sl_kernel_rfl

end Cert.BwdMid

end
-- ==== Proof.lean ====
module

public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Frame.RunA
public import proofs.«01_k».proof.Proof.Gen.Kernel5Ideal.Frame.RunB
public import proofs.«01_k».proof.Proof.Gen.Kernel5Ideal.Frame.RunC
public import proofs.«01_k».proof.Proof.Gen.Reference5Ideal
public import proofs.«01_k».proof.Proof.Gen.Reference5Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Ada
public import proofs.«01_k».proof.Proof.Ffn
public import proofs.«01_k».proof.Proof.Loss
public import proofs.«01_k».proof.Proof.Mid
public import proofs.«01_k».proof.Proof.Bwd
public import proofs.«01_k».proof.Proof.BwdBits
public import Idealize.ShloMosaic.Adequacy
public import Idealize.ShloMosaic.Init

@[expose] public section

noncomputable section

namespace Cert.Proof

open Idealize.ShloMosaic Idealize.SL.Sem Cert.Kernel

/-- The shapes of the preconditions' operations. -/
theorem pre_facts : Cert.Pre_finite_ffn.Facts := by
  constructor <;> decide

theorem pre_facts_loss : Cert.Pre_finite_loss.Facts := by
  constructor <;> decide

theorem pre_facts_mid : Cert.Pre_finite_mid.Facts := by
  constructor <;> decide

theorem claim : Cert.Claim :=
  haveI := pre_facts
  haveI := pre_facts_loss
  haveI := pre_facts_mid
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel4.Gen.facts, Cert.Kernel4Ideal.Gen.facts,
    Cert.Reference4Ideal.Gen.facts, Cert.Kernel3.Gen.facts, Cert.Kernel3Ideal.Gen.facts, Cert.Reference3Ideal.Gen.facts, Cert.Kernel5.Gen.facts,
    Cert.Kernel5Ideal.Gen.facts, Cert.Reference5Ideal.Gen.facts, pre_facts, pre_facts_loss, pre_facts_mid,
    fun m ρ _ => Cert.Kernel.Gen.frame m ρ, fun m ρ _ => Cert.KernelIdeal.Gen.frame m ρ, Cert.Ada.frame_reference,
    fun m ρ _ => Cert.Kernel2.Gen.frame m ρ, fun m ρ _ => Cert.Kernel2Ideal.Gen.frame m ρ, fun m ρ _ => Cert.Kernel2Ideal.Gen.frame m ρ,
    Cert.Ffn.frame_reference, fun m ρ _ => Cert.Ffn.frame_reference m ρ trivial,
    fun m ρ _ => Cert.Kernel4.Gen.frame m ρ, fun m ρ _ => Cert.Kernel4Ideal.Gen.frame m ρ, fun m ρ _ => Cert.Kernel4Ideal.Gen.frame m ρ,
    Cert.Loss.frame_reference, fun m ρ _ => Cert.Loss.frame_reference m ρ trivial,
    fun m ρ _ => Cert.Kernel3.Gen.frame m ρ, fun m ρ _ => Cert.Kernel3Ideal.Gen.frame m ρ, Cert.Mid.frame_reference,
    Cert.BwdMid.frame_kernel, fun m ρ _ => Cert.BwdMid.frame m ρ, fun m ρ _ => Cert.BwdMid.frame m ρ,
    Cert.BwdMid.frame_reference, fun m ρ _ => Cert.BwdMid.frame_reference m ρ trivial, trivial, Cert.Ada.algebraic, trivial,
    Cert.Ffn.algebraic, trivial, Cert.Loss.algebraic, trivial, Cert.Mid.algebraic, trivial, Cert.BwdMid.algebraic⟩

end Cert.Proof

end
